-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite22 [hPre_finite22 : Cert.Pre_finite22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).1 = (fun _ => 1#1)
    ∧ (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).2.1 = (fun _ => 1#1)
    ∧ (Cert.Pre_finite22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))).2.2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite22 [hPre_finite22 : Cert.Pre_finite22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))).1 = (fun _ => 1#1)
    ∧ (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))).2.1 = (fun _ => 1#1)
    ∧ (Cert.Pre_finite22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Kernel22Ideal_pre_finite22 [hKernel22Ideal : Cert.Kernel22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite22 m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Reference22Ideal_pre_finite22 [hReference22Ideal : Cert.Reference22Ideal.Facts] [hPre_finite22 : Cert.Pre_finite22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v117) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_on_gate_half_pre_finite4 [hKernel4Ideal : Cert.Kernel4Ideal.Facts] [hReference4Ideal : Cert.Reference4Ideal.Facts] [hPre_finite4 : Cert.Pre_finite4.Facts] [hOn_gate_half : Cert.On_gate_half.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![4096, 4096]⟩ : Shape).Idx, (Cert.On_gate_half.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 i = 1#1 → r.2.mem ((c.tc : Thread Cert.Kernel4Ideal.nD Cert.Kernel4Ideal.τ).loc Cert.Kernel4Ideal.main_v2_0) i = v0 c i)
          ∧ (∀ i : (⟨2, ![4096, 8192]⟩ : Shape).Idx, (Cert.On_gate_half.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 i = 1#1 → r.2.mem ((c.tc : Thread Cert.Kernel4Ideal.nD Cert.Kernel4Ideal.τ).loc Cert.Kernel4Ideal.main_v2_1) i = v1 c i)
          ∧ (∀ i : (⟨2, ![1, 4096]⟩ : Shape).Idx, (Cert.On_gate_half.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2 i = 1#1 → r.2.mem ((c.tc : Thread Cert.Kernel4Ideal.nD Cert.Kernel4Ideal.τ).loc Cert.Kernel4Ideal.main_v2_2) i = v2 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![4096, 4096]⟩ : Shape).Idx, (Cert.On_gate_half.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 i = 1#1 → r.2.mem ((c.tc : Thread Cert.Reference4Ideal.nD Cert.Reference4Ideal.τ).loc Cert.Reference4Ideal.main_v19) i = v0 c i)
          ∧ (∀ i : (⟨2, ![4096, 8192]⟩ : Shape).Idx, (Cert.On_gate_half.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 i = 1#1 → r.2.mem ((c.tc : Thread Cert.Reference4Ideal.nD Cert.Reference4Ideal.τ).loc Cert.Reference4Ideal.main_v22) i = v1 c i)
          ∧ (∀ i : (⟨2, ![1, 4096]⟩ : Shape).Idx, (Cert.On_gate_half.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2 i = 1#1 → r.2.mem ((c.tc : Thread Cert.Reference4Ideal.nD Cert.Reference4Ideal.τ).loc Cert.Reference4Ideal.main_v18) i = v2 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel6_Kernel6Ideal : Prop :=
  IdealRules.named_const.Statement Cert.Kernel6Ideal.κ "mask" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v46_0)) (v1 : (c : Dev Cert.Kernel6Ideal.nD) → Buf (Elt Ideal) ((c.tc : Thread Cert.Kernel6Ideal.nD Cert.Kernel6Ideal.τ).loc Cert.Kernel6Ideal.main_v46_1)) (v2 : (c : Dev Cert.Kernel6Ideal.nD) → Buf (Elt Ideal) ((c.tc : Thread Cert.Kernel6Ideal.nD Cert.Kernel6Ideal.τ).loc Cert.Kernel6Ideal.main_v46_2)) (v3 : (c : Dev Cert.Kernel6Ideal.nD) → Buf (Elt Ideal) ((c.tc : Thread Cert.Kernel6Ideal.nD Cert.Kernel6Ideal.τ).loc Cert.Kernel6Ideal.main_v46_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v46_0) = v0 c
          ∧ r.2.mem ((c.tc : Thread Cert.Kernel6Ideal.nD Cert.Kernel6Ideal.τ).loc Cert.Kernel6Ideal.main_v46_1) = v1 c
          ∧ r.2.mem ((c.tc : Thread Cert.Kernel6Ideal.nD Cert.Kernel6Ideal.τ).loc Cert.Kernel6Ideal.main_v46_2) = v2 c
          ∧ r.2.mem ((c.tc : Thread Cert.Kernel6Ideal.nD Cert.Kernel6Ideal.τ).loc Cert.Kernel6Ideal.main_v46_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v68) = v0 c
          ∧ r.2.mem ((c.tc : Thread Cert.Reference6Ideal.nD Cert.Reference6Ideal.τ).loc Cert.Reference6Ideal.main_v67) = v1 c
          ∧ r.2.mem ((c.tc : Thread Cert.Reference6Ideal.nD Cert.Reference6Ideal.τ).loc Cert.Reference6Ideal.main_v84) = v2 c
          ∧ r.2.mem ((c.tc : Thread Cert.Reference6Ideal.nD Cert.Reference6Ideal.τ).loc Cert.Reference6Ideal.main_v85) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v22) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v57) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v13) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v35) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v11) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v11) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal_pre_finite22 [hKernel22Ideal : Cert.Kernel22Ideal.Facts] [hReference22Ideal : Cert.Reference22Ideal.Facts] [hPre_finite22 : Cert.Pre_finite22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite22 m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v8_0)) (v1 : (c : Dev Cert.Kernel22Ideal.nD) → Buf (Elt Ideal) ((c.tc : Thread Cert.Kernel22Ideal.nD Cert.Kernel22Ideal.τ).loc Cert.Kernel22Ideal.main_v8_1)) (v2 : (c : Dev Cert.Kernel22Ideal.nD) → Buf (Elt Ideal) ((c.tc : Thread Cert.Kernel22Ideal.nD Cert.Kernel22Ideal.τ).loc Cert.Kernel22Ideal.main_v8_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v8_0) = v0 c
          ∧ r.2.mem ((c.tc : Thread Cert.Kernel22Ideal.nD Cert.Kernel22Ideal.τ).loc Cert.Kernel22Ideal.main_v8_1) = v1 c
          ∧ r.2.mem ((c.tc : Thread Cert.Kernel22Ideal.nD Cert.Kernel22Ideal.τ).loc Cert.Kernel22Ideal.main_v8_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v37) = v0 c
          ∧ r.2.mem ((c.tc : Thread Cert.Reference22Ideal.nD Cert.Reference22Ideal.τ).loc Cert.Reference22Ideal.main_v39) = v1 c
          ∧ r.2.mem ((c.tc : Thread Cert.Reference22Ideal.nD Cert.Reference22Ideal.τ).loc Cert.Reference22Ideal.main_v38) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite2 : Cert.Pre_finite2.Facts) (hPre_finite3 : Cert.Pre_finite3.Facts) (hPre_finite4 : Cert.Pre_finite4.Facts) (hPre_finite6 : Cert.Pre_finite6.Facts) (hPre_finite9 : Cert.Pre_finite9.Facts) (hPre_finite22 : Cert.Pre_finite22.Facts) (hOn_gate_half : Cert.On_gate_half.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite22 (hKernel22Ideal := hKernel22Ideal) (hPre_finite22 := hPre_finite22)
    ∧ quiescent_Reference22Ideal (hReference22Ideal := hReference22Ideal)
    ∧ quiescent_Reference22Ideal_pre_finite22 (hReference22Ideal := hReference22Ideal) (hPre_finite22 := hPre_finite22)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_on_gate_half_pre_finite4 (hKernel4Ideal := hKernel4Ideal) (hReference4Ideal := hReference4Ideal) (hPre_finite4 := hPre_finite4) (hOn_gate_half := hOn_gate_half)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite22 (hKernel22Ideal := hKernel22Ideal) (hReference22Ideal := hReference22Ideal) (hPre_finite22 := hPre_finite22)
-- ==== On_gate_half.lean ====
abbrev S4096x2048 : Shape := ⟨2, ![4096, 2048]⟩
abbrev S4096x4096 : Shape := ⟨2, ![4096, 4096]⟩
abbrev S4096x8192 : Shape := ⟨2, ![4096, 8192]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  bcast_S_S4096x8192 : S_.BroadcastsInDim S4096x8192 (![] : Fin 0 → Fin S4096x8192.rank)
  bcast_S_S1x4096 : S_.BroadcastsInDim S1x4096 (![] : Fin 0 → Fin S1x4096.rank)

variable [Facts]

def fn {F : FTy → Type} [FloatOps F] (main_arg0 : FVec F S4096x2048 .f32) (main_arg1 : FVec F S4096x2048 .f32) (main_arg2 : FVec F S4096x4096 .f32) (main_arg3 : FVec F S4096x8192 .f32) (main_arg4 : FVec F S1x4096 .f32) : IVec S4096x4096 1 × IVec S4096x8192 1 × IVec S1x4096 1 :=
  let main_c : IVec S_ 1 := constantI S_ 1 1#1
  let main_v0 : IVec S4096x4096 1 := broadcastInDim S4096x4096 ![] bcast_S_S4096x4096 main_c
  let main_v1 : IVec S4096x8192 32 := iotaInDim S4096x8192 32 1
  let main_c_0 : IVec S_ 32 := constantI S_ 32 4096#32
  let main_v2 : IVec S4096x8192 32 := broadcastInDim S4096x8192 ![] bcast_S_S4096x8192 main_c_0
  let main_v3 : IVec S4096x8192 1 := cmpi .sge main_v1 main_v2
  let main_c_1 : IVec S_ 1 := constantI S_ 1 1#1
  let main_v4 : IVec S1x4096 1 := broadcastInDim S1x4096 ![] bcast_S_S1x4096 main_c_1
  (main_v0, main_v3, main_v4)
-- ==== Pre_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S4096x2048 .f32) (main_arg3 : FVec F S4096x2048 .f32) : IVec S4096x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_finite2.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S4096x2048 .f32) : IVec S4096x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_finite22.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S1x2048 .f32) (main_arg2 : FVec F S4096x2048 .f32) (main_arg3 : FVec F S4096x2048 .f32) : IVec S4096x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_finite3.lean ====
abbrev S4096x4096 : Shape := ⟨2, ![4096, 4096]⟩
abbrev S4096x8192 : Shape := ⟨2, ![4096, 8192]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S4096x4096 .f32) (main_arg1 : FVec F S4096x8192 .bf16) : IVec S4096x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  main_v2
-- ==== Pre_finite4.lean ====
abbrev S4096x2048 : Shape := ⟨2, ![4096, 2048]⟩
abbrev S4096x4096 : Shape := ⟨2, ![4096, 4096]⟩
abbrev S4096x8192 : Shape := ⟨2, ![4096, 8192]⟩
abbrev S1x4096 : Shape := ⟨2, ![1, 4096]⟩
abbrev S_ : Shape := ⟨0, ![]⟩

class Facts : Prop where
  bcast_S_S4096x2048 : S_.BroadcastsInDim S4096x2048 (![] : Fin 0 → Fin S4096x2048.rank)
  bcast_S_S4096x4096 : S_.BroadcastsInDim S4096x4096 (![] : Fin 0 → Fin S4096x4096.rank)
  bcast_S_S1x4096 : S_.BroadcastsInDim S1x4096 (![] : Fin 0 → Fin S1x4096.rank)

variable [Facts]

def fn {F : FTy → Type} [FloatOps F] (main_arg0 : FVec F S4096x2048 .f32) (main_arg1 : FVec F S4096x2048 .f32) (main_arg2 : FVec F S4096x4096 .f32) (main_arg3 : FVec F S4096x8192 .f32) (main_arg4 : FVec F S1x4096 .f32) : IVec S4096x2048 1 × IVec S4096x2048 1 × IVec S4096x4096 1 × IVec S1x4096 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x4096 .f32 := Host.absf main_arg2
  let main_cst_1 : FVec F S_ .f32 := constant S_ .f32 0x7F800000#32
  let main_v7 : FVec F S4096x4096 .f32 := broadcastInDim S4096x4096 ![] bcast_S_S4096x4096 main_cst_1
  let main_v8 : IVec S4096x4096 1 := cmpf .olt main_v6 main_v7
  let main_v9 : FVec F S1x4096 .f32 := Host.absf main_arg4
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  (main_v2, main_v5, main_v8, main_v11)
-- ==== Pre_finite6.lean ====
abbrev S4096x6144 : Shape := ⟨2, ![4096, 6144]⟩
abbrev S4096x64 : Shape := ⟨2, ![4096, 64]⟩
abbrev S1x64 : Shape := ⟨2, ![1, 64]⟩
abbrev S4096x10240 : Shape := ⟨2, ![4096, 10240]⟩
abbrev S1x4096 : Shape := ⟨2, ![1, 4096]⟩
abbrev S_ : Shape := ⟨0, ![]⟩

class Facts : Prop where
  bcast_S_S4096x64 : S_.BroadcastsInDim S4096x64 (![] : Fin 0 → Fin S4096x64.rank)
  bcast_S_S1x64 : S_.BroadcastsInDim S1x64 (![] : Fin 0 → Fin S1x64.rank)

variable [Facts]

def fn {F : FTy → Type} [FloatOps F] (main_arg0 : FVec F S4096x6144 .f32) (main_arg1 : FVec F S4096x64 .f32) (main_arg2 : FVec F S1x64 .f32) (main_arg3 : FVec F S1x64 .f32) (main_arg4 : FVec F S1x64 .f32) (main_arg5 : FVec F S4096x10240 .f32) (main_arg6 : FVec F S1x4096 .f32) : IVec S4096x64 1 × IVec S1x64 1 × IVec S1x64 1 :=
  let main_v0 : FVec F S4096x64 .f32 := Host.absf main_arg1
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_v3 : FVec F S1x64 .f32 := Host.absf main_arg2
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg3
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  (main_v2, main_v5, main_v8)
-- ==== Pre_finite9.lean ====
abbrev S4096x8192 : Shape := ⟨2, ![4096, 8192]⟩
abbrev S4096x4096 : Shape := ⟨2, ![4096, 4096]⟩
abbrev S_ : Shape := ⟨0, ![]⟩

class Facts : Prop where
  slices_S4096x8192_S4096x4096_0_0 : S4096x8192.Slices ![0, 0] S4096x4096
  bcast_S_S4096x4096 : S_.BroadcastsInDim S4096x4096 (![] : Fin 0 → Fin S4096x4096.rank)

variable [Facts]

def fn {F : FTy → Type} [FloatOps F] (main_arg0 : FVec F S4096x8192 .f32) : IVec S4096x4096 1 :=
  let main_v0 : FVec F S4096x4096 .f32 := (extractStridedSlice S4096x4096 ![0, 0] · slices_S4096x8192_S4096x4096_0_0) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  main_v3
-- ==== Kernel.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel2.lean ====
abbrev S4096x2048 : Shape := ⟨2, ![4096, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S1x2048, .f32⟩
  | .hbm, ⟨73, _⟩ => ⟨S4096x2048, .bf16⟩
  | .hbm, ⟨74, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel3.lean ====
abbrev S4096x4096 : Shape := ⟨2, ![4096, 4096]⟩
abbrev S4096x8192 : Shape := ⟨2, ![4096, 8192]⟩
abbrev S4096x256 : Shape := ⟨2, ![4096, 256]⟩
abbrev S512x256 : Shape := ⟨2, ![512, 256]⟩
abbrev S512x1 : Shape := ⟨2, ![512, 1]⟩
abbrev S16x256 : Shape := ⟨2, ![16, 256]⟩
abbrev S16x1 : Shape := ⟨2, ![16, 1]⟩
abbrev S528x256 : Shape := ⟨2, ![528, 256]⟩

abbrev nBuf : Space → Nat
  | .hbm => 3
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S4096x8192, .bf16⟩
  | .hbm, ⟨2, _⟩ => ⟨S4096x8192, .bf16⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult1 (k0_t1 : Fin k0_t1_loop.trips) : BitVec 32 :=
  let c0_i32_4 : BitVec 32 := 0#32
  let c1_i32_5 : BitVec 32 := 1#32
  let arg5 : BitVec 32 := Scf.iv c0_i32_4 c1_i32_5 k0_t1
  let c512_i32 : BitVec 32 := 512#32
  let v13 : BitVec 32 := Scalar.muli arg5 c512_i32
  v13
def k0_off1 (k0_t1 : Fin k0_t1_loop.trips) : Fin 2 → Nat :=
  let c0_i32_4 : BitVec 32 := 0#32
  let c1_i32_5 : BitVec 32 := 1#32
  let arg5 : BitVec 32 := Scf.iv c0_i32_4 c1_i32_5 k0_t1
  let c512_i32 : BitVec 32 := 512#32
  let v13 : BitVec 32 := Scalar.muli arg5 c512_i32
  let v14 : BitVec 32 := v13
  let v15 : Index := Scalar.indexCast v14
  let c0 : Index := 0#32
  ![v15.toNat, 0]
def k0_mult2 (k0_t1 : Fin k0_t1_loop.trips) : BitVec 32 :=
  let c0_i32_4 : BitVec 32 := 0#32
  let c1_i32_5 : BitVec 32 := 1#32
  let arg5 : BitVec 32 := Scf.iv c0_i32_4 c1_i32_5 k0_t1
  let c512_i32 : BitVec 32 := 512#32
  let v13 : BitVec 32 := Scalar.muli arg5 c512_i32
  let v14 : BitVec 32 := v13
  let c512_i32_9 : BitVec 32 := 512#32
  let v25 : BitVec 32 := Scalar.addi v14 c512_i32_9
  let c4080_i32 : BitVec 32 := 4080#32
  let v26 : BitVec 32 := Scalar.minsi v25 c4080_i32
  v26
def k0_off2 (k0_t1 : Fin k0_t1_loop.trips) : Fin 2 → Nat :=
  let c0_i32_4 : BitVec 32 := 0#32
  let c1_i32_5 : BitVec 32 := 1#32
  let arg5 : BitVec 32 := Scf.iv c0_i32_4 c1_i32_5 k0_t1
  let c512_i32 : BitVec 32 := 512#32
  let v13 : BitVec 32 := Scalar.muli arg5 c512_i32
  let v14 : BitVec 32 := v13
  let c512_i32_9 : BitVec 32 := 512#32
  let v25 : BitVec 32 := Scalar.addi v14 c512_i32_9
  let c4080_i32 : BitVec 32 := 4080#32
  let v26 : BitVec 32 := Scalar.minsi v25 c4080_i32
  let v27 : BitVec 32 := v26
  let v28 : Index := Scalar.indexCast v27
  let c0_10 : Index := 0#32
  ![v28.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult3 (k0_t2 : Fin k0_t2_loop.trips) : BitVec 32 :=
  let c0_i32_4 : BitVec 32 := 0#32
  let c1_i32_5 : BitVec 32 := 1#32
  let arg5 : BitVec 32 := Scf.iv c0_i32_4 c1_i32_5 k0_t2
  let c512_i32 : BitVec 32 := 512#32
  let v13 : BitVec 32 := Scalar.muli arg5 c512_i32
  v13
def k0_off3 (k0_t2 : Fin k0_t2_loop.trips) : Fin 2 → Nat :=
  let c0_i32_4 : BitVec 32 := 0#32
  let c1_i32_5 : BitVec 32 := 1#32
  let arg5 : BitVec 32 := Scf.iv c0_i32_4 c1_i32_5 k0_t2
  let c512_i32 : BitVec 32 := 512#32
  let v13 : BitVec 32 := Scalar.muli arg5 c512_i32
  let v14 : BitVec 32 := v13
  let v15 : Index := Scalar.indexCast v14
  let c0 : Index := 0#32
  ![v15.toNat, 0]
def k0_mult4 (k0_t2 : Fin k0_t2_loop.trips) : BitVec 32 :=
  let c0_i32_4 : BitVec 32 := 0#32
  let c1_i32_5 : BitVec 32 := 1#32
  let arg5 : BitVec 32 := Scf.iv c0_i32_4 c1_i32_5 k0_t2
  let c512_i32 : BitVec 32 := 512#32
  let v13 : BitVec 32 := Scalar.muli arg5 c512_i32
  let v14 : BitVec 32 := v13
  let c512_i32_8 : BitVec 32 := 512#32
  let v25 : BitVec 32 := Scalar.addi v14 c512_i32_8
  let c4080_i32 : BitVec 32 := 4080#32
  let v26 : BitVec 32 := Scalar.minsi v25 c4080_i32
  v26
def k0_off4 (k0_t2 : Fin k0_t2_loop.trips) : Fin 2 → Nat :=
  let c0_i32_4 : BitVec 32 := 0#32
  let c1_i32_5 : BitVec 32 := 1#32
  let arg5 : BitVec 32 := Scf.iv c0_i32_4 c1_i32_5 k0_t2
  let c512_i32 : BitVec 32 := 512#32
  let v13 : BitVec 32 := Scalar.muli arg5 c512_i32
  let v14 : BitVec 32 := v13
  let c512_i32_8 : BitVec 32 := 512#32
  let v25 : BitVec 32 := Scalar.addi v14 c512_i32_8
  let c4080_i32 : BitVec 32 := 4080#32
  let v26 : BitVec 32 := Scalar.minsi v25 c4080_i32
  let v27 : BitVec 32 := v26
  let v28 : Index := Scalar.indexCast v27
  let c0_9 : Index := 0#32
  ![v28.toNat, 0]
def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

@[reducible] def k0_t3_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult5 (k0_t3 : Fin k0_t3_loop.trips) : BitVec 32 :=
  let c0_i32_4 : BitVec 32 := 0#32
  let c1_i32_5 : BitVec 32 := 1#32
  let arg5 : BitVec 32 := Scf.iv c0_i32_4 c1_i32_5 k0_t3
  let c512_i32 : BitVec 32 := 512#32
  let v13 : BitVec 32 := Scalar.muli arg5 c512_i32
  v13
def k0_off5 (k0_t3 : Fin k0_t3_loop.trips) : Fin 2 → Nat :=
  let c0_i32_4 : BitVec 32 := 0#32
  let c1_i32_5 : BitVec 32 := 1#32
  let arg5 : BitVec 32 := Scf.iv c0_i32_4 c1_i32_5 k0_t3
  let c512_i32 : BitVec 32 := 512#32
  let v13 : BitVec 32 := Scalar.muli arg5 c512_i32
  let v14 : BitVec 32 := v13
  let v15 : Index := Scalar.indexCast v14
  let c0 : Index := 0#32
  ![v15.toNat, 0]
def k0_mult6 (k0_t3 : Fin k0_t3_loop.trips) : BitVec 32 :=
  let c0_i32_4 : BitVec 32 := 0#32
  let c1_i32_5 : BitVec 32 := 1#32
  let arg5 : BitVec 32 := Scf.iv c0_i32_4 c1_i32_5 k0_t3
  let c512_i32 : BitVec 32 := 512#32
  let v13 : BitVec 32 := Scalar.muli arg5 c512_i32
  let v14 : BitVec 32 := v13
  let c512_i32_9 : BitVec 32 := 512#32
  let v25 : BitVec 32 := Scalar.addi v14 c512_i32_9
  let c4080_i32 : BitVec 32 := 4080#32
  let v26 : BitVec 32 := Scalar.minsi v25 c4080_i32
  v26
def k0_off6 (k0_t3 : Fin k0_t3_loop.trips) : Fin 2 → Nat :=
  let c0_i32_4 : BitVec 32 := 0#32
  let c1_i32_5 : BitVec 32 := 1#32
  let arg5 : BitVec 32 := Scf.iv c0_i32_4 c1_i32_5 k0_t3
  let c512_i32 : BitVec 32 := 512#32
  let v13 : BitVec 32 := Scalar.muli arg5 c512_i32
  let v14 : BitVec 32 := v13
  let c512_i32_9 : BitVec 32 := 512#32
  let v25 : BitVec 32 := Scalar.addi v14 c512_i32_9
  let c4080_i32 : BitVec 32 := 4080#32
  let v26 : BitVec 32 := Scalar.minsi v25 c4080_i32
  let v27 : BitVec 32 := v26
  let v28 : Index := Scalar.indexCast v27
  let c0_10 : Index := 0#32
  ![v28.toNat, 0]
def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

@[reducible] def k0_t4_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult7 (k0_t4 : Fin k0_t4_loop.trips) : BitVec 32 :=
  let c0_i32_4 : BitVec 32 := 0#32
  let c1_i32_5 : BitVec 32 := 1#32
  let arg5 : BitVec 32 := Scf.iv c0_i32_4 c1_i32_5 k0_t4
  let c512_i32 : BitVec 32 := 512#32
  let v13 : BitVec 32 := Scalar.muli arg5 c512_i32
  v13
def k0_off7 (k0_t4 : Fin k0_t4_loop.trips) : Fin 2 → Nat :=
  let c0_i32_4 : BitVec 32 := 0#32
  let c1_i32_5 : BitVec 32 := 1#32
  let arg5 : BitVec 32 := Scf.iv c0_i32_4 c1_i32_5 k0_t4
  let c512_i32 : BitVec 32 := 512#32
  let v13 : BitVec 32 := Scalar.muli arg5 c512_i32
  let v14 : BitVec 32 := v13
  let v15 : Index := Scalar.indexCast v14
  let c0 : Index := 0#32
  ![v15.toNat, 0]
def k0_mult8 (k0_t4 : Fin k0_t4_loop.trips) : BitVec 32 :=
  let c0_i32_4 : BitVec 32 := 0#32
  let c1_i32_5 : BitVec 32 := 1#32
  let arg5 : BitVec 32 := Scf.iv c0_i32_4 c1_i32_5 k0_t4
  let c512_i32 : BitVec 32 := 512#32
  let v13 : BitVec 32 := Scalar.muli arg5 c512_i32
  let v14 : BitVec 32 := v13
  let c512_i32_8 : BitVec 32 := 512#32
  let v25 : BitVec 32 := Scalar.addi v14 c512_i32_8
  let c4080_i32 : BitVec 32 := 4080#32
  let v26 : BitVec 32 := Scalar.minsi v25 c4080_i32
  v26
def k0_off8 (k0_t4 : Fin k0_t4_loop.trips) : Fin 2 → Nat :=
  let c0_i32_4 : BitVec 32 := 0#32
  let c1_i32_5 : BitVec 32 := 1#32
  let arg5 : BitVec 32 := Scf.iv c0_i32_4 c1_i32_5 k0_t4
  let c512_i32 : BitVec 32 := 512#32
  let v13 : BitVec 32 := Scalar.muli arg5 c512_i32
  let v14 : BitVec 32 := v13
  let c512_i32_8 : BitVec 32 := 512#32
  let v25 : BitVec 32 := Scalar.addi v14 c512_i32_8
  let c4080_i32 : BitVec 32 := 4080#32
  let v26 : BitVec 32 := Scalar.minsi v25 c4080_i32
  let v27 : BitVec 32 := v26
  let v28 : Index := Scalar.indexCast v27
  let c0_9 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference3Ideal.lean ====
abbrev S4096x4096 : Shape := ⟨2, ![4096, 4096]⟩
abbrev S4096x8192 : Shape := ⟨2, ![4096, 8192]⟩
abbrev S_ : Shape := ⟨0, ![]⟩
abbrev S1x4096x4x1024 : Shape := ⟨4, ![1, 4096, 4, 1024]⟩
abbrev S4096 : Shape := ⟨1, ![4096]⟩
abbrev S1x4096x1x1024 : Shape := ⟨4, ![1, 4096, 1, 1024]⟩
abbrev S1x4096x1024 : Shape := ⟨3, ![1, 4096, 1024]⟩
abbrev S1x2x1024 : Shape := ⟨3, ![1, 2, 1024]⟩
abbrev S1x4094x1024 : Shape := ⟨3, ![1, 4094, 1024]⟩
abbrev S1x4096x1 : Shape := ⟨3, ![1, 4096, 1]⟩
abbrev S1x4x1024 : Shape := ⟨3, ![1, 4, 1024]⟩
abbrev S1x4092x1024 : Shape := ⟨3, ![1, 4092, 1024]⟩
abbrev S1x8x1024 : Shape := ⟨3, ![1, 8, 1024]⟩
abbrev S1x4088x1024 : Shape := ⟨3, ![1, 4088, 1024]⟩
abbrev S1x16x1024 : Shape := ⟨3, ![1, 16, 1024]⟩
abbrev S1x4080x1024 : Shape := ⟨3, ![1, 4080, 1024]⟩

abbrev nBuf : Space → Nat
  | .hbm => 146
  | .vmem => 0
  | .smem => 0
  | _ => 0

abbrev hbmTy0_0 (i : Nat) : BufTy := match i % 128 with
  | 0 => ⟨S4096x4096, .f32⟩
  | 1 => ⟨S4096x8192, .bf16⟩
  | 2 => ⟨S_, .f32⟩
  | 3 => ⟨S1x4096x4x1024, .f32⟩
  | 4 => ⟨S_, .f32⟩
  | 5 => ⟨S_, .f32⟩
  | 6 => ⟨S1x4096x4x1024, .f32⟩
  | 7 => ⟨S4096, .i32⟩
  | 8 => ⟨S_, .i32⟩
  | 9 => ⟨S4096, .i32⟩
  | 10 => ⟨S4096, .i32⟩
  | 11 => ⟨S1x4096x1x1024, .f32⟩
  | 12 => ⟨S1x4096x1024, .f32⟩
  | 13 => ⟨S_, .f32⟩
  | 14 => ⟨S1x2x1024, .f32⟩
  | 15 => ⟨S1x4094x1024, .f32⟩
  | 16 => ⟨S1x4096x1024, .f32⟩
  | 17 => ⟨S_, .f32⟩
  | 18 => ⟨S1x2x1024, .f32⟩
  | 19 => ⟨S_, .i32⟩
  | 20 => ⟨S4096, .i32⟩
  | 21 => ⟨S4096, .i32⟩
  | 22 => ⟨S4096, .f32⟩
  | 23 => ⟨S1x4096x1, .f32⟩
  | 24 => ⟨S1x4096x1024, .f32⟩
  | 25 => ⟨S1x4096x1024, .f32⟩
  | 26 => ⟨S1x4096x1024, .f32⟩
  | 27 => ⟨S1x4096x1x1024, .f32⟩
  | 28 => ⟨S1x4096x1024, .f32⟩
  | 29 => ⟨S_, .f32⟩
  | 30 => ⟨S1x4x1024, .f32⟩
  | 31 => ⟨S1x4092x1024, .f32⟩
  | 32 => ⟨S1x4096x1024, .f32⟩
  | 33 => ⟨S_, .f32⟩
  | 34 => ⟨S1x4x1024, .f32⟩
  | 35 => ⟨S_, .i32⟩
  | 36 => ⟨S4096, .i32⟩
  | 37 => ⟨S4096, .i32⟩
  | 38 => ⟨S4096, .f32⟩
  | 39 => ⟨S1x4096x1, .f32⟩
  | 40 => ⟨S1x4096x1024, .f32⟩
  | 41 => ⟨S1x4096x1024, .f32⟩
  | 42 => ⟨S1x4096x1024, .f32⟩
  | 43 => ⟨S1x4096x1x1024, .f32⟩
  | 44 => ⟨S1x4096x1024, .f32⟩
  | 45 => ⟨S_, .f32⟩
  | 46 => ⟨S1x8x1024, .f32⟩
  | 47 => ⟨S1x4088x1024, .f32⟩
  | 48 => ⟨S1x4096x1024, .f32⟩
  | 49 => ⟨S_, .f32⟩
  | 50 => ⟨S1x8x1024, .f32⟩
  | 51 => ⟨S_, .i32⟩
  | 52 => ⟨S4096, .i32⟩
  | 53 => ⟨S4096, .i32⟩
  | 54 => ⟨S4096, .f32⟩
  | 55 => ⟨S1x4096x1, .f32⟩
  | 56 => ⟨S1x4096x1024, .f32⟩
  | 57 => ⟨S1x4096x1024, .f32⟩
  | 58 => ⟨S1x4096x1024, .f32⟩
  | 59 => ⟨S1x4096x1x1024, .f32⟩
  | 60 => ⟨S1x4096x1024, .f32⟩
  | 61 => ⟨S_, .f32⟩
  | 62 => ⟨S1x16x1024, .f32⟩
  | 63 => ⟨S1x4080x1024, .f32⟩
  | 64 => ⟨S1x4096x1024, .f32⟩
  | 65 => ⟨S_, .f32⟩
  | 66 => ⟨S1x16x1024, .f32⟩
  | 67 => ⟨S_, .i32⟩
  | 68 => ⟨S4096, .i32⟩
  | 69 => ⟨S4096, .i32⟩
  | 70 => ⟨S4096, .f32⟩
  | 71 => ⟨S1x4096x1, .f32⟩
  | 72 => ⟨S1x4096x1024, .f32⟩
  | 73 => ⟨S1x4096x1024, .f32⟩
  | 74 => ⟨S1x4096x1024, .f32⟩
  | 75 => ⟨S1x4096x1x1024, .f32⟩
  | 76 => ⟨S1x4096x1x1024, .f32⟩
  | 77 => ⟨S1x4096x1x1024, .f32⟩
  | 78 => ⟨S1x4096x1x1024, .f32⟩
  | 79 => ⟨S1x4096x4x1024, .f32⟩
  | 80 => ⟨S1x4096x4x1024, .f32⟩
  | 81 => ⟨S1x4096x4x1024, .f32⟩
  | 82 => ⟨S1x4096x4x1024, .f32⟩
  | 83 => ⟨S1x4096x1x1024, .f32⟩
  | 84 => ⟨S1x4096x1024, .f32⟩
  | 85 => ⟨S1x4096x1x1024, .f32⟩
  | 86 => ⟨S1x4096x1024, .f32⟩
  | 87 => ⟨S1x4096x1x1024, .f32⟩
  | 88 => ⟨S1x4096x1024, .f32⟩
  | 89 => ⟨S1x4096x1x1024, .f32⟩
  | 90 => ⟨S1x4096x1024, .f32⟩
  | 91 => ⟨S1x4096x1024, .f32⟩
  | 92 => ⟨S1x4096x1024, .f32⟩
  | 93 => ⟨S1x4096x1024, .f32⟩
  | 94 => ⟨S1x16x1024, .f32⟩
  | 95 => ⟨S1x4080x1024, .f32⟩
  | 96 => ⟨S_, .f32⟩
  | 97 => ⟨S1x4096x1024, .f32⟩
  | 98 => ⟨S1x4096x1024, .f32⟩
  | 99 => ⟨S1x4096x1x1024, .f32⟩
  | 100 => ⟨S_, .f32⟩
  | 101 => ⟨S1x4096x4x1024, .f32⟩
  | 102 => ⟨S1x4096x1024, .f32⟩
  | 103 => ⟨S1x4096x1024, .f32⟩
  | 104 => ⟨S1x4096x1024, .f32⟩
  | 105 => ⟨S1x8x1024, .f32⟩
  | 106 => ⟨S1x4088x1024, .f32⟩
  | 107 => ⟨S_, .f32⟩
  | 108 => ⟨S1x4096x1024, .f32⟩
  | 109 => ⟨S1x4096x1024, .f32⟩
  | 110 => ⟨S1x4096x1x1024, .f32⟩
  | 111 => ⟨S_, .f32⟩
  | 112 => ⟨S1x4096x4x1024, .f32⟩
  | 113 => ⟨S1x4096x4x1024, .f32⟩
  | 114 => ⟨S1x4096x1024, .f32⟩
  | 115 => ⟨S1x4096x1024, .f32⟩
  | 116 => ⟨S1x4096x1024, .f32⟩
  | 117 => ⟨S1x4x1024, .f32⟩
  | 118 => ⟨S1x4092x1024, .f32⟩
  | 119 => ⟨S_, .f32⟩
  | 120 => ⟨S1x4096x1024, .f32⟩
  | 121 => ⟨S1x4096x1024, .f32⟩
  | 122 => ⟨S1x4096x1x1024, .f32⟩
  | 123 => ⟨S_, .f32⟩
  | 124 => ⟨S1x4096x4x1024, .f32⟩
  | 125 => ⟨S1x4096x4x1024, .f32⟩
  | 126 => ⟨S1x4096x1024, .f32⟩
  | 127 => ⟨S1x4096x1024, .f32⟩
  | _ => ⟨S4096x4096, .f32⟩

abbrev hbmTy0_1 (i : Nat) : BufTy := match i % 128 with
  | 0 => ⟨S1x4096x1024, .f32⟩
  | 1 => ⟨S1x2x1024, .f32⟩
  | 2 => ⟨S1x4094x1024, .f32⟩
  | 3 => ⟨S_, .f32⟩
  | 4 => ⟨S1x4096x1024, .f32⟩
  | 5 => ⟨S1x4096x1024, .f32⟩
  | 6 => ⟨S1x4096x1x1024, .f32⟩
  | 7 => ⟨S_, .f32⟩
  | 8 => ⟨S1x4096x4x1024, .f32⟩
  | 9 => ⟨S1x4096x4x1024, .f32⟩
  | 10 => ⟨S_, .f32⟩
  | 11 => ⟨S_, .f32⟩
  | 12 => ⟨S1x4096x4x1024, .f32⟩
  | 13 => ⟨S1x4096x4x1024, .f32⟩
  | 14 => ⟨S4096x4096, .f32⟩
  | 15 => ⟨S4096x4096, .bf16⟩
  | 16 => ⟨S4096x4096, .bf16⟩
  | 17 => ⟨S4096x8192, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_12 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_13 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_14 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_15 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_16 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_17 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_18 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_19 : Ref sig .tc := ⟨.hbm, 135, rfl⟩
abbrev main_v110 : Ref sig .tc := ⟨.hbm, 136, rfl⟩
abbrev main_v111 : Ref sig .tc := ⟨.hbm, 137, rfl⟩
abbrev main_call1_call0_cst : Ref sig .tc := ⟨.hbm, 138, rfl⟩
abbrev main_call1_call0_v0 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩

abbrev nD : Nat := 1
abbrev τ : Topo := Topo.v7x

variable {F : FTy → Type} [FloatOps F]
-- ==== Kernel4.lean ====
abbrev S4096x2048 : Shape := ⟨2, ![4096, 2048]⟩
abbrev S4096x4096 : Shape := ⟨2, ![4096, 4096]⟩
abbrev S4096x8192 : Shape := ⟨2, ![4096, 8192]⟩
abbrev S1x4096 : Shape := ⟨2, ![1, 4096]⟩
abbrev S1024x2048 : Shape := ⟨2, ![1024, 2048]⟩
abbrev S512x2048 : Shape := ⟨2, ![512, 2048]⟩
abbrev S1024x512 : Shape := ⟨2, ![1024, 512]⟩
abbrev S1x512 : Shape := ⟨2, ![1, 512]⟩
abbrev S512 : Shape := ⟨1, ![512]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x8192, .f32⟩
  | .hbm, ⟨4, _⟩ => ⟨S1x4096, .f32⟩
  | .hbm, ⟨5, _⟩ => ⟨S4096x2048, .bf16⟩
  | .hbm, ⟨6, _⟩ => ⟨S4096x2048, .bf16⟩
  | .hbm, ⟨7, _⟩ => ⟨S4096x4096, .bf16⟩
  | .hbm, ⟨8, _⟩ => ⟨S4096x8192, .bf16⟩
  | .hbm, ⟨9, _⟩ => ⟨S1x4096, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1x512, .f32⟩
  | .local _ .vmem, ⟨15, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg1 : BitVec 32 := BitVec.ofNat 32 (i 1).val
  let c0_i32 : BitVec 32 := 0#32
  let v44 : BitVec 1 := Scalar.cmpi .eq arg1 c0_i32
  let v45 : BitVec 32 := Scalar.extui v44
  let c0_i32_22 : BitVec 32 := 0#32
  let v46 : BitVec 1 := Scalar.cmpi .ne v45 c0_i32_22
  v46

def k0_cond2 (i : grid0.Coords) : BitVec 1 :=
  let arg1 : BitVec 32 := BitVec.ofNat 32 (i 1).val
  let c0_i32 : BitVec 32 := 0#32
  let v44 : BitVec 1 := Scalar.cmpi .eq arg1 c0_i32
  let v_true : BitVec 1 := 1#1
  let v47 : BitVec 1 := Scalar.xori v44 v_true
  let v48 : BitVec 32 := Scalar.extui v47
  let c0_i32_23 : BitVec 32 := 0#32
  let v49 : BitVec 1 := Scalar.cmpi .ne v48 c0_i32_23
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference4Ideal.lean ====
abbrev S4096x2048 : Shape := ⟨2, ![4096, 2048]⟩
abbrev S4096x4096 : Shape := ⟨2, ![4096, 4096]⟩
abbrev S4096x8192 : Shape := ⟨2, ![4096, 8192]⟩
abbrev S1x4096 : Shape := ⟨2, ![1, 4096]⟩
abbrev S4096 : Shape := ⟨1, ![4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S4096x8192, .f32⟩
  | .hbm, ⟨4, _⟩ => ⟨S1x4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x2048, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S1x4096, .f32⟩
  | .hbm, ⟨41, _⟩ => ⟨S4096x4096, .bf16⟩
  | .hbm, ⟨42, _⟩ => ⟨S_, .bf16⟩
  | .hbm, ⟨43, _⟩ => ⟨S4096x4096, .bf16⟩
  | .hbm, ⟨44, _⟩ => ⟨S4096x4096, .bf16⟩
  | .hbm, ⟨45, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩

abbrev nD : Nat := 1
abbrev τ : Topo := Topo.v7x

variable {F : FTy → Type} [FloatOps F]
-- ==== Kernel6.lean ====
abbrev S4096x6144 : Shape := ⟨2, ![4096, 6144]⟩
abbrev S4096x64 : Shape := ⟨2, ![4096, 64]⟩
abbrev S1x64 : Shape := ⟨2, ![1, 64]⟩
abbrev S4096x10240 : Shape := ⟨2, ![4096, 10240]⟩
abbrev S1x4096 : Shape := ⟨2, ![1, 4096]⟩
abbrev S8x1x8 : Shape := ⟨3, ![8, 1, 8]⟩
abbrev S_ : Shape := ⟨0, ![]⟩
abbrev S8x1x128 : Shape := ⟨3, ![8, 1, 128]⟩
abbrev S8x1x8x1 : Shape := ⟨4, ![8, 1, 8, 1]⟩
abbrev S8x1x8x64 : Shape := ⟨4, ![8, 1, 8, 64]⟩
abbrev S8x1x512 : Shape := ⟨3, ![8, 1, 512]⟩
abbrev S4096x8x8 : Shape := ⟨3, ![4096, 8, 8]⟩
abbrev S8x4096x8 : Shape := ⟨3, ![8, 4096, 8]⟩
abbrev S8x4096x128 : Shape := ⟨3, ![8, 4096, 128]⟩
abbrev S64x64 : Shape := ⟨2, ![64, 64]⟩
abbrev S128x8x64 : Shape := ⟨3, ![128, 8, 64]⟩
abbrev S128x512 : Shape := ⟨2, ![128, 512]⟩
abbrev S8x64x128 : Shape := ⟨3, ![8, 64, 128]⟩
abbrev S512x128 : Shape := ⟨2, ![512, 128]⟩
abbrev S64x8x64 : Shape := ⟨3, ![64, 8, 64]⟩
abbrev S64x512 : Shape := ⟨2, ![64, 512]⟩
abbrev S384x512 : Shape := ⟨2, ![384, 512]⟩
abbrev S1024x128 : Shape := ⟨2, ![1024, 128]⟩
abbrev S64x192 : Shape := ⟨2, ![64, 192]⟩
abbrev S4096x4096 : Shape := ⟨2, ![4096, 4096]⟩
abbrev S64x8x128x512 : Shape := ⟨4, ![64, 8, 128, 512]⟩
abbrev S4096x1 : Shape := ⟨2, ![4096, 1]⟩
abbrev S64x6144 : Shape := ⟨2, ![64, 6144]⟩
abbrev S64x4096 : Shape := ⟨2, ![64, 4096]⟩
abbrev S1x8x128x512 : Shape := ⟨4, ![1, 8, 128, 512]⟩
abbrev S64x1 : Shape := ⟨2, ![64, 1]⟩
abbrev S8x128x512 : Shape := ⟨3, ![8, 128, 512]⟩
abbrev S1x64x128 : Shape := ⟨3, ![1, 64, 128]⟩
abbrev S64x128 : Shape := ⟨2, ![64, 128]⟩
abbrev S1x1x128 : Shape := ⟨3, ![1, 1, 128]⟩
abbrev S1x128 : Shape := ⟨2, ![1, 128]⟩
abbrev S64x1024 : Shape := ⟨2, ![64, 1024]⟩
abbrev S192x1024 : Shape := ⟨2, ![192, 1024]⟩
abbrev S1024x384 : Shape := ⟨2, ![1024, 384]⟩
abbrev S1024x512 : Shape := ⟨2, ![1024, 512]⟩
abbrev S1x512 : Shape := ⟨2, ![1, 512]⟩
abbrev S512 : Shape := ⟨1, ![512]⟩
abbrev S512x512 : Shape := ⟨2, ![512, 512]⟩
abbrev S1x128x512 : Shape := ⟨3, ![1, 128, 512]⟩
abbrev S1x1x128x512 : Shape := ⟨4, ![1, 1, 128, 512]⟩
abbrev S1x1x512 : Shape := ⟨3, ![1, 1, 512]⟩
abbrev S64 : Shape := ⟨1, ![64]⟩

abbrev nBuf : Space → Nat
  | .hbm => 87
  | .vmem => 25
  | .smem => 0
  | _ => 0

abbrev bufTy : (tb : Table) → Fin (tcTables nBuf tb) → BufTy
  | .hbm, ⟨0, _⟩ => ⟨S4096x6144, .f32⟩
  | .hbm, ⟨1, _⟩ => ⟨S4096x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S4096x10240, .f32⟩
  | .hbm, ⟨6, _⟩ => ⟨S1x4096, .f32⟩
  | .hbm, ⟨7, _⟩ => ⟨S8x1x8, .f32⟩
  | .hbm, ⟨8, _⟩ => ⟨S_, .i32⟩
  | .hbm, ⟨9, _⟩ => ⟨S_, .f32⟩
  | .hbm, ⟨10, _⟩ => ⟨S8x1x128, .f32⟩
  | .hbm, ⟨11, _⟩ => ⟨S8x1x8, .f32⟩
  | .hbm, ⟨12, _⟩ => ⟨S_, .i32⟩
  | .hbm, ⟨13, _⟩ => ⟨S_, .f32⟩
  | .hbm, ⟨14, _⟩ => ⟨S8x1x128, .f32⟩
  | .hbm, ⟨15, _⟩ => ⟨S8x1x8x1, .f32⟩
  | .hbm, ⟨16, _⟩ => ⟨S8x1x8x64, .f32⟩
  | .hbm, ⟨17, _⟩ => ⟨S8x1x512, .f32⟩
  | .hbm, ⟨18, _⟩ => ⟨S4096x8x8, .f32⟩
  | .hbm, ⟨19, _⟩ => ⟨S8x4096x8, .f32⟩
  | .hbm, ⟨20, _⟩ => ⟨S_, .i32⟩
  | .hbm, ⟨21, _⟩ => ⟨S_, .f32⟩
  | .hbm, ⟨22, _⟩ => ⟨S8x4096x128, .f32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S_, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S_, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S128x8x64, .i32⟩
  | .hbm, ⟨40, _⟩ => ⟨S128x8x64, .i32⟩
  | .hbm, ⟨41, _⟩ => ⟨S128x8x64, .i1⟩
  | .hbm, ⟨42, _⟩ => ⟨S_, .f32⟩
  | .hbm, ⟨43, _⟩ => ⟨S_, .f32⟩
  | .hbm, ⟨44, _⟩ => ⟨S128x8x64, .f32⟩
  | .hbm, ⟨45, _⟩ => ⟨S128x8x64, .f32⟩
  | .hbm, ⟨46, _⟩ => ⟨S128x8x64, .f32⟩
  | .hbm, ⟨47, _⟩ => ⟨S128x512, .f32⟩
  | .hbm, ⟨48, _⟩ => ⟨S8x64x128, .i32⟩
  | .hbm, ⟨49, _⟩ => ⟨S8x64x128, .i32⟩
  | .hbm, ⟨50, _⟩ => ⟨S8x64x128, .i1⟩
  | .hbm, ⟨51, _⟩ => ⟨S_, .f32⟩
  | .hbm, ⟨52, _⟩ => ⟨S_, .f32⟩
  | .hbm, ⟨53, _⟩ => ⟨S8x64x128, .f32⟩
  | .hbm, ⟨54, _⟩ => ⟨S8x64x128, .f32⟩
  | .hbm, ⟨55, _⟩ => ⟨S8x64x128, .f32⟩
  | .hbm, ⟨56, _⟩ => ⟨S512x128, .f32⟩
  | .hbm, ⟨57, _⟩ => ⟨S64x8x64, .i32⟩
  | .hbm, ⟨58, _⟩ => ⟨S64x8x64, .i32⟩
  | .hbm, ⟨59, _⟩ => ⟨S64x8x64, .i1⟩
  | .hbm, ⟨60, _⟩ => ⟨S_, .f32⟩
  | .hbm, ⟨61, _⟩ => ⟨S_, .f32⟩
  | .hbm, ⟨62, _⟩ => ⟨S64x8x64, .f32⟩
  | .hbm, ⟨63, _⟩ => ⟨S64x8x64, .f32⟩
  | .hbm, ⟨64, _⟩ => ⟨S64x8x64, .f32⟩
  | .hbm, ⟨65, _⟩ => ⟨S64x512, .f32⟩
  | .hbm, ⟨66, _⟩ => ⟨S64x8x64, .i32⟩
  | .hbm, ⟨67, _⟩ => ⟨S64x8x64, .i32⟩
  | .hbm, ⟨68, _⟩ => ⟨S64x8x64, .i1⟩
  | .hbm, ⟨69, _⟩ => ⟨S_, .f32⟩
  | .hbm, ⟨70, _⟩ => ⟨S_, .f32⟩
  | .hbm, ⟨71, _⟩ => ⟨S64x8x64, .f32⟩
  | .hbm, ⟨72, _⟩ => ⟨S64x8x64, .f32⟩
  | .hbm, ⟨73, _⟩ => ⟨S64x8x64, .f32⟩
  | .hbm, ⟨74, _⟩ => ⟨S64x512, .f32⟩
  | .hbm, ⟨75, _⟩ => ⟨S384x512, .f32⟩
  | .hbm, ⟨76, _⟩ => ⟨S384x512, .bf16⟩
  | .hbm, ⟨77, _⟩ => ⟨S1024x128, .f32⟩
  | .hbm, ⟨78, _⟩ => ⟨S1024x128, .bf16⟩
  | .hbm, ⟨79, _⟩ => ⟨S64x192, .f32⟩
  | .hbm, ⟨80, _⟩ => ⟨S64x192, .bf16⟩
  | .hbm, ⟨81, _⟩ => ⟨S64x192, .f32⟩
  | .hbm, ⟨82, _⟩ => ⟨S64x192, .bf16⟩
  | .hbm, ⟨83, _⟩ => ⟨S4096x4096, .f32⟩
  | .hbm, ⟨84, _⟩ => ⟨S64x8x128x512, .f32⟩
  | .hbm, ⟨85, _⟩ => ⟨S4096x4096, .bf16⟩
  | .hbm, ⟨86, _⟩ => ⟨S4096x1, .f32⟩
  | .local _ .vmem, ⟨0, _⟩ => ⟨S64x6144, .f32⟩
  | .local _ .vmem, ⟨1, _⟩ => ⟨S64x6144, .f32⟩
  | .local _ .vmem, ⟨2, _⟩ => ⟨S8x64x128, .f32⟩
  | .local _ .vmem, ⟨3, _⟩ => ⟨S8x64x128, .f32⟩
  | .local _ .vmem, ⟨4, _⟩ => ⟨S8x1x128, .f32⟩
  | .local _ .vmem, ⟨5, _⟩ => ⟨S8x1x128, .f32⟩
  | .local _ .vmem, ⟨6, _⟩ => ⟨S8x1x512, .f32⟩
  | .local _ .vmem, ⟨7, _⟩ => ⟨S64x4096, .f32⟩
  | .local _ .vmem, ⟨8, _⟩ => ⟨S64x4096, .f32⟩
  | .local _ .vmem, ⟨9, _⟩ => ⟨S1x4096, .f32⟩
  | .local _ .vmem, ⟨10, _⟩ => ⟨S384x512, .bf16⟩
  | .local _ .vmem, ⟨11, _⟩ => ⟨S1024x128, .bf16⟩
  | .local _ .vmem, ⟨12, _⟩ => ⟨S64x192, .bf16⟩
  | .local _ .vmem, ⟨13, _⟩ => ⟨S64x192, .bf16⟩
  | .local _ .vmem, ⟨14, _⟩ => ⟨S64x512, .f32⟩
  | .local _ .vmem, ⟨15, _⟩ => ⟨S64x512, .f32⟩
  | .local _ .vmem, ⟨16, _⟩ => ⟨S64x4096, .f32⟩
  | .local _ .vmem, ⟨17, _⟩ => ⟨S64x4096, .f32⟩
  | .local _ .vmem, ⟨18, _⟩ => ⟨S1x8x128x512, .f32⟩
  | .local _ .vmem, ⟨19, _⟩ => ⟨S1x8x128x512, .f32⟩
  | .local _ .vmem, ⟨20, _⟩ => ⟨S64x4096, .bf16⟩
  | .local _ .vmem, ⟨21, _⟩ => ⟨S64x4096, .bf16⟩
  | .local _ .vmem, ⟨22, _⟩ => ⟨S64x1, .f32⟩
  | .local _ .vmem, ⟨23, _⟩ => ⟨S64x1, .f32⟩
  | .local _ .vmem, ⟨24, _⟩ => ⟨S8x128x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_cst_2 : Ref sig .tc := ⟨.hbm, 27, rfl⟩
abbrev main_call3_v0 : Ref sig .tc := ⟨.hbm, 28, rfl⟩
abbrev main_call3_v1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_cst_4 : Ref sig .tc := ⟨.hbm, 35, rfl⟩
abbrev main_call4_v0 : Ref sig .tc := ⟨.hbm, 36, rfl⟩
abbrev main_call4_v1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_cst_6 : Ref sig .tc := ⟨.hbm, 43, rfl⟩
abbrev main_call5_v0 : Ref sig .tc := ⟨.hbm, 44, rfl⟩
abbrev main_call5_v1 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_7 : Ref sig .tc := ⟨.hbm, 51, rfl⟩
abbrev main_cst_8 : Ref sig .tc := ⟨.hbm, 52, rfl⟩
abbrev main_call6_v0 : Ref sig .tc := ⟨.hbm, 53, rfl⟩
abbrev main_call6_v1 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_cst_10 : Ref sig .tc := ⟨.hbm, 61, rfl⟩
abbrev main_call7_v0 : Ref sig .tc := ⟨.hbm, 62, rfl⟩
abbrev main_call7_v1 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_11 : Ref sig .tc := ⟨.hbm, 69, rfl⟩
abbrev main_cst_12 : Ref sig .tc := ⟨.hbm, 70, rfl⟩
abbrev main_call8_v0 : Ref sig .tc := ⟨.hbm, 71, rfl⟩
abbrev main_call8_v1 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46_0 : Ref sig .tc := ⟨.hbm, 83, rfl⟩
abbrev main_v46_1 : Ref sig .tc := ⟨.hbm, 84, rfl⟩
abbrev main_v46_2 : Ref sig .tc := ⟨.hbm, 85, rfl⟩
abbrev main_v46_3 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S64x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel6Ideal.lean ====
variable {F : FTy → Type} [FloatOps F] [Named F]
def κ : String → Option EReal := fun
  | "mask" => some ⊥
  | _ => none
-- ==== Reference6Ideal.lean ====
abbrev S4096x6144 : Shape := ⟨2, ![4096, 6144]⟩
abbrev S4096x64 : Shape := ⟨2, ![4096, 64]⟩
abbrev S1x64 : Shape := ⟨2, ![1, 64]⟩
abbrev S4096x10240 : Shape := ⟨2, ![4096, 10240]⟩
abbrev S1x4096 : Shape := ⟨2, ![1, 4096]⟩
abbrev S4096x4096 : Shape := ⟨2, ![4096, 4096]⟩
abbrev S1x4096x4096 : Shape := ⟨3, ![1, 4096, 4096]⟩
abbrev S1x4096x8x8x64 : Shape := ⟨5, ![1, 4096, 8, 8, 64]⟩
abbrev S4096x1024 : Shape := ⟨2, ![4096, 1024]⟩
abbrev S1x4096x1024 : Shape := ⟨3, ![1, 4096, 1024]⟩
abbrev S1x4096x8x128 : Shape := ⟨4, ![1, 4096, 8, 128]⟩
abbrev S1x4096x64 : Shape := ⟨3, ![1, 4096, 64]⟩
abbrev S64 : Shape := ⟨1, ![64]⟩
abbrev S1x1x64 : Shape := ⟨3, ![1, 1, 64]⟩
abbrev S_ : Shape := ⟨0, ![]⟩
abbrev S1x4096x8x8 : Shape := ⟨4, ![1, 4096, 8, 8]⟩
abbrev S8x8 : Shape := ⟨2, ![8, 8]⟩
abbrev S1x4096x8x8x1 : Shape := ⟨5, ![1, 4096, 8, 8, 1]⟩
abbrev S1x1x8x8 : Shape := ⟨4, ![1, 1, 8, 8]⟩
abbrev S64x64 : Shape := ⟨2, ![64, 64]⟩
abbrev S1x64x64x1x1 : Shape := ⟨5, ![1, 64, 64, 1, 1]⟩
abbrev S1x8x8x64x128 : Shape := ⟨5, ![1, 8, 8, 64, 128]⟩
abbrev S1x64x64x8x8x64 : Shape := ⟨6, ![1, 64, 64, 8, 8, 64]⟩
abbrev S64x1x64x8x8x64 : Shape := ⟨6, ![64, 1, 64, 8, 8, 64]⟩
abbrev S1x64x64x8x8 : Shape := ⟨5, ![1, 64, 64, 8, 8]⟩
abbrev S64x1x64x8x8 : Shape := ⟨5, ![64, 1, 64, 8, 8]⟩
abbrev S1x64x64x8x128 : Shape := ⟨5, ![1, 64, 64, 8, 128]⟩
abbrev S64x1x64x8x128 : Shape := ⟨5, ![64, 1, 64, 8, 128]⟩
abbrev S64x1x8x8x64x128 : Shape := ⟨6, ![64, 1, 8, 8, 64, 128]⟩
abbrev S1x1x64x8x8x64 : Shape := ⟨6, ![1, 1, 64, 8, 8, 64]⟩
abbrev S1x64x8x8x64 : Shape := ⟨5, ![1, 64, 8, 8, 64]⟩
abbrev S1x1x64x8x8 : Shape := ⟨5, ![1, 1, 64, 8, 8]⟩
abbrev S1x64x8x8 : Shape := ⟨4, ![1, 64, 8, 8]⟩
abbrev S1x1x64x8x128 : Shape := ⟨5, ![1, 1, 64, 8, 128]⟩
abbrev S1x64x8x128 : Shape := ⟨4, ![1, 64, 8, 128]⟩
abbrev S1x64x1x8x8 : Shape := ⟨5, ![1, 64, 1, 8, 8]⟩
abbrev S1x8x64x64 : Shape := ⟨4, ![1, 8, 64, 64]⟩
abbrev S1x64x64x8 : Shape := ⟨4, ![1, 64, 64, 8]⟩
abbrev S1x64x64x8x1 : Shape := ⟨5, ![1, 64, 64, 8, 1]⟩
abbrev S1x8x8x64x64 : Shape := ⟨5, ![1, 8, 8, 64, 64]⟩
abbrev S1x64x8x8x1 : Shape := ⟨5, ![1, 64, 8, 8, 1]⟩
abbrev S1x8x8 : Shape := ⟨3, ![1, 8, 8]⟩
abbrev S1x8x8x1x1 : Shape := ⟨5, ![1, 8, 8, 1, 1]⟩
abbrev S1x1x8x8x64x128 : Shape := ⟨6, ![1, 1, 8, 8, 64, 128]⟩
abbrev S8x8x1 : Shape := ⟨3, ![8, 8, 1]⟩
abbrev S1x1x8x8x1 : Shape := ⟨5, ![1, 1, 8, 8, 1]⟩
abbrev S1x4096x1 : Shape := ⟨3, ![1, 4096, 1]⟩
abbrev S64x8x8x64x128 : Shape := ⟨5, ![64, 8, 8, 64, 128]⟩
abbrev S64x8x128x8x64 : Shape := ⟨5, ![64, 8, 128, 8, 64]⟩
abbrev S64x8x128x512 : Shape := ⟨4, ![64, 8, 128, 512]⟩
abbrev S4096 : Shape := ⟨1, ![4096]⟩
abbrev S1x1x4096 : Shape := ⟨3, ![1, 1, 4096]⟩
abbrev S4096x1 : Shape := ⟨2, ![4096, 1]⟩

abbrev nBuf : Space → Nat
  | .hbm => 227
  | .vmem => 0
  | .smem => 0
  | _ => 0

abbrev hbmTy0_0 (i : Nat) : BufTy := match i % 128 with
  | 0 => ⟨S4096x6144, .f32⟩
  | 1 => ⟨S4096x64, .f32⟩
  | 2 => ⟨S1x64, .f32⟩
  | 3 => ⟨S1x64, .f32⟩
  | 4 => ⟨S1x64, .f32⟩
  | 5 => ⟨S4096x10240, .f32⟩
  | 6 => ⟨S1x4096, .f32⟩
  | 7 => ⟨S4096x4096, .f32⟩
  | 8 => ⟨S1x4096x4096, .f32⟩
  | 9 => ⟨S1x4096x8x8x64, .f32⟩
  | 10 => ⟨S4096x1024, .f32⟩
  | 11 => ⟨S1x4096x1024, .f32⟩
  | 12 => ⟨S1x4096x8x128, .f32⟩
  | 13 => ⟨S4096x1024, .f32⟩
  | 14 => ⟨S1x4096x1024, .f32⟩
  | 15 => ⟨S1x4096x8x128, .f32⟩
  | 16 => ⟨S1x4096x64, .f32⟩
  | 17 => ⟨S64, .f32⟩
  | 18 => ⟨S1x1x64, .f32⟩
  | 19 => ⟨S1x4096x64, .f32⟩
  | 20 => ⟨S1x4096x64, .f32⟩
  | 21 => ⟨S_, .f32⟩
  | 22 => ⟨S1x4096x64, .f32⟩
  | 23 => ⟨S1x4096x64, .f32⟩
  | 24 => ⟨S1x4096x64, .f32⟩
  | 25 => ⟨S1x4096x64, .f32⟩
  | 26 => ⟨S1x4096x64, .i1⟩
  | 27 => ⟨S1x4096x64, .f32⟩
  | 28 => ⟨S1x4096x64, .f32⟩
  | 29 => ⟨S1x4096x64, .f32⟩
  | 30 => ⟨S1x4096x64, .f32⟩
  | 31 => ⟨S1x4096x64, .f32⟩
  | 32 => ⟨S1x4096x64, .f32⟩
  | 33 => ⟨S1x4096x64, .f32⟩
  | 34 => ⟨S1x4096x64, .f32⟩
  | 35 => ⟨S1x4096x8x8, .f32⟩
  | 36 => ⟨S64, .f32⟩
  | 37 => ⟨S64, .f32⟩
  | 38 => ⟨S8x8, .f32⟩
  | 39 => ⟨S8x8, .f32⟩
  | 40 => ⟨S1x4096x8x8x1, .f32⟩
  | 41 => ⟨S1x4096x8x8x64, .f32⟩
  | 42 => ⟨S1x4096x8x8x64, .f32⟩
  | 43 => ⟨S1x1x8x8, .f32⟩
  | 44 => ⟨S1x4096x8x8, .f32⟩
  | 45 => ⟨S1x4096x8x8, .f32⟩
  | 46 => ⟨S_, .i1⟩
  | 47 => ⟨S64x64, .i1⟩
  | 48 => ⟨S64x64, .i32⟩
  | 49 => ⟨S_, .i32⟩
  | 50 => ⟨S64x64, .i32⟩
  | 51 => ⟨S64x64, .i32⟩
  | 52 => ⟨S64x64, .i32⟩
  | 53 => ⟨S64x64, .i1⟩
  | 54 => ⟨S_, .i1⟩
  | 55 => ⟨S64x64, .i1⟩
  | 56 => ⟨S64x64, .i1⟩
  | 57 => ⟨S1x64x64x1x1, .i1⟩
  | 58 => ⟨S_, .f32⟩
  | 59 => ⟨S1x8x8x64x128, .f32⟩
  | 60 => ⟨S1x64x64x8x8x64, .f32⟩
  | 61 => ⟨S64x1x64x8x8x64, .f32⟩
  | 62 => ⟨S1x64x64x8x8, .f32⟩
  | 63 => ⟨S64x1x64x8x8, .f32⟩
  | 64 => ⟨S1x64x64x8x128, .f32⟩
  | 65 => ⟨S64x1x64x8x128, .f32⟩
  | 66 => ⟨S1x64x64x8x128, .f32⟩
  | 67 => ⟨S64x1x64x8x128, .f32⟩
  | 68 => ⟨S_, .f32⟩
  | 69 => ⟨S64x1x64x8x8x64, .f32⟩
  | 70 => ⟨S_, .f32⟩
  | 71 => ⟨S64x1x8x8x64x128, .f32⟩
  | 72 => ⟨S_, .i32⟩
  | 73 => ⟨S64x1x64x8x8x64, .f32⟩
  | 74 => ⟨S64x1x64x8x8, .f32⟩
  | 75 => ⟨S64x1x64x8x128, .f32⟩
  | 76 => ⟨S64x1x64x8x128, .f32⟩
  | 77 => ⟨S1x64x64x1x1, .i1⟩
  | 78 => ⟨S_, .i32⟩
  | 79 => ⟨S1x8x8x64x128, .f32⟩
  | 80 => ⟨S64x1x64x8x8x64, .f32⟩
  | 81 => ⟨S64x1x8x8x64x128, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S1x1x64x8x8x64, .f32⟩
  | 90 => ⟨S1x64x8x8x64, .f32⟩
  | 91 => ⟨S_, .i32⟩
  | 92 => ⟨S_, .i32⟩
  | 93 => ⟨S_, .i32⟩
  | 94 => ⟨S_, .i32⟩
  | 95 => ⟨S1x1x64x8x8, .f32⟩
  | 96 => ⟨S1x64x8x8, .f32⟩
  | 97 => ⟨S_, .i32⟩
  | 98 => ⟨S_, .i32⟩
  | 99 => ⟨S_, .i32⟩
  | 100 => ⟨S_, .i32⟩
  | 101 => ⟨S1x1x64x8x128, .f32⟩
  | 102 => ⟨S1x64x8x128, .f32⟩
  | 103 => ⟨S_, .i32⟩
  | 104 => ⟨S_, .i32⟩
  | 105 => ⟨S_, .i32⟩
  | 106 => ⟨S_, .i32⟩
  | 107 => ⟨S1x1x64x8x128, .f32⟩
  | 108 => ⟨S1x64x8x128, .f32⟩
  | 109 => ⟨S_, .f32⟩
  | 110 => ⟨S_, .f32⟩
  | 111 => ⟨S1x64x8x8, .f32⟩
  | 112 => ⟨S1x64x1x8x8, .f32⟩
  | 113 => ⟨S1x1x64x8x8, .f32⟩
  | 114 => ⟨S1x64x64x8x8, .f32⟩
  | 115 => ⟨S1x64x64x8x8, .f32⟩
  | 116 => ⟨S1x64x64x8x8, .f32⟩
  | 117 => ⟨S_, .f32⟩
  | 118 => ⟨S_, .f32⟩
  | 119 => ⟨S1x64x64x8x8, .i1⟩
  | 120 => ⟨S1x64x64x8x8, .f32⟩
  | 121 => ⟨S1x64x64x8x8, .f32⟩
  | 122 => ⟨S1x64x64x8x8, .f32⟩
  | 123 => ⟨S1x8x64x64, .f32⟩
  | 124 => ⟨S1x64x64x8, .f32⟩
  | 125 => ⟨S1x64x64x8x1, .f32⟩
  | 126 => ⟨S1x64x64x8x8, .f32⟩
  | 127 => ⟨S1x64x64x8x8, .f32⟩
  | _ => ⟨S4096x6144, .f32⟩

abbrev hbmTy0_1 (i : Nat) : BufTy := match i % 128 with
  | 0 => ⟨S1x8x8x64x64, .f32⟩
  | 1 => ⟨S1x64x8x8x64, .f32⟩
  | 2 => ⟨S1x8x8x64x64, .f32⟩
  | 3 => ⟨S1x64x8x8x64, .f32⟩
  | 4 => ⟨S1x64x8x8, .f32⟩
  | 5 => ⟨S1x64x8x8x1, .f32⟩
  | 6 => ⟨S1x64x8x8x64, .f32⟩
  | 7 => ⟨S1x64x8x8x64, .f32⟩
  | 8 => ⟨S1x1x8x8, .f32⟩
  | 9 => ⟨S1x8x8, .f32⟩
  | 10 => ⟨S1x1x8x8, .f32⟩
  | 11 => ⟨S1x64x8x8, .f32⟩
  | 12 => ⟨S1x64x8x8, .f32⟩
  | 13 => ⟨S1x64x8x8, .f32⟩
  | 14 => ⟨S1x8x8, .f32⟩
  | 15 => ⟨S1x8x8x1x1, .f32⟩
  | 16 => ⟨S1x8x8x64x128, .f32⟩
  | 17 => ⟨S1x8x8x64x128, .f32⟩
  | 18 => ⟨S1x64x8x8x1, .f32⟩
  | 19 => ⟨S1x64x8x8x64, .f32⟩
  | 20 => ⟨S1x64x8x8x64, .f32⟩
  | 21 => ⟨S1x8x8x64x128, .f32⟩
  | 22 => ⟨S1x8x8x64x128, .f32⟩
  | 23 => ⟨S1x64x8x8x64, .f32⟩
  | 24 => ⟨S1x1x64x8x8x64, .f32⟩
  | 25 => ⟨S_, .i32⟩
  | 26 => ⟨S_, .i32⟩
  | 27 => ⟨S_, .i32⟩
  | 28 => ⟨S_, .i32⟩
  | 29 => ⟨S_, .i32⟩
  | 30 => ⟨S64x1x64x8x8x64, .f32⟩
  | 31 => ⟨S1x1x8x8x64x128, .f32⟩
  | 32 => ⟨S_, .i32⟩
  | 33 => ⟨S_, .i32⟩
  | 34 => ⟨S_, .i32⟩
  | 35 => ⟨S_, .i32⟩
  | 36 => ⟨S_, .i32⟩
  | 37 => ⟨S64x1x8x8x64x128, .f32⟩
  | 38 => ⟨S_, .i32⟩
  | 39 => ⟨S_, .i32⟩
  | 40 => ⟨S1x64x64x8x8x64, .f32⟩
  | 41 => ⟨S1x4096x8x8x64, .f32⟩
  | 42 => ⟨S64, .f32⟩
  | 43 => ⟨S8x8x1, .f32⟩
  | 44 => ⟨S4096x4096, .f32⟩
  | 45 => ⟨S1x4096x4096, .f32⟩
  | 46 => ⟨S1x4096x8x8x64, .f32⟩
  | 47 => ⟨S1x1x8x8x1, .f32⟩
  | 48 => ⟨S1x4096x8x8x64, .f32⟩
  | 49 => ⟨S1x4096x8x8x64, .f32⟩
  | 50 => ⟨S1x4096x8x8x64, .f32⟩
  | 51 => ⟨S1x4096x4096, .f32⟩
  | 52 => ⟨S4096x4096, .f32⟩
  | 53 => ⟨S1x4096x4096, .f32⟩
  | 54 => ⟨S1x4096x4096, .f32⟩
  | 55 => ⟨S1x4096x4096, .f32⟩
  | 56 => ⟨S_, .f32⟩
  | 57 => ⟨S1x4096x4096, .f32⟩
  | 58 => ⟨S1x4096x4096, .f32⟩
  | 59 => ⟨S_, .f32⟩
  | 60 => ⟨S1x4096x4096, .f32⟩
  | 61 => ⟨S1x4096x4096, .f32⟩
  | 62 => ⟨S1x4096x4096, .f32⟩
  | 63 => ⟨S1x4096x4096, .f32⟩
  | 64 => ⟨S1x4096x4096, .f32⟩
  | 65 => ⟨S_, .f32⟩
  | 66 => ⟨S1x4096, .f32⟩
  | 67 => ⟨S1x4096x1, .f32⟩
  | 68 => ⟨S_, .f32⟩
  | 69 => ⟨S1x4096x1, .f32⟩
  | 70 => ⟨S1x4096x1, .f32⟩
  | 71 => ⟨S_, .f32⟩
  | 72 => ⟨S1x4096x1, .f32⟩
  | 73 => ⟨S1x4096x1, .f32⟩
  | 74 => ⟨S1x4096x1, .f32⟩
  | 75 => ⟨S64x8x8x64x128, .f32⟩
  | 76 => ⟨S64x8x128x8x64, .f32⟩
  | 77 => ⟨S64x8x128x512, .f32⟩
  | 78 => ⟨S4096x4096, .f32⟩
  | 79 => ⟨S4096, .f32⟩
  | 80 => ⟨S1x4096x4096, .f32⟩
  | 81 => ⟨S_, .f32⟩
  | 82 => ⟨S1x4096, .f32⟩
  | 83 => ⟨S1x4096x1, .f32⟩
  | 84 => ⟨S_, .f32⟩
  | 85 => ⟨S1x4096x1, .f32⟩
  | 86 => ⟨S1x4096x1, .f32⟩
  | 87 => ⟨S_, .f32⟩
  | 88 => ⟨S1x4096x1, .f32⟩
  | 89 => ⟨S1x4096x1, .f32⟩
  | 90 => ⟨S1x4096x1, .f32⟩
  | 91 => ⟨S1x4096x4096, .f32⟩
  | 92 => ⟨S1x4096x4096, .f32⟩
  | 93 => ⟨S1x1x4096, .f32⟩
  | 94 => ⟨S1x4096x4096, .f32⟩
  | 95 => ⟨S1x4096x4096, .f32⟩
  | 96 => ⟨S4096x4096, .f32⟩
  | 97 => ⟨S4096x4096, .bf16⟩
  | 98 => ⟨S4096x1, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_0 : Ref sig .tc := ⟨.hbm, 54, rfl⟩
abbrev main_call1_v5 : Ref sig .tc := ⟨.hbm, 55, rfl⟩
abbrev main_v27 : Ref sig .tc := ⟨.hbm, 56, rfl⟩
abbrev main_v28 : Ref sig .tc := ⟨.hbm, 57, rfl⟩
abbrev main_cst : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_0 : Ref sig .tc := ⟨.hbm, 68, rfl⟩
abbrev main_v38 : Ref sig .tc := ⟨.hbm, 69, rfl⟩
abbrev main_cst_1 : Ref sig .tc := ⟨.hbm, 70, rfl⟩
abbrev main_v39 : Ref sig .tc := ⟨.hbm, 71, rfl⟩
abbrev main_c_2 : Ref sig .tc := ⟨.hbm, 72, rfl⟩
abbrev main_v40_0 : Ref sig .tc := ⟨.hbm, 73, rfl⟩
abbrev main_v40_1 : Ref sig .tc := ⟨.hbm, 74, rfl⟩
abbrev main_v40_2 : Ref sig .tc := ⟨.hbm, 75, rfl⟩
abbrev main_v40_3 : Ref sig .tc := ⟨.hbm, 76, rfl⟩
abbrev main_v40_4 : Ref sig .tc := ⟨.hbm, 77, rfl⟩
abbrev main_v40_5 : Ref sig .tc := ⟨.hbm, 78, rfl⟩
abbrev main_v40_6 : Ref sig .tc := ⟨.hbm, 79, rfl⟩
abbrev main_v40_7 : Ref sig .tc := ⟨.hbm, 80, rfl⟩
abbrev main_v40_8 : Ref sig .tc := ⟨.hbm, 81, rfl⟩
abbrev main_while0c_c_17 : Ref sig .tc := ⟨.hbm, 82, rfl⟩
abbrev main_while0c_v86 : Ref sig .tc := ⟨.hbm, 83, rfl⟩
abbrev main_while0b_call2_c : Ref sig .tc := ⟨.hbm, 84, rfl⟩
abbrev main_while0b_call2_c_0 : Ref sig .tc := ⟨.hbm, 85, rfl⟩
abbrev main_while0b_call2_c_1 : Ref sig .tc := ⟨.hbm, 86, rfl⟩
abbrev main_while0b_call2_c_2 : Ref sig .tc := ⟨.hbm, 87, rfl⟩
abbrev main_while0b_call2_c_3 : Ref sig .tc := ⟨.hbm, 88, rfl⟩
abbrev main_while0b_call2_v0 : Ref sig .tc := ⟨.hbm, 89, rfl⟩
abbrev main_while0b_v86 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_c_1 : Ref sig .tc := ⟨.hbm, 93, rfl⟩
abbrev main_while0b_call3_c_2 : Ref sig .tc := ⟨.hbm, 94, rfl⟩
abbrev main_while0b_call3_v0 : Ref sig .tc := ⟨.hbm, 95, rfl⟩
abbrev main_while0b_v87 : Ref sig .tc := ⟨.hbm, 96, rfl⟩
abbrev main_while0b_call4_c : Ref sig .tc := ⟨.hbm, 97, rfl⟩
abbrev main_while0b_call4_c_0 : Ref sig .tc := ⟨.hbm, 98, rfl⟩
abbrev main_while0b_call4_c_1 : Ref sig .tc := ⟨.hbm, 99, rfl⟩
abbrev main_while0b_call4_c_2 : Ref sig .tc := ⟨.hbm, 100, rfl⟩
abbrev main_while0b_call4_v0 : Ref sig .tc := ⟨.hbm, 101, rfl⟩
abbrev main_while0b_v88 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_c_2 : Ref sig .tc := ⟨.hbm, 106, rfl⟩
abbrev main_while0b_call5_v0 : Ref sig .tc := ⟨.hbm, 107, rfl⟩
abbrev main_while0b_v89 : Ref sig .tc := ⟨.hbm, 108, rfl⟩
abbrev main_while0b_call6_call0_cst : Ref sig .tc := ⟨.hbm, 109, rfl⟩
abbrev main_while0b_call6_call0_v0 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_v94 : Ref sig .tc := ⟨.hbm, 115, rfl⟩
abbrev main_while0b_v95 : Ref sig .tc := ⟨.hbm, 116, rfl⟩
abbrev main_while0b_cst_17 : Ref sig .tc := ⟨.hbm, 117, rfl⟩
abbrev main_while0b_call7_v0 : Ref sig .tc := ⟨.hbm, 118, rfl⟩
abbrev main_while0b_call7_v1 : Ref sig .tc := ⟨.hbm, 119, rfl⟩
abbrev main_while0b_call7_v2 : Ref sig .tc := ⟨.hbm, 120, rfl⟩
abbrev main_while0b_v96 : Ref sig .tc := ⟨.hbm, 121, rfl⟩
abbrev main_while0b_v97 : Ref sig .tc := ⟨.hbm, 122, rfl⟩
abbrev main_while0b_v98 : Ref sig .tc := ⟨.hbm, 123, rfl⟩
abbrev main_while0b_v99 : Ref sig .tc := ⟨.hbm, 124, rfl⟩
abbrev main_while0b_v100 : Ref sig .tc := ⟨.hbm, 125, rfl⟩
abbrev main_while0b_v101 : Ref sig .tc := ⟨.hbm, 126, rfl⟩
abbrev main_while0b_v102 : Ref sig .tc := ⟨.hbm, 127, rfl⟩
abbrev main_while0b_v103 : Ref sig .tc := ⟨.hbm, 128, rfl⟩
abbrev main_while0b_v104 : Ref sig .tc := ⟨.hbm, 129, rfl⟩
abbrev main_while0b_v105 : Ref sig .tc := ⟨.hbm, 130, rfl⟩
abbrev main_while0b_v106 : Ref sig .tc := ⟨.hbm, 131, rfl⟩
abbrev main_while0b_v107 : Ref sig .tc := ⟨.hbm, 132, rfl⟩
abbrev main_while0b_v108 : Ref sig .tc := ⟨.hbm, 133, rfl⟩
abbrev main_while0b_v109 : Ref sig .tc := ⟨.hbm, 134, rfl⟩
abbrev main_while0b_v110 : Ref sig .tc := ⟨.hbm, 135, rfl⟩
abbrev main_while0b_v111 : Ref sig .tc := ⟨.hbm, 136, rfl⟩
abbrev main_while0b_v112 : Ref sig .tc := ⟨.hbm, 137, rfl⟩
abbrev main_while0b_v113 : Ref sig .tc := ⟨.hbm, 138, rfl⟩
abbrev main_while0b_v114 : Ref sig .tc := ⟨.hbm, 139, rfl⟩
abbrev main_while0b_v115 : Ref sig .tc := ⟨.hbm, 140, rfl⟩
abbrev main_while0b_v116 : Ref sig .tc := ⟨.hbm, 141, rfl⟩
abbrev main_while0b_v117 : Ref sig .tc := ⟨.hbm, 142, rfl⟩
abbrev main_while0b_v118 : Ref sig .tc := ⟨.hbm, 143, rfl⟩
abbrev main_while0b_v119 : Ref sig .tc := ⟨.hbm, 144, rfl⟩
abbrev main_while0b_v120 : Ref sig .tc := ⟨.hbm, 145, rfl⟩
abbrev main_while0b_v121 : Ref sig .tc := ⟨.hbm, 146, rfl⟩
abbrev main_while0b_v122 : Ref sig .tc := ⟨.hbm, 147, rfl⟩
abbrev main_while0b_v123 : Ref sig .tc := ⟨.hbm, 148, rfl⟩
abbrev main_while0b_v124 : Ref sig .tc := ⟨.hbm, 149, rfl⟩
abbrev main_while0b_v125 : Ref sig .tc := ⟨.hbm, 150, rfl⟩
abbrev main_while0b_v126 : Ref sig .tc := ⟨.hbm, 151, rfl⟩
abbrev main_while0b_call8_v0 : Ref sig .tc := ⟨.hbm, 152, rfl⟩
abbrev main_while0b_call8_c : Ref sig .tc := ⟨.hbm, 153, rfl⟩
abbrev main_while0b_call8_c_0 : Ref sig .tc := ⟨.hbm, 154, rfl⟩
abbrev main_while0b_call8_c_1 : Ref sig .tc := ⟨.hbm, 155, rfl⟩
abbrev main_while0b_call8_c_2 : Ref sig .tc := ⟨.hbm, 156, rfl⟩
abbrev main_while0b_call8_c_3 : Ref sig .tc := ⟨.hbm, 157, rfl⟩
abbrev main_while0b_v127 : Ref sig .tc := ⟨.hbm, 158, rfl⟩
abbrev main_while0b_call9_v0 : Ref sig .tc := ⟨.hbm, 159, rfl⟩
abbrev main_while0b_call9_c : Ref sig .tc := ⟨.hbm, 160, rfl⟩
abbrev main_while0b_call9_c_0 : Ref sig .tc := ⟨.hbm, 161, rfl⟩
abbrev main_while0b_call9_c_1 : Ref sig .tc := ⟨.hbm, 162, rfl⟩
abbrev main_while0b_call9_c_2 : Ref sig .tc := ⟨.hbm, 163, rfl⟩
abbrev main_while0b_call9_c_3 : Ref sig .tc := ⟨.hbm, 164, rfl⟩
abbrev main_while0b_v128 : Ref sig .tc := ⟨.hbm, 165, rfl⟩
abbrev main_while0b_c_18 : Ref sig .tc := ⟨.hbm, 166, rfl⟩
abbrev main_while0b_v129 : Ref sig .tc := ⟨.hbm, 167, rfl⟩
abbrev main_v41 : Ref sig .tc := ⟨.hbm, 168, rfl⟩
abbrev main_v42 : Ref sig .tc := ⟨.hbm, 169, rfl⟩
abbrev main_v43 : Ref sig .tc := ⟨.hbm, 170, rfl⟩
abbrev main_v44 : Ref sig .tc := ⟨.hbm, 171, rfl⟩
abbrev main_v45 : Ref sig .tc := ⟨.hbm, 172, rfl⟩
abbrev main_v46 : Ref sig .tc := ⟨.hbm, 173, rfl⟩
abbrev main_v47 : Ref sig .tc := ⟨.hbm, 174, rfl⟩
abbrev main_v48 : Ref sig .tc := ⟨.hbm, 175, rfl⟩
abbrev main_v49 : Ref sig .tc := ⟨.hbm, 176, rfl⟩
abbrev main_v50 : Ref sig .tc := ⟨.hbm, 177, rfl⟩
abbrev main_v51 : Ref sig .tc := ⟨.hbm, 178, rfl⟩
abbrev main_v52 : Ref sig .tc := ⟨.hbm, 179, rfl⟩
abbrev main_v53 : Ref sig .tc := ⟨.hbm, 180, rfl⟩
abbrev main_v54 : Ref sig .tc := ⟨.hbm, 181, rfl⟩
abbrev main_call10_v0 : Ref sig .tc := ⟨.hbm, 182, rfl⟩
abbrev main_call10_v1 : Ref sig .tc := ⟨.hbm, 183, rfl⟩
abbrev main_call10_cst : Ref sig .tc := ⟨.hbm, 184, rfl⟩
abbrev main_call10_v2 : Ref sig .tc := ⟨.hbm, 185, rfl⟩
abbrev main_call10_v3 : Ref sig .tc := ⟨.hbm, 186, rfl⟩
abbrev main_call10_cst_0 : Ref sig .tc := ⟨.hbm, 187, rfl⟩
abbrev main_call10_v4 : Ref sig .tc := ⟨.hbm, 188, rfl⟩
abbrev main_call10_v5 : Ref sig .tc := ⟨.hbm, 189, rfl⟩
abbrev main_v55 : Ref sig .tc := ⟨.hbm, 190, rfl⟩
abbrev main_v56 : Ref sig .tc := ⟨.hbm, 191, rfl⟩
abbrev main_v57 : Ref sig .tc := ⟨.hbm, 192, rfl⟩
abbrev main_cst_3 : Ref sig .tc := ⟨.hbm, 193, rfl⟩
abbrev main_v58 : Ref sig .tc := ⟨.hbm, 194, rfl⟩
abbrev main_v59 : Ref sig .tc := ⟨.hbm, 195, rfl⟩
abbrev main_cst_4 : Ref sig .tc := ⟨.hbm, 196, rfl⟩
abbrev main_v60 : Ref sig .tc := ⟨.hbm, 197, rfl⟩
abbrev main_v61 : Ref sig .tc := ⟨.hbm, 198, rfl⟩
abbrev main_cst_5 : Ref sig .tc := ⟨.hbm, 199, rfl⟩
abbrev main_v62 : Ref sig .tc := ⟨.hbm, 200, rfl⟩
abbrev main_v63 : Ref sig .tc := ⟨.hbm, 201, rfl⟩
abbrev main_v64 : Ref sig .tc := ⟨.hbm, 202, rfl⟩
abbrev main_v65 : Ref sig .tc := ⟨.hbm, 203, rfl⟩
abbrev main_v66 : Ref sig .tc := ⟨.hbm, 204, rfl⟩
abbrev main_v67 : Ref sig .tc := ⟨.hbm, 205, rfl⟩
abbrev main_v68 : Ref sig .tc := ⟨.hbm, 206, rfl⟩
abbrev main_v69 : Ref sig .tc := ⟨.hbm, 207, rfl⟩
abbrev main_v70 : Ref sig .tc := ⟨.hbm, 208, rfl⟩
abbrev main_cst_6 : Ref sig .tc := ⟨.hbm, 209, rfl⟩
abbrev main_v71 : Ref sig .tc := ⟨.hbm, 210, rfl⟩
abbrev main_v72 : Ref sig .tc := ⟨.hbm, 211, rfl⟩
abbrev main_cst_7 : Ref sig .tc := ⟨.hbm, 212, rfl⟩
abbrev main_v73 : Ref sig .tc := ⟨.hbm, 213, rfl⟩
abbrev main_v74 : Ref sig .tc := ⟨.hbm, 214, rfl⟩
abbrev main_cst_8 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_v78 : Ref sig .tc := ⟨.hbm, 219, rfl⟩
abbrev main_v79 : Ref sig .tc := ⟨.hbm, 220, rfl⟩
abbrev main_v80 : Ref sig .tc := ⟨.hbm, 221, rfl⟩
abbrev main_v81 : Ref sig .tc := ⟨.hbm, 222, rfl⟩
abbrev main_v82 : Ref sig .tc := ⟨.hbm, 223, rfl⟩
abbrev main_v83 : Ref sig .tc := ⟨.hbm, 224, rfl⟩
abbrev main_v84 : Ref sig .tc := ⟨.hbm, 225, rfl⟩
abbrev main_v85 : Ref sig .tc := ⟨.hbm, 226, rfl⟩

abbrev nD : Nat := 1
abbrev τ : Topo := Topo.v7x

variable {F : FTy → Type} [FloatOps F]

abbrev main_while0_count : Scf.Loop 32 := ⟨0#32, 64#32, 1#32⟩
-- ==== Kernel8.lean ====
abbrev S4096x2048 : Shape := ⟨2, ![4096, 2048]⟩
abbrev S1x2048 : Shape := ⟨2, ![1, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel9.lean ====
abbrev S4096x8192 : Shape := ⟨2, ![4096, 8192]⟩
abbrev S4096x4096 : Shape := ⟨2, ![4096, 4096]⟩
abbrev S4096x256 : Shape := ⟨2, ![4096, 256]⟩
abbrev S512x256 : Shape := ⟨2, ![512, 256]⟩
abbrev S512x1 : Shape := ⟨2, ![512, 1]⟩
abbrev S16x256 : Shape := ⟨2, ![16, 256]⟩
abbrev S528x256 : Shape := ⟨2, ![528, 256]⟩

abbrev nBuf : Space → Nat
  | .hbm => 2
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x4096, .bf16⟩
  | .local _ .vmem, ⟨0, _⟩ => ⟨S4096x256, .f32⟩
  | .local _ .vmem, ⟨1, _⟩ => ⟨S4096x256, .f32⟩
  | .local _ .vmem, ⟨2, _⟩ => ⟨S4096x256, .bf16⟩
  | .local _ .vmem, ⟨3, _⟩ => ⟨S4096x256, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult1 (k0_t1 : Fin k0_t1_loop.trips) : BitVec 32 :=
  let c0_i32_4 : BitVec 32 := 0#32
  let c1_i32_5 : BitVec 32 := 1#32
  let arg4 : BitVec 32 := Scf.iv c0_i32_4 c1_i32_5 k0_t1
  let c512_i32 : BitVec 32 := 512#32
  let v13 : BitVec 32 := Scalar.muli arg4 c512_i32
  v13
def k0_off1 (k0_t1 : Fin k0_t1_loop.trips) : Fin 2 → Nat :=
  let c0_i32_4 : BitVec 32 := 0#32
  let c1_i32_5 : BitVec 32 := 1#32
  let arg4 : BitVec 32 := Scf.iv c0_i32_4 c1_i32_5 k0_t1
  let c512_i32 : BitVec 32 := 512#32
  let v13 : BitVec 32 := Scalar.muli arg4 c512_i32
  let v14 : BitVec 32 := v13
  let v15 : Index := Scalar.indexCast v14
  let c0 : Index := 0#32
  ![v15.toNat, 0]
def k0_mult2 (k0_t1 : Fin k0_t1_loop.trips) : BitVec 32 :=
  let c0_i32_4 : BitVec 32 := 0#32
  let c1_i32_5 : BitVec 32 := 1#32
  let arg4 : BitVec 32 := Scf.iv c0_i32_4 c1_i32_5 k0_t1
  let c512_i32 : BitVec 32 := 512#32
  let v13 : BitVec 32 := Scalar.muli arg4 c512_i32
  let v14 : BitVec 32 := v13
  let c16_i32 : BitVec 32 := 16#32
  let v25 : BitVec 32 := Scalar.subi v14 c16_i32
  let c0_i32_9 : BitVec 32 := 0#32
  let v26 : BitVec 32 := Scalar.maxsi v25 c0_i32_9
  v26
def k0_off2 (k0_t1 : Fin k0_t1_loop.trips) : Fin 2 → Nat :=
  let c0_i32_4 : BitVec 32 := 0#32
  let c1_i32_5 : BitVec 32 := 1#32
  let arg4 : BitVec 32 := Scf.iv c0_i32_4 c1_i32_5 k0_t1
  let c512_i32 : BitVec 32 := 512#32
  let v13 : BitVec 32 := Scalar.muli arg4 c512_i32
  let v14 : BitVec 32 := v13
  let c16_i32 : BitVec 32 := 16#32
  let v25 : BitVec 32 := Scalar.subi v14 c16_i32
  let c0_i32_9 : BitVec 32 := 0#32
  let v26 : BitVec 32 := Scalar.maxsi v25 c0_i32_9
  let v27 : BitVec 32 := v26
  let v28 : Index := Scalar.indexCast v27
  let c0_10 : Index := 0#32
  ![v28.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult3 (k0_t2 : Fin k0_t2_loop.trips) : BitVec 32 :=
  let c0_i32_4 : BitVec 32 := 0#32
  let c1_i32_5 : BitVec 32 := 1#32
  let arg4 : BitVec 32 := Scf.iv c0_i32_4 c1_i32_5 k0_t2
  let c512_i32 : BitVec 32 := 512#32
  let v13 : BitVec 32 := Scalar.muli arg4 c512_i32
  v13
def k0_off3 (k0_t2 : Fin k0_t2_loop.trips) : Fin 2 → Nat :=
  let c0_i32_4 : BitVec 32 := 0#32
  let c1_i32_5 : BitVec 32 := 1#32
  let arg4 : BitVec 32 := Scf.iv c0_i32_4 c1_i32_5 k0_t2
  let c512_i32 : BitVec 32 := 512#32
  let v13 : BitVec 32 := Scalar.muli arg4 c512_i32
  let v14 : BitVec 32 := v13
  let v15 : Index := Scalar.indexCast v14
  let c0 : Index := 0#32
  ![v15.toNat, 0]
def k0_mult4 (k0_t2 : Fin k0_t2_loop.trips) : BitVec 32 :=
  let c0_i32_4 : BitVec 32 := 0#32
  let c1_i32_5 : BitVec 32 := 1#32
  let arg4 : BitVec 32 := Scf.iv c0_i32_4 c1_i32_5 k0_t2
  let c512_i32 : BitVec 32 := 512#32
  let v13 : BitVec 32 := Scalar.muli arg4 c512_i32
  let v14 : BitVec 32 := v13
  let c16_i32 : BitVec 32 := 16#32
  let v25 : BitVec 32 := Scalar.subi v14 c16_i32
  let c0_i32_8 : BitVec 32 := 0#32
  let v26 : BitVec 32 := Scalar.maxsi v25 c0_i32_8
  v26
def k0_off4 (k0_t2 : Fin k0_t2_loop.trips) : Fin 2 → Nat :=
  let c0_i32_4 : BitVec 32 := 0#32
  let c1_i32_5 : BitVec 32 := 1#32
  let arg4 : BitVec 32 := Scf.iv c0_i32_4 c1_i32_5 k0_t2
  let c512_i32 : BitVec 32 := 512#32
  let v13 : BitVec 32 := Scalar.muli arg4 c512_i32
  let v14 : BitVec 32 := v13
  let c16_i32 : BitVec 32 := 16#32
  let v25 : BitVec 32 := Scalar.subi v14 c16_i32
  let c0_i32_8 : BitVec 32 := 0#32
  let v26 : BitVec 32 := Scalar.maxsi v25 c0_i32_8
  let v27 : BitVec 32 := v26
  let v28 : Index := Scalar.indexCast v27
  let c0_9 : Index := 0#32
  ![v28.toNat, 0]
def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

@[reducible] def k0_t3_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult5 (k0_t3 : Fin k0_t3_loop.trips) : BitVec 32 :=
  let c0_i32_4 : BitVec 32 := 0#32
  let c1_i32_5 : BitVec 32 := 1#32
  let arg4 : BitVec 32 := Scf.iv c0_i32_4 c1_i32_5 k0_t3
  let c512_i32 : BitVec 32 := 512#32
  let v13 : BitVec 32 := Scalar.muli arg4 c512_i32
  v13
def k0_off5 (k0_t3 : Fin k0_t3_loop.trips) : Fin 2 → Nat :=
  let c0_i32_4 : BitVec 32 := 0#32
  let c1_i32_5 : BitVec 32 := 1#32
  let arg4 : BitVec 32 := Scf.iv c0_i32_4 c1_i32_5 k0_t3
  let c512_i32 : BitVec 32 := 512#32
  let v13 : BitVec 32 := Scalar.muli arg4 c512_i32
  let v14 : BitVec 32 := v13
  let v15 : Index := Scalar.indexCast v14
  let c0 : Index := 0#32
  ![v15.toNat, 0]
def k0_mult6 (k0_t3 : Fin k0_t3_loop.trips) : BitVec 32 :=
  let c0_i32_4 : BitVec 32 := 0#32
  let c1_i32_5 : BitVec 32 := 1#32
  let arg4 : BitVec 32 := Scf.iv c0_i32_4 c1_i32_5 k0_t3
  let c512_i32 : BitVec 32 := 512#32
  let v13 : BitVec 32 := Scalar.muli arg4 c512_i32
  let v14 : BitVec 32 := v13
  let c16_i32 : BitVec 32 := 16#32
  let v25 : BitVec 32 := Scalar.subi v14 c16_i32
  let c0_i32_9 : BitVec 32 := 0#32
  let v26 : BitVec 32 := Scalar.maxsi v25 c0_i32_9
  v26
def k0_off6 (k0_t3 : Fin k0_t3_loop.trips) : Fin 2 → Nat :=
  let c0_i32_4 : BitVec 32 := 0#32
  let c1_i32_5 : BitVec 32 := 1#32
  let arg4 : BitVec 32 := Scf.iv c0_i32_4 c1_i32_5 k0_t3
  let c512_i32 : BitVec 32 := 512#32
  let v13 : BitVec 32 := Scalar.muli arg4 c512_i32
  let v14 : BitVec 32 := v13
  let c16_i32 : BitVec 32 := 16#32
  let v25 : BitVec 32 := Scalar.subi v14 c16_i32
  let c0_i32_9 : BitVec 32 := 0#32
  let v26 : BitVec 32 := Scalar.maxsi v25 c0_i32_9
  let v27 : BitVec 32 := v26
  let v28 : Index := Scalar.indexCast v27
  let c0_10 : Index := 0#32
  ![v28.toNat, 0]
def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

@[reducible] def k0_t4_loop : Scf.Loop 32 :=
  let c0_i32_4 : BitVec 32 := 0#32
  let c8_i32 : BitVec 32 := 8#32
  let v12 : BitVec 32 := Scalar.addi c0_i32_4 c8_i32
  let c1_i32_5 : BitVec 32 := 1#32
  ⟨c0_i32_4, v12, c1_i32_5⟩
def k0_mult7 (k0_t4 : Fin k0_t4_loop.trips) : BitVec 32 :=
  let c0_i32_4 : BitVec 32 := 0#32
  let c1_i32_5 : BitVec 32 := 1#32
  let arg4 : BitVec 32 := Scf.iv c0_i32_4 c1_i32_5 k0_t4
  let c512_i32 : BitVec 32 := 512#32
  let v13 : BitVec 32 := Scalar.muli arg4 c512_i32
  v13
def k0_off7 (k0_t4 : Fin k0_t4_loop.trips) : Fin 2 → Nat :=
  let c0_i32_4 : BitVec 32 := 0#32
  let c1_i32_5 : BitVec 32 := 1#32
  let arg4 : BitVec 32 := Scf.iv c0_i32_4 c1_i32_5 k0_t4
  let c512_i32 : BitVec 32 := 512#32
  let v13 : BitVec 32 := Scalar.muli arg4 c512_i32
  let v14 : BitVec 32 := v13
  let v15 : Index := Scalar.indexCast v14
  let c0 : Index := 0#32
  ![v15.toNat, 0]
def k0_mult8 (k0_t4 : Fin k0_t4_loop.trips) : BitVec 32 :=
  let c0_i32_4 : BitVec 32 := 0#32
  let c1_i32_5 : BitVec 32 := 1#32
  let arg4 : BitVec 32 := Scf.iv c0_i32_4 c1_i32_5 k0_t4
  let c512_i32 : BitVec 32 := 512#32
  let v13 : BitVec 32 := Scalar.muli arg4 c512_i32
  let v14 : BitVec 32 := v13
  let c16_i32_8 : BitVec 32 := 16#32
  let v25 : BitVec 32 := Scalar.subi v14 c16_i32_8
  let c0_i32_9 : BitVec 32 := 0#32
  let v26 : BitVec 32 := Scalar.maxsi v25 c0_i32_9
  v26
def k0_off8 (k0_t4 : Fin k0_t4_loop.trips) : Fin 2 → Nat :=
  let c0_i32_4 : BitVec 32 := 0#32
  let c1_i32_5 : BitVec 32 := 1#32
  let arg4 : BitVec 32 := Scf.iv c0_i32_4 c1_i32_5 k0_t4
  let c512_i32 : BitVec 32 := 512#32
  let v13 : BitVec 32 := Scalar.muli arg4 c512_i32
  let v14 : BitVec 32 := v13
  let c16_i32_8 : BitVec 32 := 16#32
  let v25 : BitVec 32 := Scalar.subi v14 c16_i32_8
  let c0_i32_9 : BitVec 32 := 0#32
  let v26 : BitVec 32 := Scalar.maxsi v25 c0_i32_9
  let v27 : BitVec 32 := v26
  let v28 : Index := Scalar.indexCast v27
  let c0_10 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference9Ideal.lean ====
abbrev S4096x8192 : Shape := ⟨2, ![4096, 8192]⟩
abbrev S4096x4096 : Shape := ⟨2, ![4096, 4096]⟩
abbrev S1x4096x4x1024 : Shape := ⟨4, ![1, 4096, 4, 1024]⟩
abbrev S_ : Shape := ⟨0, ![]⟩
abbrev S4096 : Shape := ⟨1, ![4096]⟩
abbrev S1x4096x1x1024 : Shape := ⟨4, ![1, 4096, 1, 1024]⟩
abbrev S1x4096x1024 : Shape := ⟨3, ![1, 4096, 1024]⟩
abbrev S1x4098x1024 : Shape := ⟨3, ![1, 4098, 1024]⟩
abbrev S1x4096x1 : Shape := ⟨3, ![1, 4096, 1]⟩
abbrev S1x4100x1024 : Shape := ⟨3, ![1, 4100, 1024]⟩
abbrev S1x4104x1024 : Shape := ⟨3, ![1, 4104, 1024]⟩
abbrev S1x4112x1024 : Shape := ⟨3, ![1, 4112, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S1x4096x4x1024, .f32⟩
  | .hbm, ⟨3, _⟩ => ⟨S_, .f32⟩
  | .hbm, ⟨4, _⟩ => ⟨S_, .f32⟩
  | .hbm, ⟨5, _⟩ => ⟨S1x4096x4x1024, .f32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S1x4096x1x1024, .f32⟩
  | .hbm, ⟨11, _⟩ => ⟨S1x4096x1024, .f32⟩
  | .hbm, ⟨12, _⟩ => ⟨S_, .i32⟩
  | .hbm, ⟨13, _⟩ => ⟨S_, .f32⟩
  | .hbm, ⟨14, _⟩ => ⟨S1x4098x1024, .f32⟩
  | .hbm, ⟨15, _⟩ => ⟨S1x4096x1024, .f32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1x1024, .f32⟩
  | .hbm, ⟨25, _⟩ => ⟨S1x4096x1024, .f32⟩
  | .hbm, ⟨26, _⟩ => ⟨S_, .i32⟩
  | .hbm, ⟨27, _⟩ => ⟨S_, .f32⟩
  | .hbm, ⟨28, _⟩ => ⟨S1x4100x1024, .f32⟩
  | .hbm, ⟨29, _⟩ => ⟨S1x4096x1024, .f32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .f32⟩
  | .hbm, ⟨34, _⟩ => ⟨S1x4096x1, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S1x4096x1x1024, .f32⟩
  | .hbm, ⟨39, _⟩ => ⟨S1x4096x1024, .f32⟩
  | .hbm, ⟨40, _⟩ => ⟨S_, .i32⟩
  | .hbm, ⟨41, _⟩ => ⟨S_, .f32⟩
  | .hbm, ⟨42, _⟩ => ⟨S1x4104x1024, .f32⟩
  | .hbm, ⟨43, _⟩ => ⟨S1x4096x1024, .f32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .f32⟩
  | .hbm, ⟨48, _⟩ => ⟨S1x4096x1, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1x1024, .f32⟩
  | .hbm, ⟨53, _⟩ => ⟨S1x4096x1024, .f32⟩
  | .hbm, ⟨54, _⟩ => ⟨S_, .i32⟩
  | .hbm, ⟨55, _⟩ => ⟨S_, .f32⟩
  | .hbm, ⟨56, _⟩ => ⟨S1x4112x1024, .f32⟩
  | .hbm, ⟨57, _⟩ => ⟨S1x4096x1024, .f32⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .f32⟩
  | .hbm, ⟨62, _⟩ => ⟨S1x4096x1, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1x4096x1x1024, .f32⟩
  | .hbm, ⟨67, _⟩ => ⟨S1x4096x1x1024, .f32⟩
  | .hbm, ⟨68, _⟩ => ⟨S1x4096x1x1024, .f32⟩
  | .hbm, ⟨69, _⟩ => ⟨S1x4096x1x1024, .f32⟩
  | .hbm, ⟨70, _⟩ => ⟨S1x4096x4x1024, .f32⟩
  | .hbm, ⟨71, _⟩ => ⟨S1x4096x4x1024, .f32⟩
  | .hbm, ⟨72, _⟩ => ⟨S4096x4096, .f32⟩
  | .hbm, ⟨73, _⟩ => ⟨S4096x4096, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_call0_cst : Ref sig .tc := ⟨.hbm, 3, rfl⟩
abbrev main_call0_call0_v0 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_call2_v0 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_call3_v0 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_call4_v0 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Kernel10.lean ====
abbrev S4096x4096 : Shape := ⟨2, ![4096, 4096]⟩
abbrev S4x1024x1024 : Shape := ⟨3, ![4, 1024, 1024]⟩
abbrev S4096x8192 : Shape := ⟨2, ![4096, 8192]⟩
abbrev S1x4096 : Shape := ⟨2, ![1, 4096]⟩
abbrev S1024x1024 : Shape := ⟨2, ![1024, 1024]⟩
abbrev S1x1024x1024 : Shape := ⟨3, ![1, 1024, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x8192, .f32⟩
  | .hbm, ⟨3, _⟩ => ⟨S1x4096, .f32⟩
  | .hbm, ⟨4, _⟩ => ⟨S4096x4096, .f32⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1024_i32 : BitVec 32 := 1024#32
  let v0 : BitVec 32 := Scalar.muli arg0 c1024_i32
  let c4096_i32 : BitVec 32 := 4096#32
  let v1 : BitVec 32 := Scalar.addi c4096_i32 v0
  let c1024_i32_0 : BitVec 32 := 1024#32
  let v2 : BitVec 32 := Scalar.divsi v1 c1024_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1024_i32_0 c0_i32_2
  let v9 : BitVec 32 := Scalar.extui v8
  let c0_i32_3 : BitVec 32 := 0#32
  let v10 : BitVec 1 := Scalar.cmpi .slt c1024_i32_0 c0_i32_3
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg2
  let c0_i32_5 : BitVec 32 := 0#32
  ![arg1.toNat, v19.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== Reference10Ideal.lean ====
abbrev S4096x4096 : Shape := ⟨2, ![4096, 4096]⟩
abbrev S4x1024x1024 : Shape := ⟨3, ![4, 1024, 1024]⟩
abbrev S4096x8192 : Shape := ⟨2, ![4096, 8192]⟩
abbrev S1x4096 : Shape := ⟨2, ![1, 4096]⟩
abbrev S1x4096x4x1024 : Shape := ⟨4, ![1, 4096, 4, 1024]⟩
abbrev S4x1024x1x4096 : Shape := ⟨4, ![4, 1024, 1, 4096]⟩
abbrev S4096 : Shape := ⟨1, ![4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x8192, .f32⟩
  | .hbm, ⟨3, _⟩ => ⟨S1x4096, .f32⟩
  | .hbm, ⟨4, _⟩ => ⟨S4096x4096, .f32⟩
  | .hbm, ⟨5, _⟩ => ⟨S1x4096x4x1024, .f32⟩
  | .hbm, ⟨6, _⟩ => ⟨S4x1024x1024, .f32⟩
  | .hbm, ⟨7, _⟩ => ⟨S4x1024x1x4096, .f32⟩
  | .hbm, ⟨8, _⟩ => ⟨S1x4096x4x1024, .f32⟩
  | .hbm, ⟨9, _⟩ => ⟨S4096x4096, .f32⟩
  | .hbm, ⟨10, _⟩ => ⟨S4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Kernel11.lean ====
abbrev S4096x10240 : Shape := ⟨2, ![4096, 10240]⟩
abbrev S4x6144 : Shape := ⟨2, ![4, 6144]⟩
abbrev S1x6144 : Shape := ⟨2, ![1, 6144]⟩
abbrev S4096x6144 : Shape := ⟨2, ![4096, 6144]⟩
abbrev S4096x256 : Shape := ⟨2, ![4096, 256]⟩
abbrev S4x256 : Shape := ⟨2, ![4, 256]⟩
abbrev S1x256 : Shape := ⟨2, ![1, 256]⟩
abbrev S512x256 : Shape := ⟨2, ![512, 256]⟩
abbrev S8x256 : Shape := ⟨2, ![8, 256]⟩
abbrev S520x256 : Shape := ⟨2, ![520, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x10240, .f32⟩
  | .hbm, ⟨1, _⟩ => ⟨S4x6144, .f32⟩
  | .hbm, ⟨2, _⟩ => ⟨S1x6144, .f32⟩
  | .hbm, ⟨3, _⟩ => ⟨S4096x6144, .f32⟩
  | .local _ .vmem, ⟨0, _⟩ => ⟨S4096x256, .f32⟩
  | .local _ .vmem, ⟨1, _⟩ => ⟨S4096x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | _, _ => ⟨S4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v1 : BitVec 32 := Scalar.muli arg5 c512_i32
  v1
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v1 : BitVec 32 := Scalar.muli arg5 c512_i32
  let v2 : BitVec 32 := v1
  let v3 : Index := Scalar.indexCast v2
  let c0 : Index := 0#32
  ![v3.toNat, 0]
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v1 : BitVec 32 := Scalar.muli arg5 c512_i32
  let v2 : BitVec 32 := v1
  let c8_i32_1 : BitVec 32 := 8#32
  let v5 : BitVec 32 := Scalar.subi v2 c8_i32_1
  let c0_i32_2 : BitVec 32 := 0#32
  let v6 : BitVec 32 := Scalar.maxsi v5 c0_i32_2
  v6
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c512_i32 : BitVec 32 := 512#32
  let v1 : BitVec 32 := Scalar.muli arg5 c512_i32
  let v2 : BitVec 32 := v1
  let c8_i32_1 : BitVec 32 := 8#32
  let v5 : BitVec 32 := Scalar.subi v2 c8_i32_1
  let c0_i32_2 : BitVec 32 := 0#32
  let v6 : BitVec 32 := Scalar.maxsi v5 c0_i32_2
  let v7 : BitVec 32 := v6
  let v8 : Index := Scalar.indexCast v7
  let c0_3 : Index := 0#32
  ![v8.toNat, 0]
def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S4096x10240 : Shape := ⟨2, ![4096, 10240]⟩
abbrev S4x6144 : Shape := ⟨2, ![4, 6144]⟩
abbrev S1x6144 : Shape := ⟨2, ![1, 6144]⟩
abbrev S4096x6144 : Shape := ⟨2, ![4096, 6144]⟩
abbrev S1x4096x6144 : Shape := ⟨3, ![1, 4096, 6144]⟩
abbrev S6144 : Shape := ⟨1, ![6144]⟩
abbrev S_ : Shape := ⟨0, ![]⟩
abbrev S1x4099x6144 : Shape := ⟨3, ![1, 4099, 6144]⟩
abbrev S1x1x6144 : Shape := ⟨3, ![1, 1, 6144]⟩

abbrev nBuf : Space → Nat
  | .hbm => 49
  | .vmem => 0
  | .smem => 0
  | _ => 0

abbrev bufTy : (tb : Table) → Fin (tcTables nBuf tb) → BufTy
  | .hbm, ⟨0, _⟩ => ⟨S4096x10240, .f32⟩
  | .hbm, ⟨1, _⟩ => ⟨S4x6144, .f32⟩
  | .hbm, ⟨2, _⟩ => ⟨S1x6144, .f32⟩
  | .hbm, ⟨3, _⟩ => ⟨S4096x6144, .f32⟩
  | .hbm, ⟨4, _⟩ => ⟨S1x4096x6144, .f32⟩
  | .hbm, ⟨5, _⟩ => ⟨S6144, .f32⟩
  | .hbm, ⟨6, _⟩ => ⟨S_, .i32⟩
  | .hbm, ⟨7, _⟩ => ⟨S_, .f32⟩
  | .hbm, ⟨8, _⟩ => ⟨S1x4099x6144, .f32⟩
  | .hbm, ⟨9, _⟩ => ⟨S1x4096x6144, .f32⟩
  | .hbm, ⟨10, _⟩ => ⟨S1x6144, .f32⟩
  | .hbm, ⟨11, _⟩ => ⟨S6144, .f32⟩
  | .hbm, ⟨12, _⟩ => ⟨S1x1x6144, .f32⟩
  | .hbm, ⟨13, _⟩ => ⟨S1x4096x6144, .f32⟩
  | .hbm, ⟨14, _⟩ => ⟨S1x4096x6144, .f32⟩
  | .hbm, ⟨15, _⟩ => ⟨S1x1x6144, .f32⟩
  | .hbm, ⟨16, _⟩ => ⟨S1x4096x6144, .f32⟩
  | .hbm, ⟨17, _⟩ => ⟨S1x4096x6144, .f32⟩
  | .hbm, ⟨18, _⟩ => ⟨S1x4096x6144, .f32⟩
  | .hbm, ⟨19, _⟩ => ⟨S1x6144, .f32⟩
  | .hbm, ⟨20, _⟩ => ⟨S6144, .f32⟩
  | .hbm, ⟨21, _⟩ => ⟨S1x1x6144, .f32⟩
  | .hbm, ⟨22, _⟩ => ⟨S1x4096x6144, .f32⟩
  | .hbm, ⟨23, _⟩ => ⟨S1x4096x6144, .f32⟩
  | .hbm, ⟨24, _⟩ => ⟨S1x4096x6144, .f32⟩
  | .hbm, ⟨25, _⟩ => ⟨S1x4096x6144, .f32⟩
  | .hbm, ⟨26, _⟩ => ⟨S1x6144, .f32⟩
  | .hbm, ⟨27, _⟩ => ⟨S6144, .f32⟩
  | .hbm, ⟨28, _⟩ => ⟨S1x1x6144, .f32⟩
  | .hbm, ⟨29, _⟩ => ⟨S1x4096x6144, .f32⟩
  | .hbm, ⟨30, _⟩ => ⟨S1x4096x6144, .f32⟩
  | .hbm, ⟨31, _⟩ => ⟨S1x4096x6144, .f32⟩
  | .hbm, ⟨32, _⟩ => ⟨S1x4096x6144, .f32⟩
  | .hbm, ⟨33, _⟩ => ⟨S1x6144, .f32⟩
  | .hbm, ⟨34, _⟩ => ⟨S6144, .f32⟩
  | .hbm, ⟨35, _⟩ => ⟨S1x1x6144, .f32⟩
  | .hbm, ⟨36, _⟩ => ⟨S1x4096x6144, .f32⟩
  | .hbm, ⟨37, _⟩ => ⟨S1x4096x6144, .f32⟩
  | .hbm, ⟨38, _⟩ => ⟨S1x4096x6144, .f32⟩
  | .hbm, ⟨39, _⟩ => ⟨S1x4096x6144, .f32⟩
  | .hbm, ⟨40, _⟩ => ⟨S1x4096x6144, .f32⟩
  | .hbm, ⟨41, _⟩ => ⟨S_, .f32⟩
  | .hbm, ⟨42, _⟩ => ⟨S1x4096x6144, .f32⟩
  | .hbm, ⟨43, _⟩ => ⟨S1x4096x6144, .f32⟩
  | .hbm, ⟨44, _⟩ => ⟨S_, .f32⟩
  | .hbm, ⟨45, _⟩ => ⟨S1x4096x6144, .f32⟩
  | .hbm, ⟨46, _⟩ => ⟨S1x4096x6144, .f32⟩
  | .hbm, ⟨47, _⟩ => ⟨S1x4096x6144, .f32⟩
  | .hbm, ⟨48, _⟩ => ⟨S4096x6144, .f32⟩
  | _, _ => ⟨S4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel12.lean ====
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference12Ideal.lean ====
abbrev S4096x4096 : Shape := ⟨2, ![4096, 4096]⟩
abbrev S4x1024x1024 : Shape := ⟨3, ![4, 1024, 1024]⟩
abbrev S_ : Shape := ⟨0, ![]⟩
abbrev S1x4096x4x1024 : Shape := ⟨4, ![1, 4096, 4, 1024]⟩
abbrev S4x1024x1x4096 : Shape := ⟨4, ![4, 1024, 1, 4096]⟩
abbrev S4x1x4096x1024 : Shape := ⟨4, ![4, 1, 4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S_, .f32⟩
  | .hbm, ⟨3, _⟩ => ⟨S4096x4096, .f32⟩
  | .hbm, ⟨4, _⟩ => ⟨S1x4096x4x1024, .f32⟩
  | .hbm, ⟨5, _⟩ => ⟨S4x1024x1024, .f32⟩
  | .hbm, ⟨6, _⟩ => ⟨S4x1024x1x4096, .f32⟩
  | .hbm, ⟨7, _⟩ => ⟨S1x4096x4x1024, .f32⟩
  | .hbm, ⟨8, _⟩ => ⟨S4096x4096, .f32⟩
  | .hbm, ⟨9, _⟩ => ⟨S4096x4096, .f32⟩
  | .hbm, ⟨10, _⟩ => ⟨S1x4096x4x1024, .f32⟩
  | .hbm, ⟨11, _⟩ => ⟨S4x1024x1x4096, .f32⟩
  | .hbm, ⟨12, _⟩ => ⟨S4x1x4096x1024, .f32⟩
  | .hbm, ⟨13, _⟩ => ⟨S1x4096x4x1024, .f32⟩
  | .hbm, ⟨14, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel13.lean ====
abbrev S1288x2048 : Shape := ⟨2, ![1288, 2048]⟩
abbrev S184x2048 : Shape := ⟨2, ![184, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1288x2048, .f32⟩
  | .hbm, ⟨1, _⟩ => ⟨S1288x2048, .f32⟩
  | .hbm, ⟨2, _⟩ => ⟨S1288x2048, .f32⟩
  | .hbm, ⟨3, _⟩ => ⟨S1288x2048, .f32⟩
  | .hbm, ⟨4, _⟩ => ⟨S1288x2048, .f32⟩
  | .hbm, ⟨5, _⟩ => ⟨S1288x2048, .f32⟩
  | .hbm, ⟨6, _⟩ => ⟨S1288x2048, .f32⟩
  | .local _ .vmem, ⟨0, _⟩ => ⟨S184x2048, .f32⟩
  | .local _ .vmem, ⟨1, _⟩ => ⟨S184x2048, .f32⟩
  | .local _ .vmem, ⟨2, _⟩ => ⟨S184x2048, .f32⟩
  | .local _ .vmem, ⟨3, _⟩ => ⟨S184x2048, .f32⟩
  | .local _ .vmem, ⟨4, _⟩ => ⟨S184x2048, .f32⟩
  | .local _ .vmem, ⟨5, _⟩ => ⟨S184x2048, .f32⟩
  | .local _ .vmem, ⟨6, _⟩ => ⟨S184x2048, .f32⟩
  | .local _ .vmem, ⟨7, _⟩ => ⟨S184x2048, .f32⟩
  | .local _ .vmem, ⟨8, _⟩ => ⟨S184x2048, .f32⟩
  | .local _ .vmem, ⟨9, _⟩ => ⟨S184x2048, .f32⟩
  | .local _ .vmem, ⟨10, _⟩ => ⟨S184x2048, .f32⟩
  | .local _ .vmem, ⟨11, _⟩ => ⟨S184x2048, .f32⟩
  | .local _ .vmem, ⟨12, _⟩ => ⟨S184x2048, .f32⟩
  | .local _ .vmem, ⟨13, _⟩ => ⟨S184x2048, .f32⟩
  | _, _ => ⟨S1288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S184x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S184x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S184x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S184x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S184x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S184x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1288x2048 : Shape := ⟨2, ![1288, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1288x2048, .f32⟩
  | .hbm, ⟨1, _⟩ => ⟨S1288x2048, .f32⟩
  | .hbm, ⟨2, _⟩ => ⟨S1288x2048, .f32⟩
  | .hbm, ⟨3, _⟩ => ⟨S1288x2048, .f32⟩
  | .hbm, ⟨4, _⟩ => ⟨S_, .f32⟩
  | .hbm, ⟨5, _⟩ => ⟨S1288x2048, .f32⟩
  | .hbm, ⟨6, _⟩ => ⟨S1288x2048, .f32⟩
  | .hbm, ⟨7, _⟩ => ⟨S_, .f32⟩
  | .hbm, ⟨8, _⟩ => ⟨S1288x2048, .f32⟩
  | .hbm, ⟨9, _⟩ => ⟨S1288x2048, .f32⟩
  | .hbm, ⟨10, _⟩ => ⟨S1288x2048, .f32⟩
  | .hbm, ⟨11, _⟩ => ⟨S_, .f32⟩
  | .hbm, ⟨12, _⟩ => ⟨S1288x2048, .f32⟩
  | .hbm, ⟨13, _⟩ => ⟨S1288x2048, .f32⟩
  | .hbm, ⟨14, _⟩ => ⟨S1288x2048, .f32⟩
  | .hbm, ⟨15, _⟩ => ⟨S_, .f32⟩
  | .hbm, ⟨16, _⟩ => ⟨S1288x2048, .f32⟩
  | .hbm, ⟨17, _⟩ => ⟨S1288x2048, .f32⟩
  | .hbm, ⟨18, _⟩ => ⟨S1288x2048, .f32⟩
  | .hbm, ⟨19, _⟩ => ⟨S_, .f32⟩
  | .hbm, ⟨20, _⟩ => ⟨S1288x2048, .f32⟩
  | .hbm, ⟨21, _⟩ => ⟨S1288x2048, .f32⟩
  | .hbm, ⟨22, _⟩ => ⟨S_, .f32⟩
  | .hbm, ⟨23, _⟩ => ⟨S1288x2048, .f32⟩
  | .hbm, ⟨24, _⟩ => ⟨S1288x2048, .f32⟩
  | .hbm, ⟨25, _⟩ => ⟨S1288x2048, .f32⟩
  | .hbm, ⟨26, _⟩ => ⟨S_, .f32⟩
  | .hbm, ⟨27, _⟩ => ⟨S1288x2048, .f32⟩
  | .hbm, ⟨28, _⟩ => ⟨S1288x2048, .f32⟩
  | .hbm, ⟨29, _⟩ => ⟨S1288x2048, .f32⟩
  | .hbm, ⟨30, _⟩ => ⟨S_, .f32⟩
  | .hbm, ⟨31, _⟩ => ⟨S1288x2048, .f32⟩
  | .hbm, ⟨32, _⟩ => ⟨S1288x2048, .f32⟩
  | .hbm, ⟨33, _⟩ => ⟨S1288x2048, .f32⟩
  | .hbm, ⟨34, _⟩ => ⟨S_, .f32⟩
  | .hbm, ⟨35, _⟩ => ⟨S1288x2048, .f32⟩
  | .hbm, ⟨36, _⟩ => ⟨S1288x2048, .f32⟩
  | _, _ => ⟨S1288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8x360x128 : Shape := ⟨3, ![8, 360, 128]⟩
abbrev S360x128 : Shape := ⟨2, ![360, 128]⟩
abbrev S1x360x128 : Shape := ⟨3, ![1, 360, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x360x128, .f32⟩
  | .hbm, ⟨1, _⟩ => ⟨S360x128, .f32⟩
  | .local _ .vmem, ⟨0, _⟩ => ⟨S8x360x128, .f32⟩
  | .local _ .vmem, ⟨1, _⟩ => ⟨S360x128, .f32⟩
  | _, _ => ⟨S8x360x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x360x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S360x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference15Ideal.lean ====
abbrev S8x360x128 : Shape := ⟨3, ![8, 360, 128]⟩
abbrev S_ : Shape := ⟨0, ![]⟩
abbrev S360x128 : Shape := ⟨2, ![360, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x360x128, .f32⟩
  | .hbm, ⟨1, _⟩ => ⟨S_, .f32⟩
  | .hbm, ⟨2, _⟩ => ⟨S360x128, .f32⟩
  | _, _ => ⟨S8x360x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S2048x1024 : Shape := ⟨2, ![2048, 1024]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference16Ideal.lean ====
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel17.lean ====
abbrev S4096x2048 : Shape := ⟨2, ![4096, 2048]⟩
abbrev S2x10304x1024 : Shape := ⟨3, ![2, 10304, 1024]⟩
abbrev S4096x10240 : Shape := ⟨2, ![4096, 10240]⟩
abbrev S1024x2048 : Shape := ⟨2, ![1024, 2048]⟩
abbrev S2x512x1024 : Shape := ⟨3, ![2, 512, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x10304x1024, .bf16⟩
  | .hbm, ⟨2, _⟩ => ⟨S4096x10240, .f32⟩
  | .local _ .vmem, ⟨0, _⟩ => ⟨S1024x2048, .bf16⟩
  | .local _ .vmem, ⟨1, _⟩ => ⟨S1024x2048, .bf16⟩
  | .local _ .vmem, ⟨2, _⟩ => ⟨S2x512x1024, .bf16⟩
  | .local _ .vmem, ⟨3, _⟩ => ⟨S2x512x1024, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x2048 : Shape := ⟨2, ![4096, 2048]⟩
abbrev S2x10304x1024 : Shape := ⟨3, ![2, 10304, 1024]⟩
abbrev S1x10240x1024 : Shape := ⟨3, ![1, 10240, 1024]⟩
abbrev S10240x1024 : Shape := ⟨2, ![10240, 1024]⟩
abbrev S10240x2048 : Shape := ⟨2, ![10240, 2048]⟩
abbrev S2048x10240 : Shape := ⟨2, ![2048, 10240]⟩
abbrev S4096x10240 : Shape := ⟨2, ![4096, 10240]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x10304x1024, .bf16⟩
  | .hbm, ⟨2, _⟩ => ⟨S1x10240x1024, .bf16⟩
  | .hbm, ⟨3, _⟩ => ⟨S10240x1024, .bf16⟩
  | .hbm, ⟨4, _⟩ => ⟨S1x10240x1024, .bf16⟩
  | .hbm, ⟨5, _⟩ => ⟨S10240x1024, .bf16⟩
  | .hbm, ⟨6, _⟩ => ⟨S10240x2048, .bf16⟩
  | .hbm, ⟨7, _⟩ => ⟨S4096x2048, .f32⟩
  | .hbm, ⟨8, _⟩ => ⟨S10240x2048, .f32⟩
  | .hbm, ⟨9, _⟩ => ⟨S2048x10240, .f32⟩
  | .hbm, ⟨10, _⟩ => ⟨S4096x10240, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel18.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S4096x2048, .f32⟩
  | .hbm, ⟨5, _⟩ => ⟨S2048x8192, .f32⟩
  | .hbm, ⟨6, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S4096x4096 : Shape := ⟨2, ![4096, 4096]⟩
abbrev S4096x2048 : Shape := ⟨2, ![4096, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x4096 : Shape := ⟨2, ![4096, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S4096x8192 : Shape := ⟨2, ![4096, 8192]⟩
abbrev S8x2048x1024 : Shape := ⟨3, ![8, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x8192 : Shape := ⟨2, ![4096, 8192]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S_, .f32⟩
  | .hbm, ⟨5, _⟩ => ⟨S4096x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S4096x10240 : Shape := ⟨2, ![4096, 10240]⟩
abbrev S2x10304x1024 : Shape := ⟨3, ![2, 10304, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x10240, .bf16⟩
  | .hbm, ⟨1, _⟩ => ⟨S2x10304x1024, .bf16⟩
  | .hbm, ⟨2, _⟩ => ⟨S4096x2048, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 10], ![false, false, false]⟩

def k0_cond3 (i : grid0.Coords) : BitVec 1 :=
  let arg2 : BitVec 32 := BitVec.ofNat 32 (i 2).val
  let c9_i32_3 : BitVec 32 := 9#32
  let v8 : BitVec 1 := Scalar.cmpi .eq arg2 c9_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S4096x10240 : Shape := ⟨2, ![4096, 10240]⟩
abbrev S2x10304x1024 : Shape := ⟨3, ![2, 10304, 1024]⟩
abbrev S4096x2048 : Shape := ⟨2, ![4096, 2048]⟩
abbrev S1x10240x1024 : Shape := ⟨3, ![1, 10240, 1024]⟩
abbrev S10240x1024 : Shape := ⟨2, ![10240, 1024]⟩
abbrev S10240x2048 : Shape := ⟨2, ![10240, 2048]⟩
abbrev S_ : Shape := ⟨0, ![]⟩
abbrev S2048x10240 : Shape := ⟨2, ![2048, 10240]⟩

abbrev nBuf : Space → Nat
  | .hbm => 16
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S2x10304x1024, .bf16⟩
  | .hbm, ⟨2, _⟩ => ⟨S4096x2048, .f32⟩
  | .hbm, ⟨3, _⟩ => ⟨S1x10240x1024, .bf16⟩
  | .hbm, ⟨4, _⟩ => ⟨S10240x1024, .bf16⟩
  | .hbm, ⟨5, _⟩ => ⟨S1x10240x1024, .bf16⟩
  | .hbm, ⟨6, _⟩ => ⟨S10240x1024, .bf16⟩
  | .hbm, ⟨7, _⟩ => ⟨S10240x2048, .bf16⟩
  | .hbm, ⟨8, _⟩ => ⟨S_, .f32⟩
  | .hbm, ⟨9, _⟩ => ⟨S4096x2048, .f32⟩
  | .hbm, ⟨10, _⟩ => ⟨S10240x2048, .f32⟩
  | .hbm, ⟨11, _⟩ => ⟨S2048x10240, .f32⟩
  | .hbm, ⟨12, _⟩ => ⟨S4096x10240, .f32⟩
  | .hbm, ⟨13, _⟩ => ⟨S4096x10240, .f32⟩
  | .hbm, ⟨14, _⟩ => ⟨S4096x2048, .f32⟩
  | .hbm, ⟨15, _⟩ => ⟨S4096x2048, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel22.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 18
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .bf16⟩
  | .hbm, ⟨17, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference22Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | .hbm, ⟨52, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Lemmas.lean ====
module

public import Idealize.ShloMosaic.PureOps.Ideal.Laws
public import Idealize.ShloMosaic.Lib.Pipeline.ValueKit
public import Idealize.ShloMosaic.Lib.Pointwise
public import Idealize.ShloMosaic.Lib.IdealHost

@[expose] public section

namespace Cert.Shared

open Idealize.ShloMosaic

/-- The pattern of positive infinity reads as the top element. -/
theorem ofBits_inf : Ideal.ofBits .f32 0x7F800000#32 = (⊤ : EReal) := by
  simp [Ideal.ofBits, Ideal.ieee]

/-- An extended real whose absolute value lies below infinity is a real. -/
theorem real_of_abs_lt {x : EReal} (h : Ideal.cmp .olt (max x (-x)) (Ideal.ofBits .f32 0x7F800000#32) = 1#1) :
    ∃ r : ℝ, x = (r : EReal) := by
  rw [ofBits_inf] at h
  induction x using EReal.rec with
  | coe r => exact ⟨r, rfl⟩
  | bot => simp [Ideal.cmp] at h
  | top => simp [Ideal.cmp] at h

/-- A function all of whose values are real is the coercion of a real function. -/
theorem real_fun {ι : Type*} {f : ι → EReal} (h : ∀ i, ∃ r : ℝ, f i = (r : EReal)) : ∃ f' : ι → ℝ, f = fun i => (f' i : EReal) := by
  choose f' hf using h
  exact ⟨f', funext hf⟩

/-- A finite sum of reals, coerced. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe {a b : ℝ} (hb : b ≠ 0) : Ideal.div (a : EReal) (b : EReal) = ((a / b : ℝ) : EReal) := by
  rw [Ideal.div, if_neg (by exact_mod_cast hb), div_eq_mul_inv, EReal.coe_mul, EReal.coe_inv]

theorem ofBits_2048 : Ideal.ofBits .f32 0x45000000#32 = ((2048 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

/-- The small number added to a mean square, a positive real. -/
theorem ofBits_eps : ∃ e : ℝ, 0 < e ∧ Ideal.ofBits .f32 0x358637BD#32 = (e : EReal) := by
  refine ⟨_, ?_, by simp [Ideal.ofBits, Ideal.ieee]; rfl⟩
  norm_num

/-- A sum over `a · b` indices, block by block. -/
theorem sum_blocks {M : Type*} [AddCommMonoid M] (a b : ℕ) (f : Fin (a * b) → M) :
    ∑ i, f i = ∑ p : Fin a, ∑ q : Fin b, f ⟨p.val * b + q.val, by
      have := p.isLt; have := q.isLt
      calc p.val * b + q.val < p.val * b + b := by omega
        _ = (p.val + 1) * b := by ring
        _ ≤ a * b := Nat.mul_le_mul_right _ p.isLt⟩ := by
  rw [← Finset.sum_product', ← Equiv.sum_comp finProdFinEquiv]
  refine Finset.sum_congr rfl fun p _ => congrArg f (Fin.ext ?_)
  simp [finProdFinEquiv]; ring

end Cert.Shared
-- ==== Proof.Norm.lean ====
/-
  The root-mean-square norm of a row of 2048 numbers and its derivative, over the extended reals: the formula that a
  kernel evaluates, the sum of the three paths that differentiating the forward lines gives, and that the two agree at
  real numbers.
-/
module

public import proofs.«01_k».proof.Proof.Lemmas

@[expose] public section

noncomputable section

namespace Cert.Norm

open Idealize.ShloMosaic Cert.Shared

/-- The mean square of a row plus the small constant. -/
def meanSq (X : Fin 2048 → EReal) : EReal :=
  Ideal.div (∑ k, X k * X k) (Ideal.ofBits .f32 0x45000000#32) + Ideal.ofBits .f32 0x358637BD#32

/-- The reciprocal root of it. -/
def inv (X : Fin 2048 → EReal) : EReal := Ideal.rsqrt (meanSq X)

/-- The gradient of the norm's input as a kernel computes it, from the gain `G` and the incoming gradient `D`. -/
def dx (X G D : Fin 2048 → EReal) (k : Fin 2048) : EReal :=
  inv X * (D k * G k - X k * inv X * Ideal.div (∑ x, D x * G x * (X x * inv X)) (Ideal.ofBits .f32 0x45000000#32))

/-- The term of the derivative that goes through the mean square. -/
def through (X G D : Fin 2048 → EReal) : EReal :=
  ∑ _ : Fin 1, Ideal.div ((∑ x, X x * (D x * G x)) *
    (Ideal.ofBits .f32 0xBF000000#32 * Ideal.div (inv X) (meanSq X))) (Ideal.ofBits .f32 0x45000000#32)

/-- The same gradient as the derivative of the forward lines. -/
def dxR (X G D : Fin 2048 → EReal) (k : Fin 2048) : EReal :=
  D k * G k * inv X + (X k * through X G D + through X G D * X k)

/-- The mean square and the reciprocal root of real numbers. -/
theorem real_inv (x : Fin 2048 → ℝ) : ∃ M : ℝ, 0 < M ∧ meanSq (fun i => (x i : EReal)) = (M : EReal) ∧
    inv (fun i => (x i : EReal)) = (((Real.sqrt M)⁻¹ : ℝ) : EReal) := by
  obtain ⟨e, he, hE⟩ := ofBits_eps
  have hpos : 0 < (∑ k, x k * x k) / 2048 + e := by
    have : 0 ≤ ∑ k, x k * x k := Finset.sum_nonneg fun i _ => mul_self_nonneg _
    positivity
  have hm : meanSq (fun i => (x i : EReal)) = (((∑ k, x k * x k) / 2048 + e : ℝ) : EReal) := by
    rw [meanSq, ofBits_2048, hE]
    simp only [← EReal.coe_mul, ← coe_sum]
    rw [div_coe (by norm_num), ← EReal.coe_add]
  refine ⟨_, hpos, hm, ?_⟩
  rw [inv, hm, Ideal.rsqrt_coe, if_neg (not_lt.mpr hpos.le), if_neg hpos.ne']

/-- The two agree at real numbers. -/
theorem dx_eq (X G D : Fin 2048 → EReal) (k : Fin 2048) (hX : ∀ i, ∃ r : ℝ, X i = (r : EReal))
    (hG : ∀ i, ∃ r : ℝ, G i = (r : EReal)) (hD : ∀ i, ∃ r : ℝ, D i = (r : EReal)) : dx X G D k = dxR X G D k := by
  obtain ⟨x, rfl⟩ := real_fun hX
  obtain ⟨g, rfl⟩ := real_fun hG
  obtain ⟨d, rfl⟩ := real_fun hD
  obtain ⟨M, hpos, hm, hi⟩ := real_inv x
  set R : ℝ := (Real.sqrt M)⁻¹ with hR
  have hRR : R / M = R * R * R := by
    have : Real.sqrt M * Real.sqrt M = M := Real.mul_self_sqrt hpos.le
    have h2 : M⁻¹ = R * R := by rw [hR, ← mul_inv, this]
    rw [div_eq_mul_inv, h2]; ring
  have hs : ∑ y, x y * (d y * g y) * R = ∑ y, d y * g y * (x y * R) := Finset.sum_congr rfl fun y _ => by ring
  rw [dx, dxR, through, hi, hm, ofBits_2048, ofBits_neg_half]
  simp only [← EReal.coe_mul, ← coe_sum, Finset.univ_unique, Finset.sum_singleton]
  simp only [div_coe (show (2048 : ℝ) ≠ 0 by norm_num), div_coe hpos.ne', ← EReal.coe_mul, ← EReal.coe_sub, ← EReal.coe_add]
  congr 1
  rw [hRR, ← hs, ← Finset.sum_mul]
  ring

end Cert.Norm
-- ==== Proof.Rms.lean ====
/-
  The backward pass of the root-mean-square norm: what the kernel's three result arrays hold after the run, index by
  index, and the same for the reference, and that the two agree where the norm's input, its gain and the incoming
  gradient are real numbers.
-/
module

public import proofs.«01_k».proof.Proof.Gen.KernelIdeal.Value
public import proofs.«01_k».proof.Proof.Gen.ReferenceIdeal.Read
public import proofs.«01_k».proof.Proof.Norm
public import Idealize.ShloMosaic.Lib.Pipeline.ValueKit
public import Idealize.ShloMosaic.Lib.Pointwise

@[expose] public section

set_option maxRecDepth 16384

noncomputable section

/-! ## The kernel's arrays -/

namespace Cert.KernelIdeal.Rms

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![t.val, 0] ∧ win0_6.index t = ![0, 0] := by
  decide +kernel

theorem out5 (c : Dev nD) (t : Fin cfg0.N) : (outsAt0 m c t.val t.isLt).1 =
    k0_pay3 (iblk m c 2 t) (iblk m c 1 t) (iblk m c 0 t) (iblk m c 3 t) (iblk m c 4 t) := by
  by_cases h : t.val % 16 = 0
  · rw [outsAt0_A m c t h]; frame_out
  · rw [outsAt0_B m c t h]; frame_out

/-- The reciprocal root that the host hands the kernel. -/
theorem rval (c : Dev nD) (i : Fin 4096) : V m c main_v7 (ix2 i 0) = Cert.Norm.inv (fun k => m (c, Proc.devRef .tc main_arg0) (ix2 i k)) := by
  unfold_abbrev_sides
  after_results
  pointwise
  unfold Cert.Norm.inv Cert.Norm.meanSq
  rfl

theorem pay3 (x0 : FVec Ideal S256x1 .f32) (x1 x2 : FVec Ideal S256x2048 .f32) (x3 : FVec Ideal S1x2048 .f32) (x4 : FVec Ideal S256x2048 .f32) (a : Fin 256) (b : Fin 2048) :
    k0_pay3 (F := Ideal) x0 x1 x2 x3 x4 (ix2 a b) = x4 (ix2 a b) + x0 (ix2 a 0) * (x2 (ix2 a b) * x3 (ix2 0 b) - x1 (ix2 a b) * x0 (ix2 a 0) *
      Ideal.div (∑ x, x2 (ix2 a x) * x3 (ix2 0 x) * (x1 (ix2 a x) * x0 (ix2 a 0))) (Ideal.ofBits .f32 0x45000000#32)) := by
  unfold k0_pay3 k0_pay2 k0_pay1
  pointwise

/-- Row `a` of the block of rows that point `t` works on. -/
def row (t : Fin cfg0.N) (a : Fin 256) : Fin 4096 :=
  ⟨t.val * 256 + a.val, by have := t.isLt; have h : cfg0.N = 16 := rfl; have := a.isLt; omega⟩

theorem blk0 (c : Dev nD) (t : Fin cfg0.N) (a : Fin 256) (b : Fin 2048) : iblk m c 0 t (ix2 a b) = m (c, Proc.devRef .tc main_arg2) (ix2 (row t a) b) := by
  blk_ext [iblk, V, row, (idx t).1]

theorem blk1 (c : Dev nD) (t : Fin cfg0.N) (a : Fin 256) (b : Fin 2048) : iblk m c 1 t (ix2 a b) = m (c, Proc.devRef .tc main_arg0) (ix2 (row t a) b) := by
  blk_ext [iblk, V, row, (idx t).2.1]

theorem blk2 (c : Dev nD) (t : Fin cfg0.N) (a : Fin 256) : iblk m c 2 t (ix2 a 0) = Cert.Norm.inv (fun k => m (c, Proc.devRef .tc main_arg0) (ix2 (row t a) k)) := by
  rw [← rval]
  blk_ext [iblk, row, (idx t).2.2.1]

theorem blk3 (c : Dev nD) (t : Fin cfg0.N) (b : Fin 2048) : iblk m c 3 t (ix2 0 b) = m (c, Proc.devRef .tc main_arg1) (ix2 0 b) := by
  blk_ext [iblk, V, (idx t).2.2.2.1]

theorem blk4 (c : Dev nD) (t : Fin cfg0.N) (a : Fin 256) (b : Fin 2048) : iblk m c 4 t (ix2 a b) = m (c, Proc.devRef .tc main_arg3) (ix2 (row t a) b) := by
  blk_ext [iblk, V, row, (idx t).2.2.2.2.1]

theorem emb5 (t : Fin cfg0.N) (a : Fin 256) (b : Fin 2048) : ((cfg0.win 5).blk t).view.emb (ix2 a b) = ix2 (row t a) b := by
  blk_ext [row, (idx t).2.2.2.2.2.1]

/-- The gradient that goes past the norm. -/
def past (c : Dev nD) (i : S4096x2048.Idx) : EReal := m (c, Proc.devRef .tc main_arg3) i

/-- The gradient of the norm's input, row by row. -/
def G5 (c : Dev nD) (i : S4096x2048.Idx) : EReal :=
  past m c i + Cert.Norm.dx (fun k => m (c, Proc.devRef .tc main_arg0) (ix2 (i 0) k))
    (fun k => m (c, Proc.devRef .tc main_arg1) (ix2 0 k)) (fun k => m (c, Proc.devRef .tc main_arg2) (ix2 (i 0) k)) (i 1)

theorem point5 (c : Dev nD) (t : Fin cfg0.N) (a : Fin 256) (b : Fin 2048) :
    k0_pay3 (iblk m c 2 t) (iblk m c 1 t) (iblk m c 0 t) (iblk m c 3 t) (iblk m c 4 t) (ix2 a b) = G5 m c (ix2 (row t a) b) := by
  rw [pay3]
  simp only [blk0, blk1, blk2, blk3, blk4]
  rfl

theorem arr5 (c : Dev nD) : (dats m 0 c).arrAt 5 cfg0.N = G5 m c := by
  refine (dats m 0 c).arrAt_eq_of_covers 5 _ (by decide +kernel) fun t hf y => ?_
  have he : ∀ a b, ((cfg0.win 5).blk t).view.emb (ix2 a b) = ix2 (row t a) b := emb5 t
  blk_simp
  rw [after0_5, out5]
  idx_vars y
  exact (point5 m c t y0 y1).trans (congrArg (G5 m c) (emb5 t y0 y1).symm)

/-- The incoming gradient and the norm's input, read as extended reals. -/
def dh (c : Dev nD) (i : Fin 4096) (k : Fin 2048) : EReal := m (c, Proc.devRef .tc main_arg2) (ix2 i k)
def xin (c : Dev nD) (i : Fin 4096) (k : Fin 2048) : EReal := m (c, Proc.devRef .tc main_arg0) (ix2 i k)

/-- What row `i` adds to the gradient of the gain. -/
def term (c : Dev nD) (i : Fin 4096) (k : Fin 2048) : EReal := dh m c i k * (xin m c i k * Cert.Norm.inv (xin m c i))

theorem pay5 (c : Dev nD) (t : Fin cfg0.N) (x : FVec Ideal S1x2048 .f32) (k : Fin 2048) :
    k0_pay5 (iblk m c 2 t) (iblk m c 1 t) (iblk m c 0 t) x (ix2 0 k) = x (ix2 0 k) + ∑ a : Fin 256, term m c (row t a) k := by
  unfold k0_pay5 k0_pay2 k0_pay1
  pointwise
  simp only [blk0, blk1, blk2]
  rfl

theorem pay4 (k : Fin 2048) : k0_pay4 (F := Ideal) (ix2 0 k) = 0 := by
  unfold k0_pay4
  pointwise

/-- The gradient of the gain, column by column. -/
def G6 (c : Dev nD) (i : S1x2048.Idx) : EReal := ∑ a : Fin 4096, term m c a (i 1)

theorem out6 (c : Dev nD) (k : Fin 2048) : (outsAt0 m c t0_15.val t0_15.isLt).2 (ix2 0 k) = G6 m c (ix2 0 k) := by
  rw [Pipeline.eq_sum_fin_of_reset_step_apply_last (fun n h => (outsAt0 m c n h).2) 16 (fun _ => (0 : EReal)) (fun t j => ∑ a : Fin 256, term m c (row t a) (j 1))
    (fun t h j => by
      idx_vars j
      obtain rfl : j0 = 0 := Subsingleton.elim _ _
      rw [outsAt0_A m c t h]; frame_out; rw [pay5, pay4])
    (fun t h j => by
      idx_vars j
      obtain rfl : j0 = 0 := Subsingleton.elim _ _
      rw [outsAt0_B m c t h]; frame_out; rw [pay5]) (le_of_eq N_0) t0_15 rfl (ix2 0 k), zero_add]
  refine Eq.trans ?_ (Cert.Shared.sum_blocks 16 256 fun a => term m c a k).symm
  rfl

theorem arr6 (c : Dev nD) : (dats m 0 c).arrAt 6 cfg0.N = G6 m c := by
  refine (dats m 0 c).arrAt_eq_of_after_last 6 t0_15 (by decide +kernel) _ fun j => ?_
  blk_simp
  rw [after0_6]
  idx_vars j
  obtain rfl : j0 = 0 := Subsingleton.elim _ _
  exact out6 m c j1

end Cert.KernelIdeal.Rms

/-! ## The reference's arrays -/

namespace Cert.ReferenceIdeal.Rms

open Cert.ReferenceIdeal Cert.ReferenceIdeal.Gen Idealize.ShloMosaic Idealize.ShloMosaic.TcCoe Idealize.SL.Sem Cert.ReferenceIdeal.Read

variable (x : FVec Ideal S4096x2048 .f32) (g : FVec Ideal S1x2048 .f32) (d p : FVec Ideal S4096x2048 .f32)

theorem v7 (i : Fin 4096) : val_main_v7 (F := Ideal) x (ix2 i 0) = Cert.Norm.meanSq (fun k => x (ix2 i k)) := by
  delta val_main_v7 val_main_v6 val_main_v5 val_main_v4 val_main_v3 val_main_v2 val_main_v1 val_main_cst val_main_cst_0 val_main_cst_1
  pointwise
  rfl

theorem v8 (i : Fin 4096) : val_main_v8 (F := Ideal) x (ix2 i 0) = Cert.Norm.inv (fun k => x (ix2 i k)) := by
  delta val_main_v8
  pointwise
  rw [v7]; rfl

theorem v14 (k : Fin 2048) : val_main_v14 (F := Ideal) g (ix2 0 k) = g (ix2 0 k) := by
  delta val_main_v14 val_main_v0
  pointwise

theorem v33 (i : Fin 4096) (k : Fin 2048) : val_main_v33 (F := Ideal) x g d (ix2 i k) = Cert.Norm.through (fun k => x (ix2 i k)) (fun k => g (ix2 0 k)) (fun k => d (ix2 i k)) := by
  delta val_main_v33 val_main_v32 val_main_v31 val_main_v30 val_main_v29 val_main_v25 val_main_v24 val_main_v23 val_main_v21 val_main_v20 val_main_v11 val_main_v10 val_main_v9 val_main_cst_2 val_main_cst_5 val_main_cst_6 val_main_cst_7
  pointwise
  simp only [v14]
  refine Finset.sum_congr rfl fun y _ => ?_
  obtain rfl : y = 0 := Subsingleton.elim _ _
  rw [v8, v7]

theorem v37 (i : Fin 4096) (k : Fin 2048) : val_main_v37 (F := Ideal) x g d p (ix2 i k) =
    p (ix2 i k) + Cert.Norm.dxR (fun k => x (ix2 i k)) (fun k => g (ix2 0 k)) (fun k => d (ix2 i k)) k := by
  delta val_main_v37 val_main_v36 val_main_v35 val_main_v34 val_main_v28 val_main_v27 val_main_v26 val_main_v21 val_main_v20
  pointwise
  simp only [v33, v8, v14, add_assoc]
  rfl

theorem v38 (k : Fin 2048) : val_main_v38 (F := Ideal) x d (ix2 0 k) = ∑ i : Fin 4096, x (ix2 i k) * Cert.Norm.inv (fun k => x (ix2 i k)) * d (ix2 i k) := by
  delta val_main_v38 val_main_v22 val_main_v19 val_main_v18 val_main_v17 val_main_v13 val_main_v12 val_main_cst_3 val_main_cst_4
  pointwise
  simp only [v8, Finset.univ_unique, Finset.sum_singleton]

end Cert.ReferenceIdeal.Rms
-- ==== Proof.RmsClaim.lean ====
/-
  The claims about the backward pass of the root-mean-square norm.
-/
module

public import proofs.«01_k».proof.Defs
public import proofs.«01_k».proof.Proof.Gen.Kernel.Frame
public import proofs.«01_k».proof.Proof.Rms

@[expose] public section

set_option maxRecDepth 16384

noncomputable section

namespace Cert.Rms

open Idealize.ShloMosaic Idealize.SL.Sem

/-- The precondition's shape facts. -/
theorem preFacts : Cert.Pre_finite.Facts := ⟨by decide, by decide⟩

theorem frame_kernel : Cert.quiescent_Kernel (hKernel := Cert.Kernel.Gen.facts) := fun m ρ _ => Cert.Kernel.Gen.frame m ρ
theorem frame_ideal : Cert.quiescent_KernelIdeal (hKernelIdeal := Cert.KernelIdeal.Gen.facts) := fun m ρ _ => Cert.KernelIdeal.Gen.frame m ρ
theorem frame_ideal_pre : Cert.quiescent_KernelIdeal_pre_finite (hKernelIdeal := Cert.KernelIdeal.Gen.facts) (hPre_finite := preFacts) :=
  fun m ρ _ => Cert.KernelIdeal.Gen.frame m ρ
theorem frame_reference : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (Cert.ReferenceIdeal.Value.run m ρ)
theorem frame_reference_pre : Cert.quiescent_ReferenceIdeal_pre_finite (hReferenceIdeal := Cert.ReferenceIdeal.Gen.facts) (hPre_finite := preFacts) :=
  fun m ρ _ => frame_reference m ρ trivial

attribute [local instance] preFacts

section Values

variable (m : (ℓ : Loc Cert.KernelIdeal.nD Cert.KernelIdeal.τ Cert.KernelIdeal.sig) → Buf (Elt Ideal) ℓ)

open Cert.KernelIdeal Cert.KernelIdeal.Rms

/-- The precondition, read: the norm's input, its gain and the incoming gradient are real numbers. -/
theorem real_args (h : Cert.Pre_KernelIdeal_finite m) (c : Dev nD) :
    (∀ i, ∃ r : ℝ, m (c, Proc.devRef .tc main_arg0) i = (r : EReal)) ∧ (∀ i, ∃ r : ℝ, m (c, Proc.devRef .tc main_arg1) i = (r : EReal)) ∧
      (∀ i, ∃ r : ℝ, m (c, Proc.devRef .tc main_arg2) i = (r : EReal)) := by
  obtain ⟨h0, h1, h2⟩ := h c
  exact ⟨fun i => Cert.Shared.real_of_abs_lt (congrFun h0 i), fun i => Cert.Shared.real_of_abs_lt (congrFun h1 i), fun i => Cert.Shared.real_of_abs_lt (congrFun h2 i)⟩

theorem dx (h : Cert.Pre_KernelIdeal_finite m) (c : Dev nD) :
    Cert.ReferenceIdeal.Read.val_main_v37 (F := Ideal) (m (c, Proc.devRef .tc main_arg0)) (m (c, Proc.devRef .tc main_arg1)) (m (c, Proc.devRef .tc main_arg2)) (m (c, Proc.devRef .tc main_arg3)) = G5 m c := by
  obtain ⟨h0, h1, h2⟩ := real_args m h c
  funext j
  idx_vars j
  rw [Cert.ReferenceIdeal.Rms.v37]
  exact congrArg (past m c (ix2 j0 j1) + ·) (Cert.Norm.dx_eq _ _ _ _ (fun i => h0 _) (fun i => h1 _) (fun i => h2 _)).symm

theorem dg (c : Dev nD) :
    Cert.ReferenceIdeal.Read.val_main_v38 (F := Ideal) (m (c, Proc.devRef .tc main_arg0)) (m (c, Proc.devRef .tc main_arg2)) = G6 m c := by
  funext j
  idx_vars j
  obtain rfl : j0 = 0 := Subsingleton.elim _ _
  rw [Cert.ReferenceIdeal.Rms.v38]
  exact Finset.sum_congr rfl fun i _ => mul_comm (_ : EReal) _

end Values

theorem value : Cert.algebraic_KernelIdeal_ReferenceIdeal_pre_finite (hKernelIdeal := Cert.KernelIdeal.Gen.facts)
    (hReferenceIdeal := Cert.ReferenceIdeal.Gen.facts) (hPre_finite := preFacts) := fun m ρ m' ρ' hpre hag =>
  ⟨fun c => Cert.KernelIdeal.Rms.G5 m c, fun c => Cert.KernelIdeal.Rms.G6 m c,
    (θ_run _ _ _).mono (fun _ h c => ⟨(h c).1.trans (Cert.KernelIdeal.Rms.arr5 m c), (h c).2.1.trans (Cert.KernelIdeal.Rms.arr6 m c),
      (h c).2.2⟩) (Cert.KernelIdeal.Value.run_blocks m ρ),
    (θ_run _ _ _).mono (fun _ h c => ⟨by
        rw [(h c).1, Cert.ReferenceIdeal.Read.val_main_v37_eq, (hag c).1, (hag c).2.1, (hag c).2.2.1, (hag c).2.2.2]
        exact dx m hpre c, by
        rw [(h c).2.1, Cert.ReferenceIdeal.Read.val_main_v38_eq, (hag c).1, (hag c).2.2.1]
        exact dg m c, (h c).2.2⟩) (Cert.ReferenceIdeal.Value.run m' ρ')⟩

end Cert.Rms
-- ==== Proof.Loss.lean ====
/-
  The loss head: a norm, half the mean of the squared differences from the target, and their gradients. What the
  kernel's four result arrays hold after the run, the same for the reference, and what makes them equal.
-/
module

public import proofs.«01_k».proof.Proof.Gen.Kernel2Ideal.Value
public import proofs.«01_k».proof.Proof.Gen.Reference2Ideal.Read
public import proofs.«01_k».proof.Proof.Norm
public import Idealize.ShloMosaic.Lib.Pipeline.ValueKit
public import Idealize.ShloMosaic.Lib.Pointwise

@[expose] public section

set_option maxRecDepth 16384

noncomputable section

/-! ## The mathematics -/

namespace Cert.Loss

open Idealize.ShloMosaic Cert.Shared Cert.Norm

/-- The difference between the norm's output and the target. -/
def err (X G T : Fin 2048 → EReal) (k : Fin 2048) : EReal := X k * inv X * G k - T k

/-- The gradient at the norm's output, as the kernel scales the difference. -/
def dy (X G T : Fin 2048 → EReal) (k : Fin 2048) : EReal := err X G T k * Ideal.ofBits .f32 0x3A000000#32

/-- The same as the derivative of the forward lines. -/
def dyR (X G T : Fin 2048 → EReal) (k : Fin 2048) : EReal :=
  Ideal.div (Ideal.ofBits .f32 0x3F000000#32) (Ideal.ofBits .f32 0x45000000#32) *
    (Ideal.ofBits .f32 0x40000000#32 * err X G T k)

/-- A row's share of the loss, in the kernel's order and in the reference's, without the factor one half. -/
def sq (X G T : Fin 2048 → EReal) : EReal := (∑ k, err X G T k * err X G T k) * Ideal.ofBits .f32 0x3A000000#32
def sqR (X G T : Fin 2048 → EReal) : EReal := Ideal.div (∑ k, err X G T k * err X G T k) (Ideal.ofBits .f32 0x45000000#32)

theorem ofBits_inv_2048 : Ideal.ofBits .f32 0x3A000000#32 = ((1 / 2048 : ℝ) : EReal) := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

variable (X G T : Fin 2048 → EReal) (hX : ∀ i, ∃ r : ℝ, X i = (r : EReal)) (hG : ∀ i, ∃ r : ℝ, G i = (r : EReal))
  (hT : ∀ i, ∃ r : ℝ, T i = (r : EReal))
include hX hG hT

theorem real_err (k : Fin 2048) : ∃ r : ℝ, err X G T k = (r : EReal) := by
  obtain ⟨x, rfl⟩ := real_fun hX
  obtain ⟨g, rfl⟩ := real_fun hG
  obtain ⟨t, rfl⟩ := real_fun hT
  obtain ⟨M, -, -, hi⟩ := real_inv x
  rw [err, hi]
  simp only [← EReal.coe_mul, ← EReal.coe_sub]
  exact ⟨_, rfl⟩

theorem dy_eq : dy X G T = dyR X G T := by
  funext k
  obtain ⟨e, he⟩ := real_err X G T hX hG hT k
  rw [dy, dyR, he, ofBits_inv_2048, ofBits_half, ofBits_2048, ofBits_two]
  simp only [← EReal.coe_mul, div_coe (show (2048 : ℝ) ≠ 0 by norm_num)]
  congr 1; ring

theorem real_dy (k : Fin 2048) : ∃ r : ℝ, dy X G T k = (r : EReal) := by
  obtain ⟨e, he⟩ := real_err X G T hX hG hT k
  rw [dy, he, ofBits_inv_2048, ← EReal.coe_mul]
  exact ⟨_, rfl⟩

theorem real_sq : ∃ r : ℝ, sq X G T = (r : EReal) ∧ sqR X G T = (r : EReal) := by
  obtain ⟨e, he⟩ := real_fun (real_err X G T hX hG hT)
  rw [sq, sqR, he, ofBits_inv_2048, ofBits_2048]
  simp only [← EReal.coe_mul, ← coe_sum, div_coe (show (2048 : ℝ) ≠ 0 by norm_num)]
  exact ⟨_, rfl, by congr 1; ring⟩

end Cert.Loss

/-! ## The kernel's arrays -/

namespace Cert.Kernel2Ideal.Loss

open Cert.Kernel2Ideal Cert.Kernel2Ideal.Gen Idealize.ShloMosaic Idealize.ShloMosaic.TcCoe Idealize.SL.Sem Cert.Norm Cert.Loss
open Idealize.ShloMosaic.Pipeline (Dat)

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![t.val, 0] ∧
    win0_3.index t = ![t.val, 0] ∧ win0_4.index t = ![t.val, 0] := by
  decide +kernel

/-- Row `a` of the block of rows that point `t` works on. -/
def row (t : Fin cfg0.N) (a : Fin 256) : Fin 4096 :=
  ⟨t.val * 256 + a.val, by have := t.isLt; have h : cfg0.N = 16 := rfl; have := a.isLt; omega⟩

/-- The arguments' rows: the input, the gain and the target. -/
def xin (c : Dev nD) (i : Fin 4096) (k : Fin 2048) : EReal := m (c, Proc.devRef .tc main_arg0) (ix2 i k)
def gain (c : Dev nD) (k : Fin 2048) : EReal := m (c, Proc.devRef .tc main_arg1) (ix2 0 k)
def tgt (c : Dev nD) (i : Fin 4096) (k : Fin 2048) : EReal := m (c, Proc.devRef .tc main_arg2) (ix2 i k)

theorem blk0 (c : Dev nD) (t : Fin cfg0.N) (a : Fin 256) (b : Fin 2048) : iblk m c 0 t (ix2 a b) = xin m c (row t a) b := by
  unfold xin; blk_ext [iblk, V, row, (idx t).1]

theorem blk1 (c : Dev nD) (t : Fin cfg0.N) (b : Fin 2048) : iblk m c 1 t (ix2 0 b) = gain m c b := by
  unfold gain; blk_ext [iblk, V, (idx t).2.1]

theorem blk2 (c : Dev nD) (t : Fin cfg0.N) (a : Fin 256) (b : Fin 2048) : iblk m c 2 t (ix2 a b) = tgt m c (row t a) b := by
  unfold tgt; blk_ext [iblk, V, row, (idx t).2.2.1]

theorem emb3 (t : Fin cfg0.N) (a : Fin 256) (b : Fin 2048) : ((cfg0.win 3).blk t).view.emb (ix2 a b) = ix2 (row t a) b := by
  blk_ext [row, (idx t).2.2.2.1]

theorem emb4 (t : Fin cfg0.N) (a : Fin 256) (b : Fin 2048) : ((cfg0.win 4).blk t).view.emb (ix2 a b) = ix2 (row t a) b := by
  blk_ext [row, (idx t).2.2.2.2]

/-! The payloads of point `t` at an index. -/

section Payloads

variable (c : Dev nD) (t : Fin cfg0.N) (a : Fin 256) (k : Fin 2048)

theorem pay3 : k0_pay3 (iblk m c 0 t) (ix2 a 0) = inv (xin m c (row t a)) := by
  unfold k0_pay3
  pointwise
  simp only [blk0]
  rfl

theorem pay4 : k0_pay4 (iblk m c 0 t) (ix2 a k) = xin m c (row t a) k * inv (xin m c (row t a)) := by
  unfold k0_pay4
  pointwise
  rw [pay3, blk0]

theorem pay5 : k0_pay5 (iblk m c 0 t) (iblk m c 1 t) (iblk m c 2 t) (ix2 a k) = err (xin m c (row t a)) (gain m c) (tgt m c (row t a)) k := by
  unfold k0_pay5
  pointwise
  rw [pay4, blk1, blk2]
  rfl

theorem pay6 : k0_pay6 (iblk m c 0 t) (iblk m c 1 t) (iblk m c 2 t) (ix2 a k) = dy (xin m c (row t a)) (gain m c) (tgt m c (row t a)) k := by
  unfold k0_pay6
  pointwise
  rw [pay5]
  rfl

/-- The gradient of the input, row by row. -/
def G3 (c : Dev nD) (i : S4096x2048.Idx) : EReal :=
  Cert.Norm.dx (xin m c (i 0)) (gain m c) (dy (xin m c (i 0)) (gain m c) (tgt m c (i 0))) (i 1)

theorem pay7 : k0_pay7 (iblk m c 0 t) (iblk m c 1 t) (iblk m c 2 t) (ix2 a k) = G3 m c (ix2 (row t a) k) := by
  unfold k0_pay7
  pointwise
  simp only [pay6, pay4, pay3, blk1]
  rfl

/-- What row `i` adds to the gradient of the gain. -/
def term (i : Fin 4096) (k : Fin 2048) : EReal := dy (xin m c i) (gain m c) (tgt m c i) k * (xin m c i k * inv (xin m c i))

theorem pay1 (x : FVec Ideal S1x2048 .f32) :
    k0_pay1 (k0_pay4 (iblk m c 0 t)) (k0_pay6 (iblk m c 0 t) (iblk m c 1 t) (iblk m c 2 t)) x (ix2 0 k) = x (ix2 0 k) + ∑ a : Fin 256, term m c (row t a) k := by
  unfold k0_pay1
  pointwise
  simp only [pay6, pay4]
  rfl

theorem pay2 (x : FVec Ideal S1x1 .f32) : k0_pay2 (k0_pay5 (iblk m c 0 t) (iblk m c 1 t) (iblk m c 2 t)) x (ix2 0 0) =
    x (ix2 0 0) + Ideal.ofBits .f32 0x3F000000#32 * ∑ a : Fin 256, sq (xin m c (row t a)) (gain m c) (tgt m c (row t a)) := by
  unfold k0_pay2
  pointwise
  simp only [pay5]
  rfl

theorem pay9 : k0_pay9 (F := Ideal) (ix2 0 k) = 0 := by
  unfold k0_pay9
  pointwise

theorem pay10 : k0_pay10 (F := Ideal) (ix2 0 0) = 0 := by
  unfold k0_pay10
  pointwise

end Payloads

theorem out3 (c : Dev nD) (t : Fin cfg0.N) : (outsAt0 m c t.val t.isLt).1 = k0_pay7 (iblk m c 0 t) (iblk m c 1 t) (iblk m c 2 t) := by
  by_cases h : t.val % 16 = 0
  · rw [outsAt0_A m c t h]; frame_out
  · rw [outsAt0_B m c t h]; frame_out

theorem out4 (c : Dev nD) (t : Fin cfg0.N) : (outsAt0 m c t.val t.isLt).2.1 = k0_pay8 (iblk m c 0 t) (iblk m c 1 t) (iblk m c 2 t) := by
  by_cases h : t.val % 16 = 0
  · rw [outsAt0_A m c t h]; frame_out
  · rw [outsAt0_B m c t h]; frame_out

theorem arr3 (c : Dev nD) : (dats m 0 c).arrAt 3 cfg0.N = G3 m c := by
  refine (dats m 0 c).arrAt_eq_of_covers 3 _ (by decide +kernel) fun t hf y => ?_
  blk_simp
  rw [after0_3, out3]
  idx_vars y
  exact (pay7 m c t y0 y1).trans (congrArg (G3 m c) (emb3 t y0 y1).symm)

theorem arr4 (c : Dev nD) : (dats m 0 c).arrAt 4 cfg0.N = G3 m c := by
  refine (dats m 0 c).arrAt_eq_of_covers 4 _ (by decide +kernel) fun t hf y => ?_
  blk_simp
  rw [after0_4, out4]
  idx_vars y
  exact (pay7 m c t y0 y1).trans (congrArg (G3 m c) (emb4 t y0 y1).symm)

/-- The gradient of the gain, column by column. -/
def G5 (c : Dev nD) (i : S1x2048.Idx) : EReal := ∑ a : Fin 4096, term m c a (i 1)

theorem out5 (c : Dev nD) (k : Fin 2048) : (outsAt0 m c t0_15.val t0_15.isLt).2.2.1 (ix2 0 k) = G5 m c (ix2 0 k) := by
  rw [Pipeline.eq_sum_fin_of_reset_step_apply_last (fun n h => (outsAt0 m c n h).2.2.1) 16 (fun _ => (0 : EReal)) (fun t j => ∑ a : Fin 256, term m c (row t a) (j 1))
    (fun t h j => by
      idx_vars j
      obtain rfl : j0 = 0 := Subsingleton.elim _ _
      rw [outsAt0_A m c t h]; frame_out; rw [pay1, pay9])
    (fun t h j => by
      idx_vars j
      obtain rfl : j0 = 0 := Subsingleton.elim _ _
      rw [outsAt0_B m c t h]; frame_out; rw [pay1]) (le_of_eq N_0) t0_15 rfl (ix2 0 k), zero_add]
  exact (Cert.Shared.sum_blocks 16 256 fun a => term m c a k).symm

theorem arr5 (c : Dev nD) : (dats m 0 c).arrAt 5 cfg0.N = G5 m c := by
  refine (dats m 0 c).arrAt_eq_of_after_last 5 t0_15 (by decide +kernel) _ fun j => ?_
  blk_simp
  rw [after0_5]
  idx_vars j
  obtain rfl : j0 = 0 := Subsingleton.elim _ _
  exact out5 m c j1

/-- The loss, block of rows by block of rows. -/
def G6 (c : Dev nD) (_ : S1x1.Idx) : EReal :=
  ∑ t : Fin 16, Ideal.ofBits .f32 0x3F000000#32 * ∑ a : Fin 256, sq (xin m c (row t a)) (gain m c) (tgt m c (row t a))

theorem out6 (c : Dev nD) : (outsAt0 m c t0_15.val t0_15.isLt).2.2.2 (ix2 0 0) = G6 m c (ix2 0 0) := by
  rw [Pipeline.eq_sum_fin_of_reset_step_apply_last (fun n h => (outsAt0 m c n h).2.2.2) 16 (fun _ => (0 : EReal))
    (fun t j => Ideal.ofBits .f32 0x3F000000#32 * ∑ a : Fin 256, sq (xin m c (row t a)) (gain m c) (tgt m c (row t a)))
    (fun t h j => by
      idx_vars j
      obtain rfl : j0 = 0 := Subsingleton.elim _ _
      obtain rfl : j1 = 0 := Subsingleton.elim _ _
      rw [outsAt0_A m c t h]; frame_out; rw [pay2, pay10])
    (fun t h j => by
      idx_vars j
      obtain rfl : j0 = 0 := Subsingleton.elim _ _
      obtain rfl : j1 = 0 := Subsingleton.elim _ _
      rw [outsAt0_B m c t h]; frame_out; rw [pay2]) (le_of_eq N_0) t0_15 rfl (ix2 0 0), zero_add]
  rfl

theorem arr6 (c : Dev nD) : (dats m 0 c).arrAt 6 cfg0.N = G6 m c := by
  refine (dats m 0 c).arrAt_eq_of_after_last 6 t0_15 (by decide +kernel) _ fun j => ?_
  blk_simp
  rw [after0_6]
  idx_vars j
  obtain rfl : j0 = 0 := Subsingleton.elim _ _
  obtain rfl : j1 = 0 := Subsingleton.elim _ _
  exact out6 m c

end Cert.Kernel2Ideal.Loss

/-! ## The reference's arrays -/

namespace Cert.Reference2Ideal.Loss

open Cert.Reference2Ideal Cert.Reference2Ideal.Gen Idealize.ShloMosaic Idealize.ShloMosaic.TcCoe Idealize.SL.Sem Cert.Reference2Ideal.Read Cert.Norm Cert.Loss

variable (x : FVec Ideal S4096x2048 .f32) (g : FVec Ideal S1x2048 .f32) (t : FVec Ideal S4096x2048 .f32)

theorem v7 (i : Fin 4096) : val_main_v7 (F := Ideal) x (ix2 i 0) = meanSq (fun k => x (ix2 i k)) := by
  delta val_main_v7 val_main_v6 val_main_v5 val_main_v4 val_main_v3 val_main_v2 val_main_v1 val_main_cst val_main_cst_0 val_main_cst_1
  pointwise
  rfl

theorem v8 (i : Fin 4096) : val_main_v8 (F := Ideal) x (ix2 i 0) = inv (fun k => x (ix2 i k)) := by
  delta val_main_v8
  pointwise
  rw [v7]; rfl

theorem v14 (k : Fin 2048) : val_main_v14 (F := Ideal) g (ix2 0 k) = g (ix2 0 k) := by
  delta val_main_v14 val_main_v0
  pointwise

theorem v13 (i : Fin 4096) (k : Fin 2048) : val_main_v13 (F := Ideal) x (ix2 i k) = x (ix2 i k) * inv (fun k => x (ix2 i k)) := by
  delta val_main_v13 val_main_v12
  pointwise
  rw [v8]

theorem v17 (i : Fin 4096) (k : Fin 2048) : val_main_v17 (F := Ideal) x g t (ix2 i k) = err (fun k => x (ix2 i k)) (fun k => g (ix2 0 k)) (fun k => t (ix2 i k)) k := by
  delta val_main_v17 val_main_v16 val_main_v15
  pointwise
  rw [v13, v14]; rfl

theorem v31 (i : Fin 4096) (k : Fin 2048) : val_main_v31 (F := Ideal) x g t (ix2 i k) = dyR (fun k => x (ix2 i k)) (fun k => g (ix2 0 k)) (fun k => t (ix2 i k)) k := by
  delta val_main_v31 val_main_v30 val_main_v29 val_main_v28 val_main_v27 val_main_v26 val_main_v20 val_main_v19 val_main_cst_10 val_main_cst_9 val_main_cst_8 val_main_cst_3
  pointwise
  rw [v17]; rfl

theorem v47 (i : Fin 4096) (k : Fin 2048) : val_main_v47 (F := Ideal) x g t (ix2 i k) =
    through (fun k => x (ix2 i k)) (fun k => g (ix2 0 k)) (dyR (fun k => x (ix2 i k)) (fun k => g (ix2 0 k)) (fun k => t (ix2 i k))) := by
  delta val_main_v47 val_main_v46 val_main_v45 val_main_v44 val_main_v43 val_main_v40 val_main_v39 val_main_v38 val_main_v36 val_main_v35 val_main_v11 val_main_v10 val_main_v9 val_main_cst_2 val_main_cst_13 val_main_cst_14 val_main_cst_15
  pointwise
  simp only [v14, v31]
  refine Finset.sum_congr rfl fun y _ => ?_
  obtain rfl : y = 0 := Subsingleton.elim _ _
  rw [v8, v7]

theorem v51 (i : Fin 4096) (k : Fin 2048) : val_main_v51 (F := Ideal) x g t (ix2 i k) =
    Cert.Norm.dxR (fun k => x (ix2 i k)) (fun k => g (ix2 0 k)) (dyR (fun k => x (ix2 i k)) (fun k => g (ix2 0 k)) (fun k => t (ix2 i k))) k := by
  delta val_main_v51 val_main_v50 val_main_v49 val_main_v48 val_main_v42 val_main_v41 val_main_v36 val_main_v35
  pointwise
  rw [v47, v8, v14, v31, add_assoc]
  rfl

theorem v53 (i : S4096x2048.Idx) : val_main_v53 (F := Ideal) x g t i = val_main_v51 (F := Ideal) x g t i := by
  delta val_main_v53
  pointwise

theorem v52 (k : Fin 2048) : val_main_v52 (F := Ideal) x g t (ix2 0 k) = ∑ i : Fin 4096, x (ix2 i k) * inv (fun k => x (ix2 i k)) *
    dyR (fun k => x (ix2 i k)) (fun k => g (ix2 0 k)) (fun k => t (ix2 i k)) k := by
  delta val_main_v52 val_main_v37 val_main_v34 val_main_v33 val_main_v32 val_main_cst_11 val_main_cst_12
  pointwise
  simp only [v13, v31, Finset.univ_unique, Finset.sum_singleton]

theorem v54 : val_main_v54 (F := Ideal) x g t (ix2 0 0) = Ideal.ofBits .f32 0x3F000000#32 *
    ∑ i : Fin 4096, sqR (fun k => x (ix2 i k)) (fun k => g (ix2 0 k)) (fun k => t (ix2 i k)) := by
  delta val_main_v54 val_main_v25 val_main_v24 val_main_v23 val_main_v22 val_main_v21 val_main_v18 val_main_cst_4 val_main_cst_5 val_main_cst_6 val_main_cst_7
  pointwise
  simp only [v17]
  rfl

end Cert.Reference2Ideal.Loss

/-! ## The two sides together -/

namespace Cert.Loss

open Idealize.ShloMosaic Cert.Shared

/-- One half of a sum of real numbers is the sum of the halves, block by block. -/
theorem half_sum (f h : Fin 4096 → EReal) (hr : ∀ i, ∃ r : ℝ, f i = (r : EReal) ∧ h i = (r : EReal)) :
    ∑ t : Fin 16, Ideal.ofBits .f32 0x3F000000#32 * ∑ a : Fin 256, f ⟨t.val * 256 + a.val, by omega⟩ =
      Ideal.ofBits .f32 0x3F000000#32 * ∑ i, h i := by
  obtain rfl : f = h := funext fun i => by obtain ⟨r, h1, h2⟩ := hr i; rw [h1, h2]
  obtain ⟨r, rfl⟩ := real_fun fun i => (hr i).imp fun _ h => h.1
  rw [sum_blocks 16 256 fun i => (r i : EReal), ofBits_half]
  simp only [← coe_sum, ← EReal.coe_mul]
  rw [Finset.mul_sum]

end Cert.Loss
-- ==== Proof.LossClaim.lean ====
/-
  The claims about the loss head.
-/
module

public import proofs.«01_k».proof.Defs
public import proofs.«01_k».proof.Proof.Gen.Kernel2.Frame
public import proofs.«01_k».proof.Proof.Loss

@[expose] public section

set_option maxRecDepth 16384

noncomputable section

namespace Cert.Loss

open Idealize.ShloMosaic Idealize.SL.Sem

/-- The precondition's shape facts. -/
theorem preFacts : Cert.Pre_finite2.Facts := ⟨by decide, by decide⟩

theorem frame_kernel : Cert.quiescent_Kernel2 (hKernel2 := Cert.Kernel2.Gen.facts) := fun m ρ _ => Cert.Kernel2.Gen.frame m ρ
theorem frame_ideal : Cert.quiescent_Kernel2Ideal (hKernel2Ideal := Cert.Kernel2Ideal.Gen.facts) := fun m ρ _ => Cert.Kernel2Ideal.Gen.frame m ρ
theorem frame_ideal_pre : Cert.quiescent_Kernel2Ideal_pre_finite2 (hKernel2Ideal := Cert.Kernel2Ideal.Gen.facts) (hPre_finite2 := preFacts) :=
  fun m ρ _ => Cert.Kernel2Ideal.Gen.frame m ρ
theorem frame_reference : Cert.quiescent_Reference2Ideal (hReference2Ideal := Cert.Reference2Ideal.Gen.facts) := fun m ρ _ =>
  (θ_run _ _ _).mono (fun r h => ⟨fun c => (h c).2.2.2.2, sem_eq_zero_of_no_sems (by decide) r.2⟩) (Cert.Reference2Ideal.Value.run m ρ)
theorem frame_reference_pre : Cert.quiescent_Reference2Ideal_pre_finite2 (hReference2Ideal := Cert.Reference2Ideal.Gen.facts) (hPre_finite2 := preFacts) :=
  fun m ρ _ => frame_reference m ρ trivial

attribute [local instance] preFacts

section Values

variable (m : (ℓ : Loc Cert.Kernel2Ideal.nD Cert.Kernel2Ideal.τ Cert.Kernel2Ideal.sig) → Buf (Elt Ideal) ℓ)

open Cert.Kernel2Ideal Cert.Kernel2Ideal.Loss

/-- The precondition, read: the input, the gain and the target are real numbers. -/
theorem real_args (h : Cert.Pre_Kernel2Ideal_finite2 m) (c : Dev nD) :
    (∀ i k, ∃ r : ℝ, xin m c i k = (r : EReal)) ∧ (∀ k, ∃ r : ℝ, gain m c k = (r : EReal)) ∧ (∀ i k, ∃ r : ℝ, tgt m c i k = (r : EReal)) := by
  obtain ⟨h0, h1, h2⟩ := h c
  exact ⟨fun i k => Cert.Shared.real_of_abs_lt (congrFun h0 _), fun k => Cert.Shared.real_of_abs_lt (congrFun h1 _),
    fun i k => Cert.Shared.real_of_abs_lt (congrFun h2 _)⟩

theorem dx (h : Cert.Pre_Kernel2Ideal_finite2 m) (c : Dev nD) :
    Cert.Reference2Ideal.Read.val_main_v51 (F := Ideal) (m (c, Proc.devRef .tc main_arg0)) (m (c, Proc.devRef .tc main_arg1)) (m (c, Proc.devRef .tc main_arg2)) = G3 m c := by
  obtain ⟨h0, h1, h2⟩ := real_args m h c
  funext j
  idx_vars j
  rw [Cert.Reference2Ideal.Loss.v51]
  refine Eq.trans ?_ (Cert.Norm.dx_eq _ _ _ _ (h0 j0) h1 (real_dy _ _ _ (h0 j0) h1 (h2 j0))).symm
  rw [dy_eq _ _ _ (h0 j0) h1 (h2 j0)]
  rfl

theorem dx_bf16 (h : Cert.Pre_Kernel2Ideal_finite2 m) (c : Dev nD) :
    Cert.Reference2Ideal.Read.val_main_v53 (F := Ideal) (m (c, Proc.devRef .tc main_arg0)) (m (c, Proc.devRef .tc main_arg1)) (m (c, Proc.devRef .tc main_arg2)) = G3 m c :=
  (funext fun i => Cert.Reference2Ideal.Loss.v53 _ _ _ i).trans (dx m h c)

theorem dg (h : Cert.Pre_Kernel2Ideal_finite2 m) (c : Dev nD) :
    Cert.Reference2Ideal.Read.val_main_v52 (F := Ideal) (m (c, Proc.devRef .tc main_arg0)) (m (c, Proc.devRef .tc main_arg1)) (m (c, Proc.devRef .tc main_arg2)) = G5 m c := by
  obtain ⟨h0, h1, h2⟩ := real_args m h c
  funext j
  idx_vars j
  obtain rfl : j0 = 0 := Subsingleton.elim _ _
  rw [Cert.Reference2Ideal.Loss.v52]
  refine Finset.sum_congr rfl fun i _ => ?_
  unfold term
  rw [dy_eq _ _ _ (h0 i) h1 (h2 i)]
  exact mul_comm (_ : EReal) _

theorem loss (h : Cert.Pre_Kernel2Ideal_finite2 m) (c : Dev nD) :
    Cert.Reference2Ideal.Read.val_main_v54 (F := Ideal) (m (c, Proc.devRef .tc main_arg0)) (m (c, Proc.devRef .tc main_arg1)) (m (c, Proc.devRef .tc main_arg2)) = G6 m c := by
  obtain ⟨h0, h1, h2⟩ := real_args m h c
  funext j
  idx_vars j
  obtain rfl : j0 = 0 := Subsingleton.elim _ _
  obtain rfl : j1 = 0 := Subsingleton.elim _ _
  rw [Cert.Reference2Ideal.Loss.v54]
  exact (half_sum (fun i => sq (xin m c i) (gain m c) (tgt m c i)) (fun i => sqR (xin m c i) (gain m c) (tgt m c i))
    fun i => real_sq _ _ _ (h0 i) h1 (h2 i)).symm

end Values

theorem value : Cert.algebraic_Kernel2Ideal_Reference2Ideal_pre_finite2 (hKernel2Ideal := Cert.Kernel2Ideal.Gen.facts)
    (hReference2Ideal := Cert.Reference2Ideal.Gen.facts) (hPre_finite2 := preFacts) := fun m ρ m' ρ' hpre hag =>
  ⟨fun c => Cert.Kernel2Ideal.Loss.G3 m c, fun c => Cert.Kernel2Ideal.Loss.G3 m c, fun c => Cert.Kernel2Ideal.Loss.G5 m c, fun c => Cert.Kernel2Ideal.Loss.G6 m c,
    (θ_run _ _ _).mono (fun _ h c => ⟨(h c).1.trans (Cert.Kernel2Ideal.Loss.arr3 m c), (h c).2.1.trans (Cert.Kernel2Ideal.Loss.arr4 m c),
      (h c).2.2.1.trans (Cert.Kernel2Ideal.Loss.arr5 m c), (h c).2.2.2.1.trans (Cert.Kernel2Ideal.Loss.arr6 m c), (h c).2.2.2.2⟩) (Cert.Kernel2Ideal.Value.run_blocks m ρ),
    (θ_run _ _ _).mono (fun _ h c => ⟨by
        rw [(h c).1, Cert.Reference2Ideal.Read.val_main_v51_eq, (hag c).1, (hag c).2.1, (hag c).2.2]
        exact dx m hpre c, by
        rw [(h c).2.1, Cert.Reference2Ideal.Read.val_main_v53_eq, (hag c).1, (hag c).2.1, (hag c).2.2]
        exact dx_bf16 m hpre c, by
        rw [(h c).2.2.1, Cert.Reference2Ideal.Read.val_main_v52_eq, (hag c).1, (hag c).2.1, (hag c).2.2]
        exact dg m hpre c, by
        rw [(h c).2.2.2.1, Cert.Reference2Ideal.Read.val_main_v54_eq, (hag c).1, (hag c).2.1, (hag c).2.2]
        exact loss m hpre c, (h c).2.2.2.2⟩) (Cert.Reference2Ideal.Value.run m' ρ')⟩

end Cert.Loss
-- ==== Proof.SsdSpec.lean ====
/-
  The state-space scan over chunks of sixty-four rows, written over the entries of its arguments.
-/
module

public import proofs.«01_k».proof.Proof.Lemmas
public import Idealize.ShloMosaic.Lib.Pipeline.ValueKit
public import Idealize.ShloMosaic.Lib.Pointwise

@[expose] public section

set_option maxRecDepth 16384

noncomputable section

namespace Cert.Ssd

open Idealize.ShloMosaic

/-- What the scan reads of row `t`: the stepped inputs of a group's head, its decay exponents, and the two projections. -/
structure Data where
  xdt : Fin 4096 → Fin 8 → Fin 8 → Fin 64 → EReal
  adt : Fin 4096 → Fin 8 → Fin 8 → EReal
  b : Fin 4096 → Fin 8 → Fin 128 → EReal
  c : Fin 4096 → Fin 8 → Fin 128 → EReal

/-- Row `s` of chunk `k`. -/
def row (k : ℕ) (s : Fin 64) : Fin 4096 := ⟨(k * 64 + s.val) % 4096, Nat.mod_lt _ (by decide)⟩

namespace Data

variable (D : Data) (k : ℕ) (g r : Fin 8)

/-- The sum of the exponents up to position `l` of chunk `k`. -/
def cs (l : Fin 64) : EReal := ∑ s : Fin 64, if s ≤ l then D.adt (row k s) g r else 0

/-- The state before chunk `k`. -/
def state : ℕ → Fin 8 → Fin 8 → Fin 64 → Fin 128 → EReal
  | 0, _, _, _, _ => 0
  | k + 1, g, r, p, n => state k g r p n * Ideal.exp (D.cs k g r 63)
      + ∑ s : Fin 64, Ideal.exp (D.cs k g r 63 - D.cs k g r s) * D.xdt (row k s) g r p * D.b (row k s) g n

/-- How much of position `s` is left at position `l`. -/
def decay (l s : Fin 64) : EReal := if s ≤ l then Ideal.exp (D.cs k g r l - D.cs k g r s) else 0

/-- The scan's value at position `l` of chunk `k`. -/
def y (l : Fin 64) (p : Fin 64) : EReal :=
  ∑ s : Fin 64, D.xdt (row k s) g r p * ((∑ n : Fin 128, D.b (row k s) g n * D.c (row k l) g n) * D.decay k g r l s)
    + (∑ n : Fin 128, D.state k g r p n * D.c (row k l) g n) * Ideal.exp (D.cs k g r l)

end Data

theorem foldl_add_eq_sum {n : ℕ} (f : Fin n → EReal) : (List.finRange n).foldl (fun r i => r + f i) 0 = ∑ i, f i := by
  have h : ∀ (l : List (Fin n)) (a : EReal), l.foldl (fun r i => r + f i) a = a + (l.map f).sum := by
    intro l
    induction l with
    | nil => intro a; simp
    | cons b l ih => intro a; rw [List.foldl_cons, ih, List.map_cons, List.sum_cons, add_assoc]
  rw [h, zero_add, ← List.ofFn_eq_map, List.sum_ofFn]

/-- A windowed sum, over the positions of the window. -/
theorem reduceWindow_add {s t u : Shape} (window strides lo hi : Fin s.rank → ℕ) (x : s.Idx → EReal) (init : u.Idx → EReal)
    (h : s.ReduceWindows window strides lo hi t) (hu : 0 < u.numel) (h0 : ∀ i, init i = 0) (j : t.Idx) :
    Host.reduceWindow (· + ·) window strides lo hi x init h hu j
      = ∑ w : (⟨s.rank, window⟩ : Shape).Idx,
        if hin : ∀ a : Fin s.rank, lo a ≤ (j (a.cast h.1.symm)).val * strides a + (w a).val
          ∧ (j (a.cast h.1.symm)).val * strides a + (w a).val - lo a < s.size a then
        x (fun a => ⟨(j (a.cast h.1.symm)).val * strides a + (w a).val - lo a, (hin a).2⟩) else 0 := by
  unfold Host.reduceWindow
  simp only [h0]
  rw [foldl_add_eq_sum]
  exact Equiv.sum_comp (⟨s.rank, window⟩ : Shape).rowMajor.symm (fun w => if hin : ∀ a : Fin s.rank,
      lo a ≤ (j (a.cast h.1.symm)).val * strides a + (w a).val ∧ (j (a.cast h.1.symm)).val * strides a + (w a).val - lo a < s.size a then
    x (fun a => ⟨(j (a.cast h.1.symm)).val * strides a + (w a).val - lo a, (hin a).2⟩) else 0)

/-- A running sum as a windowed reduction: sixty-four positions, the sixty-three before each. -/
theorem runningSum (x : (⟨4, ![1, 64, 8, 8]⟩ : Shape).Idx → EReal)
    (h : (⟨4, ![1, 64, 8, 8]⟩ : Shape).ReduceWindows ![1, 64, 1, 1] ![1, 1, 1, 1] ![0, 63, 0, 0] ![0, 0, 0, 0] ⟨4, ![1, 64, 8, 8]⟩)
    (init : (⟨0, ![]⟩ : Shape).Idx → EReal) (hi : ∀ i, init i = 0) (hu : 0 < (⟨0, ![]⟩ : Shape).numel) (l : Fin 64) (g r : Fin 8) :
    Host.reduceWindow (· + ·) ![1, 64, 1, 1] ![1, 1, 1, 1] ![0, 63, 0, 0] ![0, 0, 0, 0] x init h hu (ix4 0 l g r)
      = ∑ s : Fin 64, if s ≤ l then x (ix4 0 s g r) else 0 := by
  have hl := l.isLt
  refine (reduceWindow_add _ _ _ _ x init h hu hi _).trans ?_
  refine (sum_idx4 (n0 := 1) (n1 := 64) (n2 := 1) (n3 := 1) _).trans ?_
  simp only [Fin.sum_univ_one, Finset.univ_unique, Finset.sum_singleton]
  refine Fintype.sum_equiv (Equiv.addRight (l + 1)) _ _ fun a => ?_
  have ha := a.isLt
  have hv : ((Equiv.addRight (l + 1)) a).val = (a.val + l.val + 1) % 64 := by
    show (a + (l + 1)).val = _
    rw [Fin.val_add, Fin.val_add]
    simp
    omega
  by_cases hc : 63 ≤ l.val + a.val
  · rw [if_pos (Fin.le_def.mpr (by rw [hv]; omega))]
    refine (dif_pos ?_).trans (congrArg x ?_)
    · intro b
      fin_cases b
      · exact ⟨Nat.zero_le _, Nat.one_pos⟩
      · exact ⟨by show 63 ≤ l.val * 1 + a.val; omega, by show l.val * 1 + a.val - 63 < 64; omega⟩
      · exact ⟨Nat.zero_le _, by show g.val * 1 + 0 - 0 < 8; omega⟩
      · exact ⟨Nat.zero_le _, by show r.val * 1 + 0 - 0 < 8; omega⟩
    · funext b
      fin_cases b
      · rfl
      · exact Fin.ext (by show l.val * 1 + a.val - 63 = ((Equiv.addRight (l + 1)) a).val; rw [hv]; omega)
      · exact Fin.ext (by show g.val * 1 + 0 - 0 = g.val; omega)
      · exact Fin.ext (by show r.val * 1 + 0 - 0 = r.val; omega)
  · rw [if_neg (fun h' => by have := Fin.le_def.mp h'; rw [hv] at this; omega)]
    refine dif_neg fun h' => hc ?_
    have := (h' 1).1
    change 63 ≤ l.val * 1 + a.val at this
    omega

end Cert.Ssd
-- ==== Proof.Window.lean ====
/-
  A trailing window's sums and their gradient: a column divided by how many rows each window holds, summed over the rows
  that follow, is what a running sum taken from the end gives of the differences with the column moved by the window.
-/
module

public import proofs.«01_k».proof.Proof.SsdSpec
public import Idealize.ShloMosaic.Lib.SortNet.Extract

@[expose] public section

noncomputable section

namespace Cert.Window

open Idealize.ShloMosaic

/-- Row `n` of a column over how many rows the window that ends there holds; zero past the last row. -/
def part (x : ℕ → EReal) (W n : ℕ) : EReal := if n < 4096 then Ideal.div (x n) (((min (n + 1) W : ℕ) : ℝ) : EReal) else 0

/-- The gradient of the windows' means at row `n`: the parts of the windows that hold it. -/
def total (x : ℕ → EReal) (W n : ℕ) : EReal := ∑ j ∈ Finset.range W, part x W (n + j)

/-- Twice as long a sum, from two. -/
theorem range_double (p : ℕ → EReal) (w i : ℕ) :
    ∑ j ∈ Finset.range w, p (i + j) + ∑ j ∈ Finset.range w, p (i + w + j) = ∑ j ∈ Finset.range (2 * w), p (i + j) := by
  rw [two_mul, Finset.sum_range_add]
  simp only [Nat.add_assoc]

/-- How many rows the window ending at row `n` holds, from the 32-bit words. -/
theorem count (n W : ℕ) (hn : n < 2 ^ 20) (hW : W < 2 ^ 20) :
    ((IntOp.minsi (BitVec.ofNat 32 n + 1#32) (BitVec.ofNat 32 W)).toInt : ℝ) = ((min (n + 1) W : ℕ) : ℝ) := by
  have e : ∀ k : ℕ, k < 2 ^ 21 → (BitVec.ofNat 32 k).toInt = (k : ℤ) := fun k hk => by
    have h : (BitVec.ofNat 32 k).toNat = k := by
      rw [BitVec.toNat_ofNat]
      exact Nat.mod_eq_of_lt (by omega)
    rw [BitVec.toInt_eq_toNat_of_lt (by rw [h]; omega), h]
  have h1 : BitVec.ofNat 32 n + 1#32 = BitVec.ofNat 32 (n + 1) := (BitVec.ofNat_add n 1).symm
  have h2 := e (n + 1) (by omega)
  have h3 := e W (by omega)
  rw [SortNet.toInt_minsi, h1, h2, h3, Nat.cast_min, Int.cast_min, Int.cast_natCast, Int.cast_natCast]

/-- A part of a finite column is the quotient of reals. -/
theorem part_coe (x : ℕ → EReal) (r : ℕ → ℝ) (hx : ∀ n, x n = (r n : EReal)) (W : ℕ) (hW : 0 < W) (n : ℕ) :
    part x W n = ((if n < 4096 then r n / (min (n + 1) W : ℕ) else 0 : ℝ) : EReal) := by
  unfold part
  split
  · have h : ((min (n + 1) W : ℕ) : ℝ) ≠ 0 := Nat.cast_ne_zero.mpr (by omega)
    rw [hx, Shared.div_coe h]
  · exact EReal.coe_zero.symm

theorem coe_sum (s : Finset ℕ) (f : ℕ → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sums from row `n` to the end of the differences with the column moved by the window leave one window. -/
theorem telescope (v : ℕ → ℝ) (hv : ∀ n, 4096 ≤ n → v n = 0) (W n : ℕ) :
    ∑ i ∈ Finset.range 4096, (v (n + i) + -v (n + i + W)) = ∑ j ∈ Finset.range W, v (n + j) := by
  have h1 := Finset.sum_range_add (fun i => v (n + i)) 4096 W
  have h2 := Finset.sum_range_add (fun i => v (n + i)) W 4096
  have h3 : ∑ x ∈ Finset.range W, v (n + (4096 + x)) = 0 := Finset.sum_eq_zero fun x _ => hv _ (by omega)
  have h4 : ∑ x ∈ Finset.range 4096, v (n + (W + x)) = ∑ x ∈ Finset.range 4096, v (n + x + W) :=
    Finset.sum_congr rfl fun x _ => by rw [show n + (W + x) = n + x + W by omega]
  rw [Nat.add_comm W 4096] at h2
  rw [Finset.sum_add_distrib, Finset.sum_neg_distrib]
  linarith

/-- The reference's running sum from the end, of a finite column. -/
theorem total_eq (x : ℕ → EReal) (hx : ∀ n, ∃ r : ℝ, x n = (r : EReal)) (W : ℕ) (hW : 0 < W) (n : ℕ) :
    ∑ i : Fin 4096, (if n + i.val < 4096 then part x W (n + i.val) + -part x W (n + i.val + W) else 0) = total x W n := by
  choose r hr using hx
  have e := part_coe x r hr W hW
  rw [Fin.sum_univ_eq_sum_range (fun i => if n + i < 4096 then part x W (n + i) + -part x W (n + i + W) else (0 : EReal)) 4096]
  unfold total
  simp only [e]
  rw [coe_sum, ← telescope (fun n => if n < 4096 then r n / (min (n + 1) W : ℕ) else 0) (fun n hn => if_neg (by omega)), ← coe_sum]
  refine Finset.sum_congr rfl fun i _ => ?_
  split
  · rw [← EReal.coe_neg, ← EReal.coe_add]
  · rw [if_neg (by omega)]
    simp

/-- A running sum from the end as a windowed reduction. -/
theorem sum_from (x : (⟨4, ![1, 4096, 4, 1024]⟩ : Shape).Idx → EReal)
    (h : (⟨4, ![1, 4096, 4, 1024]⟩ : Shape).ReduceWindows ![1, 4096, 1, 1] ![1, 1, 1, 1] ![0, 0, 0, 0] ![0, 4095, 0, 0] ⟨4, ![1, 4096, 4, 1024]⟩)
    (init : (⟨0, ![]⟩ : Shape).Idx → EReal) (hi : ∀ i, init i = 0) (hu : 0 < (⟨0, ![]⟩ : Shape).numel) (n : Fin 4096) (g : Fin 4) (d : Fin 1024) :
    Host.reduceWindow (· + ·) ![1, 4096, 1, 1] ![1, 1, 1, 1] ![0, 0, 0, 0] ![0, 4095, 0, 0] x init h hu (ix4 0 n g d)
      = ∑ i : Fin 4096, if hn : n.val + i.val < 4096 then x (ix4 0 ⟨n.val + i.val, hn⟩ g d) else 0 := by
  have hl := n.isLt
  refine (Cert.Ssd.reduceWindow_add _ _ _ _ x init h hu hi _).trans ?_
  refine (sum_idx4 (n0 := 1) (n1 := 4096) (n2 := 1) (n3 := 1) _).trans ?_
  simp only [Fin.sum_univ_one, Finset.univ_unique, Finset.sum_singleton]
  refine Finset.sum_congr rfl fun a _ => ?_
  by_cases hc : n.val + a.val < 4096
  · rw [dif_pos hc]
    refine (dif_pos ?_).trans (congrArg x ?_)
    · intro b
      fin_cases b
      · exact ⟨Nat.zero_le _, Nat.one_pos⟩
      · exact ⟨Nat.zero_le _, by show n.val * 1 + a.val - 0 < 4096; omega⟩
      · exact ⟨Nat.zero_le _, by show g.val * 1 + 0 - 0 < 4; omega⟩
      · exact ⟨Nat.zero_le _, by show d.val * 1 + 0 - 0 < 1024; omega⟩
    · funext b
      fin_cases b
      · rfl
      · exact Fin.ext (by show n.val * 1 + a.val - 0 = n.val + a.val; omega)
      · exact Fin.ext (by show g.val * 1 + 0 - 0 = g.val; omega)
      · exact Fin.ext (by show d.val * 1 + 0 - 0 = d.val; omega)
  · rw [dif_neg hc]
    refine dif_neg fun h' => hc ?_
    have := (h' 1).2
    change n.val * 1 + a.val - 0 < 4096 at this
    omega

end Cert.Window
-- ==== Proof.PoolKer.lean ====
/-
  The pooling's backward pass: what the kernel's result array holds, index by index.
-/
module

public import proofs.«01_k».proof.Proof.Gen.Kernel3Ideal.Value
public import proofs.«01_k».proof.Proof.Window
public import Idealize.ShloMosaic.Lib.Pipeline.ValueKit
public import Idealize.ShloMosaic.Lib.Pipeline.ReadBack
public import Idealize.ShloMosaic.Lib.KernelVsHost
public import Idealize.ShloMosaic.Lib.Pointwise

@[expose] public section

set_option maxRecDepth 16384

noncomputable section

namespace Cert.Kernel3Ideal.Pool

open Cert.Kernel3Ideal Cert.Kernel3Ideal.Gen Idealize.ShloMosaic Idealize.ShloMosaic.TcCoe Idealize.SL.Sem
open Idealize.ShloMosaic.Pipeline (Dat)
open Cert.Window (part total)

/-- The tile with the sixteen rows that follow it, each over its window's count. -/
def rows (a : BitVec 32) (W : BitVec 32) (v16 : Vec Ideal S512x256 .f32) (v29 : Vec Ideal S16x256 .f32) : FVec Ideal S528x256 .f32 :=
  concatenate S528x256 0 [⟨S512x256, divf v16 (broadcastTo S512x256 (sitofp .f32 (minsi (addi (addi (broadcast S512x1 (Scalar.muli a 512#32))
      (iota .tc S512x1 32 [0] iota_S512x1_d0_w32)) (broadcast S512x1 1#32)) (broadcast S512x1 W))) broadcasts_S512x1_S512x256)⟩,
    ⟨S16x256, Scalar.select (Scalar.cmpi .slt a 7#32) (divf v29 (broadcastTo S16x256 (sitofp .f32 (minsi (addi (addi
      (broadcast S16x1 (Scalar.addi (Scalar.muli a 512#32) 512#32)) (iota .tc S16x1 32 [0] iota_S16x1_d0_w32)) (broadcast S16x1 1#32)) (broadcast S16x1 W)))
      broadcasts_S16x1_S16x256)) (broadcast S16x256 (Scalar.ofBits .f32 0x00000000#32))⟩] concatenates_S512x256_S16x256_S528x256_d0

theorem rows_apply (k : Fin 8) (W : ℕ) (hW : W < 2 ^ 20) (v16 : Vec Ideal S512x256 .f32) (v29 : Vec Ideal S16x256 .f32) (x : ℕ → EReal) (d : Fin 256)
    (h1 : ∀ r : Fin 512, v16 (ix2 r d) = x (512 * k.val + r.val)) (h2 : k.val < 7 → ∀ r : Fin 16, v29 (ix2 r d) = x (512 * k.val + 512 + r.val)) (i : Fin 528) :
    rows (BitVec.ofNat 32 k.val) (BitVec.ofNat 32 W) v16 v29 (ix2 i d) = part x W (512 * k.val + i.val) := by
  unfold rows
  pointwise
  have hk := k.isLt
  have w1 : Scalar.muli (BitVec.ofNat 32 k.val) 512#32 = BitVec.ofNat 32 (512 * k.val) := by
    rw [Nat.mul_comm]
    exact (BitVec.ofNat_mul k.val 512).symm
  have w2 : ∀ a b : ℕ, IntOp.addi (BitVec.ofNat 32 a) (BitVec.ofNat 32 b) = BitVec.ofNat 32 (a + b) := fun a b => (BitVec.ofNat_add a b).symm
  have w3 : ∀ n : ℕ, n < 2 ^ 20 → FloatOps.sitofp (F := Ideal) FTy.f32 (IntOp.minsi (IntOp.addi (BitVec.ofNat 32 n) 1#32) (BitVec.ofNat 32 W))
      = (((min (n + 1) W : ℕ) : ℝ) : EReal) := fun n hn => congrArg (fun r : ℝ => (r : EReal)) (Cert.Window.count n W hn hW)
  have e : Scalar.addi (BitVec.ofNat 32 (512 * k.val)) 512#32 = BitVec.ofNat 32 (512 * k.val + 512) := (BitVec.ofNat_add _ 512).symm
  have hs : Scalar.cmpi CmpIPredicate.slt (BitVec.ofNat 32 k.val) 7#32 = if k.val < 7 then 1#1 else 0#1 := by
    clear h1 h2 w1 w3 e
    revert k
    decide +kernel
  unfold part
  by_cases h : i.val < 512
  · refine (dif_pos h).trans ?_
    show Ideal.div (v16 (ix2 (⟨i.val, h⟩ : Fin 512) d)) _ = _
    rw [if_pos (by omega), w1, w2, w3 _ (by omega), h1]
  · refine (dif_neg h).trans ?_
    show Scalar.select _ (Ideal.div (v29 (ix2 (⟨i.val - 512, by omega⟩ : Fin 16) d)) _) 0 = _
    rw [w1, e, w2, w3 _ (by omega), hs]
    by_cases h7 : k.val < 7
    · rw [if_pos h7, if_pos (by omega), h2 h7]
      rw [show 512 * k.val + 512 + (i.val - 512) = 512 * k.val + i.val by omega]
      rfl
    · rw [if_neg h7, if_neg (by omega)]
      rfl

theorem doubled (s : FVec Ideal S528x256 .f32) (n : BitVec 32) (w : ℕ) (h0 : 0 < w) (hn : n.toNat = 528 - w) (p : ℕ → EReal) (d : Fin 256)
    (hs : ∀ i : Fin 528, i.val + w ≤ 528 → s (ix2 i d) = ∑ j ∈ Finset.range w, p (i.val + j)) (i : Fin 528) (hi : i.val + 2 * w ≤ 528) :
    addf s (dynamicRotate 0 n none s rotates_S528x256_d0) (ix2 i d) = ∑ j ∈ Finset.range (2 * w), p (i.val + j) := by
  have e : dynamicRotate 0 n none s rotates_S528x256_d0 (ix2 i d) = s (ix2 (⟨i.val + w, by omega⟩ : Fin 528) d) := by
    refine dynamicRotate_apply 0 n s _ _ _ fun b => ?_
    match b with
    | ⟨0, _⟩ =>
      show i.val + w = (i.val + 528 - n.toNat % 528) % 528
      rw [hn, Nat.mod_eq_of_lt (show 528 - w < 528 by omega)]
      omega
    | ⟨1, _⟩ => rfl
  show s (ix2 i d) + dynamicRotate 0 n none s rotates_S528x256_d0 (ix2 i d) = _
  rw [e, hs _ (by omega), hs _ (by show i.val + w + w ≤ 528; omega), ← Cert.Window.range_double]

/-- The column of a block. -/
def column (x0 : Vec Ideal S4096x256 .f32) (d : Fin 256) (n : ℕ) : EReal := if h : n < 4096 then x0 (ix2 ⟨n, h⟩ d) else 0

/-- What the window of `W` rows makes of a block. -/
def tile (W : ℕ) (x0 : Vec Ideal S4096x256 .f32) : Vec Ideal S4096x256 .bf16 := fun y => total (column x0 (y 1)) W (y 0).val - x0 y

theorem read_rows (arg2 : Memref sig .tc .vmem S4096x256 .f32) (harg2 : arg2.IsWhole) (x0 : Vec Ideal S4096x256 .f32) (off : Fin 2 → ℕ) (n a : ℕ)
    (ho : off = ![a, 0]) (inb : ∀ b, off b + (![n, 256] : Fin 2 → ℕ) b ≤ S4096x256.size b) (r : Fin n) (d : Fin 256) (h : a + r.val < 4096) :
    View.readAt (Elt Ideal) arg2.view (Rect.unit (s := S4096x256) off ![n, 256] inb).toLoadRect (harg2.unread x0)
      (show (Rect.unit (s := S4096x256) off ![n, 256] inb).toLoadRect.shape.Idx from ix2 (n0 := n) (n1 := 256) r d) = column x0 d (a + r.val) := by
  subst ho
  unfold column
  rw [dif_pos h]
  refine (congrFun (harg2.read_unread x0) _).trans (congrArg x0 ?_)
  refine (funext fun b => Fin.ext ?_)
  match b with
  | ⟨0, _⟩ => show a + 1 * r.val = a + r.val; rw [Nat.one_mul]
  | ⟨1, _⟩ => show 0 + 1 * d.val = d.val; rw [Nat.one_mul, Nat.zero_add]

theorem emb_rows (off : Fin 2 → ℕ) (a : ℕ) (ho : off = ![a, 0]) (inb : ∀ b, off b + (![512, 256] : Fin 2 → ℕ) b ≤ S4096x256.size b) (r : Fin 512) (d : Fin 256)
    (h : a + r.val < 4096) :
    (Rect.unit (s := S4096x256) off ![512, 256] inb).emb (show (Rect.unit (s := S4096x256) off ![512, 256] inb).shape.Idx from ix2 (n0 := 512) (n1 := 256) r d)
      = ix2 (⟨a + r.val, h⟩ : Fin 4096) d := by
  subst ho
  refine funext fun b => Fin.ext ?_
  match b with
  | ⟨0, _⟩ => show a + 1 * r.val = a + r.val; rw [Nat.one_mul]
  | ⟨1, _⟩ => show 0 + 1 * d.val = d.val; rw [Nat.one_mul, Nat.zero_add]

abbrev Wide := FVec Ideal S528x256 .f32
def sum2 (u : Wide) : Wide := addf u (dynamicRotate 0 527#32 none u rotates_S528x256_d0)
def sum4 (u : Wide) : Wide := addf (sum2 u) (dynamicRotate 0 526#32 none (sum2 u) rotates_S528x256_d0)
def sum8 (u : Wide) : Wide := addf (sum4 u) (dynamicRotate 0 524#32 none (sum4 u) rotates_S528x256_d0)
def sum16 (u : Wide) : Wide := addf (sum8 u) (dynamicRotate 0 520#32 none (sum8 u) rotates_S528x256_d0)

theorem sum2_apply (u : Wide) (p : ℕ → EReal) (d : Fin 256) (h : ∀ i : Fin 528, u (ix2 i d) = p i.val) (i : Fin 528) (hi : i.val + 2 ≤ 528) :
    sum2 u (ix2 i d) = ∑ j ∈ Finset.range 2, p (i.val + j) :=
  doubled u 527#32 1 (by decide) (by decide) p d (fun i _ => by rw [h, Finset.sum_range_one, Nat.add_zero]) i hi

theorem sum4_apply (u : Wide) (p : ℕ → EReal) (d : Fin 256) (h : ∀ i : Fin 528, u (ix2 i d) = p i.val) (i : Fin 528) (hi : i.val + 4 ≤ 528) :
    sum4 u (ix2 i d) = ∑ j ∈ Finset.range 4, p (i.val + j) :=
  doubled _ 526#32 2 (by decide) (by decide) p d (sum2_apply u p d h) i hi

theorem sum8_apply (u : Wide) (p : ℕ → EReal) (d : Fin 256) (h : ∀ i : Fin 528, u (ix2 i d) = p i.val) (i : Fin 528) (hi : i.val + 8 ≤ 528) :
    sum8 u (ix2 i d) = ∑ j ∈ Finset.range 8, p (i.val + j) :=
  doubled _ 524#32 4 (by decide) (by decide) p d (sum4_apply u p d h) i hi

theorem sum16_apply (u : Wide) (p : ℕ → EReal) (d : Fin 256) (h : ∀ i : Fin 528, u (ix2 i d) = p i.val) (i : Fin 528) (hi : i.val + 16 ≤ 528) :
    sum16 u (ix2 i d) = ∑ j ∈ Finset.range 16, p (i.val + j) :=
  doubled _ 520#32 8 (by decide) (by decide) p d (sum8_apply u p d h) i hi

theorem iv_eq (k : ℕ) : Scf.iv 0#32 1#32 k = BitVec.ofNat 32 k := by
  unfold Scf.iv
  rw [BitVec.zero_add, BitVec.mul_one]

theorem pay1_apply (k : Fin k0_t1_loop.trips) (v16 : Vec Ideal S512x256 .f32) (v29 : Vec Ideal S16x256 .f32) (r : Fin 512) (d : Fin 256) :
    (k0_pay1 k v16 v29) (ix2 r d) = sum2 (rows (Scf.iv 0#32 1#32 k.val) 2#32 v16 v29) (ix2 (⟨r.val, by omega⟩ : Fin 528) d) - v16 (ix2 r d) := by
  show extractStridedSlice S512x256 ![0, 0] (sum2 (rows (Scf.iv 0#32 1#32 k.val) 2#32 v16 v29)) slices_S528x256_o0_0_S512x256 (ix2 r d) - v16 (ix2 r d) = _
  pointwise

theorem trip1 (c : Dev nD) (i : grid0.Coords) (arg2 : Memref sig .tc .vmem S4096x256 .f32) (harg2 : arg2.IsWhole) (arg3 : Memref sig .tc .hbm S4096x8192 .bf16)
    (harg3 : arg3.IsWhole) (arg4 : Memref sig .tc .vmem S4096x256 .bf16) (harg4 : arg4.IsWhole) (hc : k0_cond1 i = 1#1) (x0 : Vec Ideal S4096x256 .f32)
    (k : Fin k0_t1_loop.trips) :
    ∀ p ∈ tripL_k0_t1 (F := Ideal) Variants.none c none i arg2 harg2 arg3 harg3 arg4 harg4 hc (harg2.unread x0) k,
      ∀ x : p.1.shape.Idx, p.2 x = tile 2 x0 (p.1.emb x) := by
  have hk : k.val < 8 := lt_of_lt_of_le k.isLt k0_t1_abs.2.1
  unfold tripL_k0_t1 trip_k0_t1
  dsimp only
  intro p hp x
  obtain rfl := List.mem_singleton.mp hp
  obtain ⟨r, d, rfl⟩ : ∃ (r : Fin 512) (d : Fin 256), x = ix2 r d := ⟨x 0, x 1, eq_ix2 x⟩
  have h1 := fun r : Fin 512 => read_rows arg2 harg2 x0 (k0_off1 k) 512 (512 * k.val) (k0_off1_eq k) (k0_off1_inb i k hc) r d (by omega)
  have h2 : k.val < 7 → ∀ r : Fin 16, _ := fun h7 r => (read_rows arg2 harg2 x0 (k0_off2 k) 16 (min (512 * k.val + 512) 4080) (k0_off2_eq k)
    (k0_off2_inb i k hc) r d (by omega)).trans (congrArg (column x0 d) (show min (512 * k.val + 512) 4080 + r.val = 512 * k.val + 512 + r.val by omega))
  rw [show _ = _ from emb_rows (k0_off1 k) (512 * k.val) (k0_off1_eq k) (k0_off1_inb i k hc) r d (by omega)]
  refine (pay1_apply k _ _ r d).trans ?_
  rw [iv_eq]
  refine (congrArg₂ (fun a b : EReal => a - b) (sum2_apply _ (fun n => part (column x0 d) 2 (512 * k.val + n)) d
    (rows_apply ⟨k.val, hk⟩ 2 (by decide) _ _ (column x0 d) d h1 h2) _ (by show r.val + 2 ≤ 528; omega)) (h1 r)).trans ?_
  unfold tile total
  simp only [Nat.add_assoc]
  refine congrArg₂ (fun a b : EReal => a - b) rfl ?_
  exact dif_pos (by omega)

theorem pieces1 (c : Dev nD) (i : grid0.Coords) (arg2 : Memref sig .tc .vmem S4096x256 .f32) (harg2 : arg2.IsWhole) (arg3 : Memref sig .tc .hbm S4096x8192 .bf16)
    (harg3 : arg3.IsWhole) (arg4 : Memref sig .tc .vmem S4096x256 .bf16) (harg4 : arg4.IsWhole) (hc : k0_cond1 i = 1#1) (x0 : Vec Ideal S4096x256 .f32) :
    ∀ n : ℕ, n ≤ k0_t1_loop.trips → ∀ p ∈ pb_k0_t1 (F := Ideal) Variants.none c none i arg2 harg2 arg3 harg3 arg4 harg4 hc (harg2.unread x0) n,
      ∀ x : p.1.shape.Idx, p.2 x = tile 2 x0 (p.1.emb x)
  | 0, _, p, hp, _ => absurd hp List.not_mem_nil
  | n + 1, hn, p, hp, x => by
    rw [pb_k0_t1_succ (F := Ideal) Variants.none c none i arg2 harg2 arg3 harg3 arg4 harg4 hc (harg2.unread x0) ⟨n, hn⟩] at hp
    rcases List.mem_append.mp hp with h | h
    · exact trip1 c i arg2 harg2 arg3 harg3 arg4 harg4 hc x0 ⟨n, hn⟩ p h x
    · exact pieces1 c i arg2 harg2 arg3 harg3 arg4 harg4 hc x0 n (Nat.le_of_succ_le hn) p h x

theorem pay2_apply (k : Fin k0_t2_loop.trips) (v16 : Vec Ideal S512x256 .f32) (v29 : Vec Ideal S16x256 .f32) (r : Fin 512) (d : Fin 256) :
    (k0_pay3 0#32 1#32 k v16 v29) (ix2 r d) = sum4 (rows (Scf.iv 0#32 1#32 k.val) 4#32 v16 v29) (ix2 (⟨r.val, by omega⟩ : Fin 528) d) - v16 (ix2 r d) := by
  show extractStridedSlice S512x256 ![0, 0] (sum4 (rows (Scf.iv 0#32 1#32 k.val) 4#32 v16 v29)) slices_S528x256_o0_0_S512x256 (ix2 r d) - v16 (ix2 r d) = _
  pointwise

theorem trip2 (c : Dev nD) (i : grid0.Coords) (arg2 : Memref sig .tc .vmem S4096x256 .f32) (harg2 : arg2.IsWhole) (arg3 : Memref sig .tc .hbm S4096x8192 .bf16)
    (harg3 : arg3.IsWhole) (arg4 : Memref sig .tc .vmem S4096x256 .bf16) (harg4 : arg4.IsWhole) (hc : k0_cond2 i = 1#1) (x0 : Vec Ideal S4096x256 .f32)
    (k : Fin k0_t2_loop.trips) :
    ∀ p ∈ tripL_k0_t2 (F := Ideal) Variants.none c none i arg2 harg2 arg3 harg3 arg4 harg4 hc (harg2.unread x0) k,
      ∀ x : p.1.shape.Idx, p.2 x = tile 4 x0 (p.1.emb x) := by
  have hk : k.val < 8 := lt_of_lt_of_le k.isLt k0_t2_abs.2.1
  unfold tripL_k0_t2 trip_k0_t2
  dsimp only
  intro p hp x
  obtain rfl := List.mem_singleton.mp hp
  obtain ⟨r, d, rfl⟩ : ∃ (r : Fin 512) (d : Fin 256), x = ix2 r d := ⟨x 0, x 1, eq_ix2 x⟩
  have h1 := fun r : Fin 512 => read_rows arg2 harg2 x0 (k0_off3 k) 512 (512 * k.val) (k0_off3_eq k) (k0_off3_inb i k hc) r d (by omega)
  have h2 : k.val < 7 → ∀ r : Fin 16, _ := fun h7 r => (read_rows arg2 harg2 x0 (k0_off4 k) 16 (min (512 * k.val + 512) 4080) (k0_off4_eq k)
    (k0_off4_inb i k hc) r d (by omega)).trans (congrArg (column x0 d) (show min (512 * k.val + 512) 4080 + r.val = 512 * k.val + 512 + r.val by omega))
  rw [show _ = _ from emb_rows (k0_off3 k) (512 * k.val) (k0_off3_eq k) (k0_off3_inb i k hc) r d (by omega)]
  refine (pay2_apply k _ _ r d).trans ?_
  rw [iv_eq]
  refine (congrArg₂ (fun a b : EReal => a - b) (sum4_apply _ (fun n => part (column x0 d) 4 (512 * k.val + n)) d
    (rows_apply ⟨k.val, hk⟩ 4 (by decide) _ _ (column x0 d) d h1 h2) _ (by show r.val + 4 ≤ 528; omega)) (h1 r)).trans ?_
  unfold tile total
  simp only [Nat.add_assoc]
  refine congrArg₂ (fun a b : EReal => a - b) rfl ?_
  exact dif_pos (by omega)

theorem pieces2 (c : Dev nD) (i : grid0.Coords) (arg2 : Memref sig .tc .vmem S4096x256 .f32) (harg2 : arg2.IsWhole) (arg3 : Memref sig .tc .hbm S4096x8192 .bf16)
    (harg3 : arg3.IsWhole) (arg4 : Memref sig .tc .vmem S4096x256 .bf16) (harg4 : arg4.IsWhole) (hc : k0_cond2 i = 1#1) (x0 : Vec Ideal S4096x256 .f32) :
    ∀ n : ℕ, n ≤ k0_t2_loop.trips → ∀ p ∈ pb_k0_t2 (F := Ideal) Variants.none c none i arg2 harg2 arg3 harg3 arg4 harg4 hc (harg2.unread x0) n,
      ∀ x : p.1.shape.Idx, p.2 x = tile 4 x0 (p.1.emb x)
  | 0, _, p, hp, _ => absurd hp List.not_mem_nil
  | n + 1, hn, p, hp, x => by
    rw [pb_k0_t2_succ (F := Ideal) Variants.none c none i arg2 harg2 arg3 harg3 arg4 harg4 hc (harg2.unread x0) ⟨n, hn⟩] at hp
    rcases List.mem_append.mp hp with h | h
    · exact trip2 c i arg2 harg2 arg3 harg3 arg4 harg4 hc x0 ⟨n, hn⟩ p h x
    · exact pieces2 c i arg2 harg2 arg3 harg3 arg4 harg4 hc x0 n (Nat.le_of_succ_le hn) p h x

theorem pay3_apply (k : Fin k0_t3_loop.trips) (v16 : Vec Ideal S512x256 .f32) (v29 : Vec Ideal S16x256 .f32) (r : Fin 512) (d : Fin 256) :
    (k0_pay4 0#32 1#32 k v16 v29) (ix2 r d) = sum8 (rows (Scf.iv 0#32 1#32 k.val) 8#32 v16 v29) (ix2 (⟨r.val, by omega⟩ : Fin 528) d) - v16 (ix2 r d) := by
  show extractStridedSlice S512x256 ![0, 0] (sum8 (rows (Scf.iv 0#32 1#32 k.val) 8#32 v16 v29)) slices_S528x256_o0_0_S512x256 (ix2 r d) - v16 (ix2 r d) = _
  pointwise

theorem trip3 (c : Dev nD) (i : grid0.Coords) (arg2 : Memref sig .tc .vmem S4096x256 .f32) (harg2 : arg2.IsWhole) (arg3 : Memref sig .tc .hbm S4096x8192 .bf16)
    (harg3 : arg3.IsWhole) (arg4 : Memref sig .tc .vmem S4096x256 .bf16) (harg4 : arg4.IsWhole) (hc : k0_cond3 i = 1#1) (x0 : Vec Ideal S4096x256 .f32)
    (k : Fin k0_t3_loop.trips) :
    ∀ p ∈ tripL_k0_t3 (F := Ideal) Variants.none c none i arg2 harg2 arg3 harg3 arg4 harg4 hc (harg2.unread x0) k,
      ∀ x : p.1.shape.Idx, p.2 x = tile 8 x0 (p.1.emb x) := by
  have hk : k.val < 8 := lt_of_lt_of_le k.isLt k0_t3_abs.2.1
  unfold tripL_k0_t3 trip_k0_t3
  dsimp only
  intro p hp x
  obtain rfl := List.mem_singleton.mp hp
  obtain ⟨r, d, rfl⟩ : ∃ (r : Fin 512) (d : Fin 256), x = ix2 r d := ⟨x 0, x 1, eq_ix2 x⟩
  have h1 := fun r : Fin 512 => read_rows arg2 harg2 x0 (k0_off5 k) 512 (512 * k.val) (k0_off5_eq k) (k0_off5_inb i k hc) r d (by omega)
  have h2 : k.val < 7 → ∀ r : Fin 16, _ := fun h7 r => (read_rows arg2 harg2 x0 (k0_off6 k) 16 (min (512 * k.val + 512) 4080) (k0_off6_eq k)
    (k0_off6_inb i k hc) r d (by omega)).trans (congrArg (column x0 d) (show min (512 * k.val + 512) 4080 + r.val = 512 * k.val + 512 + r.val by omega))
  rw [show _ = _ from emb_rows (k0_off5 k) (512 * k.val) (k0_off5_eq k) (k0_off5_inb i k hc) r d (by omega)]
  refine (pay3_apply k _ _ r d).trans ?_
  rw [iv_eq]
  refine (congrArg₂ (fun a b : EReal => a - b) (sum8_apply _ (fun n => part (column x0 d) 8 (512 * k.val + n)) d
    (rows_apply ⟨k.val, hk⟩ 8 (by decide) _ _ (column x0 d) d h1 h2) _ (by show r.val + 8 ≤ 528; omega)) (h1 r)).trans ?_
  unfold tile total
  simp only [Nat.add_assoc]
  refine congrArg₂ (fun a b : EReal => a - b) rfl ?_
  exact dif_pos (by omega)

theorem pieces3 (c : Dev nD) (i : grid0.Coords) (arg2 : Memref sig .tc .vmem S4096x256 .f32) (harg2 : arg2.IsWhole) (arg3 : Memref sig .tc .hbm S4096x8192 .bf16)
    (harg3 : arg3.IsWhole) (arg4 : Memref sig .tc .vmem S4096x256 .bf16) (harg4 : arg4.IsWhole) (hc : k0_cond3 i = 1#1) (x0 : Vec Ideal S4096x256 .f32) :
    ∀ n : ℕ, n ≤ k0_t3_loop.trips → ∀ p ∈ pb_k0_t3 (F := Ideal) Variants.none c none i arg2 harg2 arg3 harg3 arg4 harg4 hc (harg2.unread x0) n,
      ∀ x : p.1.shape.Idx, p.2 x = tile 8 x0 (p.1.emb x)
  | 0, _, p, hp, _ => absurd hp List.not_mem_nil
  | n + 1, hn, p, hp, x => by
    rw [pb_k0_t3_succ (F := Ideal) Variants.none c none i arg2 harg2 arg3 harg3 arg4 harg4 hc (harg2.unread x0) ⟨n, hn⟩] at hp
    rcases List.mem_append.mp hp with h | h
    · exact trip3 c i arg2 harg2 arg3 harg3 arg4 harg4 hc x0 ⟨n, hn⟩ p h x
    · exact pieces3 c i arg2 harg2 arg3 harg3 arg4 harg4 hc x0 n (Nat.le_of_succ_le hn) p h x

theorem pay4_apply (k : Fin k0_t4_loop.trips) (v16 : Vec Ideal S512x256 .f32) (v29 : Vec Ideal S16x256 .f32) (r : Fin 512) (d : Fin 256) :
    (k0_pay2 v16 (k0_pay5 0#32 1#32 k v16 v29)) (ix2 r d) = sum16 (rows (Scf.iv 0#32 1#32 k.val) 16#32 v16 v29) (ix2 (⟨r.val, by omega⟩ : Fin 528) d) - v16 (ix2 r d) := by
  show extractStridedSlice S512x256 ![0, 0] (sum16 (rows (Scf.iv 0#32 1#32 k.val) 16#32 v16 v29)) slices_S528x256_o0_0_S512x256 (ix2 r d) - v16 (ix2 r d) = _
  pointwise

theorem trip4 (c : Dev nD) (i : grid0.Coords) (arg2 : Memref sig .tc .vmem S4096x256 .f32) (harg2 : arg2.IsWhole) (arg3 : Memref sig .tc .hbm S4096x8192 .bf16)
    (harg3 : arg3.IsWhole) (arg4 : Memref sig .tc .vmem S4096x256 .bf16) (harg4 : arg4.IsWhole) (hc : k0_cond4 i = 1#1) (x0 : Vec Ideal S4096x256 .f32)
    (k : Fin k0_t4_loop.trips) :
    ∀ p ∈ tripL_k0_t4 (F := Ideal) Variants.none c none i arg2 harg2 arg3 harg3 arg4 harg4 hc (harg2.unread x0) k,
      ∀ x : p.1.shape.Idx, p.2 x = tile 16 x0 (p.1.emb x) := by
  have hk : k.val < 8 := lt_of_lt_of_le k.isLt k0_t4_abs.2.1
  unfold tripL_k0_t4 trip_k0_t4
  dsimp only
  intro p hp x
  obtain rfl := List.mem_singleton.mp hp
  obtain ⟨r, d, rfl⟩ : ∃ (r : Fin 512) (d : Fin 256), x = ix2 r d := ⟨x 0, x 1, eq_ix2 x⟩
  have h1 := fun r : Fin 512 => read_rows arg2 harg2 x0 (k0_off7 k) 512 (512 * k.val) (k0_off7_eq k) (k0_off7_inb i k hc) r d (by omega)
  have h2 : k.val < 7 → ∀ r : Fin 16, _ := fun h7 r => (read_rows arg2 harg2 x0 (k0_off8 k) 16 (min (512 * k.val + 512) 4080) (k0_off8_eq k)
    (k0_off8_inb i k hc) r d (by omega)).trans (congrArg (column x0 d) (show min (512 * k.val + 512) 4080 + r.val = 512 * k.val + 512 + r.val by omega))
  rw [show _ = _ from emb_rows (k0_off7 k) (512 * k.val) (k0_off7_eq k) (k0_off7_inb i k hc) r d (by omega)]
  refine (pay4_apply k _ _ r d).trans ?_
  rw [iv_eq]
  refine (congrArg₂ (fun a b : EReal => a - b) (sum16_apply _ (fun n => part (column x0 d) 16 (512 * k.val + n)) d
    (rows_apply ⟨k.val, hk⟩ 16 (by decide) _ _ (column x0 d) d h1 h2) _ (by show r.val + 16 ≤ 528; omega)) (h1 r)).trans ?_
  unfold tile total
  simp only [Nat.add_assoc]
  refine congrArg₂ (fun a b : EReal => a - b) rfl ?_
  exact dif_pos (by omega)

theorem pieces4 (c : Dev nD) (i : grid0.Coords) (arg2 : Memref sig .tc .vmem S4096x256 .f32) (harg2 : arg2.IsWhole) (arg3 : Memref sig .tc .hbm S4096x8192 .bf16)
    (harg3 : arg3.IsWhole) (arg4 : Memref sig .tc .vmem S4096x256 .bf16) (harg4 : arg4.IsWhole) (hc : k0_cond4 i = 1#1) (x0 : Vec Ideal S4096x256 .f32) :
    ∀ n : ℕ, n ≤ k0_t4_loop.trips → ∀ p ∈ pb_k0_t4 (F := Ideal) Variants.none c none i arg2 harg2 arg3 harg3 arg4 harg4 hc (harg2.unread x0) n,
      ∀ x : p.1.shape.Idx, p.2 x = tile 16 x0 (p.1.emb x)
  | 0, _, p, hp, _ => absurd hp List.not_mem_nil
  | n + 1, hn, p, hp, x => by
    rw [pb_k0_t4_succ (F := Ideal) Variants.none c none i arg2 harg2 arg3 harg3 arg4 harg4 hc (harg2.unread x0) ⟨n, hn⟩] at hp
    rcases List.mem_append.mp hp with h | h
    · exact trip4 c i arg2 harg2 arg3 harg3 arg4 harg4 hc x0 ⟨n, hn⟩ p h x
    · exact pieces4 c i arg2 harg2 arg3 harg3 arg4 harg4 hc x0 n (Nat.le_of_succ_le hn) p h x

theorem outA (c : Dev nD) (i : grid0.Coords) (arg2 : Memref sig .tc .vmem S4096x256 .f32) (harg2 : arg2.IsWhole) (arg4 : Memref sig .tc .vmem S4096x256 .bf16)
    (harg4 : arg4.IsWhole) (hc0 : cond0_0 i) (hc1 : ¬cond0_1 i) (hc2 : ¬cond0_2 i) (hc3 : ¬cond0_3 i) (x0 : Vec Ideal S4096x256 .f32) :
    out0_A_1 c i arg2 harg2 arg4 harg4 hc0 hc1 hc2 hc3 x0 = tile 2 x0 := by
  funext y
  have hcov := cover0_A_1 (F := Ideal) c i arg2 harg2 arg4 harg4 hc0 hc1 hc2 hc3 x0 y
  have h := View.canon_append_of_pieces (tile 2 x0) [] (kernelRun0_A c i arg2 harg2 arg4 harg4 hc0 hc1 hc2 hc3 x0).1
    (pieces1 c i arg2 harg2 (Memref.whole main_arg1) (Memref.isWhole_whole _) arg4 harg4 hc0 x0 _ (le_refl _)) y hcov
  rw [List.append_nil] at h
  exact (View.read_writes_apply_eq_canon _ _ y _ hcov).trans h

theorem outB (c : Dev nD) (i : grid0.Coords) (arg2 : Memref sig .tc .vmem S4096x256 .f32) (harg2 : arg2.IsWhole) (arg4 : Memref sig .tc .vmem S4096x256 .bf16)
    (harg4 : arg4.IsWhole) (hc0 : ¬cond0_0 i) (hc1 : cond0_1 i) (hc2 : ¬cond0_2 i) (hc3 : ¬cond0_3 i) (x0 : Vec Ideal S4096x256 .f32) :
    out0_B_1 c i arg2 harg2 arg4 harg4 hc0 hc1 hc2 hc3 x0 = tile 4 x0 := by
  funext y
  have hcov := cover0_B_1 (F := Ideal) c i arg2 harg2 arg4 harg4 hc0 hc1 hc2 hc3 x0 y
  have h := View.canon_append_of_pieces (tile 4 x0) [] (kernelRun0_B c i arg2 harg2 arg4 harg4 hc0 hc1 hc2 hc3 x0).1
    (pieces2 c i arg2 harg2 (Memref.whole main_arg1) (Memref.isWhole_whole _) arg4 harg4 hc1 x0 _ (le_refl _)) y hcov
  rw [List.append_nil] at h
  exact (View.read_writes_apply_eq_canon _ _ y _ hcov).trans h

theorem outC (c : Dev nD) (i : grid0.Coords) (arg2 : Memref sig .tc .vmem S4096x256 .f32) (harg2 : arg2.IsWhole) (arg4 : Memref sig .tc .vmem S4096x256 .bf16)
    (harg4 : arg4.IsWhole) (hc0 : ¬cond0_0 i) (hc1 : ¬cond0_1 i) (hc2 : cond0_2 i) (hc3 : ¬cond0_3 i) (x0 : Vec Ideal S4096x256 .f32) :
    out0_C_1 c i arg2 harg2 arg4 harg4 hc0 hc1 hc2 hc3 x0 = tile 8 x0 := by
  funext y
  have hcov := cover0_C_1 (F := Ideal) c i arg2 harg2 arg4 harg4 hc0 hc1 hc2 hc3 x0 y
  have h := View.canon_append_of_pieces (tile 8 x0) [] (kernelRun0_C c i arg2 harg2 arg4 harg4 hc0 hc1 hc2 hc3 x0).1
    (pieces3 c i arg2 harg2 (Memref.whole main_arg1) (Memref.isWhole_whole _) arg4 harg4 hc2 x0 _ (le_refl _)) y hcov
  rw [List.append_nil] at h
  exact (View.read_writes_apply_eq_canon _ _ y _ hcov).trans h

theorem outD (c : Dev nD) (i : grid0.Coords) (arg2 : Memref sig .tc .vmem S4096x256 .f32) (harg2 : arg2.IsWhole) (arg4 : Memref sig .tc .vmem S4096x256 .bf16)
    (harg4 : arg4.IsWhole) (hc0 : ¬cond0_0 i) (hc1 : ¬cond0_1 i) (hc2 : ¬cond0_2 i) (hc3 : cond0_3 i) (x0 : Vec Ideal S4096x256 .f32) :
    out0_D_1 c i arg2 harg2 arg4 harg4 hc0 hc1 hc2 hc3 x0 = tile 16 x0 := by
  funext y
  have hcov := cover0_D_1 (F := Ideal) c i arg2 harg2 arg4 harg4 hc0 hc1 hc2 hc3 x0 y
  have h := View.canon_append_of_pieces (tile 16 x0) [] (kernelRun0_D c i arg2 harg2 arg4 harg4 hc0 hc1 hc2 hc3 x0).1
    (pieces4 c i arg2 harg2 (Memref.whole main_arg1) (Memref.isWhole_whole _) arg4 harg4 hc3 x0 _ (le_refl _)) y hcov
  rw [List.append_nil] at h
  exact (View.read_writes_apply_eq_canon _ _ y _ hcov).trans h

variable (m : (ℓ : Loc nD τ sig) → Buf (Elt Ideal) ℓ) (c : Dev nD)

/-- The incoming gradient and the array that the result is laid into, read as extended reals. -/
def dmix (i q : Fin 4096) : EReal := m (c, Proc.devRef .tc main_arg0) (ix2 i q)
def rest (i : Fin 4096) (q : Fin 8192) : EReal := m (c, Proc.devRef .tc main_arg1) (ix2 i q)

/-- A column of the incoming gradient. -/
def dcol (q : Fin 4096) (n : ℕ) : EReal := if h : n < 4096 then dmix m c ⟨n, h⟩ q else 0

/-- The gradient in front of the pooling: the windows that hold the row, less the row itself. -/
def du (i q : Fin 4096) : EReal := total (dcol m c q) (2 ^ (q.val / 1024 + 1)) i.val - dmix m c i q

theorem idx : ∀ t : Fin cfg0.N, win0_0.index t = ![0, t.val] ∧ win0_1.index t = ![0, t.val] := by
  decide +kernel

theorem point_lt (t : Fin cfg0.N) : t.val < 16 := lt_of_lt_of_eq t.isLt (show cfg0.N = 16 from N_0)

/-- Column `b` of the block that point `t` works on. -/
def col (t : Fin cfg0.N) (b : Fin 256) : Fin 4096 := ⟨t.val * 256 + b.val, by have := point_lt t; omega⟩

theorem blk0 (t : Fin cfg0.N) (i : Fin 4096) (b : Fin 256) : iblk m c 0 t (ix2 i b) = dmix m c i (col t b) := by
  have h : ∀ i q, V m c main_arg0 (ix2 i q) = dmix m c i q := fun i q => by
    unfold_abbrev_sides; after_results; rfl
  rw [← h]
  blk_ext [iblk, V, col, (idx t).1]

theorem emb1 (t : Fin cfg0.N) (i : Fin 4096) (b : Fin 256) :
    ((cfg0.win 1).blk t).view.emb (ix2 i b) = ix2 i (⟨(col t b).val, by have := (col t b).isLt; omega⟩ : Fin 8192) := by
  blk_ext [col, (idx t).2]

theorem flush1 (t : Fin cfg0.N) : (cfg0.win 1).flush t = true := (by decide +kernel : ∀ t : Fin cfg0.N, (cfg0.win 1).flush t = true) t

theorem out1 (t : Fin cfg0.N) : outsAt0 m c t.val t.isLt = tile (2 ^ (t.val / 4 + 1)) (iblk m c 0 t) := by
  have ht := point_lt t
  by_cases h0 : t.val < 4
  · rw [outsAt0_A m c t h0 (by omega) (by omega) (by omega), outA, show t.val / 4 = 0 by omega]; rfl
  · by_cases h1 : t.val < 8
    · rw [outsAt0_B m c t h0 (by omega) (by omega) (by omega), outB, show t.val / 4 = 1 by omega]; rfl
    · by_cases h2 : t.val < 12
      · rw [outsAt0_C m c t h0 (by omega) (by omega) (by omega), outC, show t.val / 4 = 2 by omega]; rfl
      · rw [outsAt0_D m c t h0 (by omega) (by omega) (by omega), outD, show t.val / 4 = 3 by omega]; rfl

/-- The result's pooled half. -/
theorem arr1 (i q : Fin 4096) : (dats m 0 c).arrAt 1 cfg0.N (ix2 i (⟨q.val, by omega⟩ : Fin 8192)) = du m c i q := by
  have hq := q.isLt
  obtain ⟨t, b, hc⟩ : ∃ (t : Fin cfg0.N) (b : Fin 256), col t b = q :=
    ⟨⟨q.val / 256, show _ < grid0.N by rw [N_0]; omega⟩, ⟨q.val % 256, by omega⟩, Fin.ext (show q.val / 256 * 256 + q.val % 256 = q.val by omega)⟩
  subst hc
  have h := congrFun (Value.blocks1 m c t (flush1 t)) (ix2 i b)
  refine (congrArg ((dats m 0 c).arrAt 1 cfg0.N) (emb1 t i b)).symm.trans (h.trans ?_)
  rw [Value.flushed1, out1]
  show tile (2 ^ (t.val / 4 + 1)) (iblk m c 0 t) (ix2 i b) = _
  have hb := b.isLt
  have e : column (iblk m c 0 t) b = dcol m c (col t b) := funext fun n => by
    unfold column dcol
    split
    · exact blk0 m c t _ b
    · rfl
  unfold tile du
  rw [show (col t b).val / 1024 = t.val / 4 from show (t.val * 256 + b.val) / 1024 = t.val / 4 by omega, ← e, ← blk0]
  rfl

/-- The result's other half, which is as it was. -/
theorem arr1_rest (i : Fin 4096) (q : Fin 8192) (hq : 4096 ≤ q.val) : (dats m 0 c).arrAt 1 cfg0.N (ix2 i q) = rest m c i q := by
  rw [Value.entry1 m c (ix2 i q) fun t _ hm => by
    obtain ⟨y, _, hy⟩ := Finset.mem_map.mp hm
    obtain ⟨i0, b, rfl⟩ : ∃ (i0 : Fin 4096) (b : Fin 256), y = ix2 i0 b := ⟨y 0, y 1, eq_ix2 y⟩
    have h := congrArg Fin.val (congrFun ((emb1 t i0 b).symm.trans hy) 1)
    have h2 : (col t b).val = q.val := h
    have := (col t b).isLt
    omega]
  unfold_abbrev_sides; after_results; rfl

end Cert.Kernel3Ideal.Pool
-- ==== Proof.PoolRef.lean ====
/-
  The pooling's backward pass: what the reference's result array holds, index by index.
-/
module

public import proofs.«01_k».proof.Proof.Gen.Reference3Ideal.Read
public import proofs.«01_k».proof.Proof.Window
public import Idealize.ShloMosaic.Lib.Pipeline.ValueKit
public import Idealize.ShloMosaic.Lib.Pointwise

@[expose] public section

set_option maxRecDepth 16384

noncomputable section

namespace Cert.Reference3Ideal.Pool

open Cert.Reference3Ideal Cert.Reference3Ideal.Gen Cert.Reference3Ideal.Read Idealize.ShloMosaic Idealize.ShloMosaic.TcCoe Idealize.SL.Sem
open Cert.Window (part total)

variable (x : FVec Ideal S4096x4096 .f32)

/-- Column `d` of window group `g`. -/
def gcol (g : Fin 4) (d : Fin 1024) (n : ℕ) : EReal := if h : n < 4096 then x (ix2 (⟨n, h⟩ : Fin 4096) (⟨g.val * 1024 + d.val, by omega⟩ : Fin 4096)) else 0

theorem gcol_of_lt (g : Fin 4) (d : Fin 1024) (n : Fin 4096) : gcol x g d n.val = x (ix2 n (⟨g.val * 1024 + d.val, by omega⟩ : Fin 4096)) := dif_pos n.isLt

theorem count' (n : Fin 4096) (W : ℕ) (hW : W < 2 ^ 20) :
    FloatOps.sitofp (F := Ideal) FTy.f32 (IntOp.minsi (IntOp.addi 1#32 (BitVec.ofNat 32 n.val)) (BitVec.ofNat 32 W)) = (((min (n.val + 1) W : ℕ) : ℝ) : EReal) := by
  have h : IntOp.addi 1#32 (BitVec.ofNat 32 n.val) = BitVec.ofNat 32 n.val + 1#32 := BitVec.add_comm _ _
  rw [h]
  exact congrArg (fun r : ℝ => (r : EReal)) (Cert.Window.count n.val W (by have := n.isLt; omega) hW)

theorem v74 (n : Fin 4096) (d : Fin 1024) : val_main_v74 (F := Ideal) x (ix3 0 n d) = part (gcol x 3 d) 16 n.val := by
  delta val_main_v74 val_main_v72 val_main_v71 val_main_v63 val_main_v73 val_main_v53 val_main_v52 val_main_v51 val_main_v4 val_main_v3 val_main_v2 val_main_c val_main_c_11
  pointwise
  unfold part
  rw [if_pos n.isLt, gcol_of_lt, ← count' n 16 (by decide)]
  rfl

theorem v79 (n : Fin 4096) (d : Fin 1024) :
    val_main_v79 (F := Ideal) x (ix3 0 n d) = part (gcol x 3 d) 16 n.val + -part (gcol x 3 d) 16 (n.val + 16) := by
  have hn := n.isLt
  delta val_main_v79 val_main_v78 val_main_v77 val_main_v75 val_main_cst_12
  pointwise
  refine congrArg₂ (fun a b : EReal => a + b) (v74 x n d) ?_
  by_cases h : n.val + 16 < 4096
  · refine (dif_pos (show n.val < 4080 by omega)).trans (congrArg (fun a : EReal => -a) ?_)
    rw [v74]
    exact congrArg (part _ 16) (Nat.add_comm 16 n.val)
  · refine (dif_neg (show ¬n.val < 4080 by omega)).trans ?_
    unfold part
    rw [if_neg h, neg_zero]

theorem v83 (n : Fin 4096) (d : Fin 1024) : val_main_v83 (F := Ideal) x (ix3 0 n d) = part (gcol x 2 d) 8 n.val := by
  delta val_main_v83 val_main_v70 val_main_v69 val_main_v63 val_main_v82 val_main_v40 val_main_v39 val_main_v38 val_main_v37 val_main_v4 val_main_v3 val_main_v2 val_main_c val_main_c_8
  pointwise
  unfold part
  rw [if_pos n.isLt, gcol_of_lt, ← count' n 8 (by decide)]
  rfl

theorem v88 (n : Fin 4096) (d : Fin 1024) :
    val_main_v88 (F := Ideal) x (ix3 0 n d) = part (gcol x 2 d) 8 n.val + -part (gcol x 2 d) 8 (n.val + 8) := by
  have hn := n.isLt
  delta val_main_v88 val_main_v87 val_main_v86 val_main_v84 val_main_cst_14
  pointwise
  refine congrArg₂ (fun a b : EReal => a + b) (v83 x n d) ?_
  by_cases h : n.val + 8 < 4096
  · refine (dif_pos (show n.val < 4088 by omega)).trans (congrArg (fun a : EReal => -a) ?_)
    rw [v83]
    exact congrArg (part _ 8) (Nat.add_comm 8 n.val)
  · refine (dif_neg (show ¬n.val < 4088 by omega)).trans ?_
    unfold part
    rw [if_neg h, neg_zero]

theorem v93 (n : Fin 4096) (d : Fin 1024) : val_main_v93 (F := Ideal) x (ix3 0 n d) = part (gcol x 1 d) 4 n.val := by
  delta val_main_v93 val_main_v68 val_main_v67 val_main_v63 val_main_v92 val_main_v27 val_main_v26 val_main_v25 val_main_v24 val_main_v4 val_main_v3 val_main_v2 val_main_c val_main_c_5
  pointwise
  unfold part
  rw [if_pos n.isLt, gcol_of_lt, ← count' n 4 (by decide)]
  rfl

theorem v98 (n : Fin 4096) (d : Fin 1024) :
    val_main_v98 (F := Ideal) x (ix3 0 n d) = part (gcol x 1 d) 4 n.val + -part (gcol x 1 d) 4 (n.val + 4) := by
  have hn := n.isLt
  delta val_main_v98 val_main_v97 val_main_v96 val_main_v94 val_main_cst_16
  pointwise
  refine congrArg₂ (fun a b : EReal => a + b) (v93 x n d) ?_
  by_cases h : n.val + 4 < 4096
  · refine (dif_pos (show n.val < 4092 by omega)).trans (congrArg (fun a : EReal => -a) ?_)
    rw [v93]
    exact congrArg (part _ 4) (Nat.add_comm 4 n.val)
  · refine (dif_neg (show ¬n.val < 4092 by omega)).trans ?_
    unfold part
    rw [if_neg h, neg_zero]

theorem v103 (n : Fin 4096) (d : Fin 1024) : val_main_v103 (F := Ideal) x (ix3 0 n d) = part (gcol x 0 d) 2 n.val := by
  delta val_main_v103 val_main_v66 val_main_v65 val_main_v63 val_main_v102 val_main_v14 val_main_v13 val_main_v12 val_main_v11 val_main_v4 val_main_v3 val_main_v2 val_main_c val_main_c_2
  pointwise
  unfold part
  rw [if_pos n.isLt, gcol_of_lt, ← count' n 2 (by decide)]
  exact congrArg (fun q : Fin 4096 => Ideal.div (x (ix2 n q)) _) (Fin.ext (Nat.zero_add _).symm)

theorem v108 (n : Fin 4096) (d : Fin 1024) :
    val_main_v108 (F := Ideal) x (ix3 0 n d) = part (gcol x 0 d) 2 n.val + -part (gcol x 0 d) 2 (n.val + 2) := by
  have hn := n.isLt
  delta val_main_v108 val_main_v107 val_main_v106 val_main_v104 val_main_cst_18
  pointwise
  refine congrArg₂ (fun a b : EReal => a + b) (v103 x n d) ?_
  by_cases h : n.val + 2 < 4096
  · refine (dif_pos (show n.val < 4094 by omega)).trans (congrArg (fun a : EReal => -a) ?_)
    rw [v103]
    exact congrArg (part _ 2) (Nat.add_comm 2 n.val)
  · refine (dif_neg (show ¬n.val < 4094 by omega)).trans ?_
    unfold part
    rw [if_neg h, neg_zero]

/-- How many rows a window of each group holds. -/
def wide (g : Fin 4) : ℕ := 2 ^ (g.val + 1)

theorem v111_0 (n : Fin 4096) (d : Fin 1024) :
    val_main_v111 (F := Ideal) x (ix4 0 n 0 d) = part (gcol x 0 d) 2 n.val + -part (gcol x 0 d) 2 (n.val + 2) := by
  rw [← v108]
  delta val_main_v111 val_main_v110 val_main_v109 val_main_v101 val_main_v100 val_main_v99 val_main_v91 val_main_v90 val_main_v89 val_main_v81 val_main_v80 val_main_cst_13 val_main_cst_15 val_main_cst_17 val_main_cst_19
  pointwise

theorem v111_1 (n : Fin 4096) (d : Fin 1024) :
    val_main_v111 (F := Ideal) x (ix4 0 n 1 d) = part (gcol x 1 d) 4 n.val + -part (gcol x 1 d) 4 (n.val + 4) := by
  rw [← v98]
  delta val_main_v111 val_main_v110 val_main_v109 val_main_v101 val_main_v100 val_main_v99 val_main_v91 val_main_v90 val_main_v89 val_main_v81 val_main_v80 val_main_cst_13 val_main_cst_15 val_main_cst_17 val_main_cst_19
  pointwise

theorem v111_2 (n : Fin 4096) (d : Fin 1024) :
    val_main_v111 (F := Ideal) x (ix4 0 n 2 d) = part (gcol x 2 d) 8 n.val + -part (gcol x 2 d) 8 (n.val + 8) := by
  rw [← v88]
  delta val_main_v111 val_main_v110 val_main_v109 val_main_v101 val_main_v100 val_main_v99 val_main_v91 val_main_v90 val_main_v89 val_main_v81 val_main_v80 val_main_cst_13 val_main_cst_15 val_main_cst_17 val_main_cst_19
  pointwise

theorem v111_3 (n : Fin 4096) (d : Fin 1024) :
    val_main_v111 (F := Ideal) x (ix4 0 n 3 d) = part (gcol x 3 d) 16 n.val + -part (gcol x 3 d) 16 (n.val + 16) := by
  rw [← v79]
  delta val_main_v111 val_main_v110 val_main_v109 val_main_v101 val_main_v100 val_main_v99 val_main_v91 val_main_v90 val_main_v89 val_main_v81 val_main_v80 val_main_cst_13 val_main_cst_15 val_main_cst_17 val_main_cst_19
  pointwise

theorem v111 (n : Fin 4096) (g : Fin 4) (d : Fin 1024) :
    val_main_v111 (F := Ideal) x (ix4 0 n g d) = part (gcol x g d) (wide g) n.val + -part (gcol x g d) (wide g) (n.val + wide g) := by
  match g with
  | ⟨0, _⟩ => exact v111_0 x n d
  | ⟨1, _⟩ => exact v111_1 x n d
  | ⟨2, _⟩ => exact v111_2 x n d
  | ⟨3, _⟩ => exact v111_3 x n d

theorem v112 (hx : ∀ i q, ∃ r : ℝ, x (ix2 i q) = (r : EReal)) (n : Fin 4096) (g : Fin 4) (d : Fin 1024) :
    val_main_v112 (F := Ideal) x (ix4 0 n g d) = total (gcol x g d) (wide g) n.val := by
  have e := Cert.Window.sum_from (val_main_v111 (F := Ideal) x)
    reduceWindows_S1x4096x4x1024_S1x4096x4x1024_w1s1p0_0_w4096s1p0_4095_w1s1p0_0_w1s1p0_0 (fun _ => val_main_call1_call0_v0 (F := Ideal) (Shape.Idx.first h_S_))
    (fun _ => by delta val_main_call1_call0_v0 val_main_call1_call0_cst; pointwise) h_S_ n g d
  delta val_main_v112 Host.reduceWindowAdd
  show Ideal.hostReduceWindowAdd _ _ _ _ _ (val_main_v111 (F := Ideal) x) _ _ = _
  delta Ideal.hostReduceWindowAdd
  rw [e]
  rw [← Cert.Window.total_eq (gcol x g d) (fun k => by
    unfold gcol
    split
    · exact hx _ _
    · exact ⟨0, EReal.coe_zero.symm⟩) (wide g) (by unfold wide; positivity) n.val]
  refine Finset.sum_congr rfl fun i _ => ?_
  by_cases h : n.val + i.val < 4096
  · rw [dif_pos h, if_pos h, v111]
  · rw [dif_neg h, if_neg h]

/-- The pooled half of the result. -/
theorem v117 (y : FVec Ideal S4096x8192 .bf16) (hx : ∀ i q, ∃ r : ℝ, x (ix2 i q) = (r : EReal)) (n : Fin 4096) (g : Fin 4) (d : Fin 1024) :
    val_main_v117 (F := Ideal) x y (ix2 n (⟨g.val * 1024 + d.val, by omega⟩ : Fin 8192)) =
      total (gcol x g d) (wide g) n.val - x (ix2 n (⟨g.val * 1024 + d.val, by omega⟩ : Fin 4096)) := by
  delta val_main_v117 val_main_v115 val_main_v114 val_main_v113 val_main_v64 val_main_v63
  pointwise
  refine (dif_pos (show g.val * 1024 + d.val < 4096 by omega)).trans ?_
  rw [v112 x hx]
  exact (add_comm (_ : EReal) _).trans (sub_eq_add_neg _ _).symm

/-- The other half. -/
theorem v117_rest (y : FVec Ideal S4096x8192 .bf16) (n : Fin 4096) (q : Fin 8192) (hq : 4096 ≤ q.val) :
    val_main_v117 (F := Ideal) x y (ix2 n q) = y (ix2 n q) := by
  delta val_main_v117 val_main_v116
  pointwise
  refine (dif_neg (by omega)).trans (congrArg (fun k => y (ix2 n k)) (Fin.ext ?_))
  show 4096 + (q.val - 4096) = q.val
  omega

end Cert.Reference3Ideal.Pool
-- ==== Proof.PoolClaim.lean ====
/-
  The claims about the backward pass of the pooling over windows of two, four, eight and sixteen rows.
-/
module

public import proofs.«01_k».proof.Defs
public import proofs.«01_k».proof.Proof.Gen.Kernel3.Frame
public import proofs.«01_k».proof.Proof.Lemmas
public import proofs.«01_k».proof.Proof.PoolKer
public import proofs.«01_k».proof.Proof.PoolRef

@[expose] public section

set_option maxRecDepth 16384

noncomputable section

namespace Cert.Pool

open Idealize.ShloMosaic Idealize.SL.Sem

/-- The precondition's shape facts. -/
theorem preFacts : Cert.Pre_finite3.Facts := ⟨by decide⟩

theorem frame_kernel : Cert.quiescent_Kernel3 (hKernel3 := Cert.Kernel3.Gen.facts) := fun m ρ _ => Cert.Kernel3.Gen.frame m ρ
theorem frame_ideal : Cert.quiescent_Kernel3Ideal (hKernel3Ideal := Cert.Kernel3Ideal.Gen.facts) := fun m ρ _ => Cert.Kernel3Ideal.Gen.frame m ρ
theorem frame_ideal_pre : Cert.quiescent_Kernel3Ideal_pre_finite3 (hKernel3Ideal := Cert.Kernel3Ideal.Gen.facts) (hPre_finite3 := preFacts) :=
  fun m ρ _ => Cert.Kernel3Ideal.Gen.frame m ρ
theorem frame_reference : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)
theorem frame_reference_pre : Cert.quiescent_Reference3Ideal_pre_finite3 (hReference3Ideal := Cert.Reference3Ideal.Gen.facts) (hPre_finite3 := preFacts) :=
  fun m ρ _ => frame_reference m ρ trivial

attribute [local instance] preFacts

section Values

variable (m : (ℓ : Loc Cert.Kernel3Ideal.nD Cert.Kernel3Ideal.τ Cert.Kernel3Ideal.sig) → Buf (Elt Ideal) ℓ)

open Cert.Kernel3Ideal Cert.Kernel3Ideal.Pool

/-- The precondition, read: the incoming gradient's entries are real numbers. -/
theorem real_arg (h : Cert.Pre_Kernel3Ideal_finite3 m) (c : Dev nD) (i q : Fin 4096) : ∃ r : ℝ, dmix m c i q = (r : EReal) :=
  Cert.Shared.real_of_abs_lt (congrFun (h c) (ix2 i q))

/-- The reference's columns, counted group by group, are the kernel's. -/
theorem gcol_eq (c : Dev nD) (q : Fin 4096) (g : Fin 4) (d : Fin 1024) (hq : g.val * 1024 + d.val = q.val) :
    Cert.Reference3Ideal.Pool.gcol (m (c, Proc.devRef .tc main_arg0)) g d = dcol m c q := by
  funext n
  unfold Cert.Reference3Ideal.Pool.gcol dcol
  refine dite_congr rfl (fun h => ?_) fun _ => rfl
  exact congrArg (fun k => m (c, Proc.devRef .tc main_arg0) (ix2 (⟨n, h⟩ : Fin 4096) k)) (Fin.ext hq)

theorem pooled (h : Cert.Pre_Kernel3Ideal_finite3 m) (c : Dev nD) (i q : Fin 4096) :
    Cert.Reference3Ideal.Read.val_main_v117 (F := Ideal) (m (c, Proc.devRef .tc main_arg0)) (m (c, Proc.devRef .tc main_arg1))
      (ix2 i (⟨q.val, by omega⟩ : Fin 8192)) = du m c i q := by
  have hq : (⟨q.val / 1024, by omega⟩ : Fin 4).val * 1024 + (⟨q.val % 1024, by omega⟩ : Fin 1024).val = q.val :=
    show q.val / 1024 * 1024 + q.val % 1024 = q.val by omega
  have e := Cert.Reference3Ideal.Pool.v117 (m (c, Proc.devRef .tc main_arg0)) (m (c, Proc.devRef .tc main_arg1)) (real_arg m h c) i
    ⟨q.val / 1024, by omega⟩ ⟨q.val % 1024, by omega⟩
  rw [gcol_eq m c q _ _ hq] at e
  refine (congrArg (fun k => Cert.Reference3Ideal.Read.val_main_v117 (F := Ideal) (m (c, Proc.devRef .tc main_arg0))
    (m (c, Proc.devRef .tc main_arg1)) (ix2 i k)) (Fin.ext hq.symm)).trans (e.trans ?_)
  exact congrArg (fun k => Cert.Window.total (dcol m c q) (2 ^ (q.val / 1024 + 1)) i.val - m (c, Proc.devRef .tc main_arg0) (ix2 i k)) (Fin.ext hq)

theorem result (h : Cert.Pre_Kernel3Ideal_finite3 m) (c : Dev nD) :
    Cert.Reference3Ideal.Read.val_main_v117 (F := Ideal) (m (c, Proc.devRef .tc main_arg0)) (m (c, Proc.devRef .tc main_arg1)) =
      (Gen.dats m 0 c).arrAt 1 cfg0.N := by
  funext j
  idx_vars j
  by_cases hq : j1.val < 4096
  · exact (pooled m h c j0 ⟨j1.val, hq⟩).trans (arr1 m c j0 ⟨j1.val, hq⟩).symm
  · exact (Cert.Reference3Ideal.Pool.v117_rest _ _ j0 j1 (by omega)).trans (arr1_rest m c j0 j1 (by omega)).symm

end Values

theorem value : Cert.algebraic_Kernel3Ideal_Reference3Ideal_pre_finite3 (hKernel3Ideal := Cert.Kernel3Ideal.Gen.facts)
    (hReference3Ideal := Cert.Reference3Ideal.Gen.facts) (hPre_finite3 := preFacts) := fun m ρ m' ρ' hpre hag =>
  ⟨fun c => (Cert.Kernel3Ideal.Gen.dats m 0 c).arrAt 1 Cert.Kernel3Ideal.cfg0.N, Cert.Kernel3Ideal.Value.run_blocks m ρ,
    (θ_run _ _ _).mono (fun _ h c => ⟨by
        rw [(h c).1, Cert.Reference3Ideal.Read.val_main_v117_eq, (hag c).1, (hag c).2]
        exact result m hpre c, (h c).2⟩) (Cert.Reference3Ideal.Value.run m' ρ')⟩

end Cert.Pool
-- ==== Proof.Gate.lean ====
/-
  The logistic function over the extended reals, and the derivative of a gate's `z · σ(z)` in its two written forms.
-/
module

public import Idealize.ShloMosaic.Lib.Pointwise
public import proofs.«01_k».proof.Proof.Lemmas

@[expose] public section

noncomputable section

namespace Cert.Gate

open Idealize.ShloMosaic

/-- The logistic function. -/
def logis (z : EReal) : EReal := Ideal.div 1 (1 + Ideal.exp (0 - z))

theorem logis_bot : logis ⊥ = 0 := by
  unfold logis
  rw [show (0 : EReal) - ⊥ = ⊤ by rfl]
  show Ideal.div 1 (1 + ⊤) = 0
  rw [show (1 : EReal) + ⊤ = ⊤ by rfl]
  simp [Ideal.div]

theorem logis_top : logis ⊤ = 1 := by
  unfold logis
  rw [show (0 : EReal) - ⊤ = ⊥ by rfl]
  show Ideal.div 1 (1 + 0) = 1
  rw [add_zero]
  exact (Cert.Shared.div_coe (a := 1) one_ne_zero).trans (by norm_num)

theorem logis_coe (r : ℝ) : ∃ s : ℝ, logis r = (s : EReal) := by
  refine ⟨1 / (1 + Real.exp (0 - r)), ?_⟩
  have h : (1 + Real.exp (0 - r)) ≠ 0 := by positivity
  exact (show logis r = Ideal.div ((1 : ℝ) : EReal) ((1 + Real.exp (0 - r) : ℝ) : EReal) by
    unfold logis; rw [EReal.coe_add]; rfl).trans (Cert.Shared.div_coe h)

/-- The gradient that passes a gate, in the two written forms: `a` is the real number it multiplies. -/
theorem dsilu_eq (a : ℝ) (z : EReal) :
    (a : EReal) * (logis z * (1 + z * (1 - logis z))) = a * logis z + z * a * (logis z * (1 - logis z)) := by
  induction z with
  | bot => simp [logis_bot]
  | top =>
    rw [logis_top, show (1 : EReal) - 1 = 0 from by
      show ((1 : ℝ) : EReal) - ((1 : ℝ) : EReal) = 0
      rw [← EReal.coe_sub, sub_self, EReal.coe_zero]]
    simp
  | coe r =>
    obtain ⟨s, hs⟩ := logis_coe r
    rw [hs]
    norm_cast
    ring_nf

end Cert.Gate
-- ==== Proof.Pout.lean ====
/-
  The backward pass of the pooling's scale and gate behind its out projection: what the kernel's three result arrays hold
  after the run, index by index, and the same for the reference.
-/
module

public import proofs.«01_k».proof.Proof.Gen.Kernel4Ideal.Value
public import proofs.«01_k».proof.Proof.Gen.Reference4Ideal.Read
public import proofs.«01_k».proof.Proof.Gate
public import Idealize.ShloMosaic.Lib.Pipeline.ValueKit
public import Idealize.ShloMosaic.Lib.Pointwise

@[expose] public section

set_option maxRecDepth 16384

noncomputable section

/-! ## The kernel's arrays -/

namespace Cert.Kernel4Ideal.Pout

open Cert.Kernel4Ideal Cert.Kernel4Ideal.Gen Idealize.ShloMosaic Idealize.ShloMosaic.TcCoe Idealize.SL.Sem
open Idealize.ShloMosaic.Pipeline (Dat)
open Cert.Gate (logis)

variable (m : (ℓ : Loc nD τ sig) → Buf (Elt Ideal) ℓ) (c : Dev nD)

/-- The incoming gradient, the out projection, the mixed rows, their gates and the scale, read as extended reals. -/
def dx (i : Fin 4096) (k : Fin 2048) : EReal := m (c, Proc.devRef .tc main_arg0) (ix2 i k)
def w (q : Fin 4096) (k : Fin 2048) : EReal := m (c, Proc.devRef .tc main_arg1) (ix2 q k)
def mixed (i q : Fin 4096) : EReal := m (c, Proc.devRef .tc main_arg2) (ix2 i q)
def gate (i q : Fin 4096) : EReal := m (c, Proc.devRef .tc main_arg3) (ix2 i (⟨4096 + q.val, by omega⟩ : Fin 8192))
def scale (q : Fin 4096) : EReal := m (c, Proc.devRef .tc main_arg4) (ix2 0 q)

/-- The gradient in front of the out projection. -/
def dy (i q : Fin 4096) : EReal := ∑ k : Fin 2048, dx m c i k * w m c q k

def G5 (i : S4096x4096.Idx) : EReal := dy m c (i 0) (i 1) * scale m c (i 1) * (gate m c (i 0) (i 1) * logis (gate m c (i 0) (i 1)))
def gateGrad (i q : Fin 4096) : EReal :=
  dy m c i q * mixed m c i q * scale m c q * (logis (gate m c i q) * (1 + gate m c i q * (1 - logis (gate m c i q))))
def term (i q : Fin 4096) : EReal := dy m c i q * mixed m c i q * (gate m c i q * logis (gate m c i q))
def G7 (i : S1x4096.Idx) : EReal := ∑ a : Fin 4096, term m c a (i 1)

theorem idx : ∀ t : Fin cfg0.N, win0_0.index t = ![t.val % 4, 0] ∧ win0_1.index t = ![t.val / 4, 0] ∧ win0_2.index t = ![t.val % 4, t.val / 4] ∧
    win0_3.index t = ![t.val % 4, 8 + t.val / 4] ∧ win0_4.index t = ![0, t.val / 4] ∧ win0_5.index t = ![t.val % 4, t.val / 4] ∧
    win0_6.index t = ![t.val % 4, 8 + t.val / 4] ∧ win0_7.index t = ![0, t.val / 4] := by
  decide +kernel

theorem point_lt (t : Fin cfg0.N) : t.val < 32 := lt_of_lt_of_eq t.isLt (show cfg0.N = 32 from N_0)

/-- Row `a` and column `b` of the block that point `t` works on. -/
def row (t : Fin cfg0.N) (a : Fin 1024) : Fin 4096 := ⟨t.val % 4 * 1024 + a.val, by omega⟩
def col (t : Fin cfg0.N) (b : Fin 512) : Fin 4096 := ⟨t.val / 4 * 512 + b.val, by have := point_lt t; omega⟩

theorem blk0 (t : Fin cfg0.N) (a : Fin 1024) (k : Fin 2048) : iblk m c 0 t (ix2 a k) = dx m c (row t a) k := by
  have h : ∀ i, V m c main_v0 (ix2 i k) = dx m c i k := fun i => by
    unfold_abbrev_sides
    after_results
    pointwise
    rfl
  rw [← h]
  blk_ext [iblk, row, (idx t).1]

theorem blk1 (t : Fin cfg0.N) (b : Fin 512) (k : Fin 2048) : iblk m c 1 t (ix2 b k) = w m c (col t b) k := by
  have h : ∀ i, V m c main_v1 (ix2 i k) = w m c i k := fun i => by
    unfold_abbrev_sides
    after_results
    pointwise
    rfl
  rw [← h]
  blk_ext [iblk, col, (idx t).2.1]

theorem blk2 (t : Fin cfg0.N) (a : Fin 1024) (b : Fin 512) : iblk m c 2 t (ix2 a b) = mixed m c (row t a) (col t b) := by
  unfold mixed
  blk_ext [iblk, V, row, col, (idx t).2.2.1]

theorem blk3 (t : Fin cfg0.N) (a : Fin 1024) (b : Fin 512) : iblk m c 3 t (ix2 a b) = gate m c (row t a) (col t b) := by
  have h := point_lt t
  unfold gate
  blk_ext [iblk, V, row, col, (idx t).2.2.2.1]

theorem blk4 (t : Fin cfg0.N) (b : Fin 512) : iblk m c 4 t (ix2 0 b) = scale m c (col t b) := by
  unfold scale
  blk_ext [iblk, V, col, (idx t).2.2.2.2.1]

theorem emb5 (t : Fin cfg0.N) (a : Fin 1024) (b : Fin 512) : ((cfg0.win 5).blk t).view.emb (ix2 a b) = ix2 (row t a) (col t b) := by
  blk_ext [row, col, (idx t).2.2.2.2.2.1]

theorem emb6 (t : Fin cfg0.N) (a : Fin 1024) (b : Fin 512) :
    ((cfg0.win 6).blk t).view.emb (ix2 a b) = ix2 (row t a) (⟨4096 + (col t b).val, by have := (col t b).isLt; omega⟩ : Fin 8192) := by
  blk_ext [row, col, (idx t).2.2.2.2.2.2.1]

theorem emb7 (t : Fin cfg0.N) (b : Fin 512) : ((cfg0.win 7).blk t).view.emb (ix2 0 b) = ix2 0 (col t b) := by
  blk_ext [col, (idx t).2.2.2.2.2.2.2]

section Payloads

variable (x0 : FVec Ideal S1024x2048 .bf16) (x1 : FVec Ideal S512x2048 .bf16) (x2 x3 : FVec Ideal S1024x512 .f32) (x4 : FVec Ideal S1x512 .f32) (a : Fin 1024) (b : Fin 512)

theorem pay5 : k0_pay5 (F := Ideal) x0 x1 (ix2 a b) = ∑ k : Fin 2048, (x0 (ix2 a k) * x1 (ix2 b k) : EReal) := by
  unfold k0_pay5
  pointwise

theorem pay6 : k0_pay6 (F := Ideal) x3 (ix2 a b) = x3 (ix2 a b) * logis (x3 (ix2 a b)) := by
  unfold k0_pay6 logis
  pointwise

theorem pay7 : k0_pay7 (F := Ideal) x0 x1 x3 x4 (ix2 a b) = k0_pay5 (F := Ideal) x0 x1 (ix2 a b) * x4 (ix2 0 b) * (x3 (ix2 a b) * logis (x3 (ix2 a b))) := by
  unfold k0_pay7
  pointwise
  rw [pay6]

theorem pay8 : k0_pay8 (F := Ideal) x0 x1 x2 x3 x4 (ix2 a b) = k0_pay5 (F := Ideal) x0 x1 (ix2 a b) * x2 (ix2 a b) * x4 (ix2 0 b) *
    (logis (x3 (ix2 a b)) * (1 + x3 (ix2 a b) * (1 - logis (x3 (ix2 a b))))) := by
  unfold k0_pay8 logis
  pointwise

theorem pay9 : k0_pay9 (F := Ideal) x0 x1 x2 x3 (ix2 a b) = k0_pay5 (F := Ideal) x0 x1 (ix2 a b) * x2 (ix2 a b) * (x3 (ix2 a b) * logis (x3 (ix2 a b))) := by
  unfold k0_pay9
  pointwise
  rw [pay6]

theorem pay1 (v : FVec Ideal S1024x512 .f32) : k0_pay1 (F := Ideal) v (ix2 0 b) = ∑ a : Fin 1024, v (ix2 a b) := by
  unfold k0_pay1
  pointwise

theorem pay4 (v : FVec Ideal S1024x512 .f32) : k0_pay4 (F := Ideal) v x4 (ix2 0 b) = x4 (ix2 0 b) + ∑ a : Fin 1024, v (ix2 a b) := by
  unfold k0_pay4
  pointwise
  rw [pay1]

end Payloads

theorem dot (t : Fin cfg0.N) (a : Fin 1024) (b : Fin 512) : k0_pay5 (F := Ideal) (iblk m c 0 t) (iblk m c 1 t) (ix2 a b) = dy m c (row t a) (col t b) := by
  rw [pay5]
  simp only [blk0, blk1]
  rfl

theorem out5 (t : Fin cfg0.N) : (outsAt0 m c t.val t.isLt).1 = k0_pay2 (k0_pay7 (iblk m c 0 t) (iblk m c 1 t) (iblk m c 3 t) (iblk m c 4 t)) := by
  by_cases h : t.val % 4 = 0
  · rw [outsAt0_A m c t h (by omega)]; frame_out
  · rw [outsAt0_B m c t h (by omega)]; frame_out

theorem out6 (t : Fin cfg0.N) : (outsAt0 m c t.val t.isLt).2.1 =
    k0_pay3 (k0_pay8 (iblk m c 0 t) (iblk m c 1 t) (iblk m c 2 t) (iblk m c 3 t) (iblk m c 4 t)) := by
  by_cases h : t.val % 4 = 0
  · rw [outsAt0_A m c t h (by omega)]; frame_out
  · rw [outsAt0_B m c t h (by omega)]; frame_out

theorem arr5 : (dats m 0 c).arrAt 5 cfg0.N = G5 m c := by
  refine (dats m 0 c).arrAt_eq_of_covers 5 _ (by decide +kernel) fun t hf y => ?_
  have he : ∀ a b, ((cfg0.win 5).blk t).view.emb (ix2 a b) = ix2 (row t a) (col t b) := emb5 t
  blk_simp
  rw [after0_5, out5]
  idx_vars y
  refine Eq.trans ?_ (congrArg (G5 m c) (emb5 t y0 y1).symm)
  show k0_pay7 (F := Ideal) _ _ _ _ (ix2 y0 y1) = _
  rw [pay7, dot, blk3, blk4]
  rfl

/-- The gates' half of the second result. -/
theorem arr6 (i q : Fin 4096) : (dats m 0 c).arrAt 6 cfg0.N (ix2 i (⟨4096 + q.val, by omega⟩ : Fin 8192)) = gateGrad m c i q := by
  have hi := i.isLt
  have hq := q.isLt
  obtain ⟨t, a, b, hr, hc⟩ : ∃ (t : Fin cfg0.N) (a : Fin 1024) (b : Fin 512), row t a = i ∧ col t b = q :=
    ⟨⟨q.val / 512 * 4 + i.val / 1024, show _ < grid0.N by rw [N_0]; omega⟩, ⟨i.val % 1024, by omega⟩, ⟨q.val % 512, by omega⟩,
      Fin.ext (show (q.val / 512 * 4 + i.val / 1024) % 4 * 1024 + i.val % 1024 = i.val by omega),
      Fin.ext (show (q.val / 512 * 4 + i.val / 1024) / 4 * 512 + q.val % 512 = q.val by omega)⟩
  subst hr hc
  have h := congrFun (Value.blocks6 m c t ((by decide +kernel : ∀ t : Fin cfg0.N, (cfg0.win 6).flush t = true) t)) (ix2 a b)
  refine (congrArg ((dats m 0 c).arrAt 6 cfg0.N) (emb6 t a b)).symm.trans (h.trans ?_)
  rw [Value.flushed6, out6]
  show k0_pay8 (F := Ideal) _ _ _ _ _ (ix2 a b) = _
  rw [pay8, dot, blk2, blk3, blk4]
  rfl

theorem pay9_at (t : Fin cfg0.N) (a : Fin 1024) (b : Fin 512) :
    k0_pay9 (F := Ideal) (iblk m c 0 t) (iblk m c 1 t) (iblk m c 2 t) (iblk m c 3 t) (ix2 a b) = term m c (row t a) (col t b) := by
  rw [pay9, dot, blk2, blk3]
  rfl

theorem out7_first (t : Fin cfg0.N) (h : t.val % 4 = 0) (b : Fin 512) : (outsAt0 m c t.val t.isLt).2.2 (ix2 0 b) = ∑ a : Fin 1024, term m c (row t a) (col t b) := by
  rw [outsAt0_A m c t h (by omega)]; frame_out
  rw [pay1]
  simp only [pay9_at]

theorem out7_next (t : Fin cfg0.N) (h : ¬t.val % 4 = 0) (b : Fin 512) : (outsAt0 m c t.val t.isLt).2.2 (ix2 0 b) =
    (outsAt0 m c (t.val - 1) (by omega)).2.2 (ix2 0 b) + ∑ a : Fin 1024, term m c (row t a) (col t b) := by
  rw [outsAt0_B m c t h (by omega)]; frame_out
  rw [pay4]
  simp only [pay9_at]

/-- The third result's block after its last row block: the sum over all rows. -/
theorem out7_last (t : Fin cfg0.N) (h : t.val % 4 = 3) (b : Fin 512) : (outsAt0 m c t.val t.isLt).2.2 (ix2 0 b) = G7 m c (ix2 0 (col t b)) := by
  have hN := t.isLt
  have hc : ∀ n (hn : t.val - n < cfg0.N), n ≤ 3 → col ⟨t.val - n, hn⟩ b = col t b := fun n hn hle =>
    Fin.ext (show (t.val - n) / 4 * 512 + b.val = t.val / 4 * 512 + b.val by omega)
  have hr : ∀ n (hn : t.val - n < cfg0.N), n ≤ 3 → ∀ a : Fin 1024, row ⟨t.val - n, hn⟩ a = ⟨(3 - n) * 1024 + a.val, by omega⟩ := fun n hn hle a =>
    Fin.ext (show (t.val - n) % 4 * 1024 + a.val = (3 - n) * 1024 + a.val by omega)
  have e1 := out7_next m c t (by omega) b
  have e2 := out7_next m c ⟨t.val - 1, by omega⟩ (show ¬(t.val - 1) % 4 = 0 by omega) b
  have e3 := out7_next m c ⟨t.val - 2, by omega⟩ (show ¬(t.val - 2) % 4 = 0 by omega) b
  have e4 := out7_first m c ⟨t.val - 3, by omega⟩ (show (t.val - 3) % 4 = 0 by omega) b
  rw [e1]
  refine (congrArg (· + _) (e2.trans (congrArg (· + _) (e3.trans (congrArg (· + _) e4))))).trans ?_
  refine Eq.trans ?_ (Cert.Shared.sum_blocks 4 1024 fun a => term m c a (col t b)).symm
  rw [Fin.sum_univ_four]
  have r0 := hr 0 (by omega) (by omega)
  have c0 := hc 0 (by omega) (by omega)
  simp only [hr 1 (by omega) (by omega), hr 2 (by omega) (by omega), hr 3 (by omega) (by omega), hc 1 (by omega) (by omega), hc 2 (by omega) (by omega),
    hc 3 (by omega) (by omega)]
  simp only [show ∀ a, row t a = ⟨(3 - 0) * 1024 + a.val, by omega⟩ from r0]
  rfl

theorem arr7 : (dats m 0 c).arrAt 7 cfg0.N = G7 m c := by
  refine (dats m 0 c).arrAt_eq_of_covers 7 _ (by decide +kernel) fun t hf y => ?_
  have h3 : t.val % 4 = 3 := (by decide +kernel : ∀ t : Fin cfg0.N, (cfg0.win 7).flush t = true → t.val % 4 = 3) t hf
  have he : ∀ b, ((cfg0.win 7).blk t).view.emb (ix2 0 b) = ix2 0 (col t b) := emb7 t
  blk_simp
  rw [after0_7]
  idx_vars y
  obtain rfl : y0 = 0 := Subsingleton.elim _ _
  exact (out7_last m c t h3 y1).trans (congrArg (G7 m c) (emb7 t y1).symm)

end Cert.Kernel4Ideal.Pout

/-! ## The reference's arrays -/

namespace Cert.Reference4Ideal.Pout

open Cert.Reference4Ideal Cert.Reference4Ideal.Gen Idealize.ShloMosaic Idealize.ShloMosaic.TcCoe Idealize.SL.Sem Cert.Reference4Ideal.Read
open Cert.Gate (logis)

variable (d w : FVec Ideal S4096x2048 .f32) (x : FVec Ideal S4096x4096 .f32) (z : FVec Ideal S4096x8192 .f32) (s : FVec Ideal S1x4096 .f32) (i q : Fin 4096)

/-- The gate of entry `(i, q)`. -/
def at_ : EReal := z (ix2 i (⟨4096 + q.val, by omega⟩ : Fin 8192))
def dot : EReal := ∑ k : Fin 2048, (d (ix2 i k) * w (ix2 q k) : EReal)

theorem v0 : val_main_v0 (F := Ideal) z (ix2 i q) = at_ z i q := by
  delta val_main_v0
  pointwise
  rfl

theorem v5_2 : val_main_v5_2 (F := Ideal) z (ix2 i q) = logis (at_ z i q) := by
  delta val_main_v5_2 val_main_call0_v4 val_main_call0_v3 val_main_call0_v2 val_main_call0_v1 val_main_call0_v0 val_main_call0_cst val_main_call0_cst_0
  pointwise
  rw [v0]
  unfold logis
  rw [zero_sub]

theorem v4 : val_main_v4 (F := Ideal) x s (ix2 i q) = x (ix2 i q) * s (ix2 0 q) := by
  delta val_main_v4 val_main_v3 val_main_v2 val_main_v1
  pointwise

theorem v8 : val_main_v8 (F := Ideal) d w (ix2 i q) = dot d w i q := by
  delta val_main_v8
  pointwise
  rfl

theorem v10 : val_main_v10 (F := Ideal) d w z (ix2 i q) = dot d w i q * (at_ z i q * logis (at_ z i q)) := by
  delta val_main_v10 val_main_v5_0
  pointwise
  rw [v8, v0, v5_2]

theorem v19 : (val_main_v19 (F := Ideal) d w z s (ix2 i q) : EReal) = dot d w i q * (at_ z i q * logis (at_ z i q)) * s (ix2 0 q) := by
  delta val_main_v19 val_main_v16 val_main_v15 val_main_v2 val_main_v1
  pointwise
  rw [v10]

theorem v11 : val_main_v11 (F := Ideal) d w x z s (ix2 i q) = x (ix2 i q) * s (ix2 0 q) * dot d w i q * logis (at_ z i q) +
    at_ z i q * (x (ix2 i q) * s (ix2 0 q) * dot d w i q) * (logis (at_ z i q) * (1 - logis (at_ z i q))) := by
  delta val_main_v11 val_main_call1_v2 val_main_call1_v1 val_main_call1_v0 val_main_v9 val_main_v5_1 val_main_call0_v7 val_main_call0_v6 val_main_call0_cst_1
  pointwise
  rw [v4, v8, v0, v5_2]

theorem v22 : (val_main_v22 (F := Ideal) d w x z s (ix2 i (⟨4096 + q.val, by omega⟩ : Fin 8192)) : EReal) = val_main_v11 (F := Ideal) d w x z s (ix2 i q) := by
  delta val_main_v22 val_main_v21 val_main_v20 val_main_cst_1
  pointwise

theorem v18 : val_main_v18 (F := Ideal) d w x z (ix2 0 q) = ∑ i : Fin 4096, x (ix2 i q) * (dot d w i q * (at_ z i q * logis (at_ z i q))) := by
  delta val_main_v18 val_main_v17 val_main_v14 val_main_v13 val_main_v12 val_main_cst val_main_cst_0
  pointwise
  simp only [v10, Finset.univ_unique, Finset.sum_singleton]

end Cert.Reference4Ideal.Pout
-- ==== Proof.PoutClaim.lean ====
/-
  The claims about the backward pass of the pooling's scale and gate.
-/
module

public import proofs.«01_k».proof.Defs
public import proofs.«01_k».proof.Proof.Gen.Kernel4.Frame
public import proofs.«01_k».proof.Proof.Pout
public import Idealize.ShloMosaic.Lib.WordCmp

@[expose] public section

set_option maxRecDepth 16384

noncomputable section

namespace Cert.Pout

open Idealize.ShloMosaic Idealize.SL.Sem

/-- The shape facts of the precondition and of the mask. -/
theorem preFacts : Cert.Pre_finite4.Facts := ⟨by decide, by decide, by decide⟩
theorem onFacts : Cert.On_gate_half.Facts := ⟨by decide, by decide, by decide⟩

theorem frame_kernel : Cert.quiescent_Kernel4 (hKernel4 := Cert.Kernel4.Gen.facts) := fun m ρ _ => Cert.Kernel4.Gen.frame m ρ
theorem frame_ideal : Cert.quiescent_Kernel4Ideal (hKernel4Ideal := Cert.Kernel4Ideal.Gen.facts) := fun m ρ _ => Cert.Kernel4Ideal.Gen.frame m ρ
theorem frame_ideal_pre : Cert.quiescent_Kernel4Ideal_pre_finite4 (hKernel4Ideal := Cert.Kernel4Ideal.Gen.facts) (hPre_finite4 := preFacts) :=
  fun m ρ _ => Cert.Kernel4Ideal.Gen.frame m ρ
theorem frame_reference : Cert.quiescent_Reference4Ideal (hReference4Ideal := Cert.Reference4Ideal.Gen.facts) := fun m ρ _ =>
  (θ_run _ _ _).mono (fun r h => ⟨fun c => (h c).2.2.2, sem_eq_zero_of_no_sems (by decide) r.2⟩) (Cert.Reference4Ideal.Value.run m ρ)
theorem frame_reference_pre : Cert.quiescent_Reference4Ideal_pre_finite4 (hReference4Ideal := Cert.Reference4Ideal.Gen.facts) (hPre_finite4 := preFacts) :=
  fun m ρ _ => frame_reference m ρ trivial

attribute [local instance] preFacts onFacts

section Values

variable (m : (ℓ : Loc Cert.Kernel4Ideal.nD Cert.Kernel4Ideal.τ Cert.Kernel4Ideal.sig) → Buf (Elt Ideal) ℓ)

open Cert.Kernel4Ideal Cert.Kernel4Ideal.Pout

/-- The precondition, read: the incoming gradient, the projection, the mixed rows and the scale are real numbers. -/
theorem real_args (h : Cert.Pre_Kernel4Ideal_finite4 m) (c : Dev nD) :
    (∀ i, ∃ r : ℝ, m (c, Proc.devRef .tc main_arg0) i = (r : EReal)) ∧ (∀ i, ∃ r : ℝ, m (c, Proc.devRef .tc main_arg1) i = (r : EReal)) ∧
      (∀ i, ∃ r : ℝ, m (c, Proc.devRef .tc main_arg2) i = (r : EReal)) ∧ (∀ i, ∃ r : ℝ, m (c, Proc.devRef .tc main_arg4) i = (r : EReal)) := by
  obtain ⟨h0, h1, h2, h3⟩ := h c
  exact ⟨fun i => Cert.Shared.real_of_abs_lt (congrFun h0 i), fun i => Cert.Shared.real_of_abs_lt (congrFun h1 i),
    fun i => Cert.Shared.real_of_abs_lt (congrFun h2 i), fun i => Cert.Shared.real_of_abs_lt (congrFun h3 i)⟩

/-- What multiplies the gate's derivative is a real number. -/
theorem real_front (h : Cert.Pre_Kernel4Ideal_finite4 m) (c : Dev nD) (i q : Fin 4096) :
    ∃ r : ℝ, Pout.dy m c i q * mixed m c i q * scale m c q = (r : EReal) := by
  obtain ⟨h0, h1, h2, h3⟩ := real_args m h c
  obtain ⟨x, hx⟩ := Cert.Shared.real_fun fun k => h0 (ix2 i k)
  obtain ⟨w, hw⟩ := Cert.Shared.real_fun fun k => h1 (ix2 q k)
  obtain ⟨a, ha⟩ := h2 (ix2 i q)
  obtain ⟨b, hb⟩ := h3 (ix2 0 q)
  refine ⟨(∑ k, x k * w k) * a * b, ?_⟩
  rw [EReal.coe_mul, EReal.coe_mul, Cert.Shared.coe_sum]
  refine congrArg₂ (· * ·) (congrArg₂ (· * ·) (Finset.sum_congr rfl fun k _ => ?_) ha) hb
  rw [EReal.coe_mul]
  exact congrArg₂ (· * ·) (congrFun hx k) (congrFun hw k)

/-- The mask's second component holds of the gates' columns alone. -/
theorem gate_col (x0 x1 : FVec Ideal ⟨2, ![4096, 2048]⟩ .f32) (x2 : FVec Ideal ⟨2, ![4096, 4096]⟩ .f32) (x3 : FVec Ideal ⟨2, ![4096, 8192]⟩ .f32)
    (x4 : FVec Ideal ⟨2, ![1, 4096]⟩ .f32) (i : Fin 4096) (q : Fin 8192) (h : (Cert.On_gate_half.fn (F := Ideal) x0 x1 x2 x3 x4).2.1 (ix2 i q) = 1#1) : 4096 ≤ q.val := by
  refine (WordCmp.cmpi_sge_ofNat_eq_one_iff (w := 32) (a := q.val) (b := 4096) (by have := q.isLt; omega) (by omega)).1 ?_
  exact h

theorem dmixed (c : Dev nD) : Cert.Reference4Ideal.Read.val_main_v19 (F := Ideal) (m (c, Proc.devRef .tc main_arg0)) (m (c, Proc.devRef .tc main_arg1))
    (m (c, Proc.devRef .tc main_arg3)) (m (c, Proc.devRef .tc main_arg4)) = G5 m c := by
  funext j
  idx_vars j
  refine (Cert.Reference4Ideal.Pout.v19 _ _ _ _ j0 j1).trans ?_
  exact mul_right_comm (_ : EReal) _ _

theorem dgate (h : Cert.Pre_Kernel4Ideal_finite4 m) (c : Dev nD) (i q : Fin 4096) :
    (Cert.Reference4Ideal.Read.val_main_v22 (F := Ideal) (m (c, Proc.devRef .tc main_arg0)) (m (c, Proc.devRef .tc main_arg1))
      (m (c, Proc.devRef .tc main_arg2)) (m (c, Proc.devRef .tc main_arg3)) (m (c, Proc.devRef .tc main_arg4)) (ix2 i (⟨4096 + q.val, by omega⟩ : Fin 8192)) : EReal) = gateGrad m c i q := by
  obtain ⟨r, hr⟩ := real_front m h c i q
  refine (Cert.Reference4Ideal.Pout.v22 _ _ _ _ _ i q).trans ((Cert.Reference4Ideal.Pout.v11 _ _ _ _ _ i q).trans ?_)
  unfold gateGrad
  rw [hr, Cert.Gate.dsilu_eq, ← hr]
  have e : Pout.dy m c i q * mixed m c i q * scale m c q = mixed m c i q * scale m c q * Pout.dy m c i q := by
    rw [mul_assoc, mul_comm]
  rw [e]
  rfl

theorem dgate_at (h : Cert.Pre_Kernel4Ideal_finite4 m) (c : Dev nD) (i : Fin 4096) (q : Fin 8192) (hq : 4096 ≤ q.val) :
    Cert.Reference4Ideal.Read.val_main_v22 (F := Ideal) (m (c, Proc.devRef .tc main_arg0)) (m (c, Proc.devRef .tc main_arg1))
      (m (c, Proc.devRef .tc main_arg2)) (m (c, Proc.devRef .tc main_arg3)) (m (c, Proc.devRef .tc main_arg4)) (ix2 i q) =
        (Gen.dats m 0 c).arrAt 6 cfg0.N (ix2 i q) := by
  have h8 := q.isLt
  have e : q = (⟨4096 + (⟨q.val - 4096, by omega⟩ : Fin 4096).val, by omega⟩ : Fin 8192) := Fin.ext (show q.val = 4096 + (q.val - 4096) by omega)
  rw [e]
  exact (dgate m h c i _).trans (arr6 m c i _).symm

theorem dscale (c : Dev nD) : Cert.Reference4Ideal.Read.val_main_v18 (F := Ideal) (m (c, Proc.devRef .tc main_arg0)) (m (c, Proc.devRef .tc main_arg1))
    (m (c, Proc.devRef .tc main_arg2)) (m (c, Proc.devRef .tc main_arg3)) = G7 m c := by
  funext j
  idx_vars j
  obtain rfl : j0 = 0 := Subsingleton.elim _ _
  refine (Cert.Reference4Ideal.Pout.v18 _ _ _ _ j1).trans (Finset.sum_congr rfl fun i _ => ?_)
  exact (mul_assoc (_ : EReal) _ _).symm.trans (congrArg (· * _) (mul_comm (_ : EReal) _))

end Values

theorem value : Cert.algebraic_Kernel4Ideal_Reference4Ideal_on_gate_half_pre_finite4 (hKernel4Ideal := Cert.Kernel4Ideal.Gen.facts)
    (hReference4Ideal := Cert.Reference4Ideal.Gen.facts) (hPre_finite4 := preFacts) (hOn_gate_half := onFacts) := fun m ρ m' ρ' hpre hag =>
  ⟨fun c => Cert.Kernel4Ideal.Pout.G5 m c, fun c => (Cert.Kernel4Ideal.Gen.dats m 0 c).arrAt 6 Cert.Kernel4Ideal.cfg0.N, fun c => Cert.Kernel4Ideal.Pout.G7 m c,
    (θ_run _ _ _).mono (fun _ h c => ⟨fun i _ => congrFun ((h c).1.trans (Cert.Kernel4Ideal.Pout.arr5 m c)) i, fun i _ => congrFun (h c).2.1 i,
      fun i _ => congrFun ((h c).2.2.1.trans (Cert.Kernel4Ideal.Pout.arr7 m c)) i, (h c).2.2.2⟩) (Cert.Kernel4Ideal.Value.run_blocks m ρ),
    (θ_run _ _ _).mono (fun _ h c => ⟨fun i _ => congrFun (by
        rw [(h c).1, Cert.Reference4Ideal.Read.val_main_v19_eq, (hag c).1, (hag c).2.1, (hag c).2.2.2.1, (hag c).2.2.2.2]
        exact dmixed m c) i, fun i on => by
        rw [(h c).2.1, Cert.Reference4Ideal.Read.val_main_v22_eq, (hag c).1, (hag c).2.1, (hag c).2.2.1, (hag c).2.2.2.1, (hag c).2.2.2.2]
        idx_vars i
        exact dgate_at m hpre c i0 i1 (gate_col _ _ _ _ _ i0 i1 on), fun i _ => congrFun (by
        rw [(h c).2.2.1, Cert.Reference4Ideal.Read.val_main_v18_eq, (hag c).1, (hag c).2.1, (hag c).2.2.1, (hag c).2.2.2.1]
        exact dscale m c) i, (h c).2.2.2⟩) (Cert.Reference4Ideal.Value.run m' ρ')⟩

end Cert.Pout
-- ==== Proof.SsdVec.lean ====
/-
  The vectors that a chunk of the state-space scan computes for one group of heads, written over the vector operations,
  and what each of them holds at an index.
-/
module

public import proofs.«01_k».proof.Proof.Lemmas
public import Idealize.ShloMosaic.Lib.Pipeline.ValueKit
public import Idealize.ShloMosaic.Lib.Pointwise

@[expose] public section

set_option maxRecDepth 16384

noncomputable section

namespace Cert.Ssd

open Idealize.ShloMosaic

abbrev T64x128 : Shape := ⟨2, ![64, 128]⟩
abbrev T64x512 : Shape := ⟨2, ![64, 512]⟩
abbrev T512x512 : Shape := ⟨2, ![512, 512]⟩
abbrev T512x128 : Shape := ⟨2, ![512, 128]⟩
abbrev T128x512 : Shape := ⟨2, ![128, 512]⟩
abbrev T1x512 : Shape := ⟨2, ![1, 512]⟩
abbrev T512 : Shape := ⟨1, ![512]⟩

/-! ## Stacks of blocks -/

/-- The lanes from `lo` up to `hi` of a tile, and zero in the others. -/
def lanes (lo hi : BitVec 32) (v : FVec Ideal T64x128 .bf16) : FVec Ideal T64x128 .bf16 :=
  select (andi (cmpi .sge (iota .tc T64x128 32 [1] (by decide)) (broadcast T64x128 lo))
    (cmpi .slt (iota .tc T64x128 32 [1] (by decide)) (broadcast T64x128 hi))) v (broadcast T64x128 (Scalar.ofBits .bf16 0x0000#16))

theorem lanes_apply (k : Fin 8) (v : FVec Ideal T64x128 .bf16) (a : Fin 64) (b : Fin 128) :
    lanes (BitVec.ofNat 32 (k.val % 2 * 64)) (BitVec.ofNat 32 ((k.val % 2 + 1) * 64)) v (ix2 a b) =
      if b.val / 64 = k.val % 2 then v (ix2 a b) else (0 : EReal) := by
  have h : ∀ (k : Fin 8) (b : Fin 128), (IntOp.andi (IntOp.cmpi .sge (BitVec.ofNat 32 b.val) (BitVec.ofNat 32 (k.val % 2 * 64)))
    (IntOp.cmpi .slt (BitVec.ofNat 32 b.val) (BitVec.ofNat 32 ((k.val % 2 + 1) * 64))) : BitVec 1) = if b.val / 64 = k.val % 2 then 1#1 else 0#1 := by
    decide +kernel
  unfold lanes
  pointwise
  rw [h]
  split_ifs <;> rfl

/-- Block row `k` of the block-diagonal arrangement of `v`: the lanes of head `k`, and zero in the others. -/
def blockRow (v : FVec Ideal T64x512 .bf16) (k : Fin 8) : FVec Ideal T64x512 .bf16 :=
  concatenate T64x512 1 (List.ofFn fun c : Fin 4 => (⟨T64x128, if c.val = k.val / 2 then
    lanes (BitVec.ofNat 32 (k.val % 2 * 64)) (BitVec.ofNat 32 ((k.val % 2 + 1) * 64))
      (extractStridedSlice T64x128 ![0, c.val * 128] v (by revert c; decide))
    else broadcast T64x128 (Scalar.ofBits .bf16 0x0000#16 : Ideal .bf16)⟩ : (s : Shape) × (s.Idx → Ideal .bf16))) (by rw [List.map_ofFn]; exact (by decide : Shape.Concatenates (List.ofFn fun _ : Fin 4 => T64x128) T64x512 1))

theorem blockRow_apply (v : FVec Ideal T64x512 .bf16) (k : Fin 8) (a : Fin 64) (j : Fin 512) :
    blockRow v k (ix2 a j) = if j.val / 64 = k.val then v (ix2 a j) else (0 : EReal) := by
  have hj := j.isLt
  have hk := k.isLt
  unfold blockRow
  refine (concatenate_ofFn_apply (t := T64x512) (s₁ := T64x128) 1 _ _ rfl 128 rfl (ix2 a j) ⟨j.val / 128, by omega⟩ rfl (ix2 a ⟨j.val % 128, Nat.mod_lt _ (by decide)⟩) rfl
    (by intro b hb; fin_cases b <;> first | rfl | exact absurd rfl hb)).trans ?_
  dsimp only
  split_ifs with h1 h2 h2
  · rw [lanes_apply, if_pos (by dsimp only; omega)]
    pointwise
    exact congrArg v (congrArg (ix2 a) (Fin.ext (by dsimp only; omega)))
  · rw [lanes_apply, if_neg (by dsimp only; omega)]
  · exact absurd (by omega) h1
  · pointwise

/-- The eight block rows, one under the other. -/
def blockDiag (v : FVec Ideal T64x512 .bf16) : FVec Ideal T512x512 .bf16 :=
  concatenate T512x512 0 (List.ofFn fun k : Fin 8 => (⟨T64x512, blockRow v k⟩ : (s : Shape) × (s.Idx → Ideal .bf16))) (by rw [List.map_ofFn]; exact (by decide : Shape.Concatenates (List.ofFn fun _ : Fin 8 => T64x512) T512x512 0))

/-- Row `s` of block `k`, of eight blocks of sixty-four. -/
def at8 (k : Fin 8) (s : Fin 64) : Fin 512 := ⟨k.val * 64 + s.val, by have := k.isLt; have := s.isLt; omega⟩

theorem blockDiag_apply (v : FVec Ideal T64x512 .bf16) (k : Fin 8) (a : Fin 64) (j : Fin 512) :
    blockDiag v (ix2 (at8 k a) j) = if j.val / 64 = k.val then v (ix2 a j) else (0 : EReal) := by
  have ha := a.isLt
  unfold blockDiag
  refine (concatenate_ofFn_apply (t := T512x512) (s₁ := T64x512) 0 _ _ rfl 64 rfl (ix2 (at8 k a) j) k (by show (k.val * 64 + a.val) / 64 = _; omega) (ix2 a j)
    (by show a.val = (k.val * 64 + a.val) % 64; omega)
    (by intro b hb; fin_cases b <;> first | rfl | exact absurd rfl hb)).trans ?_
  exact blockRow_apply v k a j

/-- Eight copies of `v`, one under the other. -/
def tile8 (v : FVec Ideal T64x128 .bf16) : FVec Ideal T512x128 .bf16 :=
  concatenate T512x128 0 (List.ofFn fun _ : Fin 8 => (⟨T64x128, v⟩ : (s : Shape) × (s.Idx → Ideal .bf16))) (by rw [List.map_ofFn]; exact (by decide : Shape.Concatenates (List.ofFn fun _ : Fin 8 => T64x128) T512x128 0))

theorem tile8_apply (v : FVec Ideal T64x128 .bf16) (k : Fin 8) (a : Fin 64) (n : Fin 128) : tile8 v (ix2 (at8 k a) n) = v (ix2 a n) := by
  have ha := a.isLt
  unfold tile8
  refine (concatenate_ofFn_apply (t := T512x128) (s₁ := T64x128) 0 _ _ rfl 64 rfl (ix2 (at8 k a) n) k (by show (k.val * 64 + a.val) / 64 = _; omega) (ix2 a n)
    (by show a.val = (k.val * 64 + a.val) % 64; omega)
    (by intro b hb; fin_cases b <;> first | rfl | exact absurd rfl hb)).trans rfl

/-! ## One group of heads -/

def nt : DotDims T64x128 T512x128 T64x512 := ⟨[1], [1], [0], [0], [], [], by decide⟩
def nn : DotDims T64x512 T512x512 T64x512 := ⟨[1], [0], [0], [1], [], [], by decide⟩
def ns : DotDims T64x128 T128x512 T64x512 := ⟨[1], [0], [0], [1], [], [], by decide⟩
def tn : DotDims T64x128 T64x512 T128x512 := ⟨[0], [0], [1], [1], [], [], by decide⟩

/-- The decays between the positions of a chunk: from the sums `cs` along the chunk, the tile `it` that picks the position
    of a lane and the tile `lm` that marks the positions at or after it, with `mask` in the others' place. -/
def decay (cs it lm : FVec Ideal T64x512 .f32) (mask : Ideal .f32) : FVec Ideal T64x512 .f32 :=
  exp (select (cmpf .ogt (shapeCast T64x512 lm (by decide)) (broadcast T64x512 (Scalar.ofBits .f32 0x00000000#32)))
    (subf cs (broadcastTo T64x512 (shapeCast T1x512 (multiReduction .add [0] T512 (mulf cs (shapeCast T64x512 it (by decide))) 0x00000000#32
      (by decide) (.inl rfl) rfl) (by decide)) (by decide)))
    (broadcast T64x512 mask))

theorem decay_apply {cs it lm : FVec Ideal T64x512 .f32} {mask : Ideal .f32} (hmask : mask = (⊥ : EReal))
    (hit : ∀ (x : Fin 64) (j : Fin 512), it (ix2 x j) = if x.val = j.val % 64 then (1 : EReal) else 0)
    (hlm : ∀ (l : Fin 64) (j : Fin 512), lm (ix2 l j) = if j.val % 64 ≤ l.val then (1 : EReal) else 0) (l s : Fin 64) (k : Fin 8) :
    decay cs it lm mask (ix2 l (at8 k s))
      = if s ≤ l then Ideal.exp ((cs (ix2 l (at8 k s)) : EReal) - cs (ix2 s (at8 k s))) else (0 : EReal) := by
  have hs := s.isLt
  have hm : (at8 k s).val % 64 = s.val := by show (k.val * 64 + s.val) % 64 = _; omega
  have hsum : ∑ x : Fin 64, (cs (ix2 x (at8 k s)) : EReal) * it (ix2 x (at8 k s)) = cs (ix2 s (at8 k s)) := by
    rw [Finset.sum_eq_single s]
    · rw [hit, hm, if_pos rfl, mul_one]
    · intro b _ hb
      rw [hit, hm, if_neg (fun h => hb (Fin.ext h)), mul_zero]
    · exact fun h => absurd (Finset.mem_univ _) h
  unfold decay
  pointwise
  rw [hsum, hlm, hm, hmask]
  by_cases h : s ≤ l
  · rw [if_pos (Fin.le_def.mp h), if_pos h, if_pos (by norm_num)]
  · rw [if_neg (fun h' => h (Fin.le_def.mpr h')), if_neg h, if_neg (by norm_num)]
    rfl

/-- The outputs of the positions, without the skip. -/
def mix (b c : FVec Ideal T64x128 .f32) (ecs lx : FVec Ideal T64x512 .f32) (xdt : FVec Ideal T64x512 .f32) (st : FVec Ideal T128x512 .f32) :
    FVec Ideal T64x512 .f32 :=
  addf (matmul nn none (truncf .bf16 (mulf (matmul nt none (truncf .bf16 c (by decide)) (tile8 (truncf .bf16 b (by decide)))
      (constant T64x512 .f32 0x00000000#32)) lx) (by decide)) (blockDiag (truncf .bf16 xdt (by decide))) (constant T64x512 .f32 0x00000000#32))
    (mulf ecs (matmul ns none (truncf .bf16 c (by decide)) (truncf .bf16 st (by decide)) (constant T64x512 .f32 0x00000000#32)))

/-- A sum over the rows of the block-diagonal arrangement keeps one block. -/
theorem sum_blockDiag (f : Fin 512 → EReal) (v : FVec Ideal T64x512 .bf16) (j : Fin 512) (k : Fin 8) (hk : j.val / 64 = k.val) :
    ∑ q : Fin 512, f q * blockDiag v (ix2 q j) = ∑ s : Fin 64, f (at8 k s) * (v (ix2 s j) : EReal) := by
  rw [Cert.Shared.sum_blocks 8 64 (fun q : Fin (8 * 64) => f q * blockDiag v (ix2 q j)), Finset.sum_eq_single k]
  · refine Finset.sum_congr rfl fun s _ => ?_
    show f (at8 k s) * blockDiag v (ix2 (at8 k s) j) = _
    rw [blockDiag_apply, if_pos hk]
  · intro b _ hb
    refine Finset.sum_eq_zero fun s _ => ?_
    show f (at8 b s) * blockDiag v (ix2 (at8 b s) j) = _
    rw [blockDiag_apply, if_neg (fun h => hb (Fin.ext (h.symm.trans hk))), mul_zero]
  · exact fun h => absurd (Finset.mem_univ _) h

theorem mix_apply (b c : FVec Ideal T64x128 .f32) (ecs lx xdt : FVec Ideal T64x512 .f32) (st : FVec Ideal T128x512 .f32) (l : Fin 64)
    (j : Fin 512) (k : Fin 8) (hk : j.val / 64 = k.val) :
    mix b c ecs lx xdt st (ix2 l j)
      = ∑ s : Fin 64, (∑ n : Fin 128, (c (ix2 l n) : EReal) * b (ix2 s n)) * lx (ix2 l (at8 k s)) * xdt (ix2 s j)
        + ecs (ix2 l j) * ∑ n : Fin 128, (c (ix2 l n) : EReal) * st (ix2 n j) := by
  unfold mix
  pointwise
  refine congrArg (· + _) ?_
  refine (sum_blockDiag (fun q : Fin 512 => (∑ n : Fin 128, (c (ix2 l n) : EReal) * tile8 (truncf .bf16 b (by decide)) (ix2 q n))
    * lx (ix2 l q)) _ j k hk).trans (Finset.sum_congr rfl fun s _ => ?_)
  simp only [tile8_apply]
  rfl

/-- The state after a chunk. -/
def carry (b : FVec Ideal T64x128 .f32) (w : FVec Ideal T64x512 .f32) (elast : FVec Ideal T1x512 .f32) (xdt : FVec Ideal T64x512 .f32)
    (st : FVec Ideal T128x512 .f32) : FVec Ideal T128x512 .f32 :=
  addf (mulf (broadcastTo T128x512 elast (by decide)) st)
    (matmul tn none (truncf .bf16 b (by decide)) (truncf .bf16 (mulf xdt w) (by decide)) (constant T128x512 .f32 0x00000000#32))

theorem carry_apply (b : FVec Ideal T64x128 .f32) (w : FVec Ideal T64x512 .f32) (elast : FVec Ideal T1x512 .f32) (xdt : FVec Ideal T64x512 .f32)
    (st : FVec Ideal T128x512 .f32) (n : Fin 128) (j : Fin 512) :
    carry b w elast xdt st (ix2 n j)
      = (elast (ix2 0 j) : EReal) * st (ix2 n j) + ∑ s : Fin 64, (b (ix2 s n) : EReal) * (xdt (ix2 s j) * w (ix2 s j)) := by
  unfold carry
  pointwise

/-! ## Sums along the chunk and the spreading over lanes -/

abbrev T64x1024 : Shape := ⟨2, ![64, 1024]⟩
abbrev T192x1024 : Shape := ⟨2, ![192, 1024]⟩
abbrev T64x192 : Shape := ⟨2, ![64, 192]⟩
abbrev T1024x128 : Shape := ⟨2, ![1024, 128]⟩
abbrev T1024x384 : Shape := ⟨2, ![1024, 384]⟩
abbrev T384x512 : Shape := ⟨2, ![384, 512]⟩
abbrev T1024x512 : Shape := ⟨2, ![1024, 512]⟩

/-- The rounding of `v`, of what it leaves, and of what that leaves. -/
def pieces {S : Shape} (v : FVec Ideal S .f32) (i : Fin 3) : FVec Ideal S .bf16 :=
  match i with
  | 0 => truncf .bf16 v (by decide)
  | 1 => truncf .bf16 (subf v (extf .f32 (truncf .bf16 v (by decide)) (by decide))) (by decide)
  | 2 => truncf .bf16 (subf (subf v (extf .f32 (truncf .bf16 v (by decide)) (by decide)))
      (extf .f32 (truncf .bf16 (subf v (extf .f32 (truncf .bf16 v (by decide)) (by decide))) (by decide)) (by decide))) (by decide)

theorem pieces_apply {S : Shape} (v : FVec Ideal S .f32) (i : Fin 3) (p : S.Idx) (h : ∃ r : ℝ, v p = (r : EReal)) :
    pieces v i p = if i = 0 then v p else (0 : EReal) := by
  obtain ⟨r, hr⟩ := h
  have hz : (v p : EReal) - v p = 0 := by rw [hr, ← EReal.coe_sub, sub_self, EReal.coe_zero]
  fin_cases i
  · rfl
  · exact hz
  · show ((v p : EReal) - v p) - (v p - v p) = 0
    rw [hz, sub_zero]

def runDims : DotDims T64x192 T192x1024 T64x1024 := ⟨[1], [0], [0], [1], [], [], by decide⟩
def spreadDims : DotDims T1024x384 T384x512 T1024x512 := ⟨[1], [0], [0], [1], [], [], by decide⟩

/-- The pieces of `v`, one under the other. -/
def under (v : FVec Ideal T64x1024 .f32) : FVec Ideal T192x1024 .bf16 :=
  concatenate T192x1024 0 (List.ofFn fun i : Fin 3 => (⟨T64x1024, pieces v i⟩ : (s : Shape) × (s.Idx → Ideal .bf16)))
    (by rw [List.map_ofFn]; exact (by decide : Shape.Concatenates (List.ofFn fun _ : Fin 3 => T64x1024) T192x1024 0))

/-- The pieces of `v`, side by side. -/
def beside (v : FVec Ideal T1024x128 .f32) : FVec Ideal T1024x384 .bf16 :=
  concatenate T1024x384 1 (List.ofFn fun i : Fin 3 => (⟨T1024x128, pieces v i⟩ : (s : Shape) × (s.Idx → Ideal .bf16)))
    (by rw [List.map_ofFn]; exact (by decide : Shape.Concatenates (List.ofFn fun _ : Fin 3 => T1024x128) T1024x384 1))

/-- The sums along the chunk, by a product with the tile of the positions at or before. -/
def runs (tri : FVec Ideal T64x192 .bf16) (v : FVec Ideal T64x1024 .f32) : FVec Ideal T64x1024 .f32 :=
  matmul runDims none tri (under v) (constant T64x1024 .f32 0x00000000#32)

/-- Every head's value on its lanes, by a product with the tile that names the head of a lane. -/
def spread (e : FVec Ideal T384x512 .bf16) (v : FVec Ideal T1024x128 .f32) : FVec Ideal T1024x512 .f32 :=
  matmul spreadDims none (beside v) e (constant T1024x512 .f32 0x00000000#32)

theorem runs_apply {tri : FVec Ideal T64x192 .bf16}
    (htri : ∀ (l : Fin 64) (q : Fin 192), tri (ix2 l q) = if q.val % 64 ≤ l.val then (1 : EReal) else 0) (v : FVec Ideal T64x1024 .f32)
    (l : Fin 64) (c : Fin 1024) (hv : ∀ s : Fin 64, ∃ r : ℝ, v (ix2 s c) = (r : EReal)) :
    runs tri v (ix2 l c) = ∑ s : Fin 64, if s ≤ l then (v (ix2 s c) : EReal) else 0 := by
  have hu : ∀ (i : Fin 3) (s : Fin 64), under v (ix2 (⟨i.val * 64 + s.val, by omega⟩ : Fin 192) c) = pieces v i (ix2 s c) := by
    intro i s
    have hs := s.isLt
    unfold under
    exact concatenate_ofFn_apply (t := T192x1024) (s₁ := T64x1024) 0 _ _ rfl 64 rfl _ i (by show (i.val * 64 + s.val) / 64 = _; omega) (ix2 s c)
      (by show s.val = (i.val * 64 + s.val) % 64; omega) (by intro b hb; fin_cases b <;> first | rfl | exact absurd rfl hb)
  unfold runs
  pointwise
  rw [Cert.Shared.sum_blocks 3 64 (fun q : Fin (3 * 64) => (tri (ix2 l q) : EReal) * under v (ix2 q c)), Finset.sum_eq_single 0]
  · refine Finset.sum_congr rfl fun s _ => ?_
    have hs := s.isLt
    show (tri (ix2 l _) : EReal) * under v (ix2 (⟨(0 : Fin 3).val * 64 + s.val, by omega⟩ : Fin 192) c) = _
    rw [hu, pieces_apply _ _ _ (hv s), if_pos rfl, htri]
    by_cases h : s ≤ l
    · rw [if_pos h, if_pos (by have := Fin.le_def.mp h; show (0 * 64 + s.val) % 64 ≤ _; omega), one_mul]
    · rw [if_neg h, if_neg (by have := fun h' => h (Fin.le_def.mpr h'); show ¬(0 * 64 + s.val) % 64 ≤ _; omega), zero_mul]
  · intro b _ hb
    refine Finset.sum_eq_zero fun s _ => ?_
    show (tri (ix2 l _) : EReal) * under v (ix2 (⟨b.val * 64 + s.val, by omega⟩ : Fin 192) c) = _
    rw [hu, pieces_apply _ _ _ (hv s), if_neg hb, mul_zero]
  · exact fun h => absurd (Finset.mem_univ _) h

theorem spread_apply {e : FVec Ideal T384x512 .bf16}
    (he : ∀ (n : Fin 384) (j : Fin 512), e (ix2 n j) = if n.val % 128 = j.val / 64 then (1 : EReal) else 0) (v : FVec Ideal T1024x128 .f32)
    (q : Fin 1024) (j : Fin 512) (n : Fin 128) (hn : n.val = j.val / 64) (hv : ∃ r : ℝ, v (ix2 q n) = (r : EReal)) :
    spread e v (ix2 q j) = v (ix2 q n) := by
  have hu : ∀ (i : Fin 3) (s : Fin 128), beside v (ix2 q (⟨i.val * 128 + s.val, by omega⟩ : Fin 384)) = pieces v i (ix2 q s) := by
    intro i s
    have hs := s.isLt
    unfold beside
    exact concatenate_ofFn_apply (t := T1024x384) (s₁ := T1024x128) 1 _ _ rfl 128 rfl _ i (by show (i.val * 128 + s.val) / 128 = _; omega) (ix2 q s)
      (by show s.val = (i.val * 128 + s.val) % 128; omega) (by intro b hb; fin_cases b <;> first | rfl | exact absurd rfl hb)
  have hj := j.isLt
  have term : ∀ (i : Fin 3) (s : Fin 128), (beside v (ix2 q (⟨i.val * 128 + s.val, by omega⟩ : Fin 384)) : EReal)
      * e (ix2 (⟨i.val * 128 + s.val, by omega⟩ : Fin 384) j) = if i = 0 ∧ s = n then (v (ix2 q n) : EReal) else 0 := by
    intro i s
    rw [hu, he]
    by_cases h : s = n
    · subst h
      rw [pieces_apply _ _ _ hv, if_pos (c := (i.val * 128 + s.val) % 128 = j.val / 64) (by omega), mul_one]
      simp
    · rw [if_neg (fun h' => h (Fin.ext (by have := s.isLt; change (i.val * 128 + s.val) % 128 = _ at h'; omega))), mul_zero, if_neg (fun h' => h h'.2)]
  unfold spread
  pointwise
  rw [Cert.Shared.sum_blocks 3 128 (fun p : Fin (3 * 128) => (beside v (ix2 q p) : EReal) * e (ix2 p j)), Finset.sum_eq_single 0, Finset.sum_eq_single n]
  · exact (term 0 n).trans (if_pos ⟨rfl, rfl⟩)
  · exact fun b _ hb => (term 0 b).trans (if_neg fun h => hb h.2)
  · exact fun h => absurd (Finset.mem_univ _) h
  · exact fun b _ hb => Finset.sum_eq_zero fun s _ => (term b s).trans (if_neg fun h => hb h.1)
  · exact fun h => absurd (Finset.mem_univ _) h

/-! ## The steps and the sums of all groups, on their lanes -/

/-- Eight tiles side by side. -/
def row8 (a : Fin 8 → FVec Ideal T64x128 .f32) : FVec Ideal T64x1024 .f32 :=
  concatenate T64x1024 1 (List.ofFn fun g : Fin 8 => (⟨T64x128, a g⟩ : (s : Shape) × (s.Idx → Ideal .f32)))
    (by rw [List.map_ofFn]; exact (by decide : Shape.Concatenates (List.ofFn fun _ : Fin 8 => T64x128) T64x1024 1))

/-- Lane `n` of tile `g`, of eight tiles of a hundred and twenty-eight lanes. -/
def lane8 (g : Fin 8) (n : Fin 128) : Fin 1024 := ⟨g.val * 128 + n.val, by have := g.isLt; have := n.isLt; omega⟩

theorem row8_apply (a : Fin 8 → FVec Ideal T64x128 .f32) (g : Fin 8) (s : Fin 64) (n : Fin 128) : row8 a (ix2 s (lane8 g n)) = a g (ix2 s n) := by
  have hn := n.isLt
  unfold row8
  exact concatenate_ofFn_apply (t := T64x1024) (s₁ := T64x128) 1 _ _ rfl 128 rfl _ g (by show (g.val * 128 + n.val) / 128 = _; omega) (ix2 s n)
    (by show n.val = (g.val * 128 + n.val) % 128; omega) (by intro b hb; fin_cases b <;> first | rfl | exact absurd rfl hb)

/-- The tile `g` of the sums. -/
def cut8 (v : FVec Ideal T64x1024 .f32) (g : Fin 8) : FVec Ideal T64x128 .f32 :=
  extractStridedSlice T64x128 ![0, g.val * 128] v (by revert g; decide)

theorem cut8_apply (v : FVec Ideal T64x1024 .f32) (g : Fin 8) (s : Fin 64) (n : Fin 128) : cut8 v g (ix2 s n) = v (ix2 s (lane8 g n)) := by
  unfold cut8
  pointwise
  rfl

/-- The steps of the groups and their sums, by turns, one under the other. -/
def column16 (dt cs : Fin 8 → FVec Ideal T64x128 .f32) : FVec Ideal T1024x128 .f32 :=
  concatenate T1024x128 0 (List.ofFn fun i : Fin 16 => (⟨T64x128, if i.val % 2 = 0 then dt ⟨i.val / 2, by omega⟩ else cs ⟨i.val / 2, by omega⟩⟩
    : (s : Shape) × (s.Idx → Ideal .f32)))
    (by rw [List.map_ofFn]; exact (by decide : Shape.Concatenates (List.ofFn fun _ : Fin 16 => T64x128) T1024x128 0))

/-- Row `s` of tile `i`, of sixteen tiles of sixty-four rows. -/
def row16 (i : Fin 16) (s : Fin 64) : Fin 1024 := ⟨i.val * 64 + s.val, by have := i.isLt; have := s.isLt; omega⟩

theorem column16_apply (dt cs : Fin 8 → FVec Ideal T64x128 .f32) (i : Fin 16) (s : Fin 64) (n : Fin 128) :
    column16 dt cs (ix2 (row16 i s) n) = if i.val % 2 = 0 then dt ⟨i.val / 2, by omega⟩ (ix2 s n) else cs ⟨i.val / 2, by omega⟩ (ix2 s n) := by
  have hs := s.isLt
  unfold column16
  refine (concatenate_ofFn_apply (t := T1024x128) (s₁ := T64x128) 0 _ _ rfl 64 rfl _ i (by show (i.val * 64 + s.val) / 64 = _; omega) (ix2 s n)
    (by show s.val = (i.val * 64 + s.val) % 64; omega) (by intro b hb; fin_cases b <;> first | rfl | exact absurd rfl hb)).trans ?_
  split_ifs <;> rfl

/-- The steps and the sums of all groups on the lanes of their heads. -/
def stack (e : FVec Ideal T384x512 .bf16) (tri : FVec Ideal T64x192 .bf16) (dt adt : Fin 8 → FVec Ideal T64x128 .f32) : FVec Ideal T1024x512 .f32 :=
  spread e (column16 dt (cut8 (runs tri (row8 adt))))

/-- Rows of tile `i` of the stack. -/
def tile16 (v : FVec Ideal T1024x512 .f32) (i : Fin 16) : FVec Ideal T64x512 .f32 :=
  extractStridedSlice T64x512 ![i.val * 64, 0] v (by revert i; decide)

theorem tile16_apply (v : FVec Ideal T1024x512 .f32) (i : Fin 16) (s : Fin 64) (j : Fin 512) : tile16 v i (ix2 s j) = v (ix2 (row16 i s) j) := by
  unfold tile16
  pointwise
  rfl

section
variable {e : FVec Ideal T384x512 .bf16} {tri : FVec Ideal T64x192 .bf16} {dt adt : Fin 8 → FVec Ideal T64x128 .f32}
  (he : ∀ (n : Fin 384) (j : Fin 512), e (ix2 n j) = if n.val % 128 = j.val / 64 then (1 : EReal) else 0)
  (htri : ∀ (l : Fin 64) (q : Fin 192), tri (ix2 l q) = if q.val % 64 ≤ l.val then (1 : EReal) else 0)
  (g : Fin 8) (n : Fin 128)
  (hdt : ∀ s : Fin 64, ∃ r : ℝ, dt g (ix2 s n) = (r : EReal)) (hadt : ∀ s : Fin 64, ∃ r : ℝ, adt g (ix2 s n) = (r : EReal))
  (j : Fin 512) (hn : n.val = j.val / 64) (l : Fin 64)
include he hn

include hdt in
theorem stack_dt (i : Fin 16) (hi : i.val = 2 * g.val) : tile16 (stack e tri dt adt) i (ix2 l j) = dt g (ix2 l n) := by
  have h : column16 dt (cut8 (runs tri (row8 adt))) (ix2 (row16 i l) n) = dt g (ix2 l n) := by
    rw [column16_apply, if_pos (by omega)]
    exact congrFun (congrArg dt (Fin.ext (by dsimp only; omega))) _
  unfold stack
  rw [tile16_apply, spread_apply he _ _ _ n hn (h ▸ hdt l), h]

include htri hadt in
theorem stack_cs (i : Fin 16) (hi : i.val = 2 * g.val + 1) :
    tile16 (stack e tri dt adt) i (ix2 l j) = ∑ s : Fin 64, if s ≤ l then (adt g (ix2 s n) : EReal) else 0 := by
  have hr : ∀ s : Fin 64, ∃ r : ℝ, row8 adt (ix2 s (lane8 g n)) = (r : EReal) := fun s => by rw [row8_apply]; exact hadt s
  have h : column16 dt (cut8 (runs tri (row8 adt))) (ix2 (row16 i l) n) = ∑ s : Fin 64, if s ≤ l then (adt g (ix2 s n) : EReal) else 0 := by
    rw [column16_apply, if_neg (by omega)]
    refine (congrFun (congrArg (cut8 (runs tri (row8 adt))) (Fin.ext (by dsimp only; omega) : _ = g)) _).trans ?_
    rw [cut8_apply, runs_apply htri _ _ _ hr]
    simp only [row8_apply]
  have hreal : ∃ r : ℝ, (∑ s : Fin 64, if s ≤ l then (adt g (ix2 s n) : EReal) else 0) = (r : EReal) := by
    choose f hf using hadt
    refine ⟨∑ s : Fin 64, if s ≤ l then f s else 0, ?_⟩
    rw [Cert.Shared.coe_sum]
    refine Finset.sum_congr rfl fun s _ => ?_
    rw [hf]
    split_ifs <;> simp
  unfold stack
  rw [tile16_apply, spread_apply he _ _ _ n hn (h ▸ hreal), h]
end

end Cert.Ssd
-- ==== Proof.SsdBody.lean ====
/-
  One grid point of the forward state-space kernel, group by group: the vector expressions over the blocks it reads, and
  their entries as the scan over chunks has them.
-/
module

public import proofs.«01_k».proof.Proof.SsdVec
public import proofs.«01_k».proof.Proof.SsdSpec
public import Idealize.ShloMosaic.Lib.Pipeline.ValueKit
public import Idealize.ShloMosaic.Lib.Pointwise

@[expose] public section

set_option maxRecDepth 16384

noncomputable section

namespace Cert.Ssd

open Idealize.ShloMosaic

abbrev T64x6144 : Shape := ⟨2, ![64, 6144]⟩
abbrev T8x64x128 : Shape := ⟨3, ![8, 64, 128]⟩
abbrev T1x64x128 : Shape := ⟨3, ![1, 64, 128]⟩
abbrev T8x1x128 : Shape := ⟨3, ![8, 1, 128]⟩
abbrev T1x1x128 : Shape := ⟨3, ![1, 1, 128]⟩
abbrev T1x128 : Shape := ⟨2, ![1, 128]⟩
abbrev T8x1x512 : Shape := ⟨3, ![8, 1, 512]⟩
abbrev T1x1x512 : Shape := ⟨3, ![1, 1, 512]⟩
abbrev T8x128x512 : Shape := ⟨3, ![8, 128, 512]⟩
abbrev T1x128x512 : Shape := ⟨3, ![1, 128, 512]⟩

/-- The log of one plus the exponential. -/
def soft (v : EReal) : EReal := max v 0 + Ideal.log (1 + Ideal.exp (0 - (max v (-v) : EReal)))

def softplus (v : FVec Ideal T64x128 .f32) : FVec Ideal T64x128 .f32 :=
  addf (maximumf v (broadcast T64x128 (Scalar.ofBits .f32 0x00000000#32)))
    (log (addf (broadcast T64x128 (Scalar.ofBits .f32 0x3F800000#32)) (exp (subf (broadcast T64x128 (Scalar.ofBits .f32 0x00000000#32)) (absf v)))))

theorem softplus_apply (v : FVec Ideal T64x128 .f32) (l : Fin 64) (n : Fin 128) : softplus v (ix2 l n) = soft (v (ix2 l n)) := by
  unfold softplus soft
  pointwise
  rfl

theorem soft_real (r : ℝ) : ∃ q : ℝ, soft (r : EReal) = (q : EReal) := by
  refine ⟨max r 0 + Real.log (1 + Real.exp (0 - max r (-r))), ?_⟩
  have hp : ¬(1 + Real.exp (0 - max r (-r)) ≤ 0) := not_le.mpr (by positivity)
  have hm (a b : ℝ) : max (a : EReal) b = ((max a b : ℝ) : EReal) := (EReal.coe_strictMono.monotone.map_max).symm
  unfold soft
  rw [← EReal.coe_neg, ← EReal.coe_zero, hm, hm, ← EReal.coe_sub]
  show ((max r 0 : ℝ) : EReal) + Ideal.log (1 + ((Real.exp (0 - max r (-r)) : ℝ) : EReal)) = _
  rw [← EReal.coe_one, ← EReal.coe_add]
  show ((max r 0 : ℝ) : EReal) + (if _ then _ else _ : EReal) = _
  rw [if_neg hp, ← EReal.coe_add]

/-! ## What the scan reads, of the arguments -/

/-- Head `r` of group `g`. -/
def head (g r : Fin 8) : Fin 64 := ⟨g.val * 8 + r.val, by omega⟩
/-- Column `p` of head `r` of group `g`. -/
def xcol (g r : Fin 8) (p : Fin 64) : Fin 6144 := ⟨g.val * 512 + (r.val * 64 + p.val), by omega⟩
def bcol (g : Fin 8) (n : Fin 128) : Fin 6144 := ⟨4096 + g.val * 128 + n.val, by omega⟩
def ccol (g : Fin 8) (n : Fin 128) : Fin 6144 := ⟨5120 + g.val * 128 + n.val, by omega⟩

/-- The scan's rows, of the projected input, the steps, their bias and the decay logarithms. -/
def dataOf (x : Fin 4096 → Fin 6144 → EReal) (dt : Fin 4096 → Fin 64 → EReal) (bias alog : Fin 64 → EReal) : Data where
  xdt t g r p := x t (xcol g r p) * soft (dt t (head g r) + bias (head g r))
  adt t g r := soft (dt t (head g r) + bias (head g r)) * -Ideal.exp (alog (head g r))
  b t g n := x t (bcol g n)
  c t g n := x t (ccol g n)

/-! ## The blocks of a grid point -/

section
variable (X0 : Vec Ideal T64x6144 .f32) (X1 : Vec Ideal T8x64x128 .f32) (X2 X3 : Vec Ideal T8x1x128 .f32) (X4 : Vec Ideal T8x1x512 .f32)
  (X7 : Vec Ideal T384x512 .bf16) (X9 : Vec Ideal T64x192 .bf16) (X11 X12 : Vec Ideal T64x512 .f32) (st : Vec Ideal T8x128x512 .f32)
  (mask : Ideal .f32) (g : Fin 8)

theorem inX : ∀ a : Fin 2, (![0, g.val * 512] : Fin 2 → ℕ) a + (![64, 512] : Fin 2 → ℕ) a ≤ T64x6144.size a :=
  Fin.forall_fin_two.mpr ⟨by show 0 + 64 ≤ 64; omega, by show g.val * 512 + 512 ≤ 6144; omega⟩
theorem inB : ∀ a : Fin 2, (![0, 4096 + g.val * 128] : Fin 2 → ℕ) a + (![64, 128] : Fin 2 → ℕ) a ≤ T64x6144.size a :=
  Fin.forall_fin_two.mpr ⟨by show 0 + 64 ≤ 64; omega, by show 4096 + g.val * 128 + 128 ≤ 6144; omega⟩
theorem inC : ∀ a : Fin 2, (![0, 5120 + g.val * 128] : Fin 2 → ℕ) a + (![64, 128] : Fin 2 → ℕ) a ≤ T64x6144.size a :=
  Fin.forall_fin_two.mpr ⟨by show 0 + 64 ≤ 64; omega, by show 5120 + g.val * 128 + 128 ≤ 6144; omega⟩
theorem inG (x y : ℕ) : ∀ a : Fin 3, (![g.val, 0, 0] : Fin 3 → ℕ) a + (![1, x, y] : Fin 3 → ℕ) a ≤ (⟨3, ![8, x, y]⟩ : Shape).size a := by
  intro a
  have := g.isLt
  fin_cases a
  · show g.val + 1 ≤ 8; omega
  · show 0 + x ≤ x; omega
  · show 0 + y ≤ y; omega

def cutX : FVec Ideal T64x512 .f32 := View.ld X0 (Rect.unit ![0, g.val * 512] ![64, 512] (inX g))
def cutB : FVec Ideal T64x128 .f32 := View.ld X0 (Rect.unit ![0, 4096 + g.val * 128] ![64, 128] (inB g))
def cutC : FVec Ideal T64x128 .f32 := View.ld X0 (Rect.unit ![0, 5120 + g.val * 128] ![64, 128] (inC g))
theorem casts_64x128 : T1x64x128.ShapeCasts T64x128 := by decide
theorem casts_1x128 : T1x1x128.ShapeCasts T1x128 := by decide
theorem casts_1x512 : T1x1x512.ShapeCasts T1x512 := by decide
theorem casts_128x512 : T1x128x512.ShapeCasts T128x512 := by decide
theorem casts_384x512 : T384x512.ShapeCasts T384x512 := by decide
theorem casts_64x192 : T64x192.ShapeCasts T64x192 := by decide

def cutDt : FVec Ideal T64x128 .f32 := shapeCast T64x128 (s := T1x64x128) (View.ld X1 (Rect.unit ![g.val, 0, 0] ![1, 64, 128] (inG g 64 128))) casts_64x128
def cutRow (X : Vec Ideal T8x1x128 .f32) : FVec Ideal T1x128 .f32 :=
  shapeCast T1x128 (s := T1x1x128) (View.ld X (Rect.unit ![g.val, 0, 0] ![1, 1, 128] (inG g 1 128))) casts_1x128
def cutSkip : FVec Ideal T1x512 .f32 :=
  shapeCast T1x512 (s := T1x1x512) (View.ld X4 (Rect.unit ![g.val, 0, 0] ![1, 1, 512] (inG g 1 512))) casts_1x512
def cutSt : FVec Ideal T128x512 .f32 :=
  shapeCast T128x512 (s := T1x128x512) (View.ld st (Rect.unit ![g.val, 0, 0] ![1, 128, 512] (inG g 128 512))) casts_128x512

/-- The steps of the group's heads. -/
def dts : FVec Ideal T64x128 .f32 := softplus (addf (cutDt X1 g) (broadcastTo T64x128 (cutRow g X2) (by decide +kernel)))
/-- The exponents of the group's heads. -/
def adts : FVec Ideal T64x128 .f32 :=
  mulf (dts X1 X2 g) (broadcastTo T64x128 (subf (broadcast T1x128 (Scalar.ofBits .f32 0x00000000#32)) (exp (cutRow g X3))) (by decide +kernel))
/-- The steps and the sums of the exponents of every group, head by lane. -/
def both : FVec Ideal T1024x512 .f32 :=
  stack (shapeCast T384x512 X7 casts_384x512) (shapeCast T64x192 X9 casts_64x192) (fun g => dts X1 X2 g) (fun g => adts X1 X2 X3 g)
def laneDt : FVec Ideal T64x512 .f32 := tile16 (both X1 X2 X3 X7 X9) ⟨2 * g.val, by omega⟩
def laneCs : FVec Ideal T64x512 .f32 := tile16 (both X1 X2 X3 X7 X9) ⟨2 * g.val + 1, by omega⟩
def lastCs : FVec Ideal T1x512 .f32 := extractStridedSlice T1x512 ![63, 0] (laneCs X1 X2 X3 X7 X9 g) (by decide +kernel)
def stepped : FVec Ideal T64x512 .f32 := mulf (cutX X0 g) (laneDt X1 X2 X3 X7 X9 g)

/-- The group's output rows. -/
def yOf : FVec Ideal T64x512 .f32 :=
  addf (mix (cutB X0 g) (cutC X0 g) (exp (laneCs X1 X2 X3 X7 X9 g)) (decay (laneCs X1 X2 X3 X7 X9 g) X11 X12 mask) (stepped X0 X1 X2 X3 X7 X9 g) (cutSt st g))
    (mulf (broadcastTo T64x512 (cutSkip X4 g) (by decide +kernel)) (cutX X0 g))

/-- The group's state after the chunk. -/
def nextOf : FVec Ideal T128x512 .f32 :=
  carry (cutB X0 g) (exp (subf (broadcastTo T64x512 (lastCs X1 X2 X3 X7 X9 g) (by decide +kernel)) (laneCs X1 X2 X3 X7 X9 g)))
    (exp (lastCs X1 X2 X3 X7 X9 g)) (stepped X0 X1 X2 X3 X7 X9 g) (cutSt st g)

end

section
variable {X0 : Vec Ideal T64x6144 .f32} {X1 : Vec Ideal T8x64x128 .f32} {X2 X3 : Vec Ideal T8x1x128 .f32} {X4 : Vec Ideal T8x1x512 .f32}
  {X7 : Vec Ideal T384x512 .bf16} {X9 : Vec Ideal T64x192 .bf16} {X11 X12 : Vec Ideal T64x512 .f32} {st : Vec Ideal T8x128x512 .f32}
  {mask : Ideal .f32} (g r : Fin 8) (l p : Fin 64) (n : Fin 128)

theorem cutX_apply : cutX X0 g (ix2 l (at8 r p)) = X0 (ix2 l (xcol g r p)) := by
  unfold cutX xcol at8
  pointwise
theorem cutB_apply : cutB X0 g (ix2 l n) = X0 (ix2 l (bcol g n)) := by
  unfold cutB bcol
  pointwise
theorem cutC_apply : cutC X0 g (ix2 l n) = X0 (ix2 l (ccol g n)) := by
  unfold cutC ccol
  pointwise
theorem cutDt_apply : cutDt X1 g (ix2 l n) = X1 (ix3 g l n) := by
  unfold cutDt
  pointwise
theorem cutRow_apply (X : Vec Ideal T8x1x128 .f32) : cutRow g X (ix2 0 n) = X (ix3 g 0 n) := by
  unfold cutRow
  pointwise
theorem cutSkip_apply : cutSkip X4 g (ix2 0 (at8 r p)) = X4 (ix3 g 0 (at8 r p)) := by
  unfold cutSkip
  pointwise
theorem cutSt_apply : cutSt st g (ix2 n (at8 r p)) = st (ix3 g n (at8 r p)) := by
  unfold cutSt
  pointwise

/-- The blocks hold chunk `k` of the arguments. -/
structure Reads (x : Fin 4096 → Fin 6144 → EReal) (dt : Fin 4096 → Fin 64 → EReal) (bias alog skip : Fin 64 → EReal) (k : ℕ)
    (X0 : Vec Ideal T64x6144 .f32) (X1 : Vec Ideal T8x64x128 .f32) (X2 X3 : Vec Ideal T8x1x128 .f32) (X4 : Vec Ideal T8x1x512 .f32)
    (X7 : Vec Ideal T384x512 .bf16) (X9 : Vec Ideal T64x192 .bf16) (X11 X12 : Vec Ideal T64x512 .f32) : Prop where
  xAt : ∀ (l : Fin 64) (q : Fin 6144), X0 (ix2 l q) = x (row k l) q
  dtAt : ∀ (g r : Fin 8) (l : Fin 64), X1 (ix3 g l (⟨r.val, by omega⟩ : Fin 128)) = dt (row k l) (head g r)
  biasAt : ∀ g r : Fin 8, X2 (ix3 g 0 (⟨r.val, by omega⟩ : Fin 128)) = bias (head g r)
  alogAt : ∀ g r : Fin 8, X3 (ix3 g 0 (⟨r.val, by omega⟩ : Fin 128)) = alog (head g r)
  skipAt : ∀ (g r : Fin 8) (p : Fin 64), X4 (ix3 g 0 (at8 r p)) = skip (head g r)
  eAt : ∀ (n : Fin 384) (j : Fin 512), X7 (ix2 n j) = if n.val % 128 = j.val / 64 then (1 : EReal) else 0
  triAt : ∀ (l : Fin 64) (q : Fin 192), X9 (ix2 l q) = if q.val % 64 ≤ l.val then (1 : EReal) else 0
  itAt : ∀ (x : Fin 64) (j : Fin 512), X11 (ix2 x j) = if x.val = j.val % 64 then (1 : EReal) else 0
  lmAt : ∀ (l : Fin 64) (j : Fin 512), X12 (ix2 l j) = if j.val % 64 ≤ l.val then (1 : EReal) else 0
  dtReal : ∀ t h, ∃ q : ℝ, dt t h = (q : EReal)
  biasReal : ∀ h, ∃ q : ℝ, bias h = (q : EReal)
  alogReal : ∀ h, ∃ q : ℝ, alog h = (q : EReal)

variable {x : Fin 4096 → Fin 6144 → EReal} {dt : Fin 4096 → Fin 64 → EReal} {bias alog skip : Fin 64 → EReal} {k : ℕ}
  (H : Reads x dt bias alog skip k X0 X1 X2 X3 X4 X7 X9 X11 X12)
include H

theorem dts_apply : dts X1 X2 g (ix2 l (⟨r.val, by omega⟩ : Fin 128)) = soft (dt (row k l) (head g r) + bias (head g r)) := by
  unfold dts
  rw [softplus_apply]
  pointwise
  rw [cutDt_apply, cutRow_apply, H.dtAt, H.biasAt]

theorem dts_real : ∃ q : ℝ, dts X1 X2 g (ix2 l (⟨r.val, by omega⟩ : Fin 128)) = (q : EReal) := by
  rw [dts_apply g r l H]
  obtain ⟨a, ha⟩ := H.dtReal (row k l) (head g r)
  obtain ⟨b, hb⟩ := H.biasReal (head g r)
  rw [ha, hb, ← EReal.coe_add]
  exact soft_real _

theorem adts_apply : adts X1 X2 X3 g (ix2 l (⟨r.val, by omega⟩ : Fin 128)) = (dataOf x dt bias alog).adt (row k l) g r := by
  unfold adts
  pointwise
  rw [cutRow_apply, dts_apply g r l H, H.alogAt, zero_sub]
  rfl

theorem adts_real : ∃ q : ℝ, adts X1 X2 X3 g (ix2 l (⟨r.val, by omega⟩ : Fin 128)) = (q : EReal) := by
  obtain ⟨d, hd⟩ := dts_real g r l H
  obtain ⟨a, ha⟩ := H.alogReal (head g r)
  rw [adts_apply g r l H]
  rw [dts_apply g r l H] at hd
  refine ⟨d * -Real.exp a, ?_⟩
  show soft _ * -Ideal.exp _ = _
  rw [hd, ha, EReal.coe_mul, EReal.coe_neg]
  rfl

theorem at8_div : (⟨r.val, by omega⟩ : Fin 128).val = (at8 r p).val / 64 := by
  show r.val = (r.val * 64 + p.val) / 64
  omega

theorem casts_e : ∀ (n : Fin 384) (j : Fin 512), shapeCast T384x512 X7 casts_384x512 (ix2 n j) = if n.val % 128 = j.val / 64 then (1 : EReal) else 0 := by
  intro n j
  rw [← H.eAt]
  pointwise

theorem casts_tri : ∀ (l : Fin 64) (q : Fin 192), shapeCast T64x192 X9 casts_64x192 (ix2 l q) = if q.val % 64 ≤ l.val then (1 : EReal) else 0 := by
  intro l q
  rw [← H.triAt]
  pointwise

theorem laneDt_apply : laneDt X1 X2 X3 X7 X9 g (ix2 l (at8 r p)) = soft (dt (row k l) (head g r) + bias (head g r)) := by
  rw [← dts_apply g r l H]
  exact stack_dt (casts_e H) g _ (fun s => dts_real g r s H) (at8 r p) (at8_div r p H) l _ rfl

theorem laneCs_apply : laneCs X1 X2 X3 X7 X9 g (ix2 l (at8 r p)) = (dataOf x dt bias alog).cs k g r l := by
  refine (stack_cs (casts_e H) (casts_tri H) g _ (fun s => adts_real g r s H) (at8 r p) (at8_div r p H) l _ rfl).trans ?_
  simp only [adts_apply _ _ _ H]
  rfl

theorem lastCs_apply : lastCs X1 X2 X3 X7 X9 g (ix2 0 (at8 r p)) = (dataOf x dt bias alog).cs k g r 63 := by
  rw [← laneCs_apply g r 63 p H]
  unfold lastCs
  pointwise

theorem stepped_apply : stepped X0 X1 X2 X3 X7 X9 g (ix2 l (at8 r p)) = (dataOf x dt bias alog).xdt (row k l) g r p := by
  unfold stepped
  pointwise
  rw [cutX_apply, laneDt_apply g r l p H, H.xAt]
  rfl

variable (hst : ∀ (g r : Fin 8) (p : Fin 64) (n : Fin 128), st (ix3 g n (at8 r p)) = (dataOf x dt bias alog).state k g r p n)
include hst

theorem yOf_apply (hm : mask = (⊥ : EReal)) : yOf X0 X1 X2 X3 X4 X7 X9 X11 X12 st mask g (ix2 l (at8 r p))
    = (dataOf x dt bias alog).y k g r l p + skip (head g r) * x (row k l) (xcol g r p) := by
  have h8 := at8_div r p H
  unfold yOf
  pointwise
  rw [mix_apply _ _ _ _ _ _ _ _ r (by rw [← h8])]
  pointwise
  simp only [decay_apply hm H.itAt H.lmAt, laneCs_apply _ _ _ _ H, stepped_apply _ _ _ _ H, cutB_apply, cutC_apply, cutX_apply, cutSt_apply, cutSkip_apply, H.xAt, hst, H.skipAt]
  unfold Data.y Data.decay
  refine congrArg₂ (· + ·) (congrArg₂ (· + ·) (Finset.sum_congr rfl fun s _ => ?_) ?_) rfl
  · rw [mul_comm]
    refine congrArg₂ (· * ·) rfl (congrArg₂ (· * ·) (Finset.sum_congr rfl fun n _ => mul_comm _ _) rfl)
  · rw [mul_comm]
    refine congrArg₂ (· * ·) (Finset.sum_congr rfl fun n _ => mul_comm _ _) rfl

theorem nextOf_apply : nextOf X0 X1 X2 X3 X7 X9 st g (ix2 n (at8 r p)) = (dataOf x dt bias alog).state (k + 1) g r p n := by
  unfold nextOf
  rw [carry_apply]
  pointwise
  simp only [laneCs_apply _ _ _ _ H, lastCs_apply _ _ _ H, stepped_apply _ _ _ _ H, cutB_apply, cutSt_apply, H.xAt, hst]
  show _ = _ * _ + _
  refine congrArg₂ (· + ·) (mul_comm _ _) (Finset.sum_congr rfl fun s _ => ?_)
  rw [mul_comm, mul_comm (Data.xdt _ _ _ _ _)]
  rfl

end

end Cert.Ssd
-- ==== Proof.SsdFHost.lean ====
/-
  What the forward state-space kernel's host lines hand to it, entry by entry, and the blocks a grid point reads of them.
-/
module

public import proofs.«01_k».proof.Proof.Gen.Kernel6Ideal.Value
public import proofs.«01_k».proof.Proof.SsdBody
public import Idealize.ShloMosaic.Lib.Pipeline.ValueKit
public import Idealize.ShloMosaic.Lib.Pointwise

@[expose] public section

set_option maxRecDepth 16384

noncomputable section

namespace Cert.SsdF

open Cert.Kernel6Ideal Cert.Kernel6Ideal.Gen Cert.Ssd Idealize.ShloMosaic Idealize.ShloMosaic.TcCoe Idealize.SL.Sem
open Idealize.ShloMosaic.Pipeline (Dat)

variable (m : (ℓ : Loc nD τ sig) → Buf (Elt Ideal) ℓ) (c : Dev nD)

/-- The entries of the arguments: the values before the scan, the steps, and the per-head constants. -/
def xin (i : Fin 4096) (q : Fin 6144) : EReal := m (c, Proc.devRef .tc main_arg0) (ix2 i q)
def dtin (i : Fin 4096) (h : Fin 64) : EReal := m (c, Proc.devRef .tc main_arg1) (ix2 i h)
def bias (h : Fin 64) : EReal := m (c, Proc.devRef .tc main_arg2) (ix2 0 h)
def alog (h : Fin 64) : EReal := m (c, Proc.devRef .tc main_arg3) (ix2 0 h)
def skip (h : Fin 64) : EReal := m (c, Proc.devRef .tc main_arg4) (ix2 0 h)
def gate (i : Fin 4096) (q : Fin 4096) : EReal := m (c, Proc.devRef .tc main_arg5) (ix2 i (⟨q.val, by omega⟩ : Fin 10240))
def gain (q : Fin 4096) : EReal := m (c, Proc.devRef .tc main_arg6) (ix2 0 q)

theorem pick_eq {a b : ℕ} (ha : a < 2 ^ 31) (hb : b < 2 ^ 31) :
    (Scalar.select (IntOp.cmpi .eq (BitVec.ofNat 32 a) (BitVec.ofNat 32 b)) 1 0 : EReal) = if a = b then 1 else 0 := by
  rw [WordCmp.cmpi_eq_ofNat (by omega) (by omega)]
  by_cases h : a = b <;> simp [h, Scalar.select]

theorem pick_ge {a b : ℕ} (ha : a < 2 ^ 31) (hb : b < 2 ^ 31) :
    (Scalar.select (IntOp.cmpi .sge (BitVec.ofNat 32 a) (BitVec.ofNat 32 b)) 1 0 : EReal) = if b ≤ a then 1 else 0 := by
  rw [WordCmp.cmpi_sge_ofNat (by omega) (by omega)]
  by_cases h : b ≤ a <;> simp [h, Scalar.select]

theorem padRow (x : FVec Ideal S8x1x8 .f32) (v : FVec Ideal S_ .f32) (g r : Fin 8) :
    pad S8x1x128 ![0, 0, 0] ![0, 0, 120] ![0, 0, 0] x v pads_S8x1x8_S8x1x128_000_000_01200 h_S_ (ix3 g 0 (⟨r.val, by omega⟩ : Fin 128)) = x (ix3 g 0 r) := by
  pointwise

theorem padRows (x : FVec Ideal S8x4096x8 .f32) (v : FVec Ideal S_ .f32) (g r : Fin 8) (i : Fin 4096) :
    pad S8x4096x128 ![0, 0, 0] ![0, 0, 120] ![0, 0, 0] x v pads_S8x4096x8_S8x4096x128_000_000_01200 h_S_ (ix3 g i (⟨r.val, by omega⟩ : Fin 128)) = x (ix3 g i r) := by
  pointwise

variable (g r : Fin 8)

theorem host1 : V m c main_v1 (ix3 g 0 (⟨r.val, by omega⟩ : Fin 128)) = bias m c (head g r) := by
  unfold bias head
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  refine (padRow (shapeCast S8x1x8 (s := S1x64) (m (c, Proc.devRef .tc main_arg2)) shapeCasts_S1x64_S8x1x8) (sitofp .f32 (constantI S_ 32 0#32)) g r).trans ?_
  pointwise
theorem host3 : V m c main_v3 (ix3 g 0 (⟨r.val, by omega⟩ : Fin 128)) = alog m c (head g r) := by
  unfold alog head
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  refine (padRow (shapeCast S8x1x8 (s := S1x64) (m (c, Proc.devRef .tc main_arg3)) shapeCasts_S1x64_S8x1x8) (sitofp .f32 (constantI S_ 32 0#32)) g r).trans ?_
  pointwise
theorem host6 (p : Fin 64) : V m c main_v6 (ix3 g 0 (at8 r p)) = skip m c (head g r) := by
  unfold skip head at8
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  simp only [StableHlo.TRef.toBuf, StableHlo.TRef.ofBuf]
  pointwise
theorem host9 (i : Fin 4096) : V m c main_v9 (ix3 g i (⟨r.val, by omega⟩ : Fin 128)) = dtin m c i (head g r) := by
  unfold dtin head
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  refine (padRows (transpose S8x4096x8 [1, 0, 2] (shapeCast S4096x8x8 (s := S4096x64) (m (c, Proc.devRef .tc main_arg1)) shapeCasts_S4096x64_S4096x8x8)
    transposes_S4096x8x8_S8x4096x8_1_0_2) (sitofp .f32 (constantI S_ 32 0#32)) g r i).trans ?_
  pointwise
theorem host32 (l : Fin 64) (j : Fin 512) : V m c main_v32 (ix2 l j) = if l.val = j.val % 64 then (1 : EReal) else 0 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  try pointwise
  show select (cmpi .eq (iotaInDim S64x8x64 32 0) (iotaInDim S64x8x64 32 2)) (broadcastInDim S64x8x64 ![] bcast_S_S64x8x64 (constant S_ .f32 0x3F800000#32))
    (broadcastInDim S64x8x64 ![] bcast_S_S64x8x64 (constant S_ .f32 0x00000000#32)) (ix3 l (⟨j.val / 64, _⟩ : Fin 8) (⟨j.val % 64, _⟩ : Fin 64)) = _
  pointwise
  exact pick_eq (by omega) (by omega)
theorem host37 (l : Fin 64) (j : Fin 512) : V m c main_v37 (ix2 l j) = if j.val % 64 ≤ l.val then (1 : EReal) else 0 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  try pointwise
  show select (cmpi .sge (iotaInDim S64x8x64 32 0) (iotaInDim S64x8x64 32 2)) (broadcastInDim S64x8x64 ![] bcast_S_S64x8x64 (constant S_ .f32 0x3F800000#32))
    (broadcastInDim S64x8x64 ![] bcast_S_S64x8x64 (constant S_ .f32 0x00000000#32)) (ix3 l (⟨j.val / 64, _⟩ : Fin 8) (⟨j.val % 64, _⟩ : Fin 64)) = _
  pointwise
  exact pick_ge (by omega) (by omega)
theorem host13 (l q : Fin 64) : V m c main_v13 (ix2 l q) = if q.val ≤ l.val then (1 : EReal) else 0 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  try pointwise
  show select (cmpi .sge (iotaInDim S64x64 32 0) (iotaInDim S64x64 32 1)) (broadcastInDim S64x64 ![] bcast_S_S64x64 (constant S_ .f32 0x3F800000#32))
    (broadcastInDim S64x64 ![] bcast_S_S64x64 (constant S_ .f32 0x00000000#32)) (ix2 l q) = _
  pointwise
  exact pick_ge (by omega) (by omega)
theorem host22 (n : Fin 128) (j : Fin 512) : V m c main_v22 (ix2 n j) = if n.val = j.val / 64 then (1 : EReal) else 0 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  try pointwise
  show select (cmpi .eq (iotaInDim S128x8x64 32 0) (iotaInDim S128x8x64 32 1)) (broadcastInDim S128x8x64 ![] bcast_S_S128x8x64 (constant S_ .f32 0x3F800000#32))
    (broadcastInDim S128x8x64 ![] bcast_S_S128x8x64 (constant S_ .f32 0x00000000#32)) (ix3 n (⟨j.val / 64, _⟩ : Fin 8) (⟨j.val % 64, _⟩ : Fin 64)) = _
  pointwise
  exact pick_eq (by omega) (by omega)

/-- Three copies of the head expansion, one under the other. -/
theorem host39 (n : Fin 384) (j : Fin 512) : V m c main_v39 (ix2 n j) = if n.val % 128 = j.val / 64 then (1 : EReal) else 0 := by
  have e : V m c main_v39 = truncf (F := Ideal) .bf16 (concatenate S384x512 0 (List.ofFn fun _ : Fin 3 => (⟨S128x512, (V m c main_v22 : FVec Ideal S128x512 .f32)⟩ : Σ s : Shape, FVec Ideal s .f32))
      concatenates_S128x512_S128x512_S128x512_S384x512_d0) bitsLt_bf16_f32 := by
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
    after_results
    rfl
  rw [e]
  show concatenate S384x512 0 (List.ofFn fun _ : Fin 3 => (⟨S128x512, (V m c main_v22 : FVec Ideal S128x512 .f32)⟩ : Σ s : Shape, FVec Ideal s .f32)) concatenates_S128x512_S128x512_S128x512_S384x512_d0 (ix2 n j) = _
  refine (concatenate_ofFn_apply (t := S384x512) (s₁ := S128x512) 0 _ _ rfl 128 rfl (ix2 n j) (⟨n.val / 128, by omega⟩ : Fin 3) rfl (ix2 (⟨n.val % 128, by omega⟩ : Fin 128) j) rfl
    (by intro b hb; fin_cases b <;> first | rfl | exact absurd rfl hb)).trans ?_
  exact host22 m c _ j

/-- Three copies of the lower triangle of ones, side by side. -/
theorem host43 (l : Fin 64) (q : Fin 192) : V m c main_v43 (ix2 l q) = if q.val % 64 ≤ l.val then (1 : EReal) else 0 := by
  have e : V m c main_v43 = truncf (F := Ideal) .bf16 (concatenate S64x192 1 (List.ofFn fun _ : Fin 3 => (⟨S64x64, (V m c main_v13 : FVec Ideal S64x64 .f32)⟩ : Σ s : Shape, FVec Ideal s .f32))
      concatenates_S64x64_S64x64_S64x64_S64x192_d1) bitsLt_bf16_f32 := by
    simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
    after_results
    rfl
  rw [e]
  show concatenate S64x192 1 (List.ofFn fun _ : Fin 3 => (⟨S64x64, (V m c main_v13 : FVec Ideal S64x64 .f32)⟩ : Σ s : Shape, FVec Ideal s .f32)) concatenates_S64x64_S64x64_S64x64_S64x192_d1 (ix2 l q) = _
  refine (concatenate_ofFn_apply (t := S64x192) (s₁ := S64x64) 1 _ _ rfl 64 rfl (ix2 l q) (⟨q.val / 64, by omega⟩ : Fin 3) rfl (ix2 l (⟨q.val % 64, by omega⟩ : Fin 64)) rfl
    (by intro b hb; fin_cases b <;> first | rfl | exact absurd rfl hb)).trans ?_
  exact host13 m c l _

/-! ## The blocks a grid point reads -/

theorem idx : ∀ t : Fin cfg0.N, win0_0.index t = ![t.val, 0] ∧ win0_1.index t = ![0, t.val, 0] ∧ win0_2.index t = ![0, 0, 0] ∧ win0_3.index t = ![0, 0, 0] ∧
    win0_4.index t = ![0, 0, 0] ∧ win0_5.index t = ![t.val, 0] ∧ win0_6.index t = ![0, 0] ∧ win0_7.index t = ![0, 0] ∧ win0_9.index t = ![0, 0] ∧
    win0_11.index t = ![0, 0] ∧ win0_12.index t = ![0, 0] := by decide +kernel

theorem idxOut : ∀ t : Fin cfg0.N, win0_13.index t = ![t.val, 0] ∧ win0_14.index t = ![t.val, 0, 0, 0] ∧ win0_15.index t = ![t.val, 0] ∧ win0_16.index t = ![t.val, 0] := by decide +kernel

variable (t : Fin cfg0.N)

theorem row_eq (l : Fin 64) : (row t.val l).val = t.val * 64 + l.val := by
  have h := t.isLt
  have hN : cfg0.N = 64 := rfl
  have := l.isLt
  unfold row
  first | rfl | (dsimp only; omega)

theorem blk0 (l : Fin 64) (q : Fin 6144) : iblk m c 0 t (ix2 l q) = xin m c (row t.val l) q := by
  unfold xin; blk_ext [iblk, V_main_arg0, row_eq, (idx t).1]
theorem blk1 (l : Fin 64) : iblk m c 1 t (ix3 g l (⟨r.val, by omega⟩ : Fin 128)) = dtin m c (row t.val l) (head g r) := by
  rw [← host9]; blk_ext [iblk, row_eq, (idx t).2.1]
theorem blk2 : iblk m c 2 t (ix3 g 0 (⟨r.val, by omega⟩ : Fin 128)) = bias m c (head g r) := by
  rw [← host1]; blk_ext [iblk, (idx t).2.2.1]
theorem blk3 : iblk m c 3 t (ix3 g 0 (⟨r.val, by omega⟩ : Fin 128)) = alog m c (head g r) := by
  rw [← host3]; blk_ext [iblk, (idx t).2.2.2.1]
theorem blk4 (p : Fin 64) : iblk m c 4 t (ix3 g 0 (at8 r p)) = skip m c (head g r) := by
  rw [← host6 m c g r p]; blk_ext [iblk, (idx t).2.2.2.2.1]
theorem blk6 (q : Fin 4096) : iblk m c 6 t (ix2 0 q) = gain m c q := by
  unfold gain; blk_ext [iblk, V_main_arg6, (idx t).2.2.2.2.2.2.1]
theorem blk7 (n : Fin 384) (j : Fin 512) : iblk m c 7 t (ix2 n j) = if n.val % 128 = j.val / 64 then (1 : EReal) else 0 := by
  rw [← host39 m c]; blk_ext [iblk, (idx t).2.2.2.2.2.2.2.1]
theorem blk9 (l : Fin 64) (q : Fin 192) : iblk m c 9 t (ix2 l q) = if q.val % 64 ≤ l.val then (1 : EReal) else 0 := by
  rw [← host43 m c]; blk_ext [iblk, (idx t).2.2.2.2.2.2.2.2.1]
theorem blk11 (l : Fin 64) (j : Fin 512) : iblk m c 11 t (ix2 l j) = if l.val = j.val % 64 then (1 : EReal) else 0 := by
  rw [← host32 m c]; blk_ext [iblk, (idx t).2.2.2.2.2.2.2.2.2.1]
theorem blk12 (l : Fin 64) (j : Fin 512) : iblk m c 12 t (ix2 l j) = if j.val % 64 ≤ l.val then (1 : EReal) else 0 := by
  rw [← host37 m c]; blk_ext [iblk, (idx t).2.2.2.2.2.2.2.2.2.2]
theorem blk5 (l : Fin 64) (q : Fin 4096) : X0_5 m c t (ix2 l q) = gate m c (row t.val l) q := by
  unfold X0_5 Pipeline.Window.fill
  rw [dif_pos (moved0_5 t _)]
  unfold gate; blk_ext [iblk, V_main_arg5, row_eq, (idx t).2.2.2.2.2.1]

/-- The point's blocks are the chunk's rows. -/
theorem reads (hd : ∀ i h, ∃ q : ℝ, dtin m c i h = (q : EReal)) (hb : ∀ h, ∃ q : ℝ, bias m c h = (q : EReal)) (ha : ∀ h, ∃ q : ℝ, alog m c h = (q : EReal)) :
    Reads (xin m c) (dtin m c) (bias m c) (alog m c) (skip m c) t.val (iblk m c 0 t) (iblk m c 1 t) (iblk m c 2 t) (iblk m c 3 t) (iblk m c 4 t)
      (iblk m c 7 t) (iblk m c 9 t) (iblk m c 11 t) (iblk m c 12 t) where
  xAt := blk0 m c t
  dtAt g r := blk1 m c g r t
  biasAt g r := blk2 m c g r t
  alogAt g r := blk3 m c g r t
  skipAt g r := blk4 m c g r t
  eAt := blk7 m c t
  triAt := blk9 m c t
  itAt := blk11 m c t
  lmAt := blk12 m c t
  dtReal := hd
  biasReal := hb
  alogReal := ha

end Cert.SsdF
-- ==== Proof.SsdFTile.lean ====
/-
  The eight groups of the state-space kernel as pieces of its blocks: the columns of the output rows, and the planes of the
  states.
-/
module

public import proofs.«01_k».proof.Proof.SsdBody
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ssd

open Idealize.ShloMosaic

abbrev T64x4096 : Shape := ⟨2, ![64, 4096]⟩
abbrev T1x8x128x512 : Shape := ⟨4, ![1, 8, 128, 512]⟩
abbrev T1x1x128x512 : Shape := ⟨4, ![1, 1, 128, 512]⟩

/-- Eight column tiles side by side. -/
def cols (f : Fin 8 → FVec Ideal T64x512 .f32) : Vec Ideal T64x4096 .f32 :=
  fun i => f ⟨(i 1).val / 512, by have : (i 1).val < 4096 := (i 1).isLt; omega⟩ (ix2 (i 0) (⟨(i 1).val % 512, Nat.mod_lt _ (by decide)⟩ : Fin 512))

theorem cols_apply (f : Fin 8 → FVec Ideal T64x512 .f32) (l : Fin 64) (g : Fin 8) (j : Fin 512) :
    cols f (ix2 l (⟨g.val * 512 + j.val, by omega⟩ : Fin 4096)) = f g (ix2 l j) := by
  have hg := g.isLt
  have hj := j.isLt
  unfold cols
  have e1 : (⟨(g.val * 512 + j.val) / 512, by omega⟩ : Fin 8) = g := Fin.ext (by show _ / 512 = _; omega)
  have e2 : (⟨(g.val * 512 + j.val) % 512, Nat.mod_lt _ (by decide)⟩ : Fin 512) = j := Fin.ext (by show _ % 512 = _; omega)
  exact congr (congrArg f e1) (congrArg (ix2 l) e2)

theorem cols_piece (f : Fin 8 → FVec Ideal T64x512 .f32) (g : Fin 8) (off : ℕ) (ho : off = g.val * 512)
    (inb : ∀ a : Fin 2, (![0, off] : Fin 2 → ℕ) a + (![64, 512] : Fin 2 → ℕ) a ≤ T64x4096.size a) (v : FVec Ideal T64x512 .f32) (hv : v = f g) :
    ∀ x : T64x512.Idx, v x = cols f ((Rect.unit (s := T64x4096) ![0, off] ![64, 512] inb).emb x) := by
  subst ho hv
  intro x
  have h0 : (x 0).val < 64 := (x 0).isLt
  have h1 : (x 1).val < 512 := (x 1).isLt
  have e : (Rect.unit (s := T64x4096) ![0, g.val * 512] ![64, 512] inb).emb x = ix2 (⟨(x 0).val, h0⟩ : Fin 64) (⟨g.val * 512 + (x 1).val, by omega⟩ : Fin 4096) := by
    funext a
    refine Fin.ext ?_
    rw [Rect.emb_apply]
    fin_cases a
    · show 0 + 1 * (x 0).val = (x 0).val; omega
    · show g.val * 512 + 1 * (x 1).val = g.val * 512 + (x 1).val; omega
  rw [e]
  refine Eq.trans ?_ (cols_apply f ⟨(x 0).val, h0⟩ g ⟨(x 1).val, h1⟩).symm
  exact congrArg (f g) (funext fun a => by fin_cases a <;> rfl)

/-- Eight planes, one per group. -/
def planes (f : Fin 8 → FVec Ideal T128x512 .f32) : Vec Ideal T8x128x512 .f32 := fun i => f (i 0) (ix2 (i 1) (i 2))

theorem planes_piece (f : Fin 8 → FVec Ideal T128x512 .f32) (g : Fin 8) (off : ℕ) (ho : off = g.val)
    (inb : ∀ a : Fin 3, (![off, 0, 0] : Fin 3 → ℕ) a + (![1, 128, 512] : Fin 3 → ℕ) a ≤ T8x128x512.size a) (v : FVec Ideal T1x128x512 .f32)
    (hc : T128x512.ShapeCasts T1x128x512) (hv : v = shapeCast T1x128x512 (f g) hc) :
    ∀ x : T1x128x512.Idx, v x = planes f ((Rect.unit (s := T8x128x512) ![off, 0, 0] ![1, 128, 512] inb).emb x) := by
  subst ho hv
  intro x
  have h0 : (x 0).val < 1 := (x 0).isLt
  have h1 : (x 1).val < 128 := (x 1).isLt
  have h2 : (x 2).val < 512 := (x 2).isLt
  have e : (Rect.unit (s := T8x128x512) ![g.val, 0, 0] ![1, 128, 512] inb).emb x = ix3 g (⟨(x 1).val, h1⟩ : Fin 128) (⟨(x 2).val, h2⟩ : Fin 512) := by
    funext a
    refine Fin.ext ?_
    rw [Rect.emb_apply]
    fin_cases a
    · show g.val + 1 * (x 0).val = g.val; omega
    · show 0 + 1 * (x 1).val = (x 1).val; omega
    · show 0 + 1 * (x 2).val = (x 2).val; omega
  have ex : x = ix3 (0 : Fin 1) (⟨(x 1).val, h1⟩ : Fin 128) (⟨(x 2).val, h2⟩ : Fin 512) := by
    funext a
    refine Fin.ext ?_
    fin_cases a
    · show (x 0).val = 0; omega
    · rfl
    · rfl
  rw [e]
  refine (congrArg (shapeCast T1x128x512 (f g) hc) ex).trans ?_
  generalize (⟨(x 1).val, h1⟩ : Fin 128) = n
  generalize (⟨(x 2).val, h2⟩ : Fin 512) = j
  pointwise
  rfl

/-- A carried state as an output: one leading axis more. -/
def kept (st : Vec Ideal T8x128x512 .f32) : Vec Ideal T1x8x128x512 .f32 := fun i => st (ix3 (i 1) (i 2) (i 3))

theorem kept_piece (st : Vec Ideal T8x128x512 .f32) (g : Fin 8) (off : ℕ) (ho : off = g.val)
    (inb : ∀ a : Fin 4, (![0, off, 0, 0] : Fin 4 → ℕ) a + (![1, 1, 128, 512] : Fin 4 → ℕ) a ≤ T1x8x128x512.size a) (v : FVec Ideal T1x1x128x512 .f32)
    (hc : T128x512.ShapeCasts T1x1x128x512) (hv : v = shapeCast T1x1x128x512 (cutSt st g) hc) :
    ∀ x : T1x1x128x512.Idx, v x = kept st ((Rect.unit (s := T1x8x128x512) ![0, off, 0, 0] ![1, 1, 128, 512] inb).emb x) := by
  subst ho hv
  intro x
  have h0 : (x 0).val < 1 := (x 0).isLt
  have h1 : (x 1).val < 1 := (x 1).isLt
  have h2 : (x 2).val < 128 := (x 2).isLt
  have h3 : (x 3).val < 512 := (x 3).isLt
  have e : (Rect.unit (s := T1x8x128x512) ![0, g.val, 0, 0] ![1, 1, 128, 512] inb).emb x = ix4 (0 : Fin 1) g (⟨(x 2).val, h2⟩ : Fin 128) (⟨(x 3).val, h3⟩ : Fin 512) := by
    funext a
    refine Fin.ext ?_
    rw [Rect.emb_apply]
    fin_cases a
    · show 0 + 1 * (x 0).val = 0; omega
    · show g.val + 1 * (x 1).val = g.val; omega
    · show 0 + 1 * (x 2).val = (x 2).val; omega
    · show 0 + 1 * (x 3).val = (x 3).val; omega
  have ex : x = ix4 (0 : Fin 1) (0 : Fin 1) (⟨(x 2).val, h2⟩ : Fin 128) (⟨(x 3).val, h3⟩ : Fin 512) := by
    funext a
    refine Fin.ext ?_
    fin_cases a
    · show (x 0).val = 0; omega
    · show (x 1).val = 0; omega
    · rfl
    · rfl
  have h3' : (⟨(x 3).val, h3⟩ : Fin 512) = at8 (⟨(x 3).val / 64, by omega⟩ : Fin 8) (⟨(x 3).val % 64, Nat.mod_lt _ (by decide)⟩ : Fin 64) := by
    unfold at8; exact Fin.ext (by show (x 3).val = _ / 64 * 64 + _ % 64; omega)
  rw [e]
  refine (congrArg (shapeCast T1x1x128x512 (cutSt st g) hc) ex).trans ?_
  rw [h3']
  generalize (⟨(x 2).val, h2⟩ : Fin 128) = n
  generalize (⟨(x 3).val / 64, _⟩ : Fin 8) = r
  generalize (⟨(x 3).val % 64, _⟩ : Fin 64) = p
  pointwise
  first | exact cutSt_apply .. | exact (cutSt_apply ..).trans rfl

theorem kept_all (st : Vec Ideal T8x128x512 .f32) (v0 v1 v2 v3 v4 v5 v6 v7 : FVec Ideal T1x1x128x512 .f32) (L : List (View.Piece (Elt Ideal) T1x8x128x512 .f32)) (b0 : ∀ a : Fin 4, (![0, 0, 0, 0] : Fin 4 → ℕ) a + (![1, 1, 128, 512] : Fin 4 → ℕ) a ≤ T1x8x128x512.size a) (b1 : ∀ a : Fin 4, (![0, 1, 0, 0] : Fin 4 → ℕ) a + (![1, 1, 128, 512] : Fin 4 → ℕ) a ≤ T1x8x128x512.size a) (b2 : ∀ a : Fin 4, (![0, 2, 0, 0] : Fin 4 → ℕ) a + (![1, 1, 128, 512] : Fin 4 → ℕ) a ≤ T1x8x128x512.size a) (b3 : ∀ a : Fin 4, (![0, 3, 0, 0] : Fin 4 → ℕ) a + (![1, 1, 128, 512] : Fin 4 → ℕ) a ≤ T1x8x128x512.size a) (b4 : ∀ a : Fin 4, (![0, 4, 0, 0] : Fin 4 → ℕ) a + (![1, 1, 128, 512] : Fin 4 → ℕ) a ≤ T1x8x128x512.size a) (b5 : ∀ a : Fin 4, (![0, 5, 0, 0] : Fin 4 → ℕ) a + (![1, 1, 128, 512] : Fin 4 → ℕ) a ≤ T1x8x128x512.size a) (b6 : ∀ a : Fin 4, (![0, 6, 0, 0] : Fin 4 → ℕ) a + (![1, 1, 128, 512] : Fin 4 → ℕ) a ≤ T1x8x128x512.size a) (b7 : ∀ a : Fin 4, (![0, 7, 0, 0] : Fin 4 → ℕ) a + (![1, 1, 128, 512] : Fin 4 → ℕ) a ≤ T1x8x128x512.size a)
    (h0 : v0 = shapeCast T1x1x128x512 (cutSt st 0) (by decide)) (h1 : v1 = shapeCast T1x1x128x512 (cutSt st 1) (by decide)) (h2 : v2 = shapeCast T1x1x128x512 (cutSt st 2) (by decide)) (h3 : v3 = shapeCast T1x1x128x512 (cutSt st 3) (by decide)) (h4 : v4 = shapeCast T1x1x128x512 (cutSt st 4) (by decide)) (h5 : v5 = shapeCast T1x1x128x512 (cutSt st 5) (by decide)) (h6 : v6 = shapeCast T1x1x128x512 (cutSt st 6) (by decide)) (h7 : v7 = shapeCast T1x1x128x512 (cutSt st 7) (by decide)) :
    View.canon (⟨Rect.unit (s := T1x8x128x512) ![0, 7, 0, 0] ![1, 1, 128, 512] b7, v7⟩ :: ⟨Rect.unit (s := T1x8x128x512) ![0, 6, 0, 0] ![1, 1, 128, 512] b6, v6⟩ :: ⟨Rect.unit (s := T1x8x128x512) ![0, 5, 0, 0] ![1, 1, 128, 512] b5, v5⟩ :: ⟨Rect.unit (s := T1x8x128x512) ![0, 4, 0, 0] ![1, 1, 128, 512] b4, v4⟩ ::
      ⟨Rect.unit (s := T1x8x128x512) ![0, 3, 0, 0] ![1, 1, 128, 512] b3, v3⟩ :: ⟨Rect.unit (s := T1x8x128x512) ![0, 2, 0, 0] ![1, 1, 128, 512] b2, v2⟩ :: ⟨Rect.unit (s := T1x8x128x512) ![0, 1, 0, 0] ![1, 1, 128, 512] b1, v1⟩ :: ⟨Rect.unit (s := T1x8x128x512) ![0, 0, 0, 0] ![1, 1, 128, 512] b0, v0⟩ :: L) = kept st := by
  funext y
  refine View.canon_append_of_piecesOf (kept st) L [⟨Rect.unit (s := T1x8x128x512) ![0, 7, 0, 0] ![1, 1, 128, 512] b7, v7⟩, ⟨Rect.unit (s := T1x8x128x512) ![0, 6, 0, 0] ![1, 1, 128, 512] b6, v6⟩, ⟨Rect.unit (s := T1x8x128x512) ![0, 5, 0, 0] ![1, 1, 128, 512] b5, v5⟩, ⟨Rect.unit (s := T1x8x128x512) ![0, 4, 0, 0] ![1, 1, 128, 512] b4, v4⟩, ⟨Rect.unit (s := T1x8x128x512) ![0, 3, 0, 0] ![1, 1, 128, 512] b3, v3⟩, ⟨Rect.unit (s := T1x8x128x512) ![0, 2, 0, 0] ![1, 1, 128, 512] b2, v2⟩, ⟨Rect.unit (s := T1x8x128x512) ![0, 1, 0, 0] ![1, 1, 128, 512] b1, v1⟩, ⟨Rect.unit (s := T1x8x128x512) ![0, 0, 0, 0] ![1, 1, 128, 512] b0, v0⟩]
    ⟨kept_piece _ 7 7 rfl b7 _ (by decide) h7, kept_piece _ 6 6 rfl b6 _ (by decide) h6, kept_piece _ 5 5 rfl b5 _ (by decide) h5, kept_piece _ 4 4 rfl b4 _ (by decide) h4, kept_piece _ 3 3 rfl b3 _ (by decide) h3, kept_piece _ 2 2 rfl b2 _ (by decide) h2, kept_piece _ 1 1 rfl b1 _ (by decide) h1, kept_piece _ 0 0 rfl b0 _ (by decide) h0, trivial⟩ y ?_
  exact View.cover_of_tiled _ ![1, 1, 128, 512] (by rfl) y

theorem planes_all (f : Fin 8 → FVec Ideal T128x512 .f32) (v0 v1 v2 v3 v4 v5 v6 v7 : FVec Ideal T1x128x512 .f32) (L : List (View.Piece (Elt Ideal) T8x128x512 .f32)) (b0 : ∀ a : Fin 3, (![0, 0, 0] : Fin 3 → ℕ) a + (![1, 128, 512] : Fin 3 → ℕ) a ≤ T8x128x512.size a) (b1 : ∀ a : Fin 3, (![1, 0, 0] : Fin 3 → ℕ) a + (![1, 128, 512] : Fin 3 → ℕ) a ≤ T8x128x512.size a) (b2 : ∀ a : Fin 3, (![2, 0, 0] : Fin 3 → ℕ) a + (![1, 128, 512] : Fin 3 → ℕ) a ≤ T8x128x512.size a) (b3 : ∀ a : Fin 3, (![3, 0, 0] : Fin 3 → ℕ) a + (![1, 128, 512] : Fin 3 → ℕ) a ≤ T8x128x512.size a) (b4 : ∀ a : Fin 3, (![4, 0, 0] : Fin 3 → ℕ) a + (![1, 128, 512] : Fin 3 → ℕ) a ≤ T8x128x512.size a) (b5 : ∀ a : Fin 3, (![5, 0, 0] : Fin 3 → ℕ) a + (![1, 128, 512] : Fin 3 → ℕ) a ≤ T8x128x512.size a) (b6 : ∀ a : Fin 3, (![6, 0, 0] : Fin 3 → ℕ) a + (![1, 128, 512] : Fin 3 → ℕ) a ≤ T8x128x512.size a) (b7 : ∀ a : Fin 3, (![7, 0, 0] : Fin 3 → ℕ) a + (![1, 128, 512] : Fin 3 → ℕ) a ≤ T8x128x512.size a)
    (h0 : v0 = shapeCast T1x128x512 (f 0) (by decide)) (h1 : v1 = shapeCast T1x128x512 (f 1) (by decide)) (h2 : v2 = shapeCast T1x128x512 (f 2) (by decide)) (h3 : v3 = shapeCast T1x128x512 (f 3) (by decide)) (h4 : v4 = shapeCast T1x128x512 (f 4) (by decide)) (h5 : v5 = shapeCast T1x128x512 (f 5) (by decide)) (h6 : v6 = shapeCast T1x128x512 (f 6) (by decide)) (h7 : v7 = shapeCast T1x128x512 (f 7) (by decide)) :
    View.canon (⟨Rect.unit (s := T8x128x512) ![7, 0, 0] ![1, 128, 512] b7, v7⟩ :: ⟨Rect.unit (s := T8x128x512) ![6, 0, 0] ![1, 128, 512] b6, v6⟩ :: ⟨Rect.unit (s := T8x128x512) ![5, 0, 0] ![1, 128, 512] b5, v5⟩ :: ⟨Rect.unit (s := T8x128x512) ![4, 0, 0] ![1, 128, 512] b4, v4⟩ ::
      ⟨Rect.unit (s := T8x128x512) ![3, 0, 0] ![1, 128, 512] b3, v3⟩ :: ⟨Rect.unit (s := T8x128x512) ![2, 0, 0] ![1, 128, 512] b2, v2⟩ :: ⟨Rect.unit (s := T8x128x512) ![1, 0, 0] ![1, 128, 512] b1, v1⟩ :: ⟨Rect.unit (s := T8x128x512) ![0, 0, 0] ![1, 128, 512] b0, v0⟩ :: L) = planes f := by
  funext y
  refine View.canon_append_of_piecesOf (planes f) L [⟨Rect.unit (s := T8x128x512) ![7, 0, 0] ![1, 128, 512] b7, v7⟩, ⟨Rect.unit (s := T8x128x512) ![6, 0, 0] ![1, 128, 512] b6, v6⟩, ⟨Rect.unit (s := T8x128x512) ![5, 0, 0] ![1, 128, 512] b5, v5⟩, ⟨Rect.unit (s := T8x128x512) ![4, 0, 0] ![1, 128, 512] b4, v4⟩, ⟨Rect.unit (s := T8x128x512) ![3, 0, 0] ![1, 128, 512] b3, v3⟩, ⟨Rect.unit (s := T8x128x512) ![2, 0, 0] ![1, 128, 512] b2, v2⟩, ⟨Rect.unit (s := T8x128x512) ![1, 0, 0] ![1, 128, 512] b1, v1⟩, ⟨Rect.unit (s := T8x128x512) ![0, 0, 0] ![1, 128, 512] b0, v0⟩]
    ⟨planes_piece _ 7 7 rfl b7 _ (by decide) h7, planes_piece _ 6 6 rfl b6 _ (by decide) h6, planes_piece _ 5 5 rfl b5 _ (by decide) h5, planes_piece _ 4 4 rfl b4 _ (by decide) h4, planes_piece _ 3 3 rfl b3 _ (by decide) h3, planes_piece _ 2 2 rfl b2 _ (by decide) h2, planes_piece _ 1 1 rfl b1 _ (by decide) h1, planes_piece _ 0 0 rfl b0 _ (by decide) h0, trivial⟩ y ?_
  exact View.cover_of_tiled _ ![1, 128, 512] (by rfl) y

theorem cols_all (f : Fin 8 → FVec Ideal T64x512 .f32) (v0 v1 v2 v3 v4 v5 v6 v7 : FVec Ideal T64x512 .f32) (L : List (View.Piece (Elt Ideal) T64x4096 .f32)) (b0 : ∀ a : Fin 2, (![0, 0] : Fin 2 → ℕ) a + (![64, 512] : Fin 2 → ℕ) a ≤ T64x4096.size a) (b1 : ∀ a : Fin 2, (![0, 512] : Fin 2 → ℕ) a + (![64, 512] : Fin 2 → ℕ) a ≤ T64x4096.size a) (b2 : ∀ a : Fin 2, (![0, 1024] : Fin 2 → ℕ) a + (![64, 512] : Fin 2 → ℕ) a ≤ T64x4096.size a) (b3 : ∀ a : Fin 2, (![0, 1536] : Fin 2 → ℕ) a + (![64, 512] : Fin 2 → ℕ) a ≤ T64x4096.size a) (b4 : ∀ a : Fin 2, (![0, 2048] : Fin 2 → ℕ) a + (![64, 512] : Fin 2 → ℕ) a ≤ T64x4096.size a) (b5 : ∀ a : Fin 2, (![0, 2560] : Fin 2 → ℕ) a + (![64, 512] : Fin 2 → ℕ) a ≤ T64x4096.size a) (b6 : ∀ a : Fin 2, (![0, 3072] : Fin 2 → ℕ) a + (![64, 512] : Fin 2 → ℕ) a ≤ T64x4096.size a) (b7 : ∀ a : Fin 2, (![0, 3584] : Fin 2 → ℕ) a + (![64, 512] : Fin 2 → ℕ) a ≤ T64x4096.size a)
    (h0 : v0 = f 0) (h1 : v1 = f 1) (h2 : v2 = f 2) (h3 : v3 = f 3) (h4 : v4 = f 4) (h5 : v5 = f 5) (h6 : v6 = f 6) (h7 : v7 = f 7) :
    View.canon (⟨Rect.unit (s := T64x4096) ![0, 3584] ![64, 512] b7, v7⟩ :: ⟨Rect.unit (s := T64x4096) ![0, 3072] ![64, 512] b6, v6⟩ :: ⟨Rect.unit (s := T64x4096) ![0, 2560] ![64, 512] b5, v5⟩ :: ⟨Rect.unit (s := T64x4096) ![0, 2048] ![64, 512] b4, v4⟩ ::
      ⟨Rect.unit (s := T64x4096) ![0, 1536] ![64, 512] b3, v3⟩ :: ⟨Rect.unit (s := T64x4096) ![0, 1024] ![64, 512] b2, v2⟩ :: ⟨Rect.unit (s := T64x4096) ![0, 512] ![64, 512] b1, v1⟩ :: ⟨Rect.unit (s := T64x4096) ![0, 0] ![64, 512] b0, v0⟩ :: L) = cols f := by
  funext y
  refine View.canon_append_of_piecesOf (cols f) L [⟨Rect.unit (s := T64x4096) ![0, 3584] ![64, 512] b7, v7⟩, ⟨Rect.unit (s := T64x4096) ![0, 3072] ![64, 512] b6, v6⟩, ⟨Rect.unit (s := T64x4096) ![0, 2560] ![64, 512] b5, v5⟩, ⟨Rect.unit (s := T64x4096) ![0, 2048] ![64, 512] b4, v4⟩, ⟨Rect.unit (s := T64x4096) ![0, 1536] ![64, 512] b3, v3⟩, ⟨Rect.unit (s := T64x4096) ![0, 1024] ![64, 512] b2, v2⟩, ⟨Rect.unit (s := T64x4096) ![0, 512] ![64, 512] b1, v1⟩, ⟨Rect.unit (s := T64x4096) ![0, 0] ![64, 512] b0, v0⟩]
    ⟨cols_piece _ 7 3584 rfl b7 _ h7, cols_piece _ 6 3072 rfl b6 _ h6, cols_piece _ 5 2560 rfl b5 _ h5, cols_piece _ 4 2048 rfl b4 _ h4, cols_piece _ 3 1536 rfl b3 _ h3, cols_piece _ 2 1024 rfl b2 _ h2, cols_piece _ 1 512 rfl b1 _ h1, cols_piece _ 0 0 rfl b0 _ h0, trivial⟩ y ?_
  exact View.cover_of_tiled _ ![64, 512] (by rfl) y

end Cert.Ssd
-- ==== Proof.SsdFPoint.lean ====
/-
  What a grid point of the forward state-space kernel leaves behind, group by group: the output rows, the states it was
  handed, the gated norm of the rows, and the states for the next point.
-/
module

public import proofs.«01_k».proof.Proof.Gen.Kernel6Ideal.Value
public import proofs.«01_k».proof.Proof.SsdFTile

@[expose] public section

set_option maxRecDepth 65536
set_option maxHeartbeats 4000000

noncomputable section

namespace Cert.SsdF

open Cert.Kernel6Ideal Cert.Kernel6Ideal.Gen Cert.Ssd Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The state carried into a point after the first, and the zeros that the first one starts from. -/
def carried : Vec Ideal T8x128x512 .f32 := (outsAt0 m c (t.val - 1) (Nat.lt_of_le_of_lt (Nat.sub_le _ _) t.isLt)).2.2.2.2
def fresh : Vec Ideal T8x128x512 .f32 := k0_pay1 (F := Ideal)

/-- The value that takes a masked decay to zero. -/
abbrev never : Ideal .f32 := Named.named κ "mask" 0xF149F2CA#32

/-- A group's output rows, and its state after the chunk, at the blocks of a point. -/
abbrev yAt (st : Vec Ideal T8x128x512 .f32) (g : Fin 8) : FVec Ideal T64x512 .f32 :=
  yOf (iblk m c 0 t) (iblk m c 1 t) (iblk m c 2 t) (iblk m c 3 t) (iblk m c 4 t) (iblk m c 7 t) (iblk m c 9 t) (iblk m c 11 t) (iblk m c 12 t) st never g
abbrev nextAt (st : Vec Ideal T8x128x512 .f32) (g : Fin 8) : FVec Ideal T128x512 .f32 :=
  nextOf (iblk m c 0 t) (iblk m c 1 t) (iblk m c 2 t) (iblk m c 3 t) (iblk m c 7 t) (iblk m c 9 t) st g

/-- A load of a whole block, after pieces of it were stored, reads the pieces. -/
theorem readCov_whole (L : List (View.Piece (Elt Ideal) T64x4096 .f32)) (inb) :
    (ms0_13 t).view.readCov L (Rect.unit (s := T64x4096) ![0, 0] ![64, 4096] inb).toLoadRect = View.canon L := by
  rw [View.readCov_eq_canon']
  funext j
  refine congrArg (View.canon L) (funext fun a => Fin.ext ?_)
  fin_cases a <;> simp [Rect.unit]

theorem statesA (h : t.val % 64 = 0) : (outsAt0 m c t.val t.isLt).2.1 = kept fresh := by
  rw [outsAt0_A m c t h]
  frame_open
  simp (disch := decide) only [↓ View.readCov_skip, ↓ View.readCov_cons_toLoadRect, ↓ View.readCov_fill]
  frame_out
  exact kept_all _ _ _ _ _ _ _ _ _ _ _ _ _ _ _ _ _ _ rfl rfl rfl rfl rfl rfl rfl rfl

theorem nextA (h : t.val % 64 = 0) : (outsAt0 m c t.val t.isLt).2.2.2.2 = planes (nextAt m c t fresh) := by
  rw [outsAt0_A m c t h]
  frame_open
  simp (disch := decide) only [↓ View.readCov_skip, ↓ View.readCov_cons_toLoadRect, ↓ View.readCov_fill]
  frame_out
  exact planes_all _ _ _ _ _ _ _ _ _ _ _ _ _ _ _ _ _ _ rfl rfl rfl rfl rfl rfl rfl rfl

theorem rowsA (h : t.val % 64 = 0) : (outsAt0 m c t.val t.isLt).1 = cols (yAt m c t fresh) := by
  rw [outsAt0_A m c t h]
  frame_open
  simp (disch := decide) only [↓ View.readCov_skip, ↓ View.readCov_cons_toLoadRect, ↓ View.readCov_fill]
  frame_out
  exact cols_all _ _ _ _ _ _ _ _ _ _ _ _ _ _ _ _ _ _ rfl rfl rfl rfl rfl rfl rfl rfl

theorem rootA (h : t.val % 64 = 0) : (outsAt0 m c t.val t.isLt).2.2.2.1 = k0_pay242 (cols (yAt m c t fresh)) (X0_5 m c t) := by
  rw [outsAt0_A m c t h]
  frame_open
  simp (disch := decide) only [↓ View.readCov_skip, ↓ View.readCov_cons_toLoadRect, ↓ View.readCov_fill]
  frame_out
  refine congrArg (fun y => k0_pay242 y (X0_5 m c t)) ?_
  exact (readCov_whole _ _ _).trans (cols_all _ _ _ _ _ _ _ _ _ _ _ _ _ _ _ _ _ _ rfl rfl rfl rfl rfl rfl rfl rfl)

theorem normedA (h : t.val % 64 = 0) : (outsAt0 m c t.val t.isLt).2.2.1 = k0_pay243 (cols (yAt m c t fresh)) (X0_5 m c t) (iblk m c 6 t) := by
  rw [outsAt0_A m c t h]
  frame_open
  simp (disch := decide) only [↓ View.readCov_skip, ↓ View.readCov_cons_toLoadRect, ↓ View.readCov_fill]
  frame_out
  refine congrArg (fun y => k0_pay243 y (X0_5 m c t) (iblk m c 6 t)) ?_
  exact (readCov_whole _ _ _).trans (cols_all _ _ _ _ _ _ _ _ _ _ _ _ _ _ _ _ _ _ rfl rfl rfl rfl rfl rfl rfl rfl)

theorem statesB (h : ¬t.val % 64 = 0) : (outsAt0 m c t.val t.isLt).2.1 = kept (carried m c t) := by
  rw [outsAt0_B m c t h]
  frame_open
  simp (disch := decide) only [↓ View.readCov_skip, ↓ View.readCov_cons_toLoadRect, ↓ View.readCov_fill]
  frame_out
  simp only [read_unread_whole]
  exact kept_all _ _ _ _ _ _ _ _ _ _ _ _ _ _ _ _ _ _ rfl rfl rfl rfl rfl rfl rfl rfl

theorem nextB (h : ¬t.val % 64 = 0) : (outsAt0 m c t.val t.isLt).2.2.2.2 = planes (nextAt m c t (carried m c t)) := by
  rw [outsAt0_B m c t h]
  frame_open
  simp (disch := decide) only [↓ View.readCov_skip, ↓ View.readCov_cons_toLoadRect, ↓ View.readCov_fill]
  frame_out
  simp only [read_unread_whole]
  exact planes_all _ _ _ _ _ _ _ _ _ _ _ _ _ _ _ _ _ _ rfl rfl rfl rfl rfl rfl rfl rfl

theorem rowsB (h : ¬t.val % 64 = 0) : (outsAt0 m c t.val t.isLt).1 = cols (yAt m c t (carried m c t)) := by
  rw [outsAt0_B m c t h]
  frame_open
  simp (disch := decide) only [↓ View.readCov_skip, ↓ View.readCov_cons_toLoadRect, ↓ View.readCov_fill]
  frame_out
  simp only [read_unread_whole]
  exact cols_all _ _ _ _ _ _ _ _ _ _ _ _ _ _ _ _ _ _ rfl rfl rfl rfl rfl rfl rfl rfl

theorem rootB (h : ¬t.val % 64 = 0) : (outsAt0 m c t.val t.isLt).2.2.2.1 = k0_pay242 (cols (yAt m c t (carried m c t))) (X0_5 m c t) := by
  rw [outsAt0_B m c t h]
  frame_open
  simp (disch := decide) only [↓ View.readCov_skip, ↓ View.readCov_cons_toLoadRect, ↓ View.readCov_fill]
  frame_out
  simp only [read_unread_whole]
  refine congrArg (fun y => k0_pay242 y (X0_5 m c t)) ?_
  exact (readCov_whole _ _ _).trans (cols_all _ _ _ _ _ _ _ _ _ _ _ _ _ _ _ _ _ _ rfl rfl rfl rfl rfl rfl rfl rfl)

theorem normedB (h : ¬t.val % 64 = 0) : (outsAt0 m c t.val t.isLt).2.2.1 = k0_pay243 (cols (yAt m c t (carried m c t))) (X0_5 m c t) (iblk m c 6 t) := by
  rw [outsAt0_B m c t h]
  frame_open
  simp (disch := decide) only [↓ View.readCov_skip, ↓ View.readCov_cons_toLoadRect, ↓ View.readCov_fill]
  frame_out
  simp only [read_unread_whole]
  refine congrArg (fun y => k0_pay243 y (X0_5 m c t) (iblk m c 6 t)) ?_
  exact (readCov_whole _ _ _).trans (cols_all _ _ _ _ _ _ _ _ _ _ _ _ _ _ _ _ _ _ rfl rfl rfl rfl rfl rfl rfl rfl)

end Cert.SsdF
-- ==== Proof.SsdOut.lean ====
/-
  The results of the forward state-space pass, entry by entry: the scan with the skipped input, the states that each chunk
  starts from, and the gated norm.
-/
module

public import proofs.«01_k».proof.Proof.SsdBody
public import Idealize.ShloMosaic.Lib.Pipeline.ValueKit
public import Idealize.ShloMosaic.Lib.Pointwise

@[expose] public section

set_option maxRecDepth 16384

noncomputable section

namespace Cert.Ssd

open Idealize.ShloMosaic

def chunkOf (i : Fin 4096) : ℕ := i.val / 64
def posOf (i : Fin 4096) : Fin 64 := ⟨i.val % 64, Nat.mod_lt _ (by decide)⟩
def groupOf (q : Fin 4096) : Fin 8 := ⟨q.val / 512, by omega⟩
def headOf (q : Fin 4096) : Fin 8 := ⟨q.val % 512 / 64, by omega⟩
def laneOf (q : Fin 4096) : Fin 64 := ⟨q.val % 64, Nat.mod_lt _ (by decide)⟩

theorem row_chunk (i : Fin 4096) : row (chunkOf i) (posOf i) = i := by
  have := i.isLt
  exact Fin.ext (by show (i.val / 64 * 64 + i.val % 64) % 4096 = i.val; omega)

theorem xcol_of (q : Fin 4096) : xcol (groupOf q) (headOf q) (laneOf q) = (⟨q.val, by omega⟩ : Fin 6144) := by
  have := q.isLt
  exact Fin.ext (by show q.val / 512 * 512 + (q.val % 512 / 64 * 64 + q.val % 64) = q.val; omega)

theorem head_of (q : Fin 4096) : head (groupOf q) (headOf q) = (⟨q.val / 64, by omega⟩ : Fin 64) := by
  have := q.isLt
  exact Fin.ext (by show q.val / 512 * 8 + q.val % 512 / 64 = q.val / 64; omega)

variable (x : Fin 4096 → Fin 6144 → EReal) (dt : Fin 4096 → Fin 64 → EReal) (bias alog skip : Fin 64 → EReal) (z : Fin 4096 → Fin 4096 → EReal) (gain : Fin 4096 → EReal)

/-- The scan's value with the skipped input. -/
def out (i q : Fin 4096) : EReal :=
  (dataOf x dt bias alog).y (chunkOf i) (groupOf q) (headOf q) (posOf i) (laneOf q) + skip ⟨q.val / 64, by omega⟩ * x i ⟨q.val, by omega⟩

/-- The state a chunk starts from. -/
def start (k : Fin 64) (g : Fin 8) (n : Fin 128) (j : Fin 512) : EReal :=
  (dataOf x dt bias alog).state k.val g ⟨j.val / 64, by omega⟩ ⟨j.val % 64, Nat.mod_lt _ (by decide)⟩ n

def silu (v : EReal) : EReal := v * Ideal.div 1 (1 + Ideal.exp (0 - v))

def gated (i q : Fin 4096) : EReal := out x dt bias alog skip i q * silu (z i q)

/-- The reciprocal root of a row's mean square. -/
def root (i : Fin 4096) : EReal :=
  Ideal.rsqrt (Ideal.div (∑ q : Fin 4096, gated x dt bias alog skip z i q * gated x dt bias alog skip z i q) (Ideal.ofBits .f32 0x45800000#32) + Ideal.ofBits .f32 0x358637BD#32)

def normed (i q : Fin 4096) : EReal := gated x dt bias alog skip z i q * root x dt bias alog skip z i * gain q

end Cert.Ssd
-- ==== Proof.SsdFKer.lean ====
/-
  The kernel's results: the state carried from chunk to chunk is the scan's, and each block is the scan's rows.
-/
module

public import proofs.«01_k».proof.Proof.SsdFHost
public import proofs.«01_k».proof.Proof.SsdFPoint
public import proofs.«01_k».proof.Proof.SsdOut

@[expose] public section

set_option maxRecDepth 16384

noncomputable section

namespace Cert.SsdF

open Cert.Kernel6Ideal Cert.Kernel6Ideal.Gen Cert.Ssd Idealize.ShloMosaic Idealize.ShloMosaic.TcCoe Idealize.SL.Sem
open Idealize.ShloMosaic.Pipeline (Dat)
open Cert.Kernel6Ideal.Value (G13 G14 G15 G16)
open Cert.Kernel6Ideal.Value (G13 G14 G15 G16)

variable (m : (ℓ : Loc nD τ sig) → Buf (Elt Ideal) ℓ) (c : Dev nD)

theorem never_eq : never = (⊥ : EReal) := rfl

theorem fresh_apply (g : Fin 8) (n : Fin 128) (j : Fin 512) : fresh (ix3 g n j) = 0 := by
  unfold fresh k0_pay1
  pointwise

/-- The steps, their bias and the decay logarithms are real. -/
structure Finite : Prop where
  dt : ∀ i h, ∃ q : ℝ, dtin m c i h = (q : EReal)
  bias : ∀ h, ∃ q : ℝ, bias m c h = (q : EReal)
  alog : ∀ h, ∃ q : ℝ, alog m c h = (q : EReal)

/-- The scan's data, of the kernel's arguments. -/
abbrev dataKer : Data := dataOf (xin m c) (dtin m c) (bias m c) (alog m c)

/-- A state as a block of eight planes. -/
def Is (st : Vec Ideal T8x128x512 .f32) (k : ℕ) : Prop :=
  ∀ (g r : Fin 8) (p : Fin 64) (n : Fin 128), st (ix3 g n (at8 r p)) = (dataKer m c).state k g r p n

variable (H : Finite m c) (t : Fin cfg0.N)

theorem fresh_is : Is m c fresh 0 := fun g r p n => fresh_apply g n _

include H in
theorem planes_is {st : Vec Ideal T8x128x512 .f32} (hst : Is m c st t.val) : Is m c (planes (nextAt m c t st)) (t.val + 1) := fun g r p n =>
  nextOf_apply (H := reads m c t H.dt H.bias H.alog) (hst := hst) g r p n

/-- The state a point starts from. -/
def before : Vec Ideal T8x128x512 .f32 := if t.val % 64 = 0 then fresh else carried m c t

include H in
theorem before_is (k : ℕ) (hk : k < cfg0.N) : Is m c (before m c ⟨k, hk⟩) k := by
  have hN : cfg0.N = 64 := N_0
  induction k with
  | zero => exact fresh_is m c
  | succ k ih =>
    have hk' : k < cfg0.N := by omega
    have e : before m c ⟨k + 1, hk⟩ = planes (nextAt m c ⟨k, hk'⟩ (before m c ⟨k, hk'⟩)) := by
      unfold before
      rw [if_neg (show ¬(k + 1) % 64 = 0 by omega)]
      show (outsAt0 m c k _).2.2.2.2 = _
      split_ifs with h0
      · exact nextA m c ⟨k, hk'⟩ h0
      · exact nextB m c ⟨k, hk'⟩ h0
    rw [e]
    exact planes_is m c H ⟨k, hk'⟩ (ih hk')

/-- What a point writes, over the state it starts from. -/
theorem wrote_rows : (outsAt0 m c t.val t.isLt).1 = cols (yAt m c t (before m c t)) := by
  unfold before
  split_ifs with h0
  · exact rowsA m c t h0
  · exact rowsB m c t h0
theorem wrote_states : (outsAt0 m c t.val t.isLt).2.1 = kept (before m c t) := by
  unfold before
  split_ifs with h0
  · exact statesA m c t h0
  · exact statesB m c t h0
theorem wrote_normed : (outsAt0 m c t.val t.isLt).2.2.1 = k0_pay243 (cols (yAt m c t (before m c t))) (X0_5 m c t) (iblk m c 6 t) := by
  unfold before
  split_ifs with h0
  · exact normedA m c t h0
  · exact normedB m c t h0
theorem wrote_root : (outsAt0 m c t.val t.isLt).2.2.2.1 = k0_pay242 (cols (yAt m c t (before m c t))) (X0_5 m c t) := by
  unfold before
  split_ifs with h0
  · exact rootA m c t h0
  · exact rootB m c t h0

include H in
theorem rows_apply (l : Fin 64) (q : Fin 4096) : cols (yAt m c t (before m c t)) (ix2 l q) = out (xin m c) (dtin m c) (bias m c) (alog m c) (skip m c) (row t.val l) q := by
  have h := yOf_apply (H := reads m c t H.dt H.bias H.alog) (hst := before_is m c H t.val t.isLt) (hm := never_eq) (groupOf q) (headOf q) l (laneOf q)
  rw [head_of, xcol_of] at h
  have e : (⟨(groupOf q).val * 512 + (at8 (headOf q) (laneOf q)).val, by have := q.isLt; exact (show q.val / 512 * 512 + (q.val % 512 / 64 * 64 + q.val % 64) < 4096 by omega)⟩ : Fin 4096) = q :=
    Fin.ext (show q.val / 512 * 512 + (q.val % 512 / 64 * 64 + q.val % 64) = q.val by omega)
  have hr := row_eq t l
  have ht : t.val < 64 := t.isLt.trans_eq N_0
  have e1 : chunkOf (row t.val l) = t.val := by show (row t.val l).val / 64 = _; omega
  have e2 : posOf (row t.val l) = l := Fin.ext (by show (row t.val l).val % 64 = _; omega)
  unfold out
  rw [e1, e2, ← h]
  have h2 := cols_apply (yAt m c t (before m c t)) l (groupOf q) (at8 (headOf q) (laneOf q))
  rw [e] at h2
  exact h2

include H in
theorem states_apply (g : Fin 8) (n : Fin 128) (j : Fin 512) : kept (before m c t) (ix4 0 g n j) = start (xin m c) (dtin m c) (bias m c) (alog m c) ⟨t.val, t.isLt.trans_eq N_0⟩ g n j := by
  have h := before_is m c H t.val t.isLt g ⟨j.val / 64, by omega⟩ ⟨j.val % 64, by omega⟩ n
  have e : at8 ⟨j.val / 64, by omega⟩ ⟨j.val % 64, by omega⟩ = j := Fin.ext (show j.val / 64 * 64 + j.val % 64 = j.val by omega)
  rw [e] at h
  exact h

section Payload
variable (y z : FVec Ideal S64x4096 .f32) (w : FVec Ideal S1x4096 .f32) (l : Fin 64) (q : Fin 4096)

theorem pay241_apply : k0_pay241 (F := Ideal) y z (ix2 l q) = y (ix2 l q) * silu (z (ix2 l q)) := by
  unfold k0_pay241
  pointwise
  rfl

theorem pay242_apply : (k0_pay242 (F := Ideal) y z (ix2 l 0) : EReal) =
    Ideal.rsqrt (Ideal.div (∑ q : Fin 4096, y (ix2 l q) * silu (z (ix2 l q)) * (y (ix2 l q) * silu (z (ix2 l q)))) (Ideal.ofBits .f32 0x45800000#32) + Ideal.ofBits .f32 0x358637BD#32) := by
  unfold k0_pay242
  pointwise
  simp only [pay241_apply]

theorem pay243_apply : (k0_pay243 (F := Ideal) y z w (ix2 l q) : EReal) = y (ix2 l q) * silu (z (ix2 l q)) * (k0_pay242 (F := Ideal) y z (ix2 l 0) : EReal) * w (ix2 0 q) := by
  unfold k0_pay243
  pointwise
  rw [pay241_apply]

end Payload

section Written
variable (l : Fin 64) (q : Fin 4096)

/-- What a point writes is the scan's rows, gates, roots and first state of its chunk. -/
theorem left_rows (H : Finite m c) : (outsAt0 m c t.val t.isLt).1 (ix2 l q) = out (xin m c) (dtin m c) (bias m c) (alog m c) (skip m c) (row t.val l) q := by
  rw [wrote_rows]
  exact rows_apply m c H t l q

theorem left_states (H : Finite m c) (g : Fin 8) (n : Fin 128) (j : Fin 512) :
    (outsAt0 m c t.val t.isLt).2.1 (ix4 0 g n j) = start (xin m c) (dtin m c) (bias m c) (alog m c) ⟨t.val, t.isLt.trans_eq N_0⟩ g n j := by
  rw [wrote_states]
  exact states_apply m c H t g n j

theorem root_at (H : Finite m c) : k0_pay242 (F := Ideal) (cols (yAt m c t (before m c t))) (X0_5 m c t) (ix2 l 0) =
    root (xin m c) (dtin m c) (bias m c) (alog m c) (skip m c) (gate m c) (row t.val l) := by
  refine (pay242_apply _ _ l).trans ?_
  simp only [rows_apply m c H t, blk5]
  rfl

theorem left_root (H : Finite m c) : (outsAt0 m c t.val t.isLt).2.2.2.1 (ix2 l 0) = root (xin m c) (dtin m c) (bias m c) (alog m c) (skip m c) (gate m c) (row t.val l) := by
  rw [wrote_root]
  exact root_at m c t l H

theorem left_normed (H : Finite m c) : (outsAt0 m c t.val t.isLt).2.2.1 (ix2 l q) =
    normed (xin m c) (dtin m c) (bias m c) (alog m c) (skip m c) (gate m c) (gain m c) (row t.val l) q := by
  rw [wrote_normed]
  refine (pay243_apply _ _ _ l q).trans ?_
  rw [root_at m c t l H, rows_apply m c H t, blk5, blk6]
  rfl

end Written

section Whole

theorem at_point {n k : ℕ} (e : n = k) (hk : k < cfg0.N) (hn) : Pipeline.accAt (fun n h => Value.stAt0 m c n h Value.junk0) (Value.stAt0 m c) 0 n hn = outsAt0 m c k hk := by
  subst e
  exact (Value.outsAt0_sweep m c n hk).symm

theorem out_apply (H : Finite m c) (i q : Fin 4096) :
    G13 m c (ix2 i q) = out (xin m c) (dtin m c) (bias m c) (alog m c) (skip m c) i q := by
  have hi := i.isLt
  have hp : i.val / 64 < cfg0.N := show i.val / 64 < grid0.N by rw [N_0]; omega
  have e : Value.pt13Of (ix2 i q) = i.val / 64 := by
    show 1 * (i.val / 64 - 0) + 1 * (q.val / 4096 - 0) = _
    omega
  have h := left_rows m c ⟨_, hp⟩ ⟨i.val % 64, by omega⟩ q H
  rw [show row (i.val / 64) ⟨i.val % 64, by omega⟩ = i from row_chunk i] at h
  unfold G13
  rw [dif_pos (e.trans_lt hp)]
  refine Eq.trans (congr (congrArg (fun o => o.1) (at_point m c e hp _)) ?_) h
  funext a
  fin_cases a
  · rfl
  · exact Fin.ext (Nat.mod_eq_of_lt q.isLt)

theorem start_apply (H : Finite m c) (k : Fin 64) (g : Fin 8) (n : Fin 128) (j : Fin 512) :
    G14 m c (ix4 k g n j) = start (xin m c) (dtin m c) (bias m c) (alog m c) k g n j := by
  have hp : k.val < cfg0.N := k.isLt.trans_eq N_0.symm
  have e : Value.pt14Of (ix4 k g n j) = k.val := by
    show 1 * (k.val / 1 - 0) + 1 * (g.val / 8 - 0) + 1 * (n.val / 128 - 0) + 1 * (j.val / 512 - 0) = _
    omega
  unfold G14
  rw [dif_pos (e.trans_lt hp)]
  refine Eq.trans (congr (congrArg (fun o => o.2.1) (at_point m c e hp _)) ?_) (left_states m c ⟨k.val, hp⟩ H g n j)
  funext a
  fin_cases a
  · exact Fin.ext (Nat.mod_one _)
  · exact Fin.ext (Nat.mod_eq_of_lt g.isLt)
  · exact Fin.ext (Nat.mod_eq_of_lt n.isLt)
  · exact Fin.ext (Nat.mod_eq_of_lt j.isLt)

theorem normed_apply (H : Finite m c) (i q : Fin 4096) :
    G15 m c (ix2 i q) = normed (xin m c) (dtin m c) (bias m c) (alog m c) (skip m c) (gate m c) (gain m c) i q := by
  have hi := i.isLt
  have hp : i.val / 64 < cfg0.N := show i.val / 64 < grid0.N by rw [N_0]; omega
  have e : Value.pt15Of (ix2 i q) = i.val / 64 := by
    show 1 * (i.val / 64 - 0) + 1 * (q.val / 4096 - 0) = _
    omega
  have h := left_normed m c ⟨_, hp⟩ ⟨i.val % 64, by omega⟩ q H
  rw [show row (i.val / 64) ⟨i.val % 64, by omega⟩ = i from row_chunk i] at h
  unfold G15
  rw [dif_pos (e.trans_lt hp)]
  refine Eq.trans (congr (congrArg (fun o => o.2.2.1) (at_point m c e hp _)) ?_) h
  funext a
  fin_cases a
  · rfl
  · exact Fin.ext (Nat.mod_eq_of_lt q.isLt)

theorem root_apply (H : Finite m c) (i : Fin 4096) :
    G16 m c (ix2 i 0) = root (xin m c) (dtin m c) (bias m c) (alog m c) (skip m c) (gate m c) i := by
  have hi := i.isLt
  have hp : i.val / 64 < cfg0.N := show i.val / 64 < grid0.N by rw [N_0]; omega
  have e : Value.pt16Of (ix2 i 0) = i.val / 64 := by
    show 1 * (i.val / 64 - 0) + 1 * (0 / 1 - 0) = _
    omega
  have h := left_root m c ⟨_, hp⟩ ⟨i.val % 64, by omega⟩ H
  rw [show row (i.val / 64) ⟨i.val % 64, by omega⟩ = i from row_chunk i] at h
  unfold G16
  rw [dif_pos (e.trans_lt hp)]
  refine Eq.trans (congr (congrArg (fun o => o.2.2.2.1) (at_point m c e hp _)) ?_) h
  funext a
  fin_cases a
  · rfl
  · exact Fin.ext (Nat.mod_one _)

end Whole

end Cert.SsdF
-- ==== Proof.SsdFRun.lean ====
/-
  The loop of the state-space reference, trip by trip: its carried buffers hold the states of the iterated step.
-/
module

public import proofs.«01_k».proof.Proof.SsdVec
public import proofs.«01_k».proof.Proof.Gen.Reference6Ideal.Run
public import proofs.«01_k».proof.Proof.Gen.Reference6Ideal.Step

@[expose] public section

set_option maxRecDepth 65536

noncomputable section

namespace Cert.SsdR

open Idealize.ShloMosaic Idealize.ShloMosaic.TcCoe Idealize.SL.Sem Idealize.ShloMosaic.StableHlo
open Cert.Reference6Ideal Cert.Reference6Ideal.Gen Cert.Reference6Ideal.Value
open Cert.Reference6Ideal.Step hiding step_main_v40_6 step_main_v40_7 step_main_v40_8

abbrev Val := Valuation τ sig (Elt Ideal)

/-- The carried buffers of a valuation, as a state. -/
def stateOf (V : Val) : State Ideal where
  main_v40_6 := V (Proc.devRef .tc main_v40_6)
  main_v40_7 := V (Proc.devRef .tc main_v40_7)
  main_v40_8 := V (Proc.devRef .tc main_v40_8)
  main_v40_0 := V (Proc.devRef .tc main_v40_0)
  main_v40_1 := V (Proc.devRef .tc main_v40_1)
  main_v40_2 := V (Proc.devRef .tc main_v40_2)
  main_v40_3 := V (Proc.devRef .tc main_v40_3)

/-- The valuation carries the state `s`, the trip's number `j` and the mask. -/
structure Carries (V : Val) (s : State Ideal) (j : ℕ) : Prop where
  state : stateOf V = s
  number : V (Proc.devRef .tc main_v40_5) = constantI S_ 32 (BitVec.ofNat 32 j)
  mask : V (Proc.devRef .tc main_v40_4) = K_main_v28 (F := Ideal)

theorem stepped_6 {V : Val} {s : State Ideal} {j : ℕ} (h : Carries V s j) : step_main_v40_6 V = b66 j s := by
  rw [← h.state]
  simp only [step_main_v40_6, res_main_while0b_v86, res_main_while0b_v88, res_main_while0b_v90, res_main_while0b_v112, h.number]
  rfl

theorem stepped_7 {V : Val} {s : State Ideal} {j : ℕ} (h : Carries V s j) : step_main_v40_7 V = b74 j s := by
  rw [← h.state]
  simp only [step_main_v40_7, res_main_while0b_v86, res_main_while0b_v88, res_main_while0b_v89, res_main_while0b_v90, h.number, h.mask]
  rfl

theorem stepped_8 {V : Val} {s : State Ideal} {j : ℕ} (h : Carries V s j) : step_main_v40_8 V = b81 j s := by
  rw [← h.state]
  simp only [step_main_v40_8, h.number]
  rfl

theorem stepped_number {V : Val} {s : State Ideal} {j : ℕ} (h : Carries V s j) :
    step_main_v40_5 V = constantI S_ 32 (BitVec.ofNat 32 (j + 1)) := by
  unfold step_main_v40_5
  rw [h.number]
  funext i
  show BitVec.ofNat 32 j + 1#32 = BitVec.ofNat 32 (j + 1)
  simp only [BitVec.ofNat_add]

theorem Carries.next {V : Val} {s : State Ideal} {j : ℕ} (h : Carries V s j) : Carries (STEP V) (step j s) (j + 1) where
  state := by
    have h' := h.state
    subst h'
    unfold stateOf step
    rw [STEP_main_v40_6, STEP_main_v40_7, STEP_main_v40_8, STEP_main_v40_0, STEP_main_v40_1, STEP_main_v40_2, STEP_main_v40_3,
      stepped_6 h, stepped_7 h, stepped_8 h]
    rfl
  number := (STEP_main_v40_5 V).trans (stepped_number h)
  mask := (STEP_main_v40_4 V).trans h.mask

variable (m : (ℓ : Loc nD τ sig) → Buf (Elt Ideal) ℓ) (c : Dev nD)

/-- The state before the first trip. -/
abbrev first : State Ideal :=
  init (m ((c.tc : Thread nD τ).loc main_arg0)) (m ((c.tc : Thread nD τ).loc main_arg1)) (m ((c.tc : Thread nD τ).loc main_arg2))
    (m ((c.tc : Thread nD τ).loc main_arg3))

theorem carries_first : Carries (entryContents preI m c) (first m c) 0 := by
  constructor
  · unfold stateOf first init
    simp only [entryContents, afterL_cons, afterL_nil]
    after_reads_simp
    rfl
  · simp only [entryContents, afterL_cons, afterL_nil]
    after_reads_simp
    rfl
  · simp only [entryContents, afterL_cons, afterL_nil]
    after_reads_simp
    rfl

/-- The state after `k` trips. -/
def after : ℕ → State Ideal
  | 0 => first m c
  | k + 1 => step k (after k)

theorem carries_after : ∀ k, Carries (STEP^[k] (entryContents preI m c)) (after m c k) k
  | 0 => carries_first m c
  | k + 1 => by
    rw [Function.iterate_succ_apply']
    exact (carries_after k).next

end Cert.SsdR
-- ==== Proof.SsdFTrip.lean ====
/-
  One trip of the state-space reference, entry by entry.
-/
module

public import proofs.«01_k».proof.Proof.SsdSpec
public import proofs.«01_k».proof.Proof.Gen.Reference6Ideal.Step
public import Idealize.ShloMosaic.Lib.DynamicIndex

@[expose] public section

set_option maxRecDepth 65536

noncomputable section

namespace Cert.SsdR

open Idealize.ShloMosaic Idealize.ShloMosaic.TcCoe
open Cert.Reference6Ideal Cert.Reference6Ideal.Gen Cert.Reference6Ideal.Step
open Cert.Ssd (Data row)

/-- The state carries the rows of `D`, chunk by chunk. -/
structure Holds (D : Data) (s : State Ideal) : Prop where
  x : ∀ (k l : Fin 64) (g r : Fin 8) (p : Fin 64), s.main_v40_0 (ix6 k 0 l g r p) = D.xdt (row k.val l) g r p
  a : ∀ (k l : Fin 64) (g r : Fin 8), s.main_v40_1 (ix5 k 0 l g r) = D.adt (row k.val l) g r
  b : ∀ (k l : Fin 64) (g : Fin 8) (n : Fin 128), s.main_v40_2 (ix5 k 0 l g n) = D.b (row k.val l) g n
  c : ∀ (k l : Fin 64) (g : Fin 8) (n : Fin 128), s.main_v40_3 (ix5 k 0 l g n) = D.c (row k.val l) g n

variable {D : Data} {s : State Ideal} (k : ℕ) (hk : k < 64) (l l' : Fin 64) (g r : Fin 8) (p : Fin 64) (n : Fin 128)

theorem number_toInt {k : ℕ} (hk : k < 64) : (BitVec.ofNat 32 k).toInt = (k : ℤ) := by
  rw [BitVec.toInt_ofNat']
  norm_num [Int.bmod]
  omega

include hk

theorem b6_apply (h : Holds D s) : b6 k s (ix5 0 l g r p) = D.xdt (row k l) g r p := by
  rw [← h.x ⟨k, hk⟩]
  have hs : S64x1x64x8x8x64.Slices ![k, 0, 0, 0, 0, 0] S1x1x64x8x8x64 :=
    ⟨rfl, fun a => by fin_cases a <;> first | exact (by show k + 1 ≤ 64; omega) | exact Nat.le_of_eq (Nat.zero_add _)⟩
  have e : b5 k s = extractStridedSlice S1x1x64x8x8x64 ![k, 0, 0, 0, 0, 0] s.main_v40_0 hs :=
    Host.dynamicSlice_eq_extractStridedSlice _ _ _ _ _ hs (fun a => by fin_cases a <;> first | exact number_toInt hk | rfl)
  unfold b6
  rw [e]
  pointwise

theorem b12_apply (h : Holds D s) : b12 k s (ix4 0 l g r) = D.adt (row k l) g r := by
  rw [← h.a ⟨k, hk⟩]
  have hs : S64x1x64x8x8.Slices ![k, 0, 0, 0, 0] S1x1x64x8x8 :=
    ⟨rfl, fun a => by fin_cases a <;> first | exact (by show k + 1 ≤ 64; omega) | exact Nat.le_of_eq (Nat.zero_add _)⟩
  have e : b11 k s = extractStridedSlice S1x1x64x8x8 ![k, 0, 0, 0, 0] s.main_v40_1 hs :=
    Host.dynamicSlice_eq_extractStridedSlice _ _ _ _ _ hs (fun a => by fin_cases a <;> first | exact number_toInt hk | rfl)
  unfold b12
  rw [e]
  pointwise

theorem b18_apply (h : Holds D s) : b18 k s (ix4 0 l g n) = D.b (row k l) g n := by
  rw [← h.b ⟨k, hk⟩]
  have hs : S64x1x64x8x128.Slices ![k, 0, 0, 0, 0] S1x1x64x8x128 :=
    ⟨rfl, fun a => by fin_cases a <;> first | exact (by show k + 1 ≤ 64; omega) | exact Nat.le_of_eq (Nat.zero_add _)⟩
  have e : b17 k s = extractStridedSlice S1x1x64x8x128 ![k, 0, 0, 0, 0] s.main_v40_2 hs :=
    Host.dynamicSlice_eq_extractStridedSlice _ _ _ _ _ hs (fun a => by fin_cases a <;> first | exact number_toInt hk | rfl)
  unfold b18
  rw [e]
  pointwise

theorem b24_apply (h : Holds D s) : b24 k s (ix4 0 l g n) = D.c (row k l) g n := by
  rw [← h.c ⟨k, hk⟩]
  have hs : S64x1x64x8x128.Slices ![k, 0, 0, 0, 0] S1x1x64x8x128 :=
    ⟨rfl, fun a => by fin_cases a <;> first | exact (by show k + 1 ≤ 64; omega) | exact Nat.le_of_eq (Nat.zero_add _)⟩
  have e : b23 k s = extractStridedSlice S1x1x64x8x128 ![k, 0, 0, 0, 0] s.main_v40_3 hs :=
    Host.dynamicSlice_eq_extractStridedSlice _ _ _ _ _ hs (fun a => by fin_cases a <;> first | exact number_toInt hk | rfl)
  unfold b24
  rw [e]
  pointwise

theorem b27_apply (h : Holds D s) : b27 k s (ix4 0 l g r) = D.cs k g r l := by
  have e := Cert.Ssd.runningSum (b12 k s) reduceWindows_S1x64x8x8_S1x64x8x8_w1s1p0_0_w64s1p63_0_w1s1p0_0_w1s1p0_0 (b26 k s)
    (fun i => by unfold b26 b25; pointwise) h_S_ l g r
  simp only [b12_apply k hk _ _ _ h] at e
  exact e

omit hk in
theorem mask_apply : K_main_v28 (F := Ideal) (ix5 0 l l' 0 0) = if l' ≤ l then 1#1 else 0#1 := by
  unfold K_main_v28 K_main_v27 K_main_v26 K_main_call1_v5 K_main_call1_v4 K_main_call1_v3 K_main_call1_v2 K_main_call1_v1 K_main_call1_v0 K_main_call1_c K_main_call1_c_0 K_main_c
  pointwise
  revert l l'
  decide +kernel

theorem b38_apply (h : Holds D s) : b38 k s (ix5 0 l l' g r) = D.decay k g r l l' := by
  unfold b38 b37 b36 b35 b34 b33 b32 b31 b30 b29 b28
  pointwise
  have hb : Ideal.ofBits .f32 4286578688#32 = ⊥ := by simp [Ideal.ofBits, Ideal.ieee]
  rw [mask_apply, b27_apply k hk l g r h, b27_apply k hk l' g r h, hb]
  unfold Data.decay
  split
  · rfl
  · exact Ideal.exp_bot

theorem b43_apply (h : Holds D s) : b43 k s (ix5 0 l l' g r) = (∑ n, D.b (row k l') g n * D.c (row k l) g n) * D.decay k g r l l' := by
  unfold b43 b42 b41 b40 b39
  pointwise
  simp only [b38_apply k hk _ _ _ _ h, b18_apply k hk _ _ _ h, b24_apply k hk _ _ _ h]

theorem b67_apply (h : Holds D s) : b67 k s (ix5 0 l g r p) =
    ∑ s' : Fin 64, D.xdt (row k s') g r p * ((∑ n, D.b (row k s') g n * D.c (row k l) g n) * D.decay k g r l s')
      + (∑ n : Fin 128, s.main_v40_6 (ix5 0 g r p n) * D.c (row k l) g n) * Ideal.exp (D.cs k g r l) := by
  unfold b67 b51 b50 b49 b48 b47 b46 b45 b44
  pointwise
  simp only [b43_apply k hk _ _ _ _ h, b6_apply k hk _ _ _ _ h, b24_apply k hk _ _ _ h, b27_apply k hk _ _ _ h]

theorem b66_apply (h : Holds D s) : b66 k s (ix5 0 g r p n) =
    s.main_v40_6 (ix5 0 g r p n) * Ideal.exp (D.cs k g r 63)
      + ∑ s' : Fin 64, Ideal.exp (D.cs k g r 63 - D.cs k g r s') * D.xdt (row k s') g r p * D.b (row k s') g n := by
  unfold b66 b65 b64 b63 b62 b61 b60 b59 b58 b57 b56 b55 b54 b53 b52
  pointwise
  simp only [b6_apply k hk _ _ _ _ h, b18_apply k hk _ _ _ h, b27_apply k hk _ _ _ h]

end Cert.SsdR
-- ==== Proof.SsdFLoop.lean ====
/-
  What the reference scan carries after each trip: the state it has reached, and the rows and the incoming states it has stored.
-/
module

public import proofs.«01_k».proof.Proof.SsdFTrip
public import Idealize.ShloMosaic.Lib.WordCmp

@[expose] public section

set_option maxRecDepth 65536

noncomputable section

namespace Cert.SsdR

open Idealize.ShloMosaic Idealize.ShloMosaic.TcCoe
open Cert.Reference6Ideal Cert.Reference6Ideal.Gen Cert.Reference6Ideal.Step
open Cert.Ssd (Data row)

/-- After `k` trips: the state, the rows of the chunks gone by and the states they began with. -/
structure Made (D : Data) (k : ℕ) (s : State Ideal) : Prop where
  state : ∀ (g r : Fin 8) (p : Fin 64) (n : Fin 128), s.main_v40_6 (ix5 0 g r p n) = D.state k g r p n
  rows : ∀ (j l : Fin 64) (g r : Fin 8) (p : Fin 64), j.val < k → s.main_v40_7 (ix6 j 0 l g r p) = D.y j.val g r l p
  starts : ∀ (j : Fin 64) (g r : Fin 8) (p : Fin 64) (n : Fin 128), j.val < k → s.main_v40_8 (ix6 j 0 g r p n) = D.state j.val g r p n

variable {D : Data} {s : State Ideal} {k : ℕ} (hk : k < 64) (j l : Fin 64) (g r : Fin 8) (p : Fin 64) (n : Fin 128)

include hk in
theorem b74_eq (v : Vec Ideal S1x64x8x8x64 .f32) (hv : b67 k s = v) : b74 k s (ix6 j 0 l g r p) = if j.val = k then v (ix5 0 l g r p) else s.main_v40_7 (ix6 j 0 l g r p) := by
  have hs : S64x1x64x8x8x64.Slices ![k, 0, 0, 0, 0, 0] S1x1x64x8x8x64 :=
    ⟨rfl, fun a => by fin_cases a <;> first | exact (by show k + 1 ≤ 64; omega) | exact Nat.le_of_eq (Nat.zero_add _)⟩
  have e : b74 k s = updateSlice s.main_v40_7 (b68 k s) ![k, 0, 0, 0, 0, 0] hs :=
    WordCmp.dynamicUpdateSlice_eq_update _ _ _ _ _ hs (fun a => by fin_cases a <;> first | exact number_toInt hk | rfl)
  rw [e]
  unfold b68
  rw [hv]
  pointwise
  by_cases e' : j.val = k
  · rw [if_pos e', dif_pos ⟨by omega, by omega⟩]
  · rw [if_neg e', dif_neg (by omega)]

include hk in
theorem b81_eq : b81 k s (ix6 j 0 g r p n) = if j.val = k then s.main_v40_6 (ix5 0 g r p n) else s.main_v40_8 (ix6 j 0 g r p n) := by
  have hs : S64x1x8x8x64x128.Slices ![k, 0, 0, 0, 0, 0] S1x1x8x8x64x128 :=
    ⟨rfl, fun a => by fin_cases a <;> first | exact (by show k + 1 ≤ 64; omega) | exact Nat.le_of_eq (Nat.zero_add _)⟩
  have e : b81 k s = updateSlice s.main_v40_8 (b75 k s) ![k, 0, 0, 0, 0, 0] hs :=
    WordCmp.dynamicUpdateSlice_eq_update _ _ _ _ _ hs (fun a => by fin_cases a <;> first | exact number_toInt hk | rfl)
  rw [e]
  unfold b75
  pointwise
  by_cases e' : j.val = k
  · rw [if_pos e', dif_pos ⟨by omega, by omega⟩]
  · rw [if_neg e', dif_neg (by omega)]

theorem Holds.step (h : Holds D s) (k : ℕ) : Holds D (step k s) := ⟨h.x, h.a, h.b, h.c⟩

include hk in
theorem Made.step (h : Holds D s) (hm : Made D k s) : Made D (k + 1) (step k s) where
  state g r p n := by
    refine (b66_apply k hk g r p n h).trans ?_
    rw [hm.state]
    rfl
  rows j l g r p hj := by
    refine (b74_eq hk j l g r p _ rfl).trans ?_
    split_ifs with e
    · refine (b67_apply k hk l g r p h).trans ?_
      simp only [hm.state]
      rw [← e]
      rfl
    · exact hm.rows j l g r p (by omega)
  starts j g r p n hj := by
    refine (b81_eq hk j g r p n).trans ?_
    split_ifs with e
    · rw [hm.state, e]
    · exact hm.starts j g r p n (by omega)

end Cert.SsdR
-- ==== Proof.SsdFRef.lean ====
/-
  The reference scan, read: what the host lines hand the loop, what the loop carries after each trip, and the results.
-/
module

public import proofs.«01_k».proof.Proof.SsdFRun
public import proofs.«01_k».proof.Proof.SsdFLoop
public import proofs.«01_k».proof.Proof.SsdOut

@[expose] public section

set_option maxRecDepth 16384

noncomputable section

namespace Cert.SsdR

open Idealize.ShloMosaic Idealize.ShloMosaic.TcCoe Idealize.SL.Sem Idealize.ShloMosaic.StableHlo
open Cert.Reference6Ideal Cert.Reference6Ideal.Gen Cert.Reference6Ideal.Value Cert.Ssd
open Cert.Reference6Ideal.Step hiding step_main_v40_6 step_main_v40_7 step_main_v40_8

section Init

variable (a0 : Vec Ideal S4096x6144 .f32) (a1 : Vec Ideal S4096x64 .f32) (a2 a3 : Vec Ideal S1x64 .f32)

/-- The scan's data, of the arguments. -/
abbrev dataAt : Data := dataOf (fun i q => a0 (ix2 i q)) (fun i h => a1 (ix2 i h)) (fun h => a2 (ix2 0 h)) (fun h => a3 (ix2 0 h))

theorem v13 (i : Fin 4096) (h : Fin 64) : A_main_v13 (F := Ideal) a0 a1 a2 a3 (ix3 0 i h) = a1 (ix2 i h) + a2 (ix2 0 h) := by
  delta A_main_v13 A_main_v12 A_main_v11 A_main_v10 A_main_v9
  pointwise

theorem v14 (i : Fin 4096) (h : Fin 64) : A_main_v14 (F := Ideal) a0 a1 a2 a3 (ix3 0 i h) = soft (a1 (ix2 i h) + a2 (ix2 0 h)) := by
  delta A_main_v14 A_main_call0_v11 A_main_call0_v10 A_main_call0_v9 A_main_call0_v8 A_main_call0_v7 A_main_call0_v6 A_main_call0_v4 A_main_call0_v3 A_main_call0_v1
    K_main_call0_v0 K_main_call0_v2 K_main_call0_v5
  pointwise
  rw [v13]
  have hz : K_main_call0_cst (F := Ideal) ix0 = 0 := Ideal.ofBits_zero .f32
  rw [hz, if_neg (fun h => h rfl), sub_zero, ← zero_sub]
  rfl

theorem v15 (i : Fin 4096) (g r : Fin 8) : A_main_v15 (F := Ideal) a0 a1 a2 a3 (ix4 0 i g r) = soft (a1 (ix2 i (head g r)) + a2 (ix2 0 (head g r))) := by
  delta A_main_v15
  pointwise
  exact v14 a0 a1 a2 a3 i (head g r)

theorem v25 (i : Fin 4096) (g r : Fin 8) : A_main_v25 (F := Ideal) a0 a1 a2 a3 (ix4 0 i g r) = (dataAt a0 a1 a2 a3).adt i g r := by
  delta A_main_v25 A_main_v24 A_main_v23 A_main_v19 A_main_v18 A_main_v17 A_main_v16
  pointwise
  rw [v15]
  rfl

theorem v22 (i : Fin 4096) (g r : Fin 8) (p : Fin 64) : A_main_v22 (F := Ideal) a0 a1 a2 a3 (ix5 0 i g r p) = (dataAt a0 a1 a2 a3).xdt i g r p := by
  delta A_main_v22 A_main_v21 A_main_v20 A_main_v2 A_main_v1 A_main_v0
  pointwise
  rw [v15]
  exact congrArg (fun q => a0 (ix2 i q) * soft (a1 (ix2 i (head g r)) + a2 (ix2 0 (head g r)))) (Fin.ext (show g.val * 512 + r.val * 64 + p.val = g.val * 512 + (r.val * 64 + p.val) by omega))

theorem v5 (i : Fin 4096) (g : Fin 8) (n : Fin 128) : A_main_v5 (F := Ideal) a0 a1 a2 a3 (ix4 0 i g n) = (dataAt a0 a1 a2 a3).b i g n := by
  delta A_main_v5 A_main_v4 A_main_v3
  pointwise
  exact congrArg (fun q => a0 (ix2 i q)) (Fin.ext (show 4096 + (g.val * 128 + n.val) = 4096 + g.val * 128 + n.val by omega))

theorem v8 (i : Fin 4096) (g : Fin 8) (n : Fin 128) : A_main_v8 (F := Ideal) a0 a1 a2 a3 (ix4 0 i g n) = (dataAt a0 a1 a2 a3).c i g n := by
  delta A_main_v8 A_main_v7 A_main_v6
  pointwise
  exact congrArg (fun q => a0 (ix2 i q)) (Fin.ext (show 5120 + (g.val * 128 + n.val) = 5120 + g.val * 128 + n.val by omega))

/-- Row `k*64+l` of the padded rows. -/
theorem row_eq (k l : Fin 64) : (row k.val l).val = k.val * 64 + l.val := by
  show (k.val * 64 + l.val) % 4096 = _
  omega

theorem v31 (k l : Fin 64) (g r : Fin 8) (p : Fin 64) : A_main_v31 (F := Ideal) a0 a1 a2 a3 (ix6 k 0 l g r p) = (dataAt a0 a1 a2 a3).xdt (row k.val l) g r p := by
  rw [← v22]
  delta A_main_v31 A_main_v30
  pointwise
  refine congrArg (fun i => A_main_v22 a0 a1 a2 a3 (ix5 0 i g r p)) (Fin.ext ?_)
  rw [row_eq]

theorem v33 (k l : Fin 64) (g r : Fin 8) : A_main_v33 (F := Ideal) a0 a1 a2 a3 (ix5 k 0 l g r) = (dataAt a0 a1 a2 a3).adt (row k.val l) g r := by
  rw [← v25]
  delta A_main_v33 A_main_v32
  pointwise
  refine congrArg (fun i => A_main_v25 a0 a1 a2 a3 (ix4 0 i g r)) (Fin.ext ?_)
  rw [row_eq]

theorem v35 (k l : Fin 64) (g : Fin 8) (n : Fin 128) : A_main_v35 (F := Ideal) a0 a1 a2 a3 (ix5 k 0 l g n) = (dataAt a0 a1 a2 a3).b (row k.val l) g n := by
  rw [← v5]
  delta A_main_v35 A_main_v34
  pointwise
  refine congrArg (fun i => A_main_v5 a0 a1 a2 a3 (ix4 0 i g n)) (Fin.ext ?_)
  rw [row_eq]

theorem v37 (k l : Fin 64) (g : Fin 8) (n : Fin 128) : A_main_v37 (F := Ideal) a0 a1 a2 a3 (ix5 k 0 l g n) = (dataAt a0 a1 a2 a3).c (row k.val l) g n := by
  rw [← v8]
  delta A_main_v37 A_main_v36
  pointwise
  refine congrArg (fun i => A_main_v8 a0 a1 a2 a3 (ix4 0 i g n)) (Fin.ext ?_)
  rw [row_eq]

/-- The arrays the loop is handed hold the scan's data, and nothing has been made of them yet. -/
theorem init_holds : Holds (dataAt a0 a1 a2 a3) (init a0 a1 a2 a3) := ⟨v31 a0 a1 a2 a3, v33 a0 a1 a2 a3, v35 a0 a1 a2 a3, v37 a0 a1 a2 a3⟩

theorem init_made : Made (dataAt a0 a1 a2 a3) 0 (init a0 a1 a2 a3) where
  state g r p n := by
    show K_main_v29 (F := Ideal) (ix5 0 g r p n) = 0
    delta K_main_v29
    pointwise
    exact Ideal.ofBits_zero .f32
  rows j l g r p hj := absurd hj (by omega)
  starts j g r p n hj := absurd hj (by omega)

end Init

end Cert.SsdR
-- ==== Proof.SsdFRes.lean ====
/-
  The reference scan's results, entry by entry.
-/
module

public import proofs.«01_k».proof.Proof.SsdFRef

@[expose] public section

set_option maxRecDepth 16384

noncomputable section

namespace Cert.SsdR

open Idealize.ShloMosaic Idealize.ShloMosaic.TcCoe Idealize.SL.Sem Idealize.ShloMosaic.StableHlo
open Cert.Reference6Ideal Cert.Reference6Ideal.Gen Cert.Reference6Ideal.Value Cert.Ssd
open Cert.Reference6Ideal.Step hiding step_main_v40_6 step_main_v40_7 step_main_v40_8

section Results

/-- The scan's rows with the skipped input, of the stored rows. -/
def fullOf (rows : FVec Ideal S64x1x64x8x8x64 .f32) (a0 : FVec Ideal S4096x6144 .f32) (a4 : FVec Ideal S1x64 .f32) : FVec Ideal S1x4096x4096 .f32 :=
  shapeCast _ (addf (shapeCast _ (transpose S1x64x64x8x8x64 [1, 0, 2, 3, 4, 5] (rows) transposes_S64x1x64x8x8x64_S1x64x64x8x8x64_1_0_2_3_4_5) shapeCasts_S1x64x64x8x8x64_S1x4096x8x8x64) (mulf (broadcastInDim S1x4096x8x8x64 ![0, 1, 2, 3, 4] bcast_S1x1x8x8x1_S1x4096x8x8x64_0_1_2_3_4 (broadcastInDim S1x1x8x8x1 ![2, 3, 4] bcast_S8x8x1_S1x1x8x8x1_2_3_4 (shapeCast _ (shapeCast _ (a4) shapeCasts_S1x64_S64) shapeCasts_S64_S8x8x1))) (shapeCast _ (broadcastInDim S1x4096x4096 ![1, 2] bcast_S4096x4096_S1x4096x4096_1_2 (extractStridedSlice S4096x4096 ![0, 0] (a0) slices_S4096x6144_S4096x4096_0_0)) shapeCasts_S1x4096x4096_S1x4096x8x8x64))) shapeCasts_S1x4096x8x8x64_S1x4096x4096

/-- The gate's factor. -/
def siluOf (a5 : FVec Ideal S4096x10240 .f32) : FVec Ideal S1x4096x4096 .f32 :=
  mulf (broadcastInDim S1x4096x4096 ![1, 2] bcast_S4096x4096_S1x4096x4096_1_2 (extractStridedSlice S4096x4096 ![0, 0] a5 slices_S4096x10240_S4096x4096_0_0)) (Host.divf (broadcastInDim S1x4096x4096 ![] bcast_S_S1x4096x4096 (constant S_ .f32 0x3F800000#32)) (addf (broadcastInDim S1x4096x4096 ![] bcast_S_S1x4096x4096 (constant S_ .f32 0x3F800000#32)) (Host.exp (Host.negf (broadcastInDim S1x4096x4096 ![1, 2] bcast_S4096x4096_S1x4096x4096_1_2 (extractStridedSlice S4096x4096 ![0, 0] a5 slices_S4096x10240_S4096x4096_0_0))))))

/-- The reciprocal roots of the rows' mean squares. -/
def rootOf (v : FVec Ideal S1x4096x4096 .f32) : FVec Ideal S1x4096x1 .f32 :=
  Host.rsqrt (addf (Host.divf (broadcastInDim S1x4096x1 ![0, 1] bcast_S1x4096_S1x4096x1_0_1 (Host.reduceAdd (mulf v v) (constant S_ .f32 0x00000000#32) reducesTo_S1x4096x4096_S1x4096_d2 h_S_)) (broadcastInDim S1x4096x1 ![] bcast_S_S1x4096x1 (constant S_ .f32 0x45800000#32))) (broadcastInDim S1x4096x1 ![] bcast_S_S1x4096x1 (constant S_ .f32 0x358637BD#32)))

def normedOf (v : FVec Ideal S1x4096x4096 .f32) (a6 : FVec Ideal S1x4096 .f32) : FVec Ideal S4096x4096 .bf16 :=
  truncf .bf16 (shapeCast S4096x4096 (mulf (mulf v (broadcastInDim S1x4096x4096 ![0, 1, 2] bcast_S1x4096x1_S1x4096x4096_0_1_2 (rootOf v))) (broadcastInDim S1x4096x4096 ![0, 1, 2] bcast_S1x1x4096_S1x4096x4096_0_1_2 (broadcastInDim S1x1x4096 ![2] bcast_S4096_S1x1x4096_2 (shapeCast S4096 a6 shapeCasts_S1x4096_S4096)))) shapeCasts_S1x4096x4096_S4096x4096) bitsLt_bf16_f32

variable (a0 : FVec Ideal S4096x6144 .f32) (a1 : FVec Ideal S4096x64 .f32) (a2 a3 a4 : FVec Ideal S1x64 .f32) (a5 : FVec Ideal S4096x10240 .f32) (a6 : FVec Ideal S1x4096 .f32)
variable (s : State Ideal) (hm : Made (dataAt a0 a1 a2 a3) 64 s)

abbrev outAt (i q : Fin 4096) : EReal :=
  out (fun i q => a0 (ix2 i q)) (fun i h => a1 (ix2 i h)) (fun h => a2 (ix2 0 h)) (fun h => a3 (ix2 0 h)) (fun h => a4 (ix2 0 h)) i q

include hm in
theorem full_apply (i q : Fin 4096) : fullOf s.main_v40_7 a0 a4 (ix3 0 i q) = outAt a0 a1 a2 a3 a4 i q := by
  unfold fullOf
  pointwise
  rw [hm.rows _ _ _ _ _ (show i.val / 64 < 64 by omega)]
  have e1 : (⟨q.val / 64 % 8, by omega⟩ : Fin 8) = headOf q := Fin.ext (show q.val / 64 % 8 = q.val % 512 / 64 by omega)
  have e2 : (⟨q.val / 512 * 8 + q.val / 64 % 8, by omega⟩ : Fin 64) = ⟨q.val / 64, by omega⟩ := Fin.ext (show q.val / 512 * 8 + q.val / 64 % 8 = q.val / 64 by omega)
  rw [e1, e2]
  rfl

theorem silu_apply (i q : Fin 4096) : siluOf a5 (ix3 0 i q) = silu (a5 (ix2 i ⟨q.val, by omega⟩)) := by
  unfold siluOf
  pointwise
  unfold silu
  rw [zero_sub]

theorem root_apply (v : FVec Ideal S1x4096x4096 .f32) (i : Fin 4096) :
    rootOf v (ix3 0 i 0) = Ideal.rsqrt (Ideal.div (∑ q : Fin 4096, v (ix3 0 i q) * v (ix3 0 i q)) (Ideal.ofBits .f32 0x45800000#32) + Ideal.ofBits .f32 0x358637BD#32) := by
  unfold rootOf
  pointwise

theorem normed_apply (v : FVec Ideal S1x4096x4096 .f32) (i q : Fin 4096) : normedOf v a6 (ix2 i q) = v (ix3 0 i q) * rootOf v (ix3 0 i 0) * a6 (ix2 0 q) := by
  unfold normedOf
  pointwise

include hm in
theorem start_apply (k : Fin 64) (g : Fin 8) (n : Fin 128) (j : Fin 512) : R_main_v67 s (ix4 k g n j) =
    start (fun i q => a0 (ix2 i q)) (fun i h => a1 (ix2 i h)) (fun h => a2 (ix2 0 h)) (fun h => a3 (ix2 0 h)) k g n j := by
  unfold R_main_v67
  pointwise
  exact hm.starts _ _ _ _ _ k.isLt

end Results

end Cert.SsdR
-- ==== Proof.SsdFEnd.lean ====
/-
  The reference program's results, of its arguments.
-/
module

public import proofs.«01_k».proof.Proof.SsdFRes

@[expose] public section

set_option maxRecDepth 16384

noncomputable section

namespace Cert.SsdR

open Idealize.ShloMosaic Idealize.ShloMosaic.TcCoe Idealize.SL.Sem Idealize.ShloMosaic.StableHlo
open Cert.Reference6Ideal Cert.Reference6Ideal.Gen Cert.Reference6Ideal.Value Cert.Ssd
open Cert.Reference6Ideal.Step hiding step_main_v40_6 step_main_v40_7 step_main_v40_8

section Memory

variable (m : (ℓ : Loc nD τ sig) → Buf (Elt Ideal) ℓ) (c : Dev nD)

/-- The reference's arguments. -/
abbrev xRef (i : Fin 4096) (q : Fin 6144) : EReal := (m ((c.tc : Thread nD τ).loc main_arg0) : FVec Ideal S4096x6144 .f32) (ix2 i q)
abbrev dtRef (i : Fin 4096) (h : Fin 64) : EReal := (m ((c.tc : Thread nD τ).loc main_arg1) : FVec Ideal S4096x64 .f32) (ix2 i h)
abbrev biasRef (h : Fin 64) : EReal := (m ((c.tc : Thread nD τ).loc main_arg2) : FVec Ideal S1x64 .f32) (ix2 0 h)
abbrev alogRef (h : Fin 64) : EReal := (m ((c.tc : Thread nD τ).loc main_arg3) : FVec Ideal S1x64 .f32) (ix2 0 h)
abbrev skipRef (h : Fin 64) : EReal := (m ((c.tc : Thread nD τ).loc main_arg4) : FVec Ideal S1x64 .f32) (ix2 0 h)
abbrev gateRef (i q : Fin 4096) : EReal := (m ((c.tc : Thread nD τ).loc main_arg5) : FVec Ideal S4096x10240 .f32) (ix2 i ⟨q.val, by omega⟩)
abbrev gainRef (q : Fin 4096) : EReal := (m ((c.tc : Thread nD τ).loc main_arg6) : FVec Ideal S1x4096 .f32) (ix2 0 q)

abbrev dataRef : Data := dataOf (xRef m c) (dtRef m c) (biasRef m c) (alogRef m c)

theorem holds_made : ∀ k, k ≤ 64 → Holds (dataRef m c) (after m c k) ∧ Made (dataRef m c) k (after m c k)
  | 0, _ => ⟨init_holds _ _ _ _, init_made _ _ _ _⟩
  | k + 1, hk => by
    obtain ⟨h, hm⟩ := holds_made k (by omega)
    exact ⟨h.step k, hm.step (by omega) h⟩

/-- The loop's last valuation. -/
def last : Val := STEP^[64] (entryContents preI m c)

theorem last_eq : STEP^[64] (entryContents preI m c) = last m c := rfl
theorem last_arg0 : last m c (Proc.devRef .tc main_arg0) = m ((c.tc : Thread nD τ).loc main_arg0) := iter_main_arg0 m c 64
theorem last_arg4 : last m c (Proc.devRef .tc main_arg4) = m ((c.tc : Thread nD τ).loc main_arg4) := iter_main_arg4 m c 64
theorem last_arg5 : last m c (Proc.devRef .tc main_arg5) = m ((c.tc : Thread nD τ).loc main_arg5) := iter_main_arg5 m c 64
theorem last_arg6 : last m c (Proc.devRef .tc main_arg6) = m ((c.tc : Thread nD τ).loc main_arg6) := iter_main_arg6 m c 64

/-- The state the loop ends with. -/
theorem reached : ∃ s : State Ideal, Carries (last m c) s 64 ∧ Made (dataRef m c) 64 s :=
  ⟨after m c 64, carries_after m c 64, (holds_made m c 64 le_rfl).2⟩

variable {s : State Ideal} {W : Val}

theorem Carries.rows (h : Carries W s 64) : W (Proc.devRef .tc main_v40_7) = s.main_v40_7 := by rw [← h.state]; rfl
theorem Carries.starts (h : Carries W s 64) : W (Proc.devRef .tc main_v40_8) = s.main_v40_8 := by rw [← h.state]; rfl

theorem result_out (i q : Fin 4096) : out_main_v68 (last m c) (ix2 i q) = out (xRef m c) (dtRef m c) (biasRef m c) (alogRef m c) (skipRef m c) i q := by
  obtain ⟨s, hc, hm⟩ := reached m c
  have e : out_main_v68 (last m c) = shapeCast S4096x4096 (fullOf s.main_v40_7 (m ((c.tc : Thread nD τ).loc main_arg0)) (m ((c.tc : Thread nD τ).loc main_arg4))) shapeCasts_S1x4096x4096_S4096x4096 := by
    unfold out_main_v68
    rw [hc.rows, last_arg0, last_arg4]
    rfl
  rw [e]
  refine Eq.trans ?_ (full_apply _ _ _ _ _ _ hm i q)
  pointwise

theorem result_start (k : Fin 64) (g : Fin 8) (n : Fin 128) (j : Fin 512) :
    out_main_v67 (last m c) (ix4 k g n j) = start (xRef m c) (dtRef m c) (biasRef m c) (alogRef m c) k g n j := by
  obtain ⟨s, hc, hm⟩ := reached m c
  have e : out_main_v67 (last m c) = R_main_v67 s := by
    unfold out_main_v67
    rw [hc.starts]
    rfl
  rw [e]
  exact start_apply _ _ _ _ _ hm k g n j

/-- The gated rows. -/
def gatedV (s : State Ideal) : FVec Ideal S1x4096x4096 .f32 :=
  mulf (fullOf s.main_v40_7 (m ((c.tc : Thread nD τ).loc main_arg0)) (m ((c.tc : Thread nD τ).loc main_arg4))) (siluOf (m ((c.tc : Thread nD τ).loc main_arg5)))

theorem gated_apply (hm : Made (dataRef m c) 64 s) (i q : Fin 4096) :
    gatedV m c s (ix3 0 i q) = gated (xRef m c) (dtRef m c) (biasRef m c) (alogRef m c) (skipRef m c) (gateRef m c) i q := by
  unfold gatedV gated
  rw [mulf_apply, full_apply _ _ _ _ _ _ hm i q, silu_apply _ i q]
  rfl

theorem rootV_apply (hm : Made (dataRef m c) 64 s) (i : Fin 4096) :
    rootOf (gatedV m c s) (ix3 0 i 0) = root (xRef m c) (dtRef m c) (biasRef m c) (alogRef m c) (skipRef m c) (gateRef m c) i := by
  rw [root_apply]
  simp only [gated_apply m c hm]
  rfl

theorem result_normed (i q : Fin 4096) : out_main_v84 (last m c) (ix2 i q) =
    normed (xRef m c) (dtRef m c) (biasRef m c) (alogRef m c) (skipRef m c) (gateRef m c) (gainRef m c) i q := by
  obtain ⟨s, hc, hm⟩ := reached m c
  have e : out_main_v84 (last m c) = normedOf (gatedV m c s) (m ((c.tc : Thread nD τ).loc main_arg6)) := by
    unfold out_main_v84
    rw [hc.rows, last_arg0, last_arg4, last_arg5, last_arg6]
    rfl
  rw [e, normed_apply, gated_apply m c hm, rootV_apply m c hm]
  rfl

theorem result_root (i : Fin 4096) : out_main_v85 (last m c) (ix2 i 0) = root (xRef m c) (dtRef m c) (biasRef m c) (alogRef m c) (skipRef m c) (gateRef m c) i := by
  obtain ⟨s, hc, hm⟩ := reached m c
  have e : out_main_v85 (last m c) = shapeCast S4096x1 (rootOf (gatedV m c s)) shapeCasts_S1x4096x1_S4096x1 := by
    unfold out_main_v85
    rw [hc.rows, last_arg0, last_arg4, last_arg5]
    rfl
  rw [e, ← rootV_apply m c hm]
  pointwise

end Memory

end Cert.SsdR
-- ==== Proof.SsdFClaim.lean ====
/-
  The claims about the state-space scan's forward pass.
-/
module

public import proofs.«01_k».proof.Defs
public import proofs.«01_k».proof.Proof.Lemmas
public import proofs.«01_k».proof.Proof.Gen.Kernel6.Frame
public import proofs.«01_k».proof.Proof.SsdFKer
public import proofs.«01_k».proof.Proof.SsdFEnd

@[expose] public section

set_option maxRecDepth 16384

noncomputable section

namespace Cert.SsdF

open Idealize.ShloMosaic Idealize.SL.Sem

/-- The precondition's shape facts. -/
theorem preFacts : Cert.Pre_finite6.Facts := ⟨by decide, by decide⟩

theorem frame_kernel : Cert.quiescent_Kernel6 (hKernel6 := Cert.Kernel6.Gen.facts) := fun m ρ _ => Cert.Kernel6.Gen.frame m ρ
theorem frame_ideal : Cert.quiescent_Kernel6Ideal (hKernel6Ideal := Cert.Kernel6Ideal.Gen.facts) := fun m ρ _ => Cert.Kernel6Ideal.Gen.frame m ρ
theorem frame_ideal_pre : Cert.quiescent_Kernel6Ideal_pre_finite6 (hKernel6Ideal := Cert.Kernel6Ideal.Gen.facts) (hPre_finite6 := preFacts) :=
  fun m ρ _ => Cert.Kernel6Ideal.Gen.frame m ρ
theorem frame_reference : Cert.quiescent_Reference6Ideal (hReference6Ideal := Cert.Reference6Ideal.Gen.facts) := fun m ρ _ =>
  (θ_run _ _ _).mono (fun r h => ⟨fun c => (h c).2.2.2.2, sem_eq_zero_of_no_sems (by decide) r.2⟩) (Cert.Reference6Ideal.Value.run m ρ)
theorem frame_reference_pre : Cert.quiescent_Reference6Ideal_pre_finite6 (hReference6Ideal := Cert.Reference6Ideal.Gen.facts) (hPre_finite6 := preFacts) :=
  fun m ρ _ => frame_reference m ρ trivial

attribute [local instance] preFacts

/-- The precondition, read: the steps, their bias and the decay logarithms are real numbers. -/
theorem finite_args (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) : Finite m c := by
  obtain ⟨h1, h2, h3⟩ := h c
  exact ⟨fun i h => Cert.Shared.real_of_abs_lt (congrFun h1 _), fun h => Cert.Shared.real_of_abs_lt (congrFun h2 _), fun h => Cert.Shared.real_of_abs_lt (congrFun h3 _)⟩

/-- The rewriting of the mask constant is sound: the named constant is read as minus infinity. -/
theorem preserves : Cert.preserves_Kernel6_Kernel6Ideal := IdealRules.named_const.statement _ _ .f32 _ _ rfl

theorem value : Cert.algebraic_Kernel6Ideal_Reference6Ideal_pre_finite6 (hKernel6Ideal := Cert.Kernel6Ideal.Gen.facts)
    (hReference6Ideal := Cert.Reference6Ideal.Gen.facts) (hPre_finite6 := preFacts) := fun m ρ m' ρ' hpre hag => by
  refine ⟨fun c => Cert.Kernel6Ideal.Value.G13 m c, fun c => Cert.Kernel6Ideal.Value.G14 m c, fun c => Cert.Kernel6Ideal.Value.G15 m c,
    fun c => Cert.Kernel6Ideal.Value.G16 m c, Cert.Kernel6Ideal.Value.run m ρ,
    (θ_run _ _ _).mono (fun _ h c => ?_) (Cert.Reference6Ideal.Value.run m' ρ')⟩
  have H := finite_args m hpre c
  obtain ⟨a0, a1, a2, a3, a4, a5, a6⟩ := hag c
  have e0 : Cert.SsdR.xRef m' c = xin m c := funext fun i => funext fun q => congrFun a0 (ix2 i q)
  have e1 : Cert.SsdR.dtRef m' c = dtin m c := funext fun i => funext fun h => congrFun a1 (ix2 i h)
  have e2 : Cert.SsdR.biasRef m' c = bias m c := funext fun h => congrFun a2 (ix2 0 h)
  have e3 : Cert.SsdR.alogRef m' c = alog m c := funext fun h => congrFun a3 (ix2 0 h)
  have e4 : Cert.SsdR.skipRef m' c = skip m c := funext fun h => congrFun a4 (ix2 0 h)
  have e5 : Cert.SsdR.gateRef m' c = gate m c := funext fun i => funext fun q => congrFun a5 (ix2 i _)
  have e6 : Cert.SsdR.gainRef m' c = gain m c := funext fun q => congrFun a6 (ix2 0 q)
  obtain ⟨h1, h2, h3, h4, kept⟩ := h c
  refine ⟨(h1.trans (congrArg Cert.Reference6Ideal.Value.out_main_v68 (Cert.SsdR.last_eq m' c))).trans (funext fun j => ?_),
    (h2.trans (congrArg Cert.Reference6Ideal.Value.out_main_v67 (Cert.SsdR.last_eq m' c))).trans (funext fun j => ?_),
    (h3.trans (congrArg Cert.Reference6Ideal.Value.out_main_v84 (Cert.SsdR.last_eq m' c))).trans (funext fun j => ?_),
    (h4.trans (congrArg Cert.Reference6Ideal.Value.out_main_v85 (Cert.SsdR.last_eq m' c))).trans (funext fun j => ?_), kept⟩
  · idx_vars j
    rw [Cert.SsdR.result_out, e0, e1, e2, e3, e4]
    exact (out_apply m c H j0 j1).symm
  · idx_vars j
    rw [Cert.SsdR.result_start, e0, e1, e2, e3]
    exact (start_apply m c H j0 j1 j2 j3).symm
  · idx_vars j
    rw [Cert.SsdR.result_normed, e0, e1, e2, e3, e4, e5, e6]
    exact (normed_apply m c H j0 j1).symm
  · idx_vars j
    obtain rfl : j1 = 0 := Subsingleton.elim _ _
    rw [Cert.SsdR.result_root, e0, e1, e2, e3, e4, e5]
    exact (root_apply m c H j0).symm

end Cert.SsdF
-- ==== Proof.RmsF.lean ====
/-
  The root-mean-square norm: what the kernel's two result arrays hold after the run, index by index, and the same for
  the reference.
-/
module

public import proofs.«01_k».proof.Proof.Gen.Kernel8Ideal.Value
public import proofs.«01_k».proof.Proof.Gen.Reference8Ideal.Read
public import proofs.«01_k».proof.Proof.Norm
public import Idealize.ShloMosaic.Lib.Pipeline.ValueKit
public import Idealize.ShloMosaic.Lib.Pointwise

@[expose] public section

set_option maxRecDepth 16384

noncomputable section

/-! ## The kernel's arrays -/

namespace Cert.Kernel8Ideal.RmsF

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The norm's input and its gain, read as extended reals. -/
def xin (i : Fin 4096) (k : Fin 2048) : EReal := m (c, Proc.devRef .tc main_arg0) (ix2 i k)
def gain (k : Fin 2048) : EReal := m (c, Proc.devRef .tc main_arg1) (ix2 0 k)

/-- The normed rows, and the rows' reciprocal roots. -/
def G2 (i : S4096x2048.Idx) : EReal := xin m c (i 0) (i 1) * Cert.Norm.inv (xin m c (i 0)) * gain m c (i 1)
def G3 (i : S4096x1.Idx) : EReal := Cert.Norm.inv (xin m c (i 0))

theorem idx : ∀ t : Fin cfg0.N, win0_0.index t = ![t.val, 0] ∧ win0_1.index t = ![0, 0] ∧ win0_2.index t = ![t.val, 0] ∧ win0_3.index t = ![t.val, 0] := by
  decide +kernel

/-- Row `a` of the block of rows that point `t` works on. -/
def row (t : Fin cfg0.N) (a : Fin 256) : Fin 4096 :=
  ⟨t.val * 256 + a.val, by have := t.isLt; have h : cfg0.N = 16 := rfl; have := a.isLt; omega⟩

theorem blk0 (t : Fin cfg0.N) (a : Fin 256) (b : Fin 2048) : iblk m c 0 t (ix2 a b) = xin m c (row t a) b := by
  unfold xin
  blk_ext [iblk, V, row, (idx t).1]

theorem blk1 (t : Fin cfg0.N) (b : Fin 2048) : iblk m c 1 t (ix2 0 b) = gain m c b := by
  unfold gain
  blk_ext [iblk, V, (idx t).2.1]

theorem emb2 (t : Fin cfg0.N) (a : Fin 256) (b : Fin 2048) : ((cfg0.win 2).blk t).view.emb (ix2 a b) = ix2 (row t a) b := by
  blk_ext [row, (idx t).2.2.1]

theorem emb3 (t : Fin cfg0.N) (a : Fin 256) : ((cfg0.win 3).blk t).view.emb (ix2 a 0) = ix2 (row t a) 0 := by
  blk_ext [row, (idx t).2.2.2]

theorem pay1 (x0 : FVec Ideal S256x2048 .f32) (a : Fin 256) : k0_pay1 (F := Ideal) x0 (ix2 a 0) = Cert.Norm.inv (fun k => x0 (ix2 a k)) := by
  unfold k0_pay1
  pointwise
  rfl

theorem pay2 (x0 : FVec Ideal S256x2048 .f32) (x1 : FVec Ideal S1x2048 .f32) (a : Fin 256) (b : Fin 2048) :
    k0_pay2 (F := Ideal) x0 x1 (ix2 a b) = (x0 (ix2 a b) * k0_pay1 (F := Ideal) x0 (ix2 a 0) * x1 (ix2 0 b) : EReal) := by
  unfold k0_pay2
  pointwise

theorem out2 (x0 : FVec Ideal S256x2048 .f32) (x1 : FVec Ideal S1x2048 .f32) : out0_2 (F := Ideal) x0 x1 = k0_pay2 (F := Ideal) x0 x1 := by frame_out
theorem out3 (x0 : FVec Ideal S256x2048 .f32) (x1 : FVec Ideal S1x2048 .f32) : out0_3 (F := Ideal) x0 x1 = k0_pay1 (F := Ideal) x0 := by frame_out

theorem arr2 : (dats m 0 c).arrAt 2 cfg0.N = G2 m c := by
  refine (dats m 0 c).arrAt_eq_of_covers 2 _ (by decide +kernel) fun t hf y => ?_
  have he : ∀ a b, ((cfg0.win 2).blk t).view.emb (ix2 a b) = ix2 (row t a) b := emb2 t
  blk_simp
  rw [after0_2, out2]
  idx_vars y
  refine Eq.trans ?_ (congrArg (G2 m c) (emb2 t y0 y1).symm)
  refine (pay2 _ _ y0 y1).trans ?_
  rw [pay1, blk1]
  simp only [blk0]
  rfl

theorem arr3 : (dats m 0 c).arrAt 3 cfg0.N = G3 m c := by
  refine (dats m 0 c).arrAt_eq_of_covers 3 _ (by decide +kernel) fun t hf y => ?_
  have he : ∀ a, ((cfg0.win 3).blk t).view.emb (ix2 a 0) = ix2 (row t a) 0 := emb3 t
  blk_simp
  rw [after0_3, out3]
  idx_vars y
  obtain rfl : y1 = 0 := Subsingleton.elim _ _
  refine Eq.trans ?_ (congrArg (G3 m c) (emb3 t y0).symm)
  refine (pay1 _ y0).trans ?_
  simp only [blk0]
  rfl

end Cert.Kernel8Ideal.RmsF

/-! ## The reference's arrays -/

namespace Cert.Reference8Ideal.RmsF

open Cert.Reference8Ideal Cert.Reference8Ideal.Gen Idealize.ShloMosaic Idealize.ShloMosaic.TcCoe Idealize.SL.Sem Cert.Reference8Ideal.Read

variable (x : FVec Ideal S4096x2048 .f32) (g : FVec Ideal S1x2048 .f32)

theorem v14 (i : Fin 4096) (k : Fin 2048) : val_main_v14 (F := Ideal) x g (ix2 i k) =
    (x (ix2 i k) * Cert.Norm.inv (fun k => x (ix2 i k)) * g (ix2 0 k) : EReal) := by
  delta val_main_v0 val_main_v1 val_main_cst val_main_v2 val_main_v3 val_main_cst_0 val_main_v4 val_main_v5 val_main_cst_1 val_main_v6 val_main_v7 val_main_v8 val_main_v9 val_main_v10 val_main_v11 val_main_v12 val_main_v13 val_main_v14
  pointwise
  rfl

theorem v22 (i : Fin 4096) : val_main_v22 (F := Ideal) x (ix2 i 0) = Cert.Norm.inv (fun k => x (ix2 i k)) := by
  delta val_main_v22 val_main_v21 val_main_v20 val_main_v19 val_main_v18 val_main_v17 val_main_v16 val_main_v15 val_main_cst_2 val_main_cst_3 val_main_cst_4
  pointwise
  rfl

end Cert.Reference8Ideal.RmsF
-- ==== Proof.RmsFClaim.lean ====
/-
  The claims about the root-mean-square norm.
-/
module

public import proofs.«01_k».proof.Defs
public import proofs.«01_k».proof.Proof.Gen.Kernel8.Frame
public import proofs.«01_k».proof.Proof.Lemmas
public import proofs.«01_k».proof.Proof.RmsF

@[expose] public section

set_option maxRecDepth 16384

noncomputable section

namespace Cert.RmsF

open Idealize.ShloMosaic Idealize.SL.Sem

theorem frame_kernel : Cert.quiescent_Kernel8 (hKernel8 := Cert.Kernel8.Gen.facts) := fun m ρ _ => Cert.Kernel8.Gen.frame m ρ
theorem frame_ideal : Cert.quiescent_Kernel8Ideal (hKernel8Ideal := Cert.Kernel8Ideal.Gen.facts) := fun m ρ _ => Cert.Kernel8Ideal.Gen.frame m ρ
theorem frame_reference : Cert.quiescent_Reference8Ideal (hReference8Ideal := Cert.Reference8Ideal.Gen.facts) := fun m ρ _ =>
  (θ_run _ _ _).mono (fun r h => ⟨fun c => (h c).2.2, sem_eq_zero_of_no_sems (by decide) r.2⟩) (Cert.Reference8Ideal.Value.run m ρ)

theorem value : Cert.algebraic_Kernel8Ideal_Reference8Ideal (hKernel8Ideal := Cert.Kernel8Ideal.Gen.facts)
    (hReference8Ideal := Cert.Reference8Ideal.Gen.facts) := fun m ρ m' ρ' _ hag =>
  ⟨fun c => Cert.Kernel8Ideal.RmsF.G2 m c, fun c => Cert.Kernel8Ideal.RmsF.G3 m c,
    (θ_run _ _ _).mono (fun _ h c => ⟨(h c).1.trans (Cert.Kernel8Ideal.RmsF.arr2 m c), (h c).2.1.trans (Cert.Kernel8Ideal.RmsF.arr3 m c),
      (h c).2.2⟩) (Cert.Kernel8Ideal.Value.run_blocks m ρ),
    (θ_run _ _ _).mono (fun _ h c => ⟨by
        rw [(h c).1, Cert.Reference8Ideal.Read.val_main_v14_eq, (hag c).1, (hag c).2]
        funext j
        idx_vars j
        exact Cert.Reference8Ideal.RmsF.v14 _ _ j0 j1, by
        rw [(h c).2.1, Cert.Reference8Ideal.Read.val_main_v22_eq, (hag c).1]
        funext j
        idx_vars j
        obtain rfl : j1 = 0 := Subsingleton.elim _ _
        exact Cert.Reference8Ideal.RmsF.v22 _ j0, (h c).2.2⟩) (Cert.Reference8Ideal.Value.run m' ρ')⟩

end Cert.RmsF
-- ==== Proof.Back.lean ====
/-
  A trailing window's sum, with zeros before the first row, is the difference of two running sums.
-/
module

public import proofs.«01_k».proof.Proof.Window

@[expose] public section

noncomputable section

namespace Cert.Window

open Idealize.ShloMosaic

/-- A column with sixteen zeros in front of it. -/
def back (x : ℕ → EReal) (n : ℕ) : EReal := if 16 ≤ n then x (n - 16) else 0

/-- The sum over the window of `W` rows that ends at row `n`. -/
def window (x : ℕ → EReal) (W n : ℕ) : EReal := ∑ j ∈ Finset.range W, back x (n + 16 - j)

/-- Twice as long a sum, from two. -/
theorem range_double_back (p : ℕ → EReal) (w i : ℕ) :
    ∑ j ∈ Finset.range w, p (i - j) + ∑ j ∈ Finset.range w, p (i - w - j) = ∑ j ∈ Finset.range (2 * w), p (i - j) := by
  rw [two_mul, Finset.sum_range_add]
  simp only [Nat.sub_sub]

/-- Backwards over the last rows. -/
theorem reflect (r : ℕ → ℝ) (a w : ℕ) : ∑ j ∈ Finset.range w, r (a + w - 1 - j) = ∑ j ∈ Finset.range w, r (a + j) := by
  rw [← Finset.sum_range_reflect (fun j => r (a + j)) w]
  refine Finset.sum_congr rfl fun j hj => congrArg r ?_
  have := Finset.mem_range.mp hj
  omega

theorem window_coe (x : ℕ → EReal) (r : ℕ → ℝ) (hx : ∀ n, x n = (r n : EReal)) (W n : ℕ) (hW : W ≤ 16) :
    window x W n = ((∑ j ∈ Finset.range W, (if j ≤ n then r (n - j) else 0) : ℝ) : EReal) := by
  rw [← coe_sum]
  refine Finset.sum_congr rfl fun j hj => ?_
  have := Finset.mem_range.mp hj
  unfold back
  by_cases h : j ≤ n
  · rw [if_pos (by omega), if_pos h, hx, show n + 16 - j - 16 = n - j by omega]
  · rw [if_neg (by omega), if_neg h, EReal.coe_zero]

theorem running (r : ℕ → ℝ) (W n : ℕ) :
    ∑ i ∈ Finset.range (n + 1), r i - (if W ≤ n then ∑ i ∈ Finset.range (n - W + 1), r i else 0) =
      ∑ j ∈ Finset.range W, (if j ≤ n then r (n - j) else 0) := by
  by_cases h : W ≤ n
  · rw [if_pos h]
    have e := Finset.sum_range_add r (n - W + 1) W
    rw [show n - W + 1 + W = n + 1 by omega] at e
    rw [e, ← reflect r (n - W + 1) W, add_sub_cancel_left]
    refine Finset.sum_congr rfl fun j hj => ?_
    have := Finset.mem_range.mp hj
    rw [if_pos (by omega), show n - W + 1 + W - 1 - j = n - j by omega]
  · rw [if_neg h, sub_zero]
    have e := Finset.sum_range_add (fun j => if j ≤ n then r (n - j) else 0) (n + 1) (W - (n + 1))
    rw [show n + 1 + (W - (n + 1)) = W by omega] at e
    have z : ∑ j ∈ Finset.range (W - (n + 1)), (if n + 1 + j ≤ n then r (n - (n + 1 + j)) else 0) = 0 :=
      Finset.sum_eq_zero fun j _ => if_neg (by omega)
    have f := reflect r 0 (n + 1)
    simp only [Nat.zero_add] at f
    rw [e, z, add_zero, ← f]
    refine Finset.sum_congr rfl fun j hj => ?_
    have := Finset.mem_range.mp hj
    rw [if_pos (by omega), show n + 1 - 1 - j = n - j by omega]

/-- The difference of the running sums of a finite column is the window's sum. -/
theorem window_eq (x : ℕ → EReal) (hx : ∀ n, ∃ r : ℝ, x n = (r : EReal)) (W n : ℕ) (hW : W ≤ 16) :
    ∑ i ∈ Finset.range (n + 1), x i - (if W ≤ n then ∑ i ∈ Finset.range (n - W + 1), x i else 0) = window x W n := by
  choose r hr using hx
  rw [window_coe x r hr W n hW, ← running]
  simp only [hr, coe_sum]
  split
  · exact (EReal.coe_sub _ _).symm
  · rw [sub_zero, sub_zero]

/-- A running sum as a windowed reduction. -/
theorem sum_to (x : (⟨4, ![1, 4096, 4, 1024]⟩ : Shape).Idx → EReal)
    (h : (⟨4, ![1, 4096, 4, 1024]⟩ : Shape).ReduceWindows ![1, 4096, 1, 1] ![1, 1, 1, 1] ![0, 4095, 0, 0] ![0, 0, 0, 0] ⟨4, ![1, 4096, 4, 1024]⟩)
    (init : (⟨0, ![]⟩ : Shape).Idx → EReal) (hi : ∀ i, init i = 0) (hu : 0 < (⟨0, ![]⟩ : Shape).numel) (n : Fin 4096) (g : Fin 4) (d : Fin 1024)
    (y : ℕ → EReal) (hy : ∀ n : Fin 4096, x (ix4 0 n g d) = y n.val) :
    Host.reduceWindow (· + ·) ![1, 4096, 1, 1] ![1, 1, 1, 1] ![0, 4095, 0, 0] ![0, 0, 0, 0] x init h hu (ix4 0 n g d)
      = ∑ i ∈ Finset.range (n.val + 1), y i := by
  have hl := n.isLt
  refine (Cert.Ssd.reduceWindow_add _ _ _ _ x init h hu hi _).trans ?_
  refine (sum_idx4 (n0 := 1) (n1 := 4096) (n2 := 1) (n3 := 1) _).trans ?_
  simp only [Fin.sum_univ_one, Finset.univ_unique, Finset.sum_singleton]
  trans ∑ a : Fin 4096, (fun a : ℕ => if 4095 ≤ n.val + a then y (n.val + a - 4095) else 0) a.val
  · refine Finset.sum_congr rfl fun a _ => ?_
    have ha := a.isLt
    show _ = if 4095 ≤ n.val + a.val then y (n.val + a.val - 4095) else 0
    by_cases hc : 4095 ≤ n.val + a.val
    · rw [if_pos hc]
      refine (dif_pos ?_).trans ((congrArg x ?_).trans (hy ⟨n.val + a.val - 4095, by omega⟩))
      · intro b
        fin_cases b
        · exact ⟨Nat.zero_le _, Nat.one_pos⟩
        · exact ⟨by show 4095 ≤ n.val * 1 + a.val; omega, by show n.val * 1 + a.val - 4095 < 4096; omega⟩
        · exact ⟨Nat.zero_le _, by show g.val * 1 + 0 - 0 < 4; omega⟩
        · exact ⟨Nat.zero_le _, by show d.val * 1 + 0 - 0 < 1024; omega⟩
      · funext b
        fin_cases b
        · rfl
        · exact Fin.ext (by show n.val * 1 + a.val - 4095 = n.val + a.val - 4095; omega)
        · exact Fin.ext (by show g.val * 1 + 0 - 0 = g.val; omega)
        · exact Fin.ext (by show d.val * 1 + 0 - 0 = d.val; omega)
    · rw [if_neg hc]
      refine dif_neg fun h' => hc ?_
      have := (h' 1).1
      change 4095 ≤ n.val * 1 + a.val at this
      omega
  · rw [Fin.sum_univ_eq_sum_range (fun a : ℕ => if 4095 ≤ n.val + a then y (n.val + a - 4095) else (0 : EReal)) 4096]
    have e := Finset.sum_range_add (fun a : ℕ => if 4095 ≤ n.val + a then y (n.val + a - 4095) else (0 : EReal)) (4095 - n.val) (n.val + 1)
    rw [show 4095 - n.val + (n.val + 1) = 4096 by omega] at e
    rw [e, Finset.sum_eq_zero fun a ha => if_neg (by have := Finset.mem_range.mp ha; omega), zero_add]
    refine Finset.sum_congr rfl fun a _ => ?_
    rw [if_pos (by omega), show n.val + (4095 - n.val + a) - 4095 = a by omega]

end Cert.Window
-- ==== Proof.PoolFKer.lean ====
/-
  The pooling over trailing windows: what the kernel's result array holds, index by index.
-/
module

public import proofs.«01_k».proof.Proof.Gen.Kernel9Ideal.Value
public import proofs.«01_k».proof.Proof.Back
public import Idealize.ShloMosaic.Lib.Pipeline.ValueKit
public import Idealize.ShloMosaic.Lib.Pipeline.ReadBack
public import Idealize.ShloMosaic.Lib.KernelVsHost
public import Idealize.ShloMosaic.Lib.Pointwise

@[expose] public section

set_option maxRecDepth 16384

noncomputable section

namespace Cert.Kernel9Ideal.Pool

open Cert.Kernel9Ideal Cert.Kernel9Ideal.Gen Idealize.ShloMosaic Idealize.ShloMosaic.TcCoe Idealize.SL.Sem
open Idealize.ShloMosaic.Pipeline (Dat)
open Cert.Window (back window)

/-- The tile with the sixteen rows in front of it. -/
def rows (a : BitVec 32) (v16 : Vec Ideal S512x256 .f32) (v29 : Vec Ideal S16x256 .f32) : FVec Ideal S528x256 .f32 :=
  concatenate S528x256 0 [⟨S16x256, Scalar.select (Scalar.cmpi .sgt a 0#32) v29 (broadcast S16x256 (Scalar.ofBits .f32 0x00000000#32))⟩, ⟨S512x256, v16⟩]
    concatenates_S16x256_S512x256_S528x256_d0

/-- How many rows each of the tile's windows holds. -/
def counts (a : BitVec 32) (W : BitVec 32) : FVec Ideal S512x256 .f32 :=
  broadcastTo S512x256 (sitofp .f32 (minsi (addi (addi (broadcast S512x1 (Scalar.muli a 512#32)) (iota .tc S512x1 32 [0] iota_S512x1_d0_w32))
    (broadcast S512x1 1#32)) (broadcast S512x1 W))) broadcasts_S512x1_S512x256

theorem rows_apply (k : Fin 8) (v16 : Vec Ideal S512x256 .f32) (v29 : Vec Ideal S16x256 .f32) (x : ℕ → EReal) (d : Fin 256)
    (h1 : ∀ r : Fin 512, v16 (ix2 r d) = x (512 * k.val + r.val)) (h2 : 0 < k.val → ∀ r : Fin 16, v29 (ix2 r d) = x (512 * k.val - 16 + r.val)) (i : Fin 528) :
    rows (BitVec.ofNat 32 k.val) v16 v29 (ix2 i d) = back x (512 * k.val + i.val) := by
  unfold rows
  pointwise
  have hk := k.isLt
  have hs : Scalar.cmpi CmpIPredicate.sgt (BitVec.ofNat 32 k.val) 0#32 = if 0 < k.val then 1#1 else 0#1 := by
    clear h1 h2
    revert k
    decide +kernel
  unfold back
  by_cases h : i.val < 16
  · refine (dif_pos h).trans ?_
    rw [hs]
    by_cases h0 : 0 < k.val
    · rw [if_pos h0, if_pos (by omega)]
      refine (h2 h0 (⟨i.val, h⟩ : Fin 16)).trans (congrArg x ?_)
      show 512 * k.val - 16 + i.val = 512 * k.val + i.val - 16
      omega
    · rw [if_neg h0, if_neg (by omega)]
      rfl
  · refine (dif_neg h).trans ?_
    refine Eq.trans ?_ (if_pos (show 16 ≤ 512 * k.val + i.val by omega)).symm
    refine (h1 (⟨i.val - 16, by omega⟩ : Fin 512)).trans (congrArg x ?_)
    show 512 * k.val + (i.val - 16) = 512 * k.val + i.val - 16
    omega

theorem counts_apply (k : Fin 8) (W : ℕ) (hW : W < 2 ^ 20) (r : Fin 512) (d : Fin 256) :
    counts (BitVec.ofNat 32 k.val) (BitVec.ofNat 32 W) (ix2 r d) = (((min (512 * k.val + r.val + 1) W : ℕ) : ℝ) : EReal) := by
  unfold counts
  pointwise
  have hk := k.isLt
  have w1 : Scalar.muli (BitVec.ofNat 32 k.val) 512#32 = BitVec.ofNat 32 (512 * k.val) := by
    rw [Nat.mul_comm]
    exact (BitVec.ofNat_mul k.val 512).symm
  have w2 : ∀ a b : ℕ, IntOp.addi (BitVec.ofNat 32 a) (BitVec.ofNat 32 b) = BitVec.ofNat 32 (a + b) := fun a b => (BitVec.ofNat_add a b).symm
  have w3 : ∀ n : ℕ, n < 2 ^ 20 → FloatOps.sitofp (F := Ideal) FTy.f32 (IntOp.minsi (IntOp.addi (BitVec.ofNat 32 n) 1#32) (BitVec.ofNat 32 W))
      = (((min (n + 1) W : ℕ) : ℝ) : EReal) := fun n hn => congrArg (fun r : ℝ => (r : EReal)) (Cert.Window.count n W hn hW)
  rw [w1, w2, w3 _ (by omega)]

theorem doubled (s : FVec Ideal S528x256 .f32) (n : BitVec 32) (w : ℕ) (h0 : 0 < w) (hn : n.toNat = w) (p : ℕ → EReal) (d : Fin 256)
    (hs : ∀ i : Fin 528, w ≤ i.val + 1 → s (ix2 i d) = ∑ j ∈ Finset.range w, p (i.val - j)) (i : Fin 528) (hi : 2 * w ≤ i.val + 1) :
    addf s (dynamicRotate 0 n none s rotates_S528x256_d0) (ix2 i d) = ∑ j ∈ Finset.range (2 * w), p (i.val - j) := by
  have hl := i.isLt
  have e : dynamicRotate 0 n none s rotates_S528x256_d0 (ix2 i d) = s (ix2 (⟨i.val - w, by omega⟩ : Fin 528) d) := by
    refine dynamicRotate_apply 0 n s _ _ _ fun b => ?_
    match b with
    | ⟨0, _⟩ =>
      show i.val - w = (i.val + 528 - n.toNat % 528) % 528
      rw [hn, Nat.mod_eq_of_lt (show w < 528 by omega)]
      omega
    | ⟨1, _⟩ => rfl
  show s (ix2 i d) + dynamicRotate 0 n none s rotates_S528x256_d0 (ix2 i d) = _
  rw [e, hs _ (by omega), hs _ (by show w ≤ i.val - w + 1; omega), ← Cert.Window.range_double_back]

/-- The column of a block. -/
def column (x0 : Vec Ideal S4096x256 .f32) (d : Fin 256) (n : ℕ) : EReal := if h : n < 4096 then x0 (ix2 ⟨n, h⟩ d) else 0

/-- What the window of `W` rows makes of a block. -/
def tile (W : ℕ) (x0 : Vec Ideal S4096x256 .f32) : Vec Ideal S4096x256 .bf16 := fun y =>
  Ideal.div (window (column x0 (y 1)) W (y 0).val) (((min ((y 0).val + 1) W : ℕ) : ℝ) : EReal) - x0 y

theorem read_rows (arg2 : Memref sig .tc .vmem S4096x256 .f32) (harg2 : arg2.IsWhole) (x0 : Vec Ideal S4096x256 .f32) (off : Fin 2 → ℕ) (n a : ℕ)
    (ho : off = ![a, 0]) (inb : ∀ b, off b + (![n, 256] : Fin 2 → ℕ) b ≤ S4096x256.size b) (r : Fin n) (d : Fin 256) (h : a + r.val < 4096) :
    View.readAt (Elt Ideal) arg2.view (Rect.unit (s := S4096x256) off ![n, 256] inb).toLoadRect (harg2.unread x0)
      (show (Rect.unit (s := S4096x256) off ![n, 256] inb).toLoadRect.shape.Idx from ix2 (n0 := n) (n1 := 256) r d) = column x0 d (a + r.val) := by
  subst ho
  unfold column
  rw [dif_pos h]
  refine (congrFun (harg2.read_unread x0) _).trans (congrArg x0 ?_)
  refine (funext fun b => Fin.ext ?_)
  match b with
  | ⟨0, _⟩ => show a + 1 * r.val = a + r.val; rw [Nat.one_mul]
  | ⟨1, _⟩ => show 0 + 1 * d.val = d.val; rw [Nat.one_mul, Nat.zero_add]

theorem emb_rows (off : Fin 2 → ℕ) (a : ℕ) (ho : off = ![a, 0]) (inb : ∀ b, off b + (![512, 256] : Fin 2 → ℕ) b ≤ S4096x256.size b) (r : Fin 512) (d : Fin 256)
    (h : a + r.val < 4096) :
    (Rect.unit (s := S4096x256) off ![512, 256] inb).emb (show (Rect.unit (s := S4096x256) off ![512, 256] inb).shape.Idx from ix2 (n0 := 512) (n1 := 256) r d)
      = ix2 (⟨a + r.val, h⟩ : Fin 4096) d := by
  subst ho
  refine funext fun b => Fin.ext ?_
  match b with
  | ⟨0, _⟩ => show a + 1 * r.val = a + r.val; rw [Nat.one_mul]
  | ⟨1, _⟩ => show 0 + 1 * d.val = d.val; rw [Nat.one_mul, Nat.zero_add]

abbrev Wide := FVec Ideal S528x256 .f32
def sum2 (u : Wide) : Wide := addf u (dynamicRotate 0 1#32 none u rotates_S528x256_d0)
def sum4 (u : Wide) : Wide := addf (sum2 u) (dynamicRotate 0 2#32 none (sum2 u) rotates_S528x256_d0)
def sum8 (u : Wide) : Wide := addf (sum4 u) (dynamicRotate 0 4#32 none (sum4 u) rotates_S528x256_d0)
def sum16 (u : Wide) : Wide := addf (sum8 u) (dynamicRotate 0 8#32 none (sum8 u) rotates_S528x256_d0)

theorem sum2_apply (u : Wide) (p : ℕ → EReal) (d : Fin 256) (h : ∀ i : Fin 528, u (ix2 i d) = p i.val) (i : Fin 528) (hi : 2 ≤ i.val + 1) :
    sum2 u (ix2 i d) = ∑ j ∈ Finset.range 2, p (i.val - j) :=
  doubled _ 1#32 1 (by decide) (by decide) p d (fun i _ => by rw [h, Finset.sum_range_one, Nat.sub_zero]) i hi

theorem sum4_apply (u : Wide) (p : ℕ → EReal) (d : Fin 256) (h : ∀ i : Fin 528, u (ix2 i d) = p i.val) (i : Fin 528) (hi : 4 ≤ i.val + 1) :
    sum4 u (ix2 i d) = ∑ j ∈ Finset.range 4, p (i.val - j) :=
  doubled _ 2#32 2 (by decide) (by decide) p d (sum2_apply u p d h) i hi

theorem sum8_apply (u : Wide) (p : ℕ → EReal) (d : Fin 256) (h : ∀ i : Fin 528, u (ix2 i d) = p i.val) (i : Fin 528) (hi : 8 ≤ i.val + 1) :
    sum8 u (ix2 i d) = ∑ j ∈ Finset.range 8, p (i.val - j) :=
  doubled _ 4#32 4 (by decide) (by decide) p d (sum4_apply u p d h) i hi

theorem sum16_apply (u : Wide) (p : ℕ → EReal) (d : Fin 256) (h : ∀ i : Fin 528, u (ix2 i d) = p i.val) (i : Fin 528) (hi : 16 ≤ i.val + 1) :
    sum16 u (ix2 i d) = ∑ j ∈ Finset.range 16, p (i.val - j) :=
  doubled _ 8#32 8 (by decide) (by decide) p d (sum8_apply u p d h) i hi

theorem iv_eq (k : ℕ) : Scf.iv 0#32 1#32 k = BitVec.ofNat 32 k := by
  unfold Scf.iv
  rw [BitVec.zero_add, BitVec.mul_one]

theorem off2 : ∀ k : Fin k0_t1_loop.trips, k0_off2 k = ![512 * k.val - 16, 0] := by decide +kernel

theorem pay1_apply (k : Fin k0_t1_loop.trips) (v16 : Vec Ideal S512x256 .f32) (v29 : Vec Ideal S16x256 .f32) (r : Fin 512) (d : Fin 256) :
    (k0_pay1 k v16 v29) (ix2 r d) = Ideal.div (sum2 (rows (Scf.iv 0#32 1#32 k.val) v16 v29) (ix2 (⟨r.val + 16, by omega⟩ : Fin 528) d))
      (counts (Scf.iv 0#32 1#32 k.val) 2#32 (ix2 r d)) - v16 (ix2 r d) := by
  show Ideal.div (extractStridedSlice S512x256 ![16, 0] (sum2 (rows (Scf.iv 0#32 1#32 k.val) v16 v29)) slices_S528x256_o16_0_S512x256 (ix2 r d))
    (counts (Scf.iv 0#32 1#32 k.val) 2#32 (ix2 r d)) - v16 (ix2 r d) = _
  have e : extractStridedSlice S512x256 ![16, 0] (sum2 (rows (Scf.iv 0#32 1#32 k.val) v16 v29)) slices_S528x256_o16_0_S512x256 (ix2 r d)
      = sum2 (rows (Scf.iv 0#32 1#32 k.val) v16 v29) (ix2 (⟨r.val + 16, by omega⟩ : Fin 528) d) := by
    pointwise
    exact congrArg (fun i : Fin 528 => sum2 _ (ix2 i d)) (Fin.ext (Nat.add_comm 16 r.val))
  rw [e]

theorem trip1 (c : Dev nD) (i : grid0.Coords) (arg2 : Memref sig .tc .vmem S4096x256 .f32) (harg2 : arg2.IsWhole) (arg3 : Memref sig .tc .vmem S4096x256 .bf16)
    (harg3 : arg3.IsWhole) (hc : k0_cond1 i = 1#1) (x0 : Vec Ideal S4096x256 .f32)
    (k : Fin k0_t1_loop.trips) :
    ∀ p ∈ tripL_k0_t1 (F := Ideal) Variants.none c none i arg2 harg2 arg3 harg3 hc (harg2.unread x0) k,
      ∀ x : p.1.shape.Idx, p.2 x = tile 2 x0 (p.1.emb x) := by
  have hk : k.val < 8 := lt_of_lt_of_le k.isLt k0_t1_abs.2.1
  unfold tripL_k0_t1 trip_k0_t1
  dsimp only
  intro p hp x
  obtain rfl := List.mem_singleton.mp hp
  obtain ⟨r, d, rfl⟩ : ∃ (r : Fin 512) (d : Fin 256), x = ix2 r d := ⟨x 0, x 1, eq_ix2 x⟩
  have h1 := fun r : Fin 512 => read_rows arg2 harg2 x0 (k0_off1 k) 512 (512 * k.val) (k0_off1_eq k) (k0_off1_inb i k hc) r d (by omega)
  have h2 : 0 < k.val → ∀ r : Fin 16, _ := fun _ r => read_rows arg2 harg2 x0 (k0_off2 k) 16 (512 * k.val - 16) (off2 k)
    (k0_off2_inb i k hc) r d (by omega)
  rw [show _ = _ from emb_rows (k0_off1 k) (512 * k.val) (k0_off1_eq k) (k0_off1_inb i k hc) r d (by omega)]
  refine (pay1_apply k _ _ r d).trans ?_
  rw [iv_eq]
  have e1 := sum2_apply _ (fun n => back (column x0 d) (512 * k.val + n)) d (rows_apply ⟨k.val, hk⟩ _ _ (column x0 d) d h1 h2)
    (⟨r.val + 16, by omega⟩ : Fin 528) (by show 2 ≤ r.val + 16 + 1; omega)
  have e2 : ∑ j ∈ Finset.range 2, back (column x0 d) (512 * k.val + (r.val + 16 - j)) = window (column x0 d) 2 (512 * k.val + r.val) :=
    Finset.sum_congr rfl fun j hj => congrArg (back _) (by have := Finset.mem_range.mp hj; omega)
  refine (congrArg₂ (fun a b : EReal => a - b) (congrArg₂ Ideal.div (e1.trans e2) (counts_apply ⟨k.val, hk⟩ 2 (by decide) r d)) (h1 r)).trans ?_
  unfold tile
  refine congrArg₂ (fun a b : EReal => a - b) rfl ?_
  exact dif_pos (by omega)

theorem pieces1 (c : Dev nD) (i : grid0.Coords) (arg2 : Memref sig .tc .vmem S4096x256 .f32) (harg2 : arg2.IsWhole) (arg3 : Memref sig .tc .vmem S4096x256 .bf16)
    (harg3 : arg3.IsWhole) (hc : k0_cond1 i = 1#1) (x0 : Vec Ideal S4096x256 .f32) :
    ∀ n : ℕ, n ≤ k0_t1_loop.trips → ∀ p ∈ pb_k0_t1 (F := Ideal) Variants.none c none i arg2 harg2 arg3 harg3 hc (harg2.unread x0) n,
      ∀ x : p.1.shape.Idx, p.2 x = tile 2 x0 (p.1.emb x)
  | 0, _, p, hp, _ => absurd hp List.not_mem_nil
  | n + 1, hn, p, hp, x => by
    rw [pb_k0_t1_succ (F := Ideal) Variants.none c none i arg2 harg2 arg3 harg3 hc (harg2.unread x0) ⟨n, hn⟩] at hp
    rcases List.mem_append.mp hp with h | h
    · exact trip1 c i arg2 harg2 arg3 harg3 hc x0 ⟨n, hn⟩ p h x
    · exact pieces1 c i arg2 harg2 arg3 harg3 hc x0 n (Nat.le_of_succ_le hn) p h x

theorem off4 : ∀ k : Fin k0_t2_loop.trips, k0_off4 k = ![512 * k.val - 16, 0] := by decide +kernel

theorem pay2_apply (k : Fin k0_t2_loop.trips) (v16 : Vec Ideal S512x256 .f32) (v29 : Vec Ideal S16x256 .f32) (r : Fin 512) (d : Fin 256) :
    (k0_pay2 k v16 v29) (ix2 r d) = Ideal.div (sum4 (rows (Scf.iv 0#32 1#32 k.val) v16 v29) (ix2 (⟨r.val + 16, by omega⟩ : Fin 528) d))
      (counts (Scf.iv 0#32 1#32 k.val) 4#32 (ix2 r d)) - v16 (ix2 r d) := by
  show Ideal.div (extractStridedSlice S512x256 ![16, 0] (sum4 (rows (Scf.iv 0#32 1#32 k.val) v16 v29)) slices_S528x256_o16_0_S512x256 (ix2 r d))
    (counts (Scf.iv 0#32 1#32 k.val) 4#32 (ix2 r d)) - v16 (ix2 r d) = _
  have e : extractStridedSlice S512x256 ![16, 0] (sum4 (rows (Scf.iv 0#32 1#32 k.val) v16 v29)) slices_S528x256_o16_0_S512x256 (ix2 r d)
      = sum4 (rows (Scf.iv 0#32 1#32 k.val) v16 v29) (ix2 (⟨r.val + 16, by omega⟩ : Fin 528) d) := by
    pointwise
    exact congrArg (fun i : Fin 528 => sum4 _ (ix2 i d)) (Fin.ext (Nat.add_comm 16 r.val))
  rw [e]

theorem trip2 (c : Dev nD) (i : grid0.Coords) (arg2 : Memref sig .tc .vmem S4096x256 .f32) (harg2 : arg2.IsWhole) (arg3 : Memref sig .tc .vmem S4096x256 .bf16)
    (harg3 : arg3.IsWhole) (hc : k0_cond2 i = 1#1) (x0 : Vec Ideal S4096x256 .f32)
    (k : Fin k0_t2_loop.trips) :
    ∀ p ∈ tripL_k0_t2 (F := Ideal) Variants.none c none i arg2 harg2 arg3 harg3 hc (harg2.unread x0) k,
      ∀ x : p.1.shape.Idx, p.2 x = tile 4 x0 (p.1.emb x) := by
  have hk : k.val < 8 := lt_of_lt_of_le k.isLt k0_t2_abs.2.1
  unfold tripL_k0_t2 trip_k0_t2
  dsimp only
  intro p hp x
  obtain rfl := List.mem_singleton.mp hp
  obtain ⟨r, d, rfl⟩ : ∃ (r : Fin 512) (d : Fin 256), x = ix2 r d := ⟨x 0, x 1, eq_ix2 x⟩
  have h1 := fun r : Fin 512 => read_rows arg2 harg2 x0 (k0_off3 k) 512 (512 * k.val) (k0_off3_eq k) (k0_off3_inb i k hc) r d (by omega)
  have h2 : 0 < k.val → ∀ r : Fin 16, _ := fun _ r => read_rows arg2 harg2 x0 (k0_off4 k) 16 (512 * k.val - 16) (off4 k)
    (k0_off4_inb i k hc) r d (by omega)
  rw [show _ = _ from emb_rows (k0_off3 k) (512 * k.val) (k0_off3_eq k) (k0_off3_inb i k hc) r d (by omega)]
  refine (pay2_apply k _ _ r d).trans ?_
  rw [iv_eq]
  have e1 := sum4_apply _ (fun n => back (column x0 d) (512 * k.val + n)) d (rows_apply ⟨k.val, hk⟩ _ _ (column x0 d) d h1 h2)
    (⟨r.val + 16, by omega⟩ : Fin 528) (by show 4 ≤ r.val + 16 + 1; omega)
  have e2 : ∑ j ∈ Finset.range 4, back (column x0 d) (512 * k.val + (r.val + 16 - j)) = window (column x0 d) 4 (512 * k.val + r.val) :=
    Finset.sum_congr rfl fun j hj => congrArg (back _) (by have := Finset.mem_range.mp hj; omega)
  refine (congrArg₂ (fun a b : EReal => a - b) (congrArg₂ Ideal.div (e1.trans e2) (counts_apply ⟨k.val, hk⟩ 4 (by decide) r d)) (h1 r)).trans ?_
  unfold tile
  refine congrArg₂ (fun a b : EReal => a - b) rfl ?_
  exact dif_pos (by omega)

theorem pieces2 (c : Dev nD) (i : grid0.Coords) (arg2 : Memref sig .tc .vmem S4096x256 .f32) (harg2 : arg2.IsWhole) (arg3 : Memref sig .tc .vmem S4096x256 .bf16)
    (harg3 : arg3.IsWhole) (hc : k0_cond2 i = 1#1) (x0 : Vec Ideal S4096x256 .f32) :
    ∀ n : ℕ, n ≤ k0_t2_loop.trips → ∀ p ∈ pb_k0_t2 (F := Ideal) Variants.none c none i arg2 harg2 arg3 harg3 hc (harg2.unread x0) n,
      ∀ x : p.1.shape.Idx, p.2 x = tile 4 x0 (p.1.emb x)
  | 0, _, p, hp, _ => absurd hp List.not_mem_nil
  | n + 1, hn, p, hp, x => by
    rw [pb_k0_t2_succ (F := Ideal) Variants.none c none i arg2 harg2 arg3 harg3 hc (harg2.unread x0) ⟨n, hn⟩] at hp
    rcases List.mem_append.mp hp with h | h
    · exact trip2 c i arg2 harg2 arg3 harg3 hc x0 ⟨n, hn⟩ p h x
    · exact pieces2 c i arg2 harg2 arg3 harg3 hc x0 n (Nat.le_of_succ_le hn) p h x

theorem off6 : ∀ k : Fin k0_t3_loop.trips, k0_off6 k = ![512 * k.val - 16, 0] := by decide +kernel

theorem pay3_apply (k : Fin k0_t3_loop.trips) (v16 : Vec Ideal S512x256 .f32) (v29 : Vec Ideal S16x256 .f32) (r : Fin 512) (d : Fin 256) :
    (k0_pay3 k v16 v29) (ix2 r d) = Ideal.div (sum8 (rows (Scf.iv 0#32 1#32 k.val) v16 v29) (ix2 (⟨r.val + 16, by omega⟩ : Fin 528) d))
      (counts (Scf.iv 0#32 1#32 k.val) 8#32 (ix2 r d)) - v16 (ix2 r d) := by
  show Ideal.div (extractStridedSlice S512x256 ![16, 0] (sum8 (rows (Scf.iv 0#32 1#32 k.val) v16 v29)) slices_S528x256_o16_0_S512x256 (ix2 r d))
    (counts (Scf.iv 0#32 1#32 k.val) 8#32 (ix2 r d)) - v16 (ix2 r d) = _
  have e : extractStridedSlice S512x256 ![16, 0] (sum8 (rows (Scf.iv 0#32 1#32 k.val) v16 v29)) slices_S528x256_o16_0_S512x256 (ix2 r d)
      = sum8 (rows (Scf.iv 0#32 1#32 k.val) v16 v29) (ix2 (⟨r.val + 16, by omega⟩ : Fin 528) d) := by
    pointwise
    exact congrArg (fun i : Fin 528 => sum8 _ (ix2 i d)) (Fin.ext (Nat.add_comm 16 r.val))
  rw [e]

theorem trip3 (c : Dev nD) (i : grid0.Coords) (arg2 : Memref sig .tc .vmem S4096x256 .f32) (harg2 : arg2.IsWhole) (arg3 : Memref sig .tc .vmem S4096x256 .bf16)
    (harg3 : arg3.IsWhole) (hc : k0_cond3 i = 1#1) (x0 : Vec Ideal S4096x256 .f32)
    (k : Fin k0_t3_loop.trips) :
    ∀ p ∈ tripL_k0_t3 (F := Ideal) Variants.none c none i arg2 harg2 arg3 harg3 hc (harg2.unread x0) k,
      ∀ x : p.1.shape.Idx, p.2 x = tile 8 x0 (p.1.emb x) := by
  have hk : k.val < 8 := lt_of_lt_of_le k.isLt k0_t3_abs.2.1
  unfold tripL_k0_t3 trip_k0_t3
  dsimp only
  intro p hp x
  obtain rfl := List.mem_singleton.mp hp
  obtain ⟨r, d, rfl⟩ : ∃ (r : Fin 512) (d : Fin 256), x = ix2 r d := ⟨x 0, x 1, eq_ix2 x⟩
  have h1 := fun r : Fin 512 => read_rows arg2 harg2 x0 (k0_off5 k) 512 (512 * k.val) (k0_off5_eq k) (k0_off5_inb i k hc) r d (by omega)
  have h2 : 0 < k.val → ∀ r : Fin 16, _ := fun _ r => read_rows arg2 harg2 x0 (k0_off6 k) 16 (512 * k.val - 16) (off6 k)
    (k0_off6_inb i k hc) r d (by omega)
  rw [show _ = _ from emb_rows (k0_off5 k) (512 * k.val) (k0_off5_eq k) (k0_off5_inb i k hc) r d (by omega)]
  refine (pay3_apply k _ _ r d).trans ?_
  rw [iv_eq]
  have e1 := sum8_apply _ (fun n => back (column x0 d) (512 * k.val + n)) d (rows_apply ⟨k.val, hk⟩ _ _ (column x0 d) d h1 h2)
    (⟨r.val + 16, by omega⟩ : Fin 528) (by show 8 ≤ r.val + 16 + 1; omega)
  have e2 : ∑ j ∈ Finset.range 8, back (column x0 d) (512 * k.val + (r.val + 16 - j)) = window (column x0 d) 8 (512 * k.val + r.val) :=
    Finset.sum_congr rfl fun j hj => congrArg (back _) (by have := Finset.mem_range.mp hj; omega)
  refine (congrArg₂ (fun a b : EReal => a - b) (congrArg₂ Ideal.div (e1.trans e2) (counts_apply ⟨k.val, hk⟩ 8 (by decide) r d)) (h1 r)).trans ?_
  unfold tile
  refine congrArg₂ (fun a b : EReal => a - b) rfl ?_
  exact dif_pos (by omega)

theorem pieces3 (c : Dev nD) (i : grid0.Coords) (arg2 : Memref sig .tc .vmem S4096x256 .f32) (harg2 : arg2.IsWhole) (arg3 : Memref sig .tc .vmem S4096x256 .bf16)
    (harg3 : arg3.IsWhole) (hc : k0_cond3 i = 1#1) (x0 : Vec Ideal S4096x256 .f32) :
    ∀ n : ℕ, n ≤ k0_t3_loop.trips → ∀ p ∈ pb_k0_t3 (F := Ideal) Variants.none c none i arg2 harg2 arg3 harg3 hc (harg2.unread x0) n,
      ∀ x : p.1.shape.Idx, p.2 x = tile 8 x0 (p.1.emb x)
  | 0, _, p, hp, _ => absurd hp List.not_mem_nil
  | n + 1, hn, p, hp, x => by
    rw [pb_k0_t3_succ (F := Ideal) Variants.none c none i arg2 harg2 arg3 harg3 hc (harg2.unread x0) ⟨n, hn⟩] at hp
    rcases List.mem_append.mp hp with h | h
    · exact trip3 c i arg2 harg2 arg3 harg3 hc x0 ⟨n, hn⟩ p h x
    · exact pieces3 c i arg2 harg2 arg3 harg3 hc x0 n (Nat.le_of_succ_le hn) p h x

theorem off8 : ∀ k : Fin k0_t4_loop.trips, k0_off8 k = ![512 * k.val - 16, 0] := by decide +kernel

theorem pay4_apply (k : Fin k0_t4_loop.trips) (v16 : Vec Ideal S512x256 .f32) (v29 : Vec Ideal S16x256 .f32) (r : Fin 512) (d : Fin 256) :
    (k0_pay4 k v16 v29) (ix2 r d) = Ideal.div (sum16 (rows (Scf.iv 0#32 1#32 k.val) v16 v29) (ix2 (⟨r.val + 16, by omega⟩ : Fin 528) d))
      (counts (Scf.iv 0#32 1#32 k.val) 16#32 (ix2 r d)) - v16 (ix2 r d) := by
  show Ideal.div (extractStridedSlice S512x256 ![16, 0] (sum16 (rows (Scf.iv 0#32 1#32 k.val) v16 v29)) slices_S528x256_o16_0_S512x256 (ix2 r d))
    (counts (Scf.iv 0#32 1#32 k.val) 16#32 (ix2 r d)) - v16 (ix2 r d) = _
  have e : extractStridedSlice S512x256 ![16, 0] (sum16 (rows (Scf.iv 0#32 1#32 k.val) v16 v29)) slices_S528x256_o16_0_S512x256 (ix2 r d)
      = sum16 (rows (Scf.iv 0#32 1#32 k.val) v16 v29) (ix2 (⟨r.val + 16, by omega⟩ : Fin 528) d) := by
    pointwise
    exact congrArg (fun i : Fin 528 => sum16 _ (ix2 i d)) (Fin.ext (Nat.add_comm 16 r.val))
  rw [e]

theorem trip4 (c : Dev nD) (i : grid0.Coords) (arg2 : Memref sig .tc .vmem S4096x256 .f32) (harg2 : arg2.IsWhole) (arg3 : Memref sig .tc .vmem S4096x256 .bf16)
    (harg3 : arg3.IsWhole) (hc : k0_cond4 i = 1#1) (x0 : Vec Ideal S4096x256 .f32)
    (k : Fin k0_t4_loop.trips) :
    ∀ p ∈ tripL_k0_t4 (F := Ideal) Variants.none c none i arg2 harg2 arg3 harg3 hc (harg2.unread x0) k,
      ∀ x : p.1.shape.Idx, p.2 x = tile 16 x0 (p.1.emb x) := by
  have hk : k.val < 8 := lt_of_lt_of_le k.isLt k0_t4_abs.2.1
  unfold tripL_k0_t4 trip_k0_t4
  dsimp only
  intro p hp x
  obtain rfl := List.mem_singleton.mp hp
  obtain ⟨r, d, rfl⟩ : ∃ (r : Fin 512) (d : Fin 256), x = ix2 r d := ⟨x 0, x 1, eq_ix2 x⟩
  have h1 := fun r : Fin 512 => read_rows arg2 harg2 x0 (k0_off7 k) 512 (512 * k.val) (k0_off7_eq k) (k0_off7_inb i k hc) r d (by omega)
  have h2 : 0 < k.val → ∀ r : Fin 16, _ := fun _ r => read_rows arg2 harg2 x0 (k0_off8 k) 16 (512 * k.val - 16) (off8 k)
    (k0_off8_inb i k hc) r d (by omega)
  rw [show _ = _ from emb_rows (k0_off7 k) (512 * k.val) (k0_off7_eq k) (k0_off7_inb i k hc) r d (by omega)]
  refine (pay4_apply k _ _ r d).trans ?_
  rw [iv_eq]
  have e1 := sum16_apply _ (fun n => back (column x0 d) (512 * k.val + n)) d (rows_apply ⟨k.val, hk⟩ _ _ (column x0 d) d h1 h2)
    (⟨r.val + 16, by omega⟩ : Fin 528) (by show 16 ≤ r.val + 16 + 1; omega)
  have e2 : ∑ j ∈ Finset.range 16, back (column x0 d) (512 * k.val + (r.val + 16 - j)) = window (column x0 d) 16 (512 * k.val + r.val) :=
    Finset.sum_congr rfl fun j hj => congrArg (back _) (by have := Finset.mem_range.mp hj; omega)
  refine (congrArg₂ (fun a b : EReal => a - b) (congrArg₂ Ideal.div (e1.trans e2) (counts_apply ⟨k.val, hk⟩ 16 (by decide) r d)) (h1 r)).trans ?_
  unfold tile
  refine congrArg₂ (fun a b : EReal => a - b) rfl ?_
  exact dif_pos (by omega)

theorem pieces4 (c : Dev nD) (i : grid0.Coords) (arg2 : Memref sig .tc .vmem S4096x256 .f32) (harg2 : arg2.IsWhole) (arg3 : Memref sig .tc .vmem S4096x256 .bf16)
    (harg3 : arg3.IsWhole) (hc : k0_cond4 i = 1#1) (x0 : Vec Ideal S4096x256 .f32) :
    ∀ n : ℕ, n ≤ k0_t4_loop.trips → ∀ p ∈ pb_k0_t4 (F := Ideal) Variants.none c none i arg2 harg2 arg3 harg3 hc (harg2.unread x0) n,
      ∀ x : p.1.shape.Idx, p.2 x = tile 16 x0 (p.1.emb x)
  | 0, _, p, hp, _ => absurd hp List.not_mem_nil
  | n + 1, hn, p, hp, x => by
    rw [pb_k0_t4_succ (F := Ideal) Variants.none c none i arg2 harg2 arg3 harg3 hc (harg2.unread x0) ⟨n, hn⟩] at hp
    rcases List.mem_append.mp hp with h | h
    · exact trip4 c i arg2 harg2 arg3 harg3 hc x0 ⟨n, hn⟩ p h x
    · exact pieces4 c i arg2 harg2 arg3 harg3 hc x0 n (Nat.le_of_succ_le hn) p h x

theorem outA (c : Dev nD) (i : grid0.Coords) (arg2 : Memref sig .tc .vmem S4096x256 .f32) (harg2 : arg2.IsWhole) (arg3 : Memref sig .tc .vmem S4096x256 .bf16)
    (harg3 : arg3.IsWhole) (hc0 : cond0_0 i) (hc1 : ¬cond0_1 i) (hc2 : ¬cond0_2 i) (hc3 : ¬cond0_3 i) (x0 : Vec Ideal S4096x256 .f32) :
    out0_A_1 c i arg2 harg2 arg3 harg3 hc0 hc1 hc2 hc3 x0 = tile 2 x0 := by
  funext y
  have hcov := cover0_A_1 (F := Ideal) c i arg2 harg2 arg3 harg3 hc0 hc1 hc2 hc3 x0 y
  have h := View.canon_append_of_pieces (tile 2 x0) [] (kernelRun0_A c i arg2 harg2 arg3 harg3 hc0 hc1 hc2 hc3 x0).1
    (pieces1 c i arg2 harg2 arg3 harg3 hc0 x0 _ (le_refl _)) y hcov
  rw [List.append_nil] at h
  exact (View.read_writes_apply_eq_canon _ _ y _ hcov).trans h

theorem outB (c : Dev nD) (i : grid0.Coords) (arg2 : Memref sig .tc .vmem S4096x256 .f32) (harg2 : arg2.IsWhole) (arg3 : Memref sig .tc .vmem S4096x256 .bf16)
    (harg3 : arg3.IsWhole) (hc0 : ¬cond0_0 i) (hc1 : cond0_1 i) (hc2 : ¬cond0_2 i) (hc3 : ¬cond0_3 i) (x0 : Vec Ideal S4096x256 .f32) :
    out0_B_1 c i arg2 harg2 arg3 harg3 hc0 hc1 hc2 hc3 x0 = tile 4 x0 := by
  funext y
  have hcov := cover0_B_1 (F := Ideal) c i arg2 harg2 arg3 harg3 hc0 hc1 hc2 hc3 x0 y
  have h := View.canon_append_of_pieces (tile 4 x0) [] (kernelRun0_B c i arg2 harg2 arg3 harg3 hc0 hc1 hc2 hc3 x0).1
    (pieces2 c i arg2 harg2 arg3 harg3 hc1 x0 _ (le_refl _)) y hcov
  rw [List.append_nil] at h
  exact (View.read_writes_apply_eq_canon _ _ y _ hcov).trans h

theorem outC (c : Dev nD) (i : grid0.Coords) (arg2 : Memref sig .tc .vmem S4096x256 .f32) (harg2 : arg2.IsWhole) (arg3 : Memref sig .tc .vmem S4096x256 .bf16)
    (harg3 : arg3.IsWhole) (hc0 : ¬cond0_0 i) (hc1 : ¬cond0_1 i) (hc2 : cond0_2 i) (hc3 : ¬cond0_3 i) (x0 : Vec Ideal S4096x256 .f32) :
    out0_C_1 c i arg2 harg2 arg3 harg3 hc0 hc1 hc2 hc3 x0 = tile 8 x0 := by
  funext y
  have hcov := cover0_C_1 (F := Ideal) c i arg2 harg2 arg3 harg3 hc0 hc1 hc2 hc3 x0 y
  have h := View.canon_append_of_pieces (tile 8 x0) [] (kernelRun0_C c i arg2 harg2 arg3 harg3 hc0 hc1 hc2 hc3 x0).1
    (pieces3 c i arg2 harg2 arg3 harg3 hc2 x0 _ (le_refl _)) y hcov
  rw [List.append_nil] at h
  exact (View.read_writes_apply_eq_canon _ _ y _ hcov).trans h

theorem outD (c : Dev nD) (i : grid0.Coords) (arg2 : Memref sig .tc .vmem S4096x256 .f32) (harg2 : arg2.IsWhole) (arg3 : Memref sig .tc .vmem S4096x256 .bf16)
    (harg3 : arg3.IsWhole) (hc0 : ¬cond0_0 i) (hc1 : ¬cond0_1 i) (hc2 : ¬cond0_2 i) (hc3 : cond0_3 i) (x0 : Vec Ideal S4096x256 .f32) :
    out0_D_1 c i arg2 harg2 arg3 harg3 hc0 hc1 hc2 hc3 x0 = tile 16 x0 := by
  funext y
  have hcov := cover0_D_1 (F := Ideal) c i arg2 harg2 arg3 harg3 hc0 hc1 hc2 hc3 x0 y
  have h := View.canon_append_of_pieces (tile 16 x0) [] (kernelRun0_D c i arg2 harg2 arg3 harg3 hc0 hc1 hc2 hc3 x0).1
    (pieces4 c i arg2 harg2 arg3 harg3 hc3 x0 _ (le_refl _)) y hcov
  rw [List.append_nil] at h
  exact (View.read_writes_apply_eq_canon _ _ y _ hcov).trans h

variable (m : (ℓ : Loc nD τ sig) → Buf (Elt Ideal) ℓ) (c : Dev nD)

/-- The projection, read as extended reals. -/
def proj (i : Fin 4096) (q : Fin 8192) : EReal := m (c, Proc.devRef .tc main_arg0) (ix2 i q)

/-- A column of the projection's first half. -/
def pcol (q : Fin 4096) (n : ℕ) : EReal := if h : n < 4096 then proj m c ⟨n, h⟩ ⟨q.val, by omega⟩ else 0

/-- The window's mean less the row itself. -/
def mixed (i q : Fin 4096) : EReal :=
  Ideal.div (window (pcol m c q) (2 ^ (q.val / 1024 + 1)) i.val) (((min (i.val + 1) (2 ^ (q.val / 1024 + 1)) : ℕ) : ℝ) : EReal) - proj m c i ⟨q.val, by omega⟩

theorem idx : ∀ t : Fin cfg0.N, win0_0.index t = ![0, t.val] ∧ win0_1.index t = ![0, t.val] := by
  decide +kernel

theorem point_lt (t : Fin cfg0.N) : t.val < 16 := lt_of_lt_of_eq t.isLt (show cfg0.N = 16 from N_0)

/-- Column `b` of the block that point `t` works on. -/
def col (t : Fin cfg0.N) (b : Fin 256) : Fin 4096 := ⟨t.val * 256 + b.val, by have := point_lt t; omega⟩

theorem blk0 (t : Fin cfg0.N) (i : Fin 4096) (b : Fin 256) :
    iblk m c 0 t (ix2 i b) = proj m c i (⟨(col t b).val, by have := (col t b).isLt; omega⟩ : Fin 8192) := by
  have h : ∀ i q, V m c main_arg0 (ix2 i q) = proj m c i q := fun i q => by
    unfold_abbrev_sides; rfl
  rw [← h]
  blk_ext [iblk, V, col, (idx t).1]

theorem emb1 (t : Fin cfg0.N) (i : Fin 4096) (b : Fin 256) : ((cfg0.win 1).blk t).view.emb (ix2 i b) = ix2 i (col t b) := by
  blk_ext [col, (idx t).2]

theorem flush1 (t : Fin cfg0.N) : (cfg0.win 1).flush t = true := (by decide +kernel : ∀ t : Fin cfg0.N, (cfg0.win 1).flush t = true) t

theorem out1 (t : Fin cfg0.N) : outsAt0 m c t.val t.isLt = tile (2 ^ (t.val / 4 + 1)) (iblk m c 0 t) := by
  have ht := point_lt t
  by_cases h0 : t.val < 4
  · rw [outsAt0_A m c t h0 (by omega) (by omega) (by omega), outA, show t.val / 4 = 0 by omega]; rfl
  · by_cases h1 : t.val < 8
    · rw [outsAt0_B m c t h0 (by omega) (by omega) (by omega), outB, show t.val / 4 = 1 by omega]; rfl
    · by_cases h2 : t.val < 12
      · rw [outsAt0_C m c t h0 (by omega) (by omega) (by omega), outC, show t.val / 4 = 2 by omega]; rfl
      · rw [outsAt0_D m c t h0 (by omega) (by omega) (by omega), outD, show t.val / 4 = 3 by omega]; rfl

/-- The result. -/
theorem arr1 (i q : Fin 4096) : (dats m 0 c).arrAt 1 cfg0.N (ix2 i q) = mixed m c i q := by
  have hq := q.isLt
  obtain ⟨t, b, hc⟩ : ∃ (t : Fin cfg0.N) (b : Fin 256), col t b = q :=
    ⟨⟨q.val / 256, show _ < grid0.N by rw [N_0]; omega⟩, ⟨q.val % 256, by omega⟩, Fin.ext (show q.val / 256 * 256 + q.val % 256 = q.val by omega)⟩
  subst hc
  have h := congrFun (Value.blocks1 m c t (flush1 t)) (ix2 i b)
  refine (congrArg ((dats m 0 c).arrAt 1 cfg0.N) (emb1 t i b)).symm.trans (h.trans ?_)
  rw [Value.flushed1, out1]
  show tile (2 ^ (t.val / 4 + 1)) (iblk m c 0 t) (ix2 i b) = _
  have hb := b.isLt
  have e : column (iblk m c 0 t) b = pcol m c (col t b) := funext fun n => by
    unfold column pcol
    split
    · exact blk0 m c t _ b
    · rfl
  unfold tile mixed
  rw [show (col t b).val / 1024 = t.val / 4 from show (t.val * 256 + b.val) / 1024 = t.val / 4 by omega, ← e, ← blk0]
  rfl

end Cert.Kernel9Ideal.Pool
-- ==== Proof.PoolFRef.lean ====
/-
  The pooling over trailing windows: what the reference's result array holds, index by index.
-/
module

public import proofs.«01_k».proof.Proof.Gen.Reference9Ideal.Read
public import proofs.«01_k».proof.Proof.Back
public import Idealize.ShloMosaic.Lib.Pipeline.ValueKit
public import Idealize.ShloMosaic.Lib.KernelVsHost
public import Idealize.ShloMosaic.Lib.Pointwise

@[expose] public section

set_option maxRecDepth 16384

noncomputable section

namespace Cert.Reference9Ideal.Pool

open Cert.Reference9Ideal Cert.Reference9Ideal.Gen Cert.Reference9Ideal.Read Idealize.ShloMosaic Idealize.ShloMosaic.TcCoe Idealize.SL.Sem
open Cert.Window (window)

variable (x : FVec Ideal S4096x8192 .f32)

/-- Column `d` of window group `g`. -/
def gcol (g : Fin 4) (d : Fin 1024) (n : ℕ) : EReal := if h : n < 4096 then x (ix2 (⟨n, h⟩ : Fin 4096) (⟨g.val * 1024 + d.val, by omega⟩ : Fin 8192)) else 0

theorem gcol_of_lt (g : Fin 4) (d : Fin 1024) (n : Fin 4096) : gcol x g d n.val = x (ix2 n (⟨g.val * 1024 + d.val, by omega⟩ : Fin 8192)) := dif_pos n.isLt

theorem count' (n : Fin 4096) (W : ℕ) (hW : W < 2 ^ 20) :
    FloatOps.sitofp (F := Ideal) FTy.f32 (IntOp.minsi (IntOp.addi 1#32 (BitVec.ofNat 32 n.val)) (BitVec.ofNat 32 W)) = (((min (n.val + 1) W : ℕ) : ℝ) : EReal) := by
  have h : IntOp.addi 1#32 (BitVec.ofNat 32 n.val) = BitVec.ofNat 32 n.val + 1#32 := BitVec.add_comm _ _
  rw [h]
  exact congrArg (fun r : ℝ => (r : EReal)) (Cert.Window.count n.val W (by have := n.isLt; omega) hW)

theorem v1 (n : Fin 4096) (g : Fin 4) (d : Fin 1024) : val_main_v1 (F := Ideal) x (ix4 0 n g d) = gcol x g d n.val := by
  rw [gcol_of_lt]
  delta val_main_v1 val_main_v0
  pointwise

/-- The running sum. -/
theorem v2 (n : Fin 4096) (g : Fin 4) (d : Fin 1024) : val_main_v2 (F := Ideal) x (ix4 0 n g d) = ∑ i ∈ Finset.range (n.val + 1), gcol x g d i := by
  have e := Cert.Window.sum_to (val_main_v1 (F := Ideal) x)
    reduceWindows_S1x4096x4x1024_S1x4096x4x1024_w1s1p0_0_w4096s1p4095_0_w1s1p0_0_w1s1p0_0 (fun _ => val_main_call0_call0_v0 (F := Ideal) (Shape.Idx.first h_S_))
    (fun _ => by delta val_main_call0_call0_v0 val_main_call0_call0_cst; pointwise) h_S_ n g d (gcol x g d) fun n => v1 x n g d
  delta val_main_v2 Host.reduceWindowAdd
  show Ideal.hostReduceWindowAdd _ _ _ _ _ (val_main_v1 (F := Ideal) x) _ _ = _
  delta Ideal.hostReduceWindowAdd
  rw [e]

/-- The running sum moved by the window. -/
def moved (g : Fin 4) (d : Fin 1024) (W n : ℕ) : EReal := if W ≤ n then ∑ i ∈ Finset.range (n - W + 1), gcol x g d i else 0

theorem sum_0 (n : Fin 4096) (d : Fin 1024) : val_main_v7 (F := Ideal) x (ix3 0 n d) = ∑ i ∈ Finset.range (n.val + 1), gcol x 0 d i := by
  rw [← v2]
  delta val_main_v7 val_main_v6
  pointwise

theorem moved_0 (n : Fin 4096) (d : Fin 1024) : val_main_v9 (F := Ideal) x (ix3 0 n d) = moved x 0 d 2 n.val := by
  have hn := n.isLt
  have e : val_main_v9 (F := Ideal) x (ix3 0 n d) = val_main_v8 (F := Ideal) x (ix3 0 (⟨n.val, by omega⟩ : Fin 4098) d) := by
    delta val_main_v9
    pointwise
  rw [e]
  unfold moved
  delta val_main_v8
  by_cases h : 2 ≤ n.val
  · rw [if_pos h, ← sum_0 x ⟨n.val - 2, by omega⟩ d]
    refine pad_apply_of_inside _ _ _ _ _ _ _ _ _ fun a => ?_
    match a with
    | ⟨0, _⟩ => rfl
    | ⟨1, _⟩ => show n.val = 2 + (n.val - 2) * (0 + 1); omega
    | ⟨2, _⟩ => show d.val = 0 + d.val * (0 + 1); omega
  · rw [if_neg h]
    refine (pad_apply_of_not_inside _ _ _ _ _ _ _ _ (⟨1, by decide⟩ : Fin 3) fun h' => h h'.1).trans ?_
    delta val_main_call1_v0 val_main_c_0
    pointwise
    exact congrArg (fun r : ℝ => (r : EReal)) (by simp)

theorem mean_0 (n : Fin 4096) (d : Fin 1024) : val_main_v16 (F := Ideal) x (ix3 0 n d) =
    Ideal.div (∑ i ∈ Finset.range (n.val + 1), gcol x 0 d i - moved x 0 d 2 n.val) (((min (n.val + 1) 2 : ℕ) : ℝ) : EReal) := by
  rw [← sum_0, ← moved_0, ← count' n 2 (by decide)]
  delta val_main_v16 val_main_v14 val_main_v15 val_main_v13 val_main_v12 val_main_v11 val_main_v10 val_main_v5 val_main_v4 val_main_v3 val_main_c val_main_c_1
  pointwise

theorem sum_1 (n : Fin 4096) (d : Fin 1024) : val_main_v18 (F := Ideal) x (ix3 0 n d) = ∑ i ∈ Finset.range (n.val + 1), gcol x 1 d i := by
  rw [← v2]
  delta val_main_v18 val_main_v17
  pointwise

theorem moved_1 (n : Fin 4096) (d : Fin 1024) : val_main_v20 (F := Ideal) x (ix3 0 n d) = moved x 1 d 4 n.val := by
  have hn := n.isLt
  have e : val_main_v20 (F := Ideal) x (ix3 0 n d) = val_main_v19 (F := Ideal) x (ix3 0 (⟨n.val, by omega⟩ : Fin 4100) d) := by
    delta val_main_v20
    pointwise
  rw [e]
  unfold moved
  delta val_main_v19
  by_cases h : 4 ≤ n.val
  · rw [if_pos h, ← sum_1 x ⟨n.val - 4, by omega⟩ d]
    refine pad_apply_of_inside _ _ _ _ _ _ _ _ _ fun a => ?_
    match a with
    | ⟨0, _⟩ => rfl
    | ⟨1, _⟩ => show n.val = 4 + (n.val - 4) * (0 + 1); omega
    | ⟨2, _⟩ => show d.val = 0 + d.val * (0 + 1); omega
  · rw [if_neg h]
    refine (pad_apply_of_not_inside _ _ _ _ _ _ _ _ (⟨1, by decide⟩ : Fin 3) fun h' => h h'.1).trans ?_
    delta val_main_call2_v0 val_main_c_2
    pointwise
    exact congrArg (fun r : ℝ => (r : EReal)) (by simp)

theorem mean_1 (n : Fin 4096) (d : Fin 1024) : val_main_v27 (F := Ideal) x (ix3 0 n d) =
    Ideal.div (∑ i ∈ Finset.range (n.val + 1), gcol x 1 d i - moved x 1 d 4 n.val) (((min (n.val + 1) 4 : ℕ) : ℝ) : EReal) := by
  rw [← sum_1, ← moved_1, ← count' n 4 (by decide)]
  delta val_main_v27 val_main_v25 val_main_v26 val_main_v24 val_main_v23 val_main_v22 val_main_v21 val_main_v5 val_main_v4 val_main_v3 val_main_c val_main_c_3
  pointwise

theorem sum_2 (n : Fin 4096) (d : Fin 1024) : val_main_v29 (F := Ideal) x (ix3 0 n d) = ∑ i ∈ Finset.range (n.val + 1), gcol x 2 d i := by
  rw [← v2]
  delta val_main_v29 val_main_v28
  pointwise

theorem moved_2 (n : Fin 4096) (d : Fin 1024) : val_main_v31 (F := Ideal) x (ix3 0 n d) = moved x 2 d 8 n.val := by
  have hn := n.isLt
  have e : val_main_v31 (F := Ideal) x (ix3 0 n d) = val_main_v30 (F := Ideal) x (ix3 0 (⟨n.val, by omega⟩ : Fin 4104) d) := by
    delta val_main_v31
    pointwise
  rw [e]
  unfold moved
  delta val_main_v30
  by_cases h : 8 ≤ n.val
  · rw [if_pos h, ← sum_2 x ⟨n.val - 8, by omega⟩ d]
    refine pad_apply_of_inside _ _ _ _ _ _ _ _ _ fun a => ?_
    match a with
    | ⟨0, _⟩ => rfl
    | ⟨1, _⟩ => show n.val = 8 + (n.val - 8) * (0 + 1); omega
    | ⟨2, _⟩ => show d.val = 0 + d.val * (0 + 1); omega
  · rw [if_neg h]
    refine (pad_apply_of_not_inside _ _ _ _ _ _ _ _ (⟨1, by decide⟩ : Fin 3) fun h' => h h'.1).trans ?_
    delta val_main_call3_v0 val_main_c_4
    pointwise
    exact congrArg (fun r : ℝ => (r : EReal)) (by simp)

theorem mean_2 (n : Fin 4096) (d : Fin 1024) : val_main_v38 (F := Ideal) x (ix3 0 n d) =
    Ideal.div (∑ i ∈ Finset.range (n.val + 1), gcol x 2 d i - moved x 2 d 8 n.val) (((min (n.val + 1) 8 : ℕ) : ℝ) : EReal) := by
  rw [← sum_2, ← moved_2, ← count' n 8 (by decide)]
  delta val_main_v38 val_main_v36 val_main_v37 val_main_v35 val_main_v34 val_main_v33 val_main_v32 val_main_v5 val_main_v4 val_main_v3 val_main_c val_main_c_5
  pointwise

theorem sum_3 (n : Fin 4096) (d : Fin 1024) : val_main_v40 (F := Ideal) x (ix3 0 n d) = ∑ i ∈ Finset.range (n.val + 1), gcol x 3 d i := by
  rw [← v2]
  delta val_main_v40 val_main_v39
  pointwise

theorem moved_3 (n : Fin 4096) (d : Fin 1024) : val_main_v42 (F := Ideal) x (ix3 0 n d) = moved x 3 d 16 n.val := by
  have hn := n.isLt
  have e : val_main_v42 (F := Ideal) x (ix3 0 n d) = val_main_v41 (F := Ideal) x (ix3 0 (⟨n.val, by omega⟩ : Fin 4112) d) := by
    delta val_main_v42
    pointwise
  rw [e]
  unfold moved
  delta val_main_v41
  by_cases h : 16 ≤ n.val
  · rw [if_pos h, ← sum_3 x ⟨n.val - 16, by omega⟩ d]
    refine pad_apply_of_inside _ _ _ _ _ _ _ _ _ fun a => ?_
    match a with
    | ⟨0, _⟩ => rfl
    | ⟨1, _⟩ => show n.val = 16 + (n.val - 16) * (0 + 1); omega
    | ⟨2, _⟩ => show d.val = 0 + d.val * (0 + 1); omega
  · rw [if_neg h]
    refine (pad_apply_of_not_inside _ _ _ _ _ _ _ _ (⟨1, by decide⟩ : Fin 3) fun h' => h h'.1).trans ?_
    delta val_main_call4_v0 val_main_c_6
    pointwise
    exact congrArg (fun r : ℝ => (r : EReal)) (by simp)

theorem mean_3 (n : Fin 4096) (d : Fin 1024) : val_main_v49 (F := Ideal) x (ix3 0 n d) =
    Ideal.div (∑ i ∈ Finset.range (n.val + 1), gcol x 3 d i - moved x 3 d 16 n.val) (((min (n.val + 1) 16 : ℕ) : ℝ) : EReal) := by
  rw [← sum_3, ← moved_3, ← count' n 16 (by decide)]
  delta val_main_v49 val_main_v47 val_main_v48 val_main_v46 val_main_v45 val_main_v44 val_main_v43 val_main_v5 val_main_v4 val_main_v3 val_main_c val_main_c_7
  pointwise

/-- How many rows a window of each group holds. -/
def wide (g : Fin 4) : ℕ := 2 ^ (g.val + 1)

theorem v54_0 (n : Fin 4096) (d : Fin 1024) : val_main_v54 (F := Ideal) x (ix4 0 n 0 d) =
    Ideal.div (∑ i ∈ Finset.range (n.val + 1), gcol x 0 d i - moved x 0 d 2 n.val) (((min (n.val + 1) 2 : ℕ) : ℝ) : EReal) := by
  rw [← mean_0]
  delta val_main_v54 val_main_v50 val_main_v51 val_main_v52 val_main_v53
  pointwise

theorem v54_1 (n : Fin 4096) (d : Fin 1024) : val_main_v54 (F := Ideal) x (ix4 0 n 1 d) =
    Ideal.div (∑ i ∈ Finset.range (n.val + 1), gcol x 1 d i - moved x 1 d 4 n.val) (((min (n.val + 1) 4 : ℕ) : ℝ) : EReal) := by
  rw [← mean_1]
  delta val_main_v54 val_main_v50 val_main_v51 val_main_v52 val_main_v53
  pointwise

theorem v54_2 (n : Fin 4096) (d : Fin 1024) : val_main_v54 (F := Ideal) x (ix4 0 n 2 d) =
    Ideal.div (∑ i ∈ Finset.range (n.val + 1), gcol x 2 d i - moved x 2 d 8 n.val) (((min (n.val + 1) 8 : ℕ) : ℝ) : EReal) := by
  rw [← mean_2]
  delta val_main_v54 val_main_v50 val_main_v51 val_main_v52 val_main_v53
  pointwise

theorem v54_3 (n : Fin 4096) (d : Fin 1024) : val_main_v54 (F := Ideal) x (ix4 0 n 3 d) =
    Ideal.div (∑ i ∈ Finset.range (n.val + 1), gcol x 3 d i - moved x 3 d 16 n.val) (((min (n.val + 1) 16 : ℕ) : ℝ) : EReal) := by
  rw [← mean_3]
  delta val_main_v54 val_main_v50 val_main_v51 val_main_v52 val_main_v53
  pointwise

theorem v54 (n : Fin 4096) (g : Fin 4) (d : Fin 1024) : val_main_v54 (F := Ideal) x (ix4 0 n g d) =
    Ideal.div (∑ i ∈ Finset.range (n.val + 1), gcol x g d i - moved x g d (wide g) n.val) (((min (n.val + 1) (wide g) : ℕ) : ℝ) : EReal) := by
  match g with
  | ⟨0, _⟩ => exact v54_0 x n d
  | ⟨1, _⟩ => exact v54_1 x n d
  | ⟨2, _⟩ => exact v54_2 x n d
  | ⟨3, _⟩ => exact v54_3 x n d

/-- The result. -/
theorem v57 (hx : ∀ (i : Fin 4096) (q : Fin 4096), ∃ r : ℝ, x (ix2 i (⟨q.val, by omega⟩ : Fin 8192)) = (r : EReal)) (n : Fin 4096) (g : Fin 4) (d : Fin 1024) :
    val_main_v57 (F := Ideal) x (ix2 n (⟨g.val * 1024 + d.val, by omega⟩ : Fin 4096)) =
      Ideal.div (window (gcol x g d) (wide g) n.val) (((min (n.val + 1) (wide g) : ℕ) : ℝ) : EReal) - gcol x g d n.val := by
  have hw : wide g ≤ 16 := (by decide : ∀ g : Fin 4, wide g ≤ 16) g
  rw [← Cert.Window.window_eq (gcol x g d) (fun k => by
    unfold gcol
    split
    · exact hx _ ⟨g.val * 1024 + d.val, by omega⟩
    · exact ⟨0, EReal.coe_zero.symm⟩) (wide g) n.val hw]
  refine Eq.trans ?_ (congrArg₂ (fun a b : EReal => a - b) (v54 x n g d) (v1 x n g d))
  delta val_main_v57 val_main_v56 val_main_v55
  pointwise

end Cert.Reference9Ideal.Pool
-- ==== Proof.PoolFClaim.lean ====
/-
  The claims about the pooling over windows of two, four, eight and sixteen rows.
-/
module

public import proofs.«01_k».proof.Defs
public import proofs.«01_k».proof.Proof.Gen.Kernel9.Frame
public import proofs.«01_k».proof.Proof.Lemmas
public import proofs.«01_k».proof.Proof.PoolFKer
public import proofs.«01_k».proof.Proof.PoolFRef

@[expose] public section

set_option maxRecDepth 16384

noncomputable section

namespace Cert.PoolF

open Idealize.ShloMosaic Idealize.SL.Sem

/-- The precondition's shape facts. -/
theorem preFacts : Cert.Pre_finite9.Facts := ⟨by decide, by decide⟩

theorem frame_kernel : Cert.quiescent_Kernel9 (hKernel9 := Cert.Kernel9.Gen.facts) := fun m ρ _ => Cert.Kernel9.Gen.frame m ρ
theorem frame_ideal : Cert.quiescent_Kernel9Ideal (hKernel9Ideal := Cert.Kernel9Ideal.Gen.facts) := fun m ρ _ => Cert.Kernel9Ideal.Gen.frame m ρ
theorem frame_ideal_pre : Cert.quiescent_Kernel9Ideal_pre_finite9 (hKernel9Ideal := Cert.Kernel9Ideal.Gen.facts) (hPre_finite9 := preFacts) :=
  fun m ρ _ => Cert.Kernel9Ideal.Gen.frame m ρ
theorem frame_reference : Cert.quiescent_Reference9Ideal (hReference9Ideal := Cert.Reference9Ideal.Gen.facts) := fun m ρ _ =>
  (θ_run _ _ _).mono (fun r h => ⟨fun c => (h c).2, sem_eq_zero_of_no_sems (by decide) r.2⟩) (Cert.Reference9Ideal.Value.run m ρ)
theorem frame_reference_pre : Cert.quiescent_Reference9Ideal_pre_finite9 (hReference9Ideal := Cert.Reference9Ideal.Gen.facts) (hPre_finite9 := preFacts) :=
  fun m ρ _ => frame_reference m ρ trivial

attribute [local instance] preFacts

section Values

variable (m : (ℓ : Loc Cert.Kernel9Ideal.nD Cert.Kernel9Ideal.τ Cert.Kernel9Ideal.sig) → Buf (Elt Ideal) ℓ)

open Cert.Kernel9Ideal Cert.Kernel9Ideal.Pool

/-- The precondition, read: the entries of the projection's first half are real numbers. -/
theorem real_arg (h : Cert.Pre_Kernel9Ideal_finite9 m) (c : Dev nD) (i q : Fin 4096) : ∃ r : ℝ, proj m c i (⟨q.val, by omega⟩ : Fin 8192) = (r : EReal) := by
  have e : extractStridedSlice Cert.Pre_finite9.S4096x4096 ![0, 0] (m (c, Proc.devRef .tc main_arg0))
      Cert.Pre_finite9.Facts.slices_S4096x8192_S4096x4096_0_0 (ix2 i q) = proj m c i (⟨q.val, by omega⟩ : Fin 8192) := by
    unfold proj
    pointwise
  rw [← e]
  exact Cert.Shared.real_of_abs_lt (congrFun (h c) (ix2 i q))

/-- The reference's columns, counted group by group, are the kernel's. -/
theorem gcol_eq (c : Dev nD) (q : Fin 4096) (g : Fin 4) (d : Fin 1024) (hq : g.val * 1024 + d.val = q.val) :
    Cert.Reference9Ideal.Pool.gcol (m (c, Proc.devRef .tc main_arg0)) g d = pcol m c q := by
  funext n
  unfold Cert.Reference9Ideal.Pool.gcol pcol
  refine dite_congr rfl (fun h => ?_) fun _ => rfl
  exact congrArg (fun k => m (c, Proc.devRef .tc main_arg0) (ix2 (⟨n, h⟩ : Fin 4096) k)) (Fin.ext hq)

theorem pooled (h : Cert.Pre_Kernel9Ideal_finite9 m) (c : Dev nD) (i q : Fin 4096) :
    Cert.Reference9Ideal.Read.val_main_v57 (F := Ideal) (m (c, Proc.devRef .tc main_arg0)) (ix2 i q) = mixed m c i q := by
  have hq : (⟨q.val / 1024, by omega⟩ : Fin 4).val * 1024 + (⟨q.val % 1024, by omega⟩ : Fin 1024).val = q.val :=
    show q.val / 1024 * 1024 + q.val % 1024 = q.val by omega
  have e := Cert.Reference9Ideal.Pool.v57 (m (c, Proc.devRef .tc main_arg0)) (fun i q => real_arg m h c i q) i
    ⟨q.val / 1024, by omega⟩ ⟨q.val % 1024, by omega⟩
  rw [gcol_eq m c q _ _ hq] at e
  refine (congrArg (fun k => Cert.Reference9Ideal.Read.val_main_v57 (F := Ideal) (m (c, Proc.devRef .tc main_arg0)) (ix2 i k))
    (Fin.ext hq.symm)).trans (e.trans ?_)
  unfold mixed
  refine congrArg₂ (fun a b : EReal => a - b) rfl ?_
  exact dif_pos i.isLt

theorem result (h : Cert.Pre_Kernel9Ideal_finite9 m) (c : Dev nD) :
    Cert.Reference9Ideal.Read.val_main_v57 (F := Ideal) (m (c, Proc.devRef .tc main_arg0)) = (Gen.dats m 0 c).arrAt 1 cfg0.N := by
  funext j
  idx_vars j
  exact (pooled m h c j0 j1).trans (arr1 m c j0 j1).symm

end Values

theorem value : Cert.algebraic_Kernel9Ideal_Reference9Ideal_pre_finite9 (hKernel9Ideal := Cert.Kernel9Ideal.Gen.facts)
    (hReference9Ideal := Cert.Reference9Ideal.Gen.facts) (hPre_finite9 := preFacts) := fun m ρ m' ρ' hpre hag =>
  ⟨fun c => (Cert.Kernel9Ideal.Gen.dats m 0 c).arrAt 1 Cert.Kernel9Ideal.cfg0.N, Cert.Kernel9Ideal.Value.run_blocks m ρ,
    (θ_run _ _ _).mono (fun _ h c => ⟨by
        rw [(h c).1, Cert.Reference9Ideal.Read.val_main_v57_eq, hag c]
        exact result m hpre c, (h c).2⟩) (Cert.Reference9Ideal.Value.run m' ρ')⟩

end Cert.PoolF
-- ==== Proof.Gmm.lean ====
/-
  The product with the groups' weights, the scale and the silu gate: what the kernel's two result arrays hold after the
  run, index by index, and the same for the reference.
-/
module

public import proofs.«01_k».proof.Proof.Gen.Kernel10Ideal.Value
public import proofs.«01_k».proof.Proof.Gen.Reference10Ideal.Read
public import proofs.«01_k».proof.Proof.Gate
public import Idealize.ShloMosaic.Lib.Pipeline.ValueKit
public import Idealize.ShloMosaic.Lib.Pointwise

@[expose] public section

set_option maxRecDepth 16384

noncomputable section

/-! ## The kernel's arrays -/

namespace Cert.Kernel10Ideal.Gmm

open Cert.Kernel10Ideal Cert.Kernel10Ideal.Gen Idealize.ShloMosaic Idealize.ShloMosaic.TcCoe Idealize.SL.Sem
open Idealize.ShloMosaic.Pipeline (Dat)
open Cert.Gate (logis)

variable (m : (ℓ : Loc nD τ sig) → Buf (Elt Ideal) ℓ) (c : Dev nD)

/-- The mixed rows, the groups' weights, the gate and the scale, read as extended reals. -/
def mixed (i q : Fin 4096) : EReal := m (c, Proc.devRef .tc main_arg0) (ix2 i q)
def weight (g : Fin 4) (k d : Fin 1024) : EReal := m (c, Proc.devRef .tc main_arg1) (ix3 g k d)
def gate (i q : Fin 4096) : EReal := m (c, Proc.devRef .tc main_arg2) (ix2 i (⟨4096 + q.val, by omega⟩ : Fin 8192))
def scale (q : Fin 4096) : EReal := m (c, Proc.devRef .tc main_arg3) (ix2 0 q)

/-- Column `d` of group `g`. -/
def at_ (g : Fin 4) (d : Fin 1024) : Fin 4096 := ⟨g.val * 1024 + d.val, by omega⟩

/-- The group of a column, and its place in the group. -/
def group (q : Fin 4096) : Fin 4 := ⟨q.val / 1024, by omega⟩
def place (q : Fin 4096) : Fin 1024 := ⟨q.val % 1024, by omega⟩

/-- The product with the column's group's weights. -/
def dot (i q : Fin 4096) : EReal := ∑ k : Fin 1024, mixed m c i (at_ (group q) k) * weight m c (group q) k (place q)

def G4 (i : S4096x4096.Idx) : EReal := dot m c (i 0) (i 1)
def G5 (i : S4096x4096.Idx) : EReal := dot m c (i 0) (i 1) * scale m c (i 1) * (gate m c (i 0) (i 1) * logis (gate m c (i 0) (i 1)))

theorem idx : ∀ t : Fin cfg0.N, win0_0.index t = ![t.val % 4, t.val / 4] ∧ win0_1.index t = ![t.val / 4, 0, 0] ∧
    win0_2.index t = ![t.val % 4, 4 + t.val / 4] ∧ win0_3.index t = ![0, t.val / 4] ∧ win0_4.index t = ![t.val % 4, t.val / 4] ∧
    win0_5.index t = ![t.val % 4, t.val / 4] := by
  decide +kernel

theorem point_lt (t : Fin cfg0.N) : t.val < 16 := lt_of_lt_of_eq t.isLt (show cfg0.N = 16 from N_0)

/-- Row `a` of the block that point `t` works on, and its group. -/
def row (t : Fin cfg0.N) (a : Fin 1024) : Fin 4096 := ⟨t.val % 4 * 1024 + a.val, by omega⟩
def grp (t : Fin cfg0.N) : Fin 4 := ⟨t.val / 4, by have := point_lt t; omega⟩

theorem group_at (g : Fin 4) (d : Fin 1024) : group (at_ g d) = g := Fin.ext (show (g.val * 1024 + d.val) / 1024 = g.val by omega)
theorem place_at (g : Fin 4) (d : Fin 1024) : place (at_ g d) = d := Fin.ext (show (g.val * 1024 + d.val) % 1024 = d.val by omega)

theorem blk0 (t : Fin cfg0.N) (a b : Fin 1024) : iblk m c 0 t (ix2 a b) = mixed m c (row t a) (at_ (grp t) b) := by
  unfold mixed
  blk_ext [iblk, V, row, at_, grp, (idx t).1]

theorem blk1 (t : Fin cfg0.N) (k d : Fin 1024) : iblk m c 1 t (ix3 0 k d) = weight m c (grp t) k d := by
  unfold weight
  blk_ext [iblk, V, grp, (idx t).2.1]

theorem blk2 (t : Fin cfg0.N) (a b : Fin 1024) : iblk m c 2 t (ix2 a b) = gate m c (row t a) (at_ (grp t) b) := by
  have h := point_lt t
  unfold gate
  blk_ext [iblk, V, row, at_, grp, (idx t).2.2.1]

theorem blk3 (t : Fin cfg0.N) (b : Fin 1024) : iblk m c 3 t (ix2 0 b) = scale m c (at_ (grp t) b) := by
  unfold scale
  blk_ext [iblk, V, at_, grp, (idx t).2.2.2.1]

theorem emb4 (t : Fin cfg0.N) (a b : Fin 1024) : ((cfg0.win 4).blk t).view.emb (ix2 a b) = ix2 (row t a) (at_ (grp t) b) := by
  blk_ext [row, at_, grp, (idx t).2.2.2.2.1]

theorem emb5 (t : Fin cfg0.N) (a b : Fin 1024) : ((cfg0.win 5).blk t).view.emb (ix2 a b) = ix2 (row t a) (at_ (grp t) b) := by
  blk_ext [row, at_, grp, (idx t).2.2.2.2.2]

section Payloads

variable (x0 : FVec Ideal S1024x1024 .bf16) (x1 : FVec Ideal S1x1024x1024 .bf16) (x2 : FVec Ideal S1024x1024 .f32) (x3 : FVec Ideal S1x1024 .f32) (a b : Fin 1024)

theorem pay1 : k0_pay1 (F := Ideal) x0 x1 (ix2 a b) = ∑ k : Fin 1024, (x0 (ix2 a k) * x1 (ix3 0 k b) : EReal) := by
  unfold k0_pay1
  pointwise

theorem pay2 : (k0_pay2 (F := Ideal) x0 x1 x2 x3 (ix2 a b) : EReal) = k0_pay1 (F := Ideal) x0 x1 (ix2 a b) * x3 (ix2 0 b) * (x2 (ix2 a b) * logis (x2 (ix2 a b))) := by
  unfold k0_pay2 logis
  pointwise

theorem out4 : out0_4 (F := Ideal) x0 x1 x2 x3 = k0_pay1 (F := Ideal) x0 x1 := by frame_out
theorem out5 : out0_5 (F := Ideal) x0 x1 x2 x3 = k0_pay2 (F := Ideal) x0 x1 x2 x3 := by frame_out

end Payloads

theorem dot_at (t : Fin cfg0.N) (a b : Fin 1024) : k0_pay1 (F := Ideal) (iblk m c 0 t) (iblk m c 1 t) (ix2 a b) = dot m c (row t a) (at_ (grp t) b) := by
  rw [pay1]
  simp only [blk0, blk1]
  unfold dot
  rw [group_at, place_at]

theorem arr4 : (dats m 0 c).arrAt 4 cfg0.N = G4 m c := by
  refine (dats m 0 c).arrAt_eq_of_covers 4 _ (by decide +kernel) fun t hf y => ?_
  have he : ∀ a b, ((cfg0.win 4).blk t).view.emb (ix2 a b) = ix2 (row t a) (at_ (grp t) b) := emb4 t
  blk_simp
  rw [after0_4, out4]
  idx_vars y
  refine Eq.trans ?_ (congrArg (G4 m c) (emb4 t y0 y1).symm)
  exact dot_at m c t y0 y1

theorem arr5 : (dats m 0 c).arrAt 5 cfg0.N = G5 m c := by
  refine (dats m 0 c).arrAt_eq_of_covers 5 _ (by decide +kernel) fun t hf y => ?_
  have he : ∀ a b, ((cfg0.win 5).blk t).view.emb (ix2 a b) = ix2 (row t a) (at_ (grp t) b) := emb5 t
  blk_simp
  rw [after0_5, out5]
  idx_vars y
  refine Eq.trans ?_ (congrArg (G5 m c) (emb5 t y0 y1).symm)
  refine (pay2 _ _ _ _ y0 y1).trans ?_
  rw [dot_at, blk2, blk3]
  rfl

end Cert.Kernel10Ideal.Gmm

/-! ## The reference's arrays -/

namespace Cert.Reference10Ideal.Gmm

open Cert.Reference10Ideal Cert.Reference10Ideal.Gen Idealize.ShloMosaic Idealize.ShloMosaic.TcCoe Idealize.SL.Sem Cert.Reference10Ideal.Read
open Cert.Gate (logis)
open Cert.Kernel10Ideal.Gmm (at_)

variable (x : FVec Ideal S4096x4096 .bf16) (w : FVec Ideal S4x1024x1024 .bf16) (z : FVec Ideal S4096x8192 .f32) (s : FVec Ideal S1x4096 .f32)

theorem v1 (i : Fin 4096) (g : Fin 4) (k : Fin 1024) : (val_main_v1 (F := Ideal) x (ix4 0 i g k) : EReal) = x (ix2 i (at_ g k)) := by
  delta val_main_v1 val_main_v0 at_
  pointwise

theorem v4 (i : Fin 4096) (g : Fin 4) (d : Fin 1024) : (val_main_v4 (F := Ideal) x w (ix4 0 i g d) : EReal) =
    ∑ k : Fin 1024, (w (ix3 g k d) * x (ix2 i (at_ g k)) : EReal) := by
  delta val_main_v4 val_main_v3 val_main_v2
  pointwise
  simp only [v1]

theorem v5 (i : Fin 4096) (g : Fin 4) (d : Fin 1024) : val_main_v5 (F := Ideal) x w (ix2 i (at_ g d)) = val_main_v4 (F := Ideal) x w (ix4 0 i g d) := by
  delta val_main_v5 at_
  pointwise

theorem v11 (i q : Fin 4096) : val_main_v11 (F := Ideal) z (ix2 i q) = (z (ix2 i (⟨4096 + q.val, by omega⟩ : Fin 8192)) * logis (z (ix2 i (⟨4096 + q.val, by omega⟩ : Fin 8192))) : EReal) := by
  delta val_main_v10 val_main_call0_v0 val_main_call0_v1 val_main_call0_cst val_main_call0_v2 val_main_call0_v3 val_main_call0_cst_0 val_main_call0_v4 val_main_call0_v5 val_main_v11
  pointwise
  unfold logis
  rw [zero_sub]

theorem v13 (i q : Fin 4096) : (val_main_v13 (F := Ideal) x w z s (ix2 i q) : EReal) =
    val_main_v5 (F := Ideal) x w (ix2 i q) * s (ix2 0 q) * val_main_v11 (F := Ideal) z (ix2 i q) := by
  delta val_main_v13 val_main_v12 val_main_v9 val_main_v8 val_main_v7 val_main_v6
  pointwise

end Cert.Reference10Ideal.Gmm
-- ==== Proof.GmmClaim.lean ====
/-
  The claims about the product with the groups' weights, the scale and the silu gate.
-/
module

public import proofs.«01_k».proof.Defs
public import proofs.«01_k».proof.Proof.Gen.Kernel10.Frame
public import proofs.«01_k».proof.Proof.Lemmas
public import proofs.«01_k».proof.Proof.Gmm

@[expose] public section

set_option maxRecDepth 16384

noncomputable section

namespace Cert.Gmm

open Idealize.ShloMosaic Idealize.SL.Sem

theorem frame_kernel : Cert.quiescent_Kernel10 (hKernel10 := Cert.Kernel10.Gen.facts) := fun m ρ _ => Cert.Kernel10.Gen.frame m ρ
theorem frame_ideal : Cert.quiescent_Kernel10Ideal (hKernel10Ideal := Cert.Kernel10Ideal.Gen.facts) := fun m ρ _ => Cert.Kernel10Ideal.Gen.frame m ρ
theorem frame_reference : Cert.quiescent_Reference10Ideal (hReference10Ideal := Cert.Reference10Ideal.Gen.facts) := fun m ρ _ =>
  (θ_run _ _ _).mono (fun r h => ⟨fun c => (h c).2.2, sem_eq_zero_of_no_sems (by decide) r.2⟩) (Cert.Reference10Ideal.Value.run m ρ)

section Values

variable (m : (ℓ : Loc Cert.Kernel10Ideal.nD Cert.Kernel10Ideal.τ Cert.Kernel10Ideal.sig) → Buf (Elt Ideal) ℓ)

open Cert.Kernel10Ideal Cert.Kernel10Ideal.Gmm

theorem product (c : Dev nD) (i q : Fin 4096) : Cert.Reference10Ideal.Read.val_main_v5 (F := Ideal) (m (c, Proc.devRef .tc main_arg0)) (m (c, Proc.devRef .tc main_arg1)) (ix2 i q) = dot m c i q := by
  have e : q = at_ (group q) (place q) := Fin.ext (show q.val = q.val / 1024 * 1024 + q.val % 1024 by omega)
  refine (congrArg (fun k => Cert.Reference10Ideal.Read.val_main_v5 (F := Ideal) (m (c, Proc.devRef .tc main_arg0)) (m (c, Proc.devRef .tc main_arg1)) (ix2 i k)) e).trans ?_
  refine (Cert.Reference10Ideal.Gmm.v5 _ _ i _ _).trans ((Cert.Reference10Ideal.Gmm.v4 _ _ i _ _).trans ?_)
  exact Finset.sum_congr rfl fun k _ => mul_comm (_ : EReal) _

theorem gated (c : Dev nD) (i q : Fin 4096) : Cert.Reference10Ideal.Read.val_main_v13 (F := Ideal) (m (c, Proc.devRef .tc main_arg0)) (m (c, Proc.devRef .tc main_arg1))
    (m (c, Proc.devRef .tc main_arg2)) (m (c, Proc.devRef .tc main_arg3)) (ix2 i q) = G5 m c (ix2 i q) := by
  refine (Cert.Reference10Ideal.Gmm.v13 _ _ _ _ i q).trans ?_
  rw [product, Cert.Reference10Ideal.Gmm.v11]
  rfl

end Values

theorem value : Cert.algebraic_Kernel10Ideal_Reference10Ideal (hKernel10Ideal := Cert.Kernel10Ideal.Gen.facts)
    (hReference10Ideal := Cert.Reference10Ideal.Gen.facts) := fun m ρ m' ρ' _ hag =>
  ⟨fun c => Cert.Kernel10Ideal.Gmm.G4 m c, fun c => Cert.Kernel10Ideal.Gmm.G5 m c,
    (θ_run _ _ _).mono (fun _ h c => ⟨(h c).1.trans (Cert.Kernel10Ideal.Gmm.arr4 m c), (h c).2.1.trans (Cert.Kernel10Ideal.Gmm.arr5 m c),
      (h c).2.2⟩) (Cert.Kernel10Ideal.Value.run_blocks m ρ),
    (θ_run _ _ _).mono (fun _ h c => ⟨by
        rw [(h c).1, Cert.Reference10Ideal.Read.val_main_v5_eq, (hag c).1, (hag c).2.1]
        funext j
        idx_vars j
        exact product m c j0 j1, by
        rw [(h c).2.1, Cert.Reference10Ideal.Read.val_main_v13_eq, (hag c).1, (hag c).2.1, (hag c).2.2.1, (hag c).2.2.2]
        funext j
        idx_vars j
        exact gated m c j0 j1, (h c).2.2⟩) (Cert.Reference10Ideal.Value.run m' ρ')⟩

end Cert.Gmm
-- ==== Proof.Taps.lean ====
/-
  The causal convolution of four taps and its silu, over the extended reals: both programs are compared with `conv`.
-/
module

public import proofs.«01_k».proof.Proof.Gate

@[expose] public section

set_option maxRecDepth 16384

noncomputable section

namespace Cert.Taps

open Cert.Gate (logis)

/-- The entry `s` rows back in a column, zero before the first row. -/
def past (x : ℕ → EReal) (s n : ℕ) : EReal := if s ≤ n then x (n - s) else 0

/-- Four taps over a column, and the bias. -/
def conv (b w0 w1 w2 w3 : EReal) (x : ℕ → EReal) (n : ℕ) : EReal :=
  b + (w0 * past x 3 n + w1 * past x 2 n + w2 * past x 1 n + w3 * past x 0 n)

def silu (z : EReal) : EReal := z * logis z

/-- The bias and the taps, added one after another. -/
theorem conv_in_order (b w0 w1 w2 w3 : EReal) (x : ℕ → EReal) (n : ℕ) :
    b + past x 3 n * w0 + past x 2 n * w1 + past x 1 n * w2 + past x 0 n * w3 = conv b w0 w1 w2 w3 x n := by
  unfold conv
  rw [mul_comm w0, mul_comm w1, mul_comm w2, mul_comm w3]
  simp only [add_assoc]

end Cert.Taps
-- ==== Proof.ConvFKer.lean ====
/-
  The causal convolution and its silu: what the kernel's result array holds, index by index.
-/
module

public import proofs.«01_k».proof.Proof.Gen.Kernel11Ideal.Value
public import proofs.«01_k».proof.Proof.Taps
public import Idealize.ShloMosaic.Lib.Pipeline.ValueKit
public import Idealize.ShloMosaic.Lib.Pipeline.ReadBack
public import Idealize.ShloMosaic.Lib.KernelVsHost
public import Idealize.ShloMosaic.Lib.Pointwise

@[expose] public section

set_option maxRecDepth 16384

noncomputable section

namespace Cert.Kernel11Ideal.Conv

open Cert.Kernel11Ideal Cert.Kernel11Ideal.Gen Idealize.ShloMosaic Idealize.ShloMosaic.TcCoe Idealize.SL.Sem
open Idealize.ShloMosaic.Pipeline (Dat)
open Cert.Taps (past conv silu)

/-- The tile with the eight rows in front of it. -/
def rows (a : BitVec 32) (v4 : Vec Ideal S512x256 .f32) (v9 : Vec Ideal S8x256 .f32) : FVec Ideal S520x256 .f32 :=
  concatenate S520x256 0 [⟨S8x256, Scalar.select (Scalar.cmpi .sgt a 0#32) v9 (broadcast S8x256 (Scalar.ofBits .f32 0x00000000#32))⟩, ⟨S512x256, v4⟩]
    concatenates_S8x256_S512x256_S520x256_d0

theorem rows_apply (k : Fin 8) (v4 : Vec Ideal S512x256 .f32) (v9 : Vec Ideal S8x256 .f32) (x : ℕ → EReal) (d : Fin 256)
    (h1 : ∀ r : Fin 512, v4 (ix2 r d) = x (512 * k.val + r.val)) (h2 : 0 < k.val → ∀ r : Fin 8, v9 (ix2 r d) = x (512 * k.val - 8 + r.val)) (i : Fin 520) :
    rows (BitVec.ofNat 32 k.val) v4 v9 (ix2 i d) = past x 8 (512 * k.val + i.val) := by
  unfold rows
  pointwise
  have hk := k.isLt
  have hs : Scalar.cmpi CmpIPredicate.sgt (BitVec.ofNat 32 k.val) 0#32 = if 0 < k.val then 1#1 else 0#1 := by
    clear h1 h2
    revert k
    decide +kernel
  unfold past
  by_cases h : i.val < 8
  · refine (dif_pos h).trans ?_
    rw [hs]
    by_cases h0 : 0 < k.val
    · rw [if_pos h0, if_pos (by omega)]
      refine (h2 h0 (⟨i.val, h⟩ : Fin 8)).trans (congrArg x ?_)
      show 512 * k.val - 8 + i.val = 512 * k.val + i.val - 8
      omega
    · rw [if_neg h0, if_neg (by omega)]
      rfl
  · refine (dif_neg h).trans ?_
    refine Eq.trans ?_ (if_pos (show 8 ≤ 512 * k.val + i.val by omega)).symm
    refine (h1 (⟨i.val - 8, by omega⟩ : Fin 512)).trans (congrArg x ?_)
    show 512 * k.val + (i.val - 8) = 512 * k.val + i.val - 8
    omega

/-- The tile's rows, each replaced by the one `w` rows back. -/
def shifted (u : FVec Ideal S520x256 .f32) (w : BitVec 32) : FVec Ideal S512x256 .f32 :=
  extractStridedSlice S512x256 ![8, 0] (dynamicRotate 0 w none u rotates_S520x256_d0) slices_S520x256_o8_0_S512x256

theorem shifted_apply (u : FVec Ideal S520x256 .f32) (n : BitVec 32) (w : ℕ) (hw : w ≤ 8) (hn : n.toNat = w) (x : ℕ → EReal) (a : ℕ) (d : Fin 256)
    (h : ∀ i : Fin 520, u (ix2 i d) = past x 8 (a + i.val)) (r : Fin 512) : shifted u n (ix2 r d) = past x w (a + r.val) := by
  have hr := r.isLt
  have e : shifted u n (ix2 r d) = u (ix2 (⟨r.val + 8 - w, by omega⟩ : Fin 520) d) := by
    have e1 : shifted u n (ix2 r d) = dynamicRotate 0 n none u rotates_S520x256_d0 (ix2 (⟨8 + r.val, by omega⟩ : Fin 520) d) := by
      unfold shifted
      generalize dynamicRotate 0 n none u rotates_S520x256_d0 = z
      pointwise
    rw [e1]
    refine dynamicRotate_apply 0 n u _ _ _ fun b => ?_
    match b with
    | ⟨0, _⟩ =>
      show r.val + 8 - w = (8 + r.val + 520 - n.toNat % 520) % 520
      rw [hn, Nat.mod_eq_of_lt (show w < 520 by omega)]
      omega
    | ⟨1, _⟩ => rfl
  rw [e, h]
  unfold past
  show (if 8 ≤ a + (r.val + 8 - w) then x (a + (r.val + 8 - w) - 8) else 0) = _
  by_cases hc : w ≤ a + r.val
  · rw [if_pos hc, if_pos (by omega), show a + (r.val + 8 - w) - 8 = a + r.val - w by omega]
  · rw [if_neg hc, if_neg (by omega)]

/-- A trip's result, entry by entry. -/
theorem pay_apply (k : Fin k0_t1_loop.trips) (v4 : Vec Ideal S512x256 .f32) (v9 : Vec Ideal S8x256 .f32) (v20 v21 v26 v30 v34 : Vec Ideal S1x256 .f32)
    (r : Fin 512) (d : Fin 256) :
    (k0_pay1 (F := Ideal) (k0_pay2 0#32 1#32 k v4 v9 v21 v26 v30 v34) (k0_pay3 v20) (ix2 r d) : EReal) =
      silu (v20 (ix2 0 d) + (v21 (ix2 0 d) * shifted (rows (Scf.iv 0#32 1#32 k.val) v4 v9) 3#32 (ix2 r d)
        + v26 (ix2 0 d) * shifted (rows (Scf.iv 0#32 1#32 k.val) v4 v9) 2#32 (ix2 r d)
        + v30 (ix2 0 d) * shifted (rows (Scf.iv 0#32 1#32 k.val) v4 v9) 1#32 (ix2 r d) + v34 (ix2 0 d) * v4 (ix2 r d))) := by
  have e : (k0_pay2 (F := Ideal) 0#32 1#32 k v4 v9 v21 v26 v30 v34 (ix2 r d) : EReal) =
      v21 (ix2 0 d) * shifted (rows (Scf.iv 0#32 1#32 k.val) v4 v9) 3#32 (ix2 r d)
        + v26 (ix2 0 d) * shifted (rows (Scf.iv 0#32 1#32 k.val) v4 v9) 2#32 (ix2 r d)
        + v30 (ix2 0 d) * shifted (rows (Scf.iv 0#32 1#32 k.val) v4 v9) 1#32 (ix2 r d) + v34 (ix2 0 d) * v4 (ix2 r d) := by
    show addf (addf (addf (addf (broadcast S512x256 (Scalar.ofBits .f32 0x00000000#32))
      (mulf (broadcastTo S512x256 v21 broadcasts_S1x256_S512x256) (shifted (rows (Scf.iv 0#32 1#32 k.val) v4 v9) 3#32)))
      (mulf (broadcastTo S512x256 v26 broadcasts_S1x256_S512x256) (shifted (rows (Scf.iv 0#32 1#32 k.val) v4 v9) 2#32)))
      (mulf (broadcastTo S512x256 v30 broadcasts_S1x256_S512x256) (shifted (rows (Scf.iv 0#32 1#32 k.val) v4 v9) 1#32)))
      (mulf (broadcastTo S512x256 v34 broadcasts_S1x256_S512x256) v4) (ix2 r d) = _
    generalize shifted (rows (Scf.iv 0#32 1#32 k.val) v4 v9) 3#32 = s3
    generalize shifted (rows (Scf.iv 0#32 1#32 k.val) v4 v9) 2#32 = s2
    generalize shifted (rows (Scf.iv 0#32 1#32 k.val) v4 v9) 1#32 = s1
    pointwise
    try rw [zero_add]
  rw [← e]
  generalize k0_pay2 (F := Ideal) 0#32 1#32 k v4 v9 v21 v26 v30 v34 = v37
  unfold k0_pay1 k0_pay3 silu Cert.Gate.logis
  pointwise

/-- The column of a block. -/
def column (x0 : Vec Ideal S4096x256 .f32) (d : Fin 256) (n : ℕ) : EReal := if h : n < 4096 then x0 (ix2 ⟨n, h⟩ d) else 0

/-- What the kernel makes of a block. -/
def tile (x0 : Vec Ideal S4096x256 .f32) (x1 : Vec Ideal S4x256 .f32) (x2 : Vec Ideal S1x256 .f32) : Vec Ideal S4096x256 .f32 := fun y =>
  silu (conv (x2 (ix2 0 (y 1))) (x1 (ix2 0 (y 1))) (x1 (ix2 1 (y 1))) (x1 (ix2 2 (y 1))) (x1 (ix2 3 (y 1))) (column x0 (y 1)) (y 0).val)

theorem read_rows (arg1 : Memref sig .tc .vmem S4096x256 .f32) (harg1 : arg1.IsWhole) (x0 : Vec Ideal S4096x256 .f32) (off : Fin 2 → ℕ) (n a : ℕ)
    (ho : off = ![a, 0]) (inb : ∀ b, off b + (![n, 256] : Fin 2 → ℕ) b ≤ S4096x256.size b) (r : Fin n) (d : Fin 256) (h : a + r.val < 4096) :
    View.readAt (Elt Ideal) arg1.view (Rect.unit (s := S4096x256) off ![n, 256] inb).toLoadRect (harg1.unread x0)
      (show (Rect.unit (s := S4096x256) off ![n, 256] inb).toLoadRect.shape.Idx from ix2 (n0 := n) (n1 := 256) r d) = column x0 d (a + r.val) := by
  subst ho
  unfold column
  rw [dif_pos h]
  refine (congrFun (harg1.read_unread x0) _).trans (congrArg x0 ?_)
  refine (funext fun b => Fin.ext ?_)
  match b with
  | ⟨0, _⟩ => show a + 1 * r.val = a + r.val; rw [Nat.one_mul]
  | ⟨1, _⟩ => show 0 + 1 * d.val = d.val; rw [Nat.one_mul, Nat.zero_add]

theorem read_tap (arg2 : Memref sig .tc .vmem S4x256 .f32) (harg2 : arg2.IsWhole) (x1 : Vec Ideal S4x256 .f32) (j : Fin 4)
    (inb : ∀ b, (![j.val, 0] : Fin 2 → ℕ) b + (![1, 256] : Fin 2 → ℕ) b ≤ S4x256.size b) (d : Fin 256) :
    View.readAt (Elt Ideal) arg2.view (Rect.unit (s := S4x256) ![j.val, 0] ![1, 256] inb).toLoadRect (harg2.unread x1)
      (show (Rect.unit (s := S4x256) ![j.val, 0] ![1, 256] inb).toLoadRect.shape.Idx from ix2 (n0 := 1) (n1 := 256) 0 d) = x1 (ix2 j d) := by
  refine (congrFun (harg2.read_unread x1) _).trans (congrArg x1 ?_)
  refine (funext fun b => Fin.ext ?_)
  match b with
  | ⟨0, _⟩ => show j.val + 1 * 0 = j.val; omega
  | ⟨1, _⟩ => show 0 + 1 * d.val = d.val; omega

theorem read_bias (arg3 : Memref sig .tc .vmem S1x256 .f32) (harg3 : arg3.IsWhole) (x2 : Vec Ideal S1x256 .f32)
    (inb : ∀ b, (![0, 0] : Fin 2 → ℕ) b + (![1, 256] : Fin 2 → ℕ) b ≤ S1x256.size b) (d : Fin 256) :
    View.readAt (Elt Ideal) arg3.view (Rect.unit (s := S1x256) ![0, 0] ![1, 256] inb).toLoadRect (harg3.unread x2)
      (show (Rect.unit (s := S1x256) ![0, 0] ![1, 256] inb).toLoadRect.shape.Idx from ix2 (n0 := 1) (n1 := 256) 0 d) = x2 (ix2 0 d) := by
  refine (congrFun (harg3.read_unread x2) _).trans (congrArg x2 ?_)
  refine (funext fun b => Fin.ext ?_)
  match b with
  | ⟨0, _⟩ => rfl
  | ⟨1, _⟩ => show 0 + 1 * d.val = d.val; omega

theorem emb_rows (off : Fin 2 → ℕ) (a : ℕ) (ho : off = ![a, 0]) (inb : ∀ b, off b + (![512, 256] : Fin 2 → ℕ) b ≤ S4096x256.size b) (r : Fin 512) (d : Fin 256)
    (h : a + r.val < 4096) :
    (Rect.unit (s := S4096x256) off ![512, 256] inb).emb (show (Rect.unit (s := S4096x256) off ![512, 256] inb).shape.Idx from ix2 (n0 := 512) (n1 := 256) r d)
      = ix2 (⟨a + r.val, h⟩ : Fin 4096) d := by
  subst ho
  refine funext fun b => Fin.ext ?_
  match b with
  | ⟨0, _⟩ => show a + 1 * r.val = a + r.val; rw [Nat.one_mul]
  | ⟨1, _⟩ => show 0 + 1 * d.val = d.val; rw [Nat.one_mul, Nat.zero_add]

theorem iv_eq (k : ℕ) : Scf.iv 0#32 1#32 k = BitVec.ofNat 32 k := by
  unfold Scf.iv
  rw [BitVec.zero_add, BitVec.mul_one]

theorem off2 : ∀ k : Fin k0_t1_loop.trips, k0_off2 k = ![512 * k.val - 8, 0] := by decide +kernel

theorem trip1 (c : Dev nD) (i : grid0.Coords) (arg1 : Memref sig .tc .vmem S4096x256 .f32) (harg1 : arg1.IsWhole) (arg2 : Memref sig .tc .vmem S4x256 .f32) (harg2 : arg2.IsWhole)
    (arg3 : Memref sig .tc .vmem S1x256 .f32) (harg3 : arg3.IsWhole) (arg4 : Memref sig .tc .vmem S4096x256 .f32) (harg4 : arg4.IsWhole)
    (x0 : Vec Ideal S4096x256 .f32) (x1 : Vec Ideal S4x256 .f32) (x2 : Vec Ideal S1x256 .f32)
    (k : Fin k0_t1_loop.trips) :
    ∀ p ∈ tripL_k0_t1 (F := Ideal) Variants.none c none i arg1 harg1 arg2 harg2 arg3 harg3 arg4 harg4 (harg1.unread x0) (harg2.unread x1) (harg3.unread x2) k,
      ∀ x : p.1.shape.Idx, p.2 x = tile x0 x1 x2 (p.1.emb x) := by
  have hk : k.val < 8 := lt_of_lt_of_le k.isLt k0_t1_abs.2.1
  unfold tripL_k0_t1 trip_k0_t1
  dsimp only
  intro p hp x
  obtain rfl := List.mem_singleton.mp hp
  obtain ⟨r, d, rfl⟩ : ∃ (r : Fin 512) (d : Fin 256), x = ix2 r d := ⟨x 0, x 1, eq_ix2 x⟩
  have h1 := fun r : Fin 512 => read_rows arg1 harg1 x0 (k0_off1 k) 512 (512 * k.val) (k0_off1_eq k) (k0_off1_inb k) r d (by omega)
  have h2 : 0 < k.val → ∀ r : Fin 8, _ := fun _ r => read_rows arg1 harg1 x0 (k0_off2 k) 8 (512 * k.val - 8) (off2 k)
    (k0_off2_inb k) r d (by omega)
  rw [show _ = _ from emb_rows (k0_off1 k) (512 * k.val) (k0_off1_eq k) (k0_off1_inb k) r d (by omega)]
  refine (pay_apply k _ _ _ _ _ _ _ r d).trans ?_
  rw [iv_eq]
  have e := rows_apply ⟨k.val, hk⟩ _ _ (column x0 d) d h1 h2
  unfold tile conv
  refine congrArg silu (congrArg₂ (fun a b : EReal => a + b) (read_bias arg3 harg3 x2 _ d) ?_)
  refine congrArg₂ (fun a b : EReal => a + b) (congrArg₂ (fun a b : EReal => a + b) (congrArg₂ (fun a b : EReal => a + b) ?_ ?_) ?_) ?_
  · exact congrArg₂ (fun a b : EReal => a * b) (read_tap arg2 harg2 x1 0 _ d) (shifted_apply _ 3#32 3 (by decide) (by decide) (column x0 d) (512 * k.val) d e r)
  · exact congrArg₂ (fun a b : EReal => a * b) (read_tap arg2 harg2 x1 1 _ d) (shifted_apply _ 2#32 2 (by decide) (by decide) (column x0 d) (512 * k.val) d e r)
  · exact congrArg₂ (fun a b : EReal => a * b) (read_tap arg2 harg2 x1 2 _ d) (shifted_apply _ 1#32 1 (by decide) (by decide) (column x0 d) (512 * k.val) d e r)
  · exact congrArg₂ (fun a b : EReal => a * b) (read_tap arg2 harg2 x1 3 _ d) ((h1 r).trans (if_pos (Nat.zero_le _)).symm)

theorem pieces1 (c : Dev nD) (i : grid0.Coords) (arg1 : Memref sig .tc .vmem S4096x256 .f32) (harg1 : arg1.IsWhole) (arg2 : Memref sig .tc .vmem S4x256 .f32) (harg2 : arg2.IsWhole)
    (arg3 : Memref sig .tc .vmem S1x256 .f32) (harg3 : arg3.IsWhole) (arg4 : Memref sig .tc .vmem S4096x256 .f32) (harg4 : arg4.IsWhole)
    (x0 : Vec Ideal S4096x256 .f32) (x1 : Vec Ideal S4x256 .f32) (x2 : Vec Ideal S1x256 .f32) :
    ∀ n : ℕ, n ≤ k0_t1_loop.trips → ∀ p ∈ pb_k0_t1 (F := Ideal) Variants.none c none i arg1 harg1 arg2 harg2 arg3 harg3 arg4 harg4 (harg1.unread x0) (harg2.unread x1) (harg3.unread x2) n,
      ∀ x : p.1.shape.Idx, p.2 x = tile x0 x1 x2 (p.1.emb x)
  | 0, _, p, hp, _ => absurd hp List.not_mem_nil
  | n + 1, hn, p, hp, x => by
    rw [pb_k0_t1_succ (F := Ideal) Variants.none c none i arg1 harg1 arg2 harg2 arg3 harg3 arg4 harg4 (harg1.unread x0) (harg2.unread x1) (harg3.unread x2) ⟨n, hn⟩] at hp
    rcases List.mem_append.mp hp with h | h
    · exact trip1 c i arg1 harg1 arg2 harg2 arg3 harg3 arg4 harg4 x0 x1 x2 ⟨n, hn⟩ p h x
    · exact pieces1 c i arg1 harg1 arg2 harg2 arg3 harg3 arg4 harg4 x0 x1 x2 n (Nat.le_of_succ_le hn) p h x

theorem outA (c : Dev nD) (i : grid0.Coords) (arg1 : Memref sig .tc .vmem S4096x256 .f32) (harg1 : arg1.IsWhole) (arg2 : Memref sig .tc .vmem S4x256 .f32) (harg2 : arg2.IsWhole)
    (arg3 : Memref sig .tc .vmem S1x256 .f32) (harg3 : arg3.IsWhole) (arg4 : Memref sig .tc .vmem S4096x256 .f32) (harg4 : arg4.IsWhole)
    (x0 : Vec Ideal S4096x256 .f32) (x1 : Vec Ideal S4x256 .f32) (x2 : Vec Ideal S1x256 .f32) :
    out0_A_3 c i arg1 harg1 arg2 harg2 arg3 harg3 arg4 harg4 x0 x1 x2 = tile x0 x1 x2 := by
  funext y
  have hcov := cover0_A_3 (F := Ideal) c i arg1 harg1 arg2 harg2 arg3 harg3 arg4 harg4 x0 x1 x2 y
  have h := View.canon_append_of_pieces (tile x0 x1 x2) [] (kernelRun0_A c i arg1 harg1 arg2 harg2 arg3 harg3 arg4 harg4 x0 x1 x2).1
    (pieces1 c i arg1 harg1 arg2 harg2 arg3 harg3 arg4 harg4 x0 x1 x2 _ (le_refl _)) y hcov
  rw [List.append_nil] at h
  exact (View.read_writes_apply_eq_canon _ _ y _ hcov).trans h

variable (m : (ℓ : Loc nD τ sig) → Buf (Elt Ideal) ℓ) (c : Dev nD)

/-- The projection, the taps and the bias, read as extended reals. -/
def proj (i : Fin 4096) (q : Fin 10240) : EReal := m (c, Proc.devRef .tc main_arg0) (ix2 i q)
def taps (j : Fin 4) (q : Fin 6144) : EReal := m (c, Proc.devRef .tc main_arg1) (ix2 j q)
def bias (q : Fin 6144) : EReal := m (c, Proc.devRef .tc main_arg2) (ix2 0 q)

/-- A column of the projection's part the convolution reads. -/
def pcol (q : Fin 6144) (n : ℕ) : EReal := if h : n < 4096 then proj m c ⟨n, h⟩ ⟨4096 + q.val, by omega⟩ else 0

/-- The convolution's silu. -/
def result (i : S4096x6144.Idx) : EReal :=
  silu (conv (bias m c (i 1)) (taps m c 0 (i 1)) (taps m c 1 (i 1)) (taps m c 2 (i 1)) (taps m c 3 (i 1)) (pcol m c (i 1)) (i 0).val)

theorem idx : ∀ t : Fin cfg0.N, win0_0.index t = ![0, 16 + t.val] ∧ win0_1.index t = ![0, t.val] ∧ win0_2.index t = ![0, t.val] ∧ win0_3.index t = ![0, t.val] := by
  decide +kernel

theorem point_lt (t : Fin cfg0.N) : t.val < 24 := lt_of_lt_of_eq t.isLt (show cfg0.N = 24 from N_0)

/-- Column `b` of the block that point `t` works on. -/
def col (t : Fin cfg0.N) (b : Fin 256) : Fin 6144 := ⟨t.val * 256 + b.val, by have := point_lt t; omega⟩

theorem blk0 (t : Fin cfg0.N) (i : Fin 4096) (b : Fin 256) :
    iblk m c 0 t (ix2 i b) = proj m c i (⟨4096 + (col t b).val, by have := (col t b).isLt; omega⟩ : Fin 10240) := by
  have h : ∀ i q, V m c main_arg0 (ix2 i q) = proj m c i q := fun i q => by
    unfold_abbrev_sides; rfl
  rw [← h]
  have hb := b.isLt
  have ht := point_lt t
  blk_ext [iblk, V, col, (idx t).1]

theorem blk1 (t : Fin cfg0.N) (j : Fin 4) (b : Fin 256) : iblk m c 1 t (ix2 j b) = taps m c j (col t b) := by
  have h : ∀ i q, V m c main_arg1 (ix2 i q) = taps m c i q := fun i q => by
    unfold_abbrev_sides; rfl
  rw [← h]
  blk_ext [iblk, V, col, (idx t).2.1]

theorem blk2 (t : Fin cfg0.N) (b : Fin 256) : iblk m c 2 t (ix2 0 b) = bias m c (col t b) := by
  have h : ∀ q, V m c main_arg2 (ix2 0 q) = bias m c q := fun q => by
    unfold_abbrev_sides; rfl
  rw [← h]
  blk_ext [iblk, V, col, (idx t).2.2.1]

theorem emb3 (t : Fin cfg0.N) (i : Fin 4096) (b : Fin 256) : ((cfg0.win 3).blk t).view.emb (ix2 i b) = ix2 i (col t b) := by
  blk_ext [col, (idx t).2.2.2]

theorem flush3 (t : Fin cfg0.N) : (cfg0.win 3).flush t = true := (by decide +kernel : ∀ t : Fin cfg0.N, (cfg0.win 3).flush t = true) t

/-- The result. -/
theorem arr3 : (dats m 0 c).arrAt 3 cfg0.N = result m c := by
  funext y
  obtain ⟨i, q, rfl⟩ : ∃ (i : Fin 4096) (q : Fin 6144), y = ix2 i q := ⟨y 0, y 1, eq_ix2 y⟩
  have hq := q.isLt
  obtain ⟨t, b, hc⟩ : ∃ (t : Fin cfg0.N) (b : Fin 256), col t b = q :=
    ⟨⟨q.val / 256, show _ < grid0.N by rw [N_0]; omega⟩, ⟨q.val % 256, by omega⟩, Fin.ext (show q.val / 256 * 256 + q.val % 256 = q.val by omega)⟩
  subst hc
  have h := congrFun (Value.blocks3 m c t (flush3 t)) (ix2 i b)
  refine (congrArg ((dats m 0 c).arrAt 3 cfg0.N) (emb3 t i b)).symm.trans (h.trans ?_)
  rw [Value.flushed3_A, outA]
  show tile (iblk m c 0 t) (iblk m c 1 t) (iblk m c 2 t) (ix2 i b) = _
  have e : column (iblk m c 0 t) b = pcol m c (col t b) := funext fun n => by
    unfold column pcol
    split
    · exact blk0 m c t _ b
    · rfl
  show silu (conv (iblk m c 2 t (ix2 0 b)) (iblk m c 1 t (ix2 0 b)) (iblk m c 1 t (ix2 1 b)) (iblk m c 1 t (ix2 2 b)) (iblk m c 1 t (ix2 3 b))
    (column (iblk m c 0 t) b) i.val) = _
  rw [e, blk1, blk1, blk1, blk1, blk2]
  rfl

end Cert.Kernel11Ideal.Conv
-- ==== Proof.ConvFRef.lean ====
/-
  The causal convolution and its silu: what the reference's result array holds, index by index.
-/
module

public import proofs.«01_k».proof.Proof.Gen.Reference11Ideal.Read
public import proofs.«01_k».proof.Proof.Taps
public import Idealize.ShloMosaic.Lib.Pipeline.ValueKit
public import Idealize.ShloMosaic.Lib.KernelVsHost
public import Idealize.ShloMosaic.Lib.Pointwise

@[expose] public section

set_option maxRecDepth 16384

noncomputable section

namespace Cert.Reference11Ideal.Conv

open Cert.Reference11Ideal Cert.Reference11Ideal.Gen Cert.Reference11Ideal.Read Idealize.ShloMosaic Idealize.ShloMosaic.TcCoe Idealize.SL.Sem
open Cert.Taps (past conv silu)

variable (x : FVec Ideal S4096x10240 .f32) (w : FVec Ideal S4x6144 .f32) (b : FVec Ideal S1x6144 .f32)

/-- A column of the convolution's argument. -/
def xcol (q : Fin 6144) (n : ℕ) : EReal := if h : n < 4096 then x (ix2 (⟨n, h⟩ : Fin 4096) (⟨4096 + q.val, by omega⟩ : Fin 10240)) else 0

theorem v1 (n : Fin 4096) (q : Fin 6144) : val_main_v1 (F := Ideal) x (ix3 0 n q) = xcol x q n.val := by
  refine Eq.trans ?_ (dif_pos n.isLt).symm
  delta val_main_v1 val_main_v0
  pointwise

/-- The argument with three rows of zeros in front of it. -/
theorem padded (i : Fin 4099) (q : Fin 6144) : val_main_v3 (F := Ideal) x (ix3 0 i q) = past (xcol x q) 3 i.val := by
  have hi := i.isLt
  unfold past
  delta val_main_v3
  by_cases h : 3 ≤ i.val
  · rw [if_pos h, ← v1 x ⟨i.val - 3, by omega⟩ q]
    refine pad_apply_of_inside _ _ _ _ _ _ _ _ _ fun a => ?_
    match a with
    | ⟨0, _⟩ => rfl
    | ⟨1, _⟩ => show i.val = 3 + (i.val - 3) * (0 + 1); omega
    | ⟨2, _⟩ => show q.val = 0 + q.val * (0 + 1); omega
  · rw [if_neg h]
    refine (pad_apply_of_not_inside _ _ _ _ _ _ _ _ (⟨1, by decide⟩ : Fin 3) fun h' => h h'.1).trans ?_
    delta val_main_call0_v0 val_main_c
    pointwise
    exact congrArg (fun r : ℝ => (r : EReal)) (by simp)

theorem row_0 (n : Fin 4096) (q : Fin 6144) : val_main_v4 (F := Ideal) x (ix3 0 n q) = past (xcol x q) 3 n.val := by
  have hn := n.isLt
  have e : val_main_v4 (F := Ideal) x (ix3 0 n q) = val_main_v3 (F := Ideal) x (ix3 0 (⟨0 + n.val, by omega⟩ : Fin 4099) q) := by
    delta val_main_v4
    generalize val_main_v3 (F := Ideal) x = z
    pointwise
  rw [e, padded]
  unfold past
  show (if 3 ≤ 0 + n.val then xcol x q (0 + n.val - 3) else 0) = _
  by_cases h : 3 ≤ n.val
  · rw [if_pos (by omega), if_pos h, show 0 + n.val - 3 = n.val - 3 by omega]
  · rw [if_neg (by omega), if_neg h]

theorem tap_0 (n : Fin 4096) (q : Fin 6144) : val_main_v8 (F := Ideal) w (ix3 0 n q) = w (ix2 0 q) := by
  delta val_main_v8 val_main_v7 val_main_v6 val_main_v5
  pointwise

theorem row_1 (n : Fin 4096) (q : Fin 6144) : val_main_v13 (F := Ideal) x (ix3 0 n q) = past (xcol x q) 2 n.val := by
  have hn := n.isLt
  have e : val_main_v13 (F := Ideal) x (ix3 0 n q) = val_main_v3 (F := Ideal) x (ix3 0 (⟨1 + n.val, by omega⟩ : Fin 4099) q) := by
    delta val_main_v13
    generalize val_main_v3 (F := Ideal) x = z
    pointwise
  rw [e, padded]
  unfold past
  show (if 3 ≤ 1 + n.val then xcol x q (1 + n.val - 3) else 0) = _
  by_cases h : 2 ≤ n.val
  · rw [if_pos (by omega), if_pos h, show 1 + n.val - 3 = n.val - 2 by omega]
  · rw [if_neg (by omega), if_neg h]

theorem tap_1 (n : Fin 4096) (q : Fin 6144) : val_main_v17 (F := Ideal) w (ix3 0 n q) = w (ix2 1 q) := by
  delta val_main_v17 val_main_v16 val_main_v15 val_main_v14
  pointwise

theorem row_2 (n : Fin 4096) (q : Fin 6144) : val_main_v20 (F := Ideal) x (ix3 0 n q) = past (xcol x q) 1 n.val := by
  have hn := n.isLt
  have e : val_main_v20 (F := Ideal) x (ix3 0 n q) = val_main_v3 (F := Ideal) x (ix3 0 (⟨2 + n.val, by omega⟩ : Fin 4099) q) := by
    delta val_main_v20
    generalize val_main_v3 (F := Ideal) x = z
    pointwise
  rw [e, padded]
  unfold past
  show (if 3 ≤ 2 + n.val then xcol x q (2 + n.val - 3) else 0) = _
  by_cases h : 1 ≤ n.val
  · rw [if_pos (by omega), if_pos h, show 2 + n.val - 3 = n.val - 1 by omega]
  · rw [if_neg (by omega), if_neg h]

theorem tap_2 (n : Fin 4096) (q : Fin 6144) : val_main_v24 (F := Ideal) w (ix3 0 n q) = w (ix2 2 q) := by
  delta val_main_v24 val_main_v23 val_main_v22 val_main_v21
  pointwise

theorem row_3 (n : Fin 4096) (q : Fin 6144) : val_main_v27 (F := Ideal) x (ix3 0 n q) = past (xcol x q) 0 n.val := by
  have hn := n.isLt
  have e : val_main_v27 (F := Ideal) x (ix3 0 n q) = val_main_v3 (F := Ideal) x (ix3 0 (⟨3 + n.val, by omega⟩ : Fin 4099) q) := by
    delta val_main_v27
    generalize val_main_v3 (F := Ideal) x = z
    pointwise
  rw [e, padded]
  unfold past
  show (if 3 ≤ 3 + n.val then xcol x q (3 + n.val - 3) else 0) = _
  by_cases h : 0 ≤ n.val
  · rw [if_pos (by omega), if_pos h, show 3 + n.val - 3 = n.val - 0 by omega]
  · rw [if_neg (by omega), if_neg h]

theorem tap_3 (n : Fin 4096) (q : Fin 6144) : val_main_v31 (F := Ideal) w (ix3 0 n q) = w (ix2 3 q) := by
  delta val_main_v31 val_main_v30 val_main_v29 val_main_v28
  pointwise

theorem bias (n : Fin 4096) (q : Fin 6144) : val_main_v11 (F := Ideal) b (ix3 0 n q) = b (ix2 0 q) := by
  delta val_main_v11 val_main_v10 val_main_v2
  pointwise

theorem v33 (n : Fin 4096) (q : Fin 6144) : (val_main_v33 (F := Ideal) x w b (ix3 0 n q) : EReal) =
    conv (b (ix2 0 q)) (w (ix2 0 q)) (w (ix2 1 q)) (w (ix2 2 q)) (w (ix2 3 q)) (xcol x q) n.val := by
  rw [← Cert.Taps.conv_in_order, ← bias b n q, ← row_0, ← row_1, ← row_2, ← row_3, ← tap_0 w n q, ← tap_1 w n q, ← tap_2 w n q, ← tap_3 w n q]
  rfl

/-- The result. -/
theorem v35 (n : Fin 4096) (q : Fin 6144) : (val_main_v35 (F := Ideal) x w b (ix2 n q) : EReal) =
    silu (conv (b (ix2 0 q)) (w (ix2 0 q)) (w (ix2 1 q)) (w (ix2 2 q)) (w (ix2 3 q)) (xcol x q) n.val) := by
  rw [← v33]
  delta val_main_v35 val_main_v34 val_main_call1_v5 val_main_call1_v4 val_main_call1_cst_0 val_main_call1_v3 val_main_call1_v2 val_main_call1_cst val_main_call1_v1 val_main_call1_v0
  generalize val_main_v33 (F := Ideal) x w b = z
  unfold silu Cert.Gate.logis
  pointwise
  rw [zero_sub]

end Cert.Reference11Ideal.Conv
-- ==== Proof.ConvFClaim.lean ====
/-
  The claims about the causal convolution and its silu.
-/
module

public import proofs.«01_k».proof.Defs
public import proofs.«01_k».proof.Proof.Gen.Kernel11.Frame
public import proofs.«01_k».proof.Proof.ConvFKer
public import proofs.«01_k».proof.Proof.ConvFRef

@[expose] public section

set_option maxRecDepth 16384

noncomputable section

namespace Cert.ConvF

open Idealize.ShloMosaic Idealize.SL.Sem

theorem frame_kernel : Cert.quiescent_Kernel11 (hKernel11 := Cert.Kernel11.Gen.facts) := fun m ρ _ => Cert.Kernel11.Gen.frame m ρ
theorem frame_ideal : Cert.quiescent_Kernel11Ideal (hKernel11Ideal := Cert.Kernel11Ideal.Gen.facts) := fun m ρ _ => Cert.Kernel11Ideal.Gen.frame m ρ
theorem frame_reference : Cert.quiescent_Reference11Ideal (hReference11Ideal := Cert.Reference11Ideal.Gen.facts) := fun m ρ _ =>
  (θ_run _ _ _).mono (fun r h => ⟨fun c => (h c).2, sem_eq_zero_of_no_sems (by decide) r.2⟩) (Cert.Reference11Ideal.Value.run m ρ)

section Values

variable (m : (ℓ : Loc Cert.Kernel11Ideal.nD Cert.Kernel11Ideal.τ Cert.Kernel11Ideal.sig) → Buf (Elt Ideal) ℓ)

open Cert.Kernel11Ideal Cert.Kernel11Ideal.Conv

theorem same (c : Dev nD) : Cert.Reference11Ideal.Read.val_main_v35 (F := Ideal) (m (c, Proc.devRef .tc main_arg0)) (m (c, Proc.devRef .tc main_arg1))
    (m (c, Proc.devRef .tc main_arg2)) = result m c := by
  funext j
  idx_vars j
  exact Cert.Reference11Ideal.Conv.v35 _ _ _ j0 j1

end Values

theorem value : Cert.algebraic_Kernel11Ideal_Reference11Ideal (hKernel11Ideal := Cert.Kernel11Ideal.Gen.facts)
    (hReference11Ideal := Cert.Reference11Ideal.Gen.facts) := fun m ρ m' ρ' _ hag =>
  ⟨fun c => Cert.Kernel11Ideal.Conv.result m c,
    (θ_run _ _ _).mono (fun _ h c => ⟨(h c).1.trans (Cert.Kernel11Ideal.Conv.arr3 m c), (h c).2⟩) (Cert.Kernel11Ideal.Value.run_blocks m ρ),
    (θ_run _ _ _).mono (fun _ h c => ⟨by
        rw [(h c).1, Cert.Reference11Ideal.Read.val_main_v35_eq, (hag c).1, (hag c).2.1, (hag c).2.2]
        exact same m c, (h c).2⟩) (Cert.Reference11Ideal.Value.run m' ρ')⟩

end Cert.ConvF
-- ==== Proof.Gmmb.lean ====
/-
  The gradient of the product with the groups' weights: what the kernel leaves in its result, entry by entry, and the same
  for the reference.
-/
module

public import proofs.«01_k».proof.Proof.Gen.Kernel12Ideal.Value
public import proofs.«01_k».proof.Proof.Gen.Reference12Ideal.Read
public import Idealize.ShloMosaic.Lib.Pipeline.ValueKit
public import Idealize.ShloMosaic.Lib.Pointwise

@[expose] public section

set_option maxRecDepth 16384

noncomputable section

/-! ## The kernel's array -/

namespace Cert.Kernel12Ideal.Gmmb

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gradient's rows and the groups' weights, read as extended reals. -/
def grad (i q : Fin 4096) : EReal := m (c, Proc.devRef .tc main_arg0) (ix2 i q)
def weight (g : Fin 4) (k d : Fin 1024) : EReal := m (c, Proc.devRef .tc main_arg1) (ix3 g k d)

/-- Column `d` of group `g`. -/
def at_ (g : Fin 4) (d : Fin 1024) : Fin 4096 := ⟨g.val * 1024 + d.val, by omega⟩

/-- The group of a column, and its place in the group. -/
def group (q : Fin 4096) : Fin 4 := ⟨q.val / 1024, by omega⟩
def place (q : Fin 4096) : Fin 1024 := ⟨q.val % 1024, by omega⟩

/-- The product of the group's columns of the gradient and a row of its weights. -/
def dot (i q : Fin 4096) : EReal := ∑ k : Fin 1024, grad m c i (at_ (group q) k) * weight m c (group q) (place q) k

def G2 (i : S4096x4096.Idx) : EReal := dot m c (i 0) (i 1)

theorem idx : ∀ t : Fin cfg0.N, win0_0.index t = ![t.val % 4, t.val / 4] ∧ win0_1.index t = ![t.val / 4, 0, 0] ∧
    win0_2.index t = ![t.val % 4, t.val / 4] := by
  decide +kernel

theorem point_lt (t : Fin cfg0.N) : t.val < 16 := lt_of_lt_of_eq t.isLt (show cfg0.N = 16 from N_0)

/-- Row `a` of the block that point `t` works on, and its group. -/
def row (t : Fin cfg0.N) (a : Fin 1024) : Fin 4096 := ⟨t.val % 4 * 1024 + a.val, by omega⟩
def grp (t : Fin cfg0.N) : Fin 4 := ⟨t.val / 4, by have := point_lt t; omega⟩

theorem group_at (g : Fin 4) (d : Fin 1024) : group (at_ g d) = g := Fin.ext (show (g.val * 1024 + d.val) / 1024 = g.val by omega)
theorem place_at (g : Fin 4) (d : Fin 1024) : place (at_ g d) = d := Fin.ext (show (g.val * 1024 + d.val) % 1024 = d.val by omega)

theorem blk0 (t : Fin cfg0.N) (a b : Fin 1024) : iblk m c 0 t (ix2 a b) = grad m c (row t a) (at_ (grp t) b) := by
  unfold grad
  blk_ext [iblk, V, row, at_, grp, (idx t).1]

theorem blk1 (t : Fin cfg0.N) (k d : Fin 1024) : iblk m c 1 t (ix3 0 k d) = weight m c (grp t) k d := by
  unfold weight
  blk_ext [iblk, V, grp, (idx t).2.1]

theorem emb2 (t : Fin cfg0.N) (a b : Fin 1024) : ((cfg0.win 2).blk t).view.emb (ix2 a b) = ix2 (row t a) (at_ (grp t) b) := by
  blk_ext [row, at_, grp, (idx t).2.2]

section Payloads

variable (x0 : FVec Ideal S1024x1024 .bf16) (x1 : FVec Ideal S1x1024x1024 .bf16) (a b : Fin 1024)

theorem pay1 : k0_pay1 (F := Ideal) x0 x1 (ix2 a b) = ∑ k : Fin 1024, (x0 (ix2 a k) * x1 (ix3 0 b k) : EReal) := by
  unfold k0_pay1
  pointwise

theorem out2 : out0_2 (F := Ideal) x0 x1 = k0_pay1 (F := Ideal) x0 x1 := by frame_out

end Payloads

theorem dot_at (t : Fin cfg0.N) (a b : Fin 1024) : k0_pay1 (F := Ideal) (iblk m c 0 t) (iblk m c 1 t) (ix2 a b) = dot m c (row t a) (at_ (grp t) b) := by
  rw [pay1]
  simp only [blk0, blk1]
  unfold dot
  rw [group_at, place_at]

theorem arr2 : (dats m 0 c).arrAt 2 cfg0.N = G2 m c := by
  refine (dats m 0 c).arrAt_eq_of_covers 2 _ (by decide +kernel) fun t hf y => ?_
  have he : ∀ a b, ((cfg0.win 2).blk t).view.emb (ix2 a b) = ix2 (row t a) (at_ (grp t) b) := emb2 t
  blk_simp
  rw [after0_2, out2]
  idx_vars y
  refine Eq.trans ?_ (congrArg (G2 m c) (emb2 t y0 y1).symm)
  exact dot_at m c t y0 y1

end Cert.Kernel12Ideal.Gmmb

/-! ## The reference's array -/

namespace Cert.Reference12Ideal.Gmmb

open Cert.Reference12Ideal Cert.Reference12Ideal.Gen Idealize.ShloMosaic Idealize.ShloMosaic.TcCoe Idealize.SL.Sem Cert.Reference12Ideal.Read

open Cert.Kernel12Ideal.Gmmb (at_)

variable (x : FVec Ideal S4096x4096 .bf16) (w : FVec Ideal S4x1024x1024 .bf16)

theorem v8 (i : Fin 4096) (g : Fin 4) (k : Fin 1024) : (val_main_v8 (F := Ideal) x (ix4 g k 0 i) : EReal) = x (ix2 i (at_ g k)) := by
  delta val_main_v8 val_main_v7 val_main_v6 at_
  pointwise

theorem v9 (i : Fin 4096) (g : Fin 4) (d : Fin 1024) : (val_main_v9 (F := Ideal) x w (ix4 g 0 i d) : EReal) =
    ∑ k : Fin 1024, (x (ix2 i (at_ g k)) * w (ix3 g d k) : EReal) := by
  delta val_main_v9 val_main_v2
  pointwise
  simp only [v8]

theorem v11 (i : Fin 4096) (g : Fin 4) (d : Fin 1024) : val_main_v11 (F := Ideal) x w (ix2 i (at_ g d)) = val_main_v9 (F := Ideal) x w (ix4 g 0 i d) := by
  delta val_main_v11 val_main_v10 at_
  pointwise

end Cert.Reference12Ideal.Gmmb
-- ==== Proof.GmmbClaim.lean ====
/-
  The claims about the gradient of the product with the groups' weights.
-/
module

public import proofs.«01_k».proof.Defs
public import proofs.«01_k».proof.Proof.Gen.Kernel12.Frame
public import proofs.«01_k».proof.Proof.Lemmas
public import proofs.«01_k».proof.Proof.Gmmb

@[expose] public section

set_option maxRecDepth 16384

noncomputable section

namespace Cert.Gmmb

open Idealize.ShloMosaic Idealize.SL.Sem

theorem frame_kernel : Cert.quiescent_Kernel12 (hKernel12 := Cert.Kernel12.Gen.facts) := fun m ρ _ => Cert.Kernel12.Gen.frame m ρ
theorem frame_ideal : Cert.quiescent_Kernel12Ideal (hKernel12Ideal := Cert.Kernel12Ideal.Gen.facts) := fun m ρ _ => Cert.Kernel12Ideal.Gen.frame m ρ
theorem frame_reference : Cert.quiescent_Reference12Ideal (hReference12Ideal := Cert.Reference12Ideal.Gen.facts) := fun m ρ _ =>
  (θ_run _ _ _).mono (fun r h => ⟨fun c => (h c).2, sem_eq_zero_of_no_sems (by decide) r.2⟩) (Cert.Reference12Ideal.Value.run m ρ)

section Values

variable (m : (ℓ : Loc Cert.Kernel12Ideal.nD Cert.Kernel12Ideal.τ Cert.Kernel12Ideal.sig) → Buf (Elt Ideal) ℓ)

open Cert.Kernel12Ideal Cert.Kernel12Ideal.Gmmb

theorem product (c : Dev nD) (i q : Fin 4096) : Cert.Reference12Ideal.Read.val_main_v11 (F := Ideal) (m (c, Proc.devRef .tc main_arg0)) (m (c, Proc.devRef .tc main_arg1)) (ix2 i q) = dot m c i q := by
  have e : q = at_ (group q) (place q) := Fin.ext (show q.val = q.val / 1024 * 1024 + q.val % 1024 by omega)
  refine (congrArg (fun k => Cert.Reference12Ideal.Read.val_main_v11 (F := Ideal) (m (c, Proc.devRef .tc main_arg0)) (m (c, Proc.devRef .tc main_arg1)) (ix2 i k)) e).trans ?_
  exact (Cert.Reference12Ideal.Gmmb.v11 _ _ i _ _).trans (Cert.Reference12Ideal.Gmmb.v9 _ _ i _ _)

end Values

theorem value : Cert.algebraic_Kernel12Ideal_Reference12Ideal (hKernel12Ideal := Cert.Kernel12Ideal.Gen.facts)
    (hReference12Ideal := Cert.Reference12Ideal.Gen.facts) := fun m ρ m' ρ' _ hag =>
  ⟨fun c => Cert.Kernel12Ideal.Gmmb.G2 m c,
    (θ_run _ _ _).mono (fun _ h c => ⟨(h c).1.trans (Cert.Kernel12Ideal.Gmmb.arr2 m c), (h c).2⟩) (Cert.Kernel12Ideal.Value.run_blocks m ρ),
    (θ_run _ _ _).mono (fun _ h c => ⟨by
        rw [(h c).1, Cert.Reference12Ideal.Read.val_main_v11_eq, (hag c).1, (hag c).2]
        funext j
        idx_vars j
        exact product m c j0 j1, (h c).2⟩) (Cert.Reference12Ideal.Value.run m' ρ')⟩

end Cert.Gmmb
-- ==== Proof.AdamClaim.lean ====
/-
  The claims about the step of the optimiser on the largest weight: the step and the two moments.
-/
module

public import proofs.«01_k».proof.Defs
public import proofs.«01_k».proof.Proof.Gen.Kernel13.Frame
public import proofs.«01_k».proof.Proof.Lemmas
public import proofs.«01_k».proof.Proof.Gen.Kernel13Ideal.Value
public import proofs.«01_k».proof.Proof.Gen.Reference13Ideal.Read

@[expose] public section

set_option maxRecDepth 16384

noncomputable section

namespace Cert.Adam

open Idealize.ShloMosaic Idealize.SL.Sem

theorem frame_kernel : Cert.quiescent_Kernel13 (hKernel13 := Cert.Kernel13.Gen.facts) := fun m ρ _ => Cert.Kernel13.Gen.frame m ρ
theorem frame_ideal : Cert.quiescent_Kernel13Ideal (hKernel13Ideal := Cert.Kernel13Ideal.Gen.facts) := fun m ρ _ => Cert.Kernel13Ideal.Gen.frame m ρ
theorem frame_reference : Cert.quiescent_Reference13Ideal (hReference13Ideal := Cert.Reference13Ideal.Gen.facts) := fun m ρ _ =>
  (θ_run _ _ _).mono (fun r h => ⟨fun c => (h c).2.2.2, sem_eq_zero_of_no_sems (by decide) r.2⟩) (Cert.Reference13Ideal.Value.run m ρ)

theorem value : Cert.algebraic_Kernel13Ideal_Reference13Ideal (hKernel13Ideal := Cert.Kernel13Ideal.Gen.facts)
    (hReference13Ideal := Cert.Reference13Ideal.Gen.facts) := fun m ρ m' ρ' _ hag =>
  ⟨fun c => Cert.Kernel13Ideal.Value.G4 (m (c, Proc.devRef .tc Cert.Kernel13Ideal.main_arg0)) (m (c, Proc.devRef .tc Cert.Kernel13Ideal.main_arg1)) (m (c, Proc.devRef .tc Cert.Kernel13Ideal.main_arg2)) (m (c, Proc.devRef .tc Cert.Kernel13Ideal.main_arg3)),
    fun c => Cert.Kernel13Ideal.Value.G5 (m (c, Proc.devRef .tc Cert.Kernel13Ideal.main_arg1)) (m (c, Proc.devRef .tc Cert.Kernel13Ideal.main_arg2)),
    fun c => Cert.Kernel13Ideal.Value.G6 (m (c, Proc.devRef .tc Cert.Kernel13Ideal.main_arg1)) (m (c, Proc.devRef .tc Cert.Kernel13Ideal.main_arg3)),
    Cert.Kernel13Ideal.Value.run m ρ,
    (θ_run _ _ _).mono (fun _ h c => ⟨by
        rw [(h c).1, Cert.Reference13Ideal.Read.val_main_v23_eq, (hag c).1, (hag c).2.1, (hag c).2.2.1, (hag c).2.2.2]
        rfl, by
        rw [(h c).2.1, Cert.Reference13Ideal.Read.val_main_v4_eq, (hag c).2.1, (hag c).2.2.1]
        rfl, by
        rw [(h c).2.2.1, Cert.Reference13Ideal.Read.val_main_v10_eq, (hag c).2.1, (hag c).2.2.2]
        rfl, (h c).2.2.2⟩) (Cert.Reference13Ideal.Value.run m' ρ')⟩

end Cert.Adam
-- ==== Proof.Mmnt.lean ====
/-
  The product with the output weights, transposed: what the kernel leaves in its result, entry by entry, and the same for
  the reference.
-/
module

public import proofs.«01_k».proof.Proof.Gen.Kernel14Ideal.Value
public import proofs.«01_k».proof.Proof.Gen.Reference14Ideal.Read
public import Idealize.ShloMosaic.Lib.Pipeline.ValueKit
public import Idealize.ShloMosaic.Lib.Pointwise

@[expose] public section

set_option maxRecDepth 16384

noncomputable section

/-! ## The kernel's array -/

namespace Cert.Kernel14Ideal.Mmnt

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gradient's rows and the weights, read as extended reals. -/
def grad (i : Fin 4096) (k : Fin 2048) : EReal := m (c, Proc.devRef .tc main_arg0) (ix2 i k)
def weight (q : Fin 4096) (k : Fin 2048) : EReal := m (c, Proc.devRef .tc main_arg1) (ix2 q k)

/-- The product of a row of the gradient and a row of the weights. -/
def dot (i q : Fin 4096) : EReal := ∑ k : Fin 2048, grad m c i k * weight m c q k

def G2 (i : S4096x4096.Idx) : EReal := dot m c (i 0) (i 1)

theorem idx : ∀ t : Fin cfg0.N, win0_0.index t = ![t.val / 4, 0] ∧ win0_1.index t = ![t.val % 4, 0] ∧ win0_2.index t = ![t.val / 4, t.val % 4] := by
  decide +kernel

theorem point_lt (t : Fin cfg0.N) : t.val < 16 := lt_of_lt_of_eq t.isLt (show cfg0.N = 16 from N_0)

/-- Row `a` and column `b` of the block that point `t` works on. -/
def row (t : Fin cfg0.N) (a : Fin 1024) : Fin 4096 := ⟨t.val / 4 * 1024 + a.val, by have := point_lt t; omega⟩
def col (t : Fin cfg0.N) (b : Fin 1024) : Fin 4096 := ⟨t.val % 4 * 1024 + b.val, by omega⟩

theorem blk0 (t : Fin cfg0.N) (a : Fin 1024) (k : Fin 2048) : iblk m c 0 t (ix2 a k) = grad m c (row t a) k := by
  unfold grad
  blk_ext [iblk, V, row, (idx t).1]

theorem blk1 (t : Fin cfg0.N) (b : Fin 1024) (k : Fin 2048) : iblk m c 1 t (ix2 b k) = weight m c (col t b) k := by
  unfold weight
  blk_ext [iblk, V, col, (idx t).2.1]

theorem emb2 (t : Fin cfg0.N) (a b : Fin 1024) : ((cfg0.win 2).blk t).view.emb (ix2 a b) = ix2 (row t a) (col t b) := by
  blk_ext [row, col, (idx t).2.2]

section Payloads

variable (x0 x1 : FVec Ideal S1024x2048 .bf16) (a b : Fin 1024)

theorem pay1 : k0_pay1 (F := Ideal) x0 x1 (ix2 a b) = ∑ k : Fin 2048, (x0 (ix2 a k) * x1 (ix2 b k) : EReal) := by
  unfold k0_pay1
  pointwise

theorem out2 : out0_2 (F := Ideal) x0 x1 = k0_pay1 (F := Ideal) x0 x1 := by frame_out

end Payloads

theorem dot_at (t : Fin cfg0.N) (a b : Fin 1024) : k0_pay1 (F := Ideal) (iblk m c 0 t) (iblk m c 1 t) (ix2 a b) = dot m c (row t a) (col t b) := by
  rw [pay1]
  simp only [blk0, blk1]
  rfl

theorem arr2 : (dats m 0 c).arrAt 2 cfg0.N = G2 m c := by
  refine (dats m 0 c).arrAt_eq_of_covers 2 _ (by decide +kernel) fun t hf y => ?_
  have he : ∀ a b, ((cfg0.win 2).blk t).view.emb (ix2 a b) = ix2 (row t a) (col t b) := emb2 t
  blk_simp
  rw [after0_2, out2]
  idx_vars y
  refine Eq.trans ?_ (congrArg (G2 m c) (emb2 t y0 y1).symm)
  exact dot_at m c t y0 y1

end Cert.Kernel14Ideal.Mmnt

/-! ## The reference's array -/

namespace Cert.Reference14Ideal.Mmnt

open Cert.Reference14Ideal Cert.Reference14Ideal.Gen Idealize.ShloMosaic Idealize.ShloMosaic.TcCoe Idealize.SL.Sem Cert.Reference14Ideal.Read

theorem v4 (x w : FVec Ideal S4096x2048 .bf16) (i q : Fin 4096) : (val_main_v4 (F := Ideal) x w (ix2 i q) : EReal) =
    ∑ k : Fin 2048, (x (ix2 i k) * w (ix2 q k) : EReal) := by
  delta val_main_v4 val_main_v3 val_main_v1
  pointwise

end Cert.Reference14Ideal.Mmnt
-- ==== Proof.MmntClaim.lean ====
/-
  The claims about the product with the output weights, transposed.
-/
module

public import proofs.«01_k».proof.Defs
public import proofs.«01_k».proof.Proof.Gen.Kernel14.Frame
public import proofs.«01_k».proof.Proof.Lemmas
public import proofs.«01_k».proof.Proof.Mmnt

@[expose] public section

set_option maxRecDepth 16384

noncomputable section

namespace Cert.Mmnt

open Idealize.ShloMosaic Idealize.SL.Sem

theorem frame_kernel : Cert.quiescent_Kernel14 (hKernel14 := Cert.Kernel14.Gen.facts) := fun m ρ _ => Cert.Kernel14.Gen.frame m ρ
theorem frame_ideal : Cert.quiescent_Kernel14Ideal (hKernel14Ideal := Cert.Kernel14Ideal.Gen.facts) := fun m ρ _ => Cert.Kernel14Ideal.Gen.frame m ρ
theorem frame_reference : Cert.quiescent_Reference14Ideal (hReference14Ideal := Cert.Reference14Ideal.Gen.facts) := fun m ρ _ =>
  (θ_run _ _ _).mono (fun r h => ⟨fun c => (h c).2, sem_eq_zero_of_no_sems (by decide) r.2⟩) (Cert.Reference14Ideal.Value.run m ρ)

section Values

variable (m : (ℓ : Loc Cert.Kernel14Ideal.nD Cert.Kernel14Ideal.τ Cert.Kernel14Ideal.sig) → Buf (Elt Ideal) ℓ)

open Cert.Kernel14Ideal Cert.Kernel14Ideal.Mmnt

theorem product (c : Dev nD) (i q : Fin 4096) : Cert.Reference14Ideal.Read.val_main_v4 (F := Ideal) (m (c, Proc.devRef .tc main_arg0)) (m (c, Proc.devRef .tc main_arg1)) (ix2 i q) = dot m c i q := by
  exact Cert.Reference14Ideal.Mmnt.v4 _ _ i q

end Values

theorem value : Cert.algebraic_Kernel14Ideal_Reference14Ideal (hKernel14Ideal := Cert.Kernel14Ideal.Gen.facts)
    (hReference14Ideal := Cert.Reference14Ideal.Gen.facts) := fun m ρ m' ρ' _ hag =>
  ⟨fun c => Cert.Kernel14Ideal.Mmnt.G2 m c,
    (θ_run _ _ _).mono (fun _ h c => ⟨(h c).1.trans (Cert.Kernel14Ideal.Mmnt.arr2 m c), (h c).2⟩) (Cert.Kernel14Ideal.Value.run_blocks m ρ),
    (θ_run _ _ _).mono (fun _ h c => ⟨by
        rw [(h c).1, Cert.Reference14Ideal.Read.val_main_v4_eq, (hag c).1, (hag c).2]
        funext j
        idx_vars j
        exact product m c j0 j1, (h c).2⟩) (Cert.Reference14Ideal.Value.run m' ρ')⟩

end Cert.Mmnt
-- ==== Proof.SumsClaim.lean ====
/-
  The claims about the sum of the eight slots.
-/
module

public import proofs.«01_k».proof.Defs
public import proofs.«01_k».proof.Proof.Gen.Kernel15.Frame
public import proofs.«01_k».proof.Proof.Lemmas
public import proofs.«01_k».proof.Proof.Gen.Kernel15Ideal.Value
public import proofs.«01_k».proof.Proof.Gen.Reference15Ideal.Read
public import Idealize.ShloMosaic.Lib.Pointwise

@[expose] public section

set_option maxRecDepth 16384

noncomputable section

namespace Cert.Sums

open Idealize.ShloMosaic Idealize.SL.Sem

theorem frame_kernel : Cert.quiescent_Kernel15 (hKernel15 := Cert.Kernel15.Gen.facts) := fun m ρ _ => Cert.Kernel15.Gen.frame m ρ
theorem frame_ideal : Cert.quiescent_Kernel15Ideal (hKernel15Ideal := Cert.Kernel15Ideal.Gen.facts) := fun m ρ _ => Cert.Kernel15Ideal.Gen.frame m ρ
theorem frame_reference : Cert.quiescent_Reference15Ideal (hReference15Ideal := Cert.Reference15Ideal.Gen.facts) := fun m ρ _ =>
  (θ_run _ _ _).mono (fun r h => ⟨fun c => (h c).2, sem_eq_zero_of_no_sems (by decide) r.2⟩) (Cert.Reference15Ideal.Value.run m ρ)

section Values

open Cert.Kernel15Ideal Cert.Kernel15Ideal.Gen

/-- The eight slots, read one by one and added in order, at one entry. -/
theorem slots (x : Vec Ideal S8x360x128 .f32) (a : Fin 360) (b : Fin 128) :
    (Cert.Kernel15Ideal.Value.G1 (F := Ideal) x (ix2 a b) : EReal) = ∑ k : Fin 8, (x (ix3 k a b) : EReal) := by
  rw [Fin.sum_univ_eight]
  unfold Cert.Kernel15Ideal.Value.G1 k0_pay1
  pointwise

/-- The reference's sum over the slots, at one entry. -/
theorem total (x : Vec Ideal S8x360x128 .f32) (a : Fin 360) (b : Fin 128) :
    (Cert.Reference15Ideal.Read.val_main_v0 (F := Ideal) x (ix2 a b) : EReal) = ∑ k : Fin 8, (x (ix3 k a b) : EReal) := by
  delta Cert.Reference15Ideal.Read.val_main_v0 Cert.Reference15Ideal.Read.val_main_cst
  pointwise

end Values

theorem value : Cert.algebraic_Kernel15Ideal_Reference15Ideal (hKernel15Ideal := Cert.Kernel15Ideal.Gen.facts)
    (hReference15Ideal := Cert.Reference15Ideal.Gen.facts) := fun m ρ m' ρ' _ hag =>
  ⟨fun c => Cert.Kernel15Ideal.Value.G1 (m (c, Proc.devRef .tc Cert.Kernel15Ideal.main_arg0)),
    Cert.Kernel15Ideal.Value.run m ρ,
    (θ_run _ _ _).mono (fun _ h c => ⟨by
        rw [(h c).1, Cert.Reference15Ideal.Read.val_main_v0_eq, hag c]
        funext j
        idx_vars j
        exact (total _ j0 j1).trans (slots _ j0 j1).symm, (h c).2⟩) (Cert.Reference15Ideal.Value.run m' ρ')⟩

end Cert.Sums
-- ==== Proof.CastClaim.lean ====
/-
  The claims about the cast of a weight: every block is cast, and the blocks cover the array.
-/
module

public import proofs.«01_k».proof.Defs
public import proofs.«01_k».proof.Proof.Gen.Kernel16.Frame
public import proofs.«01_k».proof.Proof.Lemmas
public import proofs.«01_k».proof.Proof.Gen.Kernel16Ideal.Value
public import proofs.«01_k».proof.Proof.Gen.Reference16Ideal.Read

@[expose] public section

set_option maxRecDepth 16384

noncomputable section

namespace Cert.Cast

open Idealize.ShloMosaic Idealize.SL.Sem

theorem frame_kernel : Cert.quiescent_Kernel16 (hKernel16 := Cert.Kernel16.Gen.facts) := fun m ρ _ => Cert.Kernel16.Gen.frame m ρ
theorem frame_ideal : Cert.quiescent_Kernel16Ideal (hKernel16Ideal := Cert.Kernel16Ideal.Gen.facts) := fun m ρ _ => Cert.Kernel16Ideal.Gen.frame m ρ
theorem frame_reference : Cert.quiescent_Reference16Ideal (hReference16Ideal := Cert.Reference16Ideal.Gen.facts) := fun m ρ _ =>
  (θ_run _ _ _).mono (fun r h => ⟨fun c => (h c).2, sem_eq_zero_of_no_sems (by decide) r.2⟩) (Cert.Reference16Ideal.Value.run m ρ)

theorem value : Cert.algebraic_Kernel16Ideal_Reference16Ideal (hKernel16Ideal := Cert.Kernel16Ideal.Gen.facts)
    (hReference16Ideal := Cert.Reference16Ideal.Gen.facts) := fun m ρ m' ρ' _ hag =>
  ⟨fun c => Cert.Kernel16Ideal.Value.G1 (m (c, Proc.devRef .tc Cert.Kernel16Ideal.main_arg0)),
    Cert.Kernel16Ideal.Value.run m ρ,
    (θ_run _ _ _).mono (fun _ h c => ⟨by
        rw [(h c).1, hag c]
        rfl, (h c).2⟩) (Cert.Reference16Ideal.Value.run m' ρ')⟩

end Cert.Cast
-- ==== Proof.Nth.lean ====
/-
  The product with weights held transposed, in two halves side by side: what the kernel leaves, entry by entry, and
  the same for the reference.
-/
module

public import proofs.«01_k».proof.Proof.Gen.Kernel17Ideal.Value
public import proofs.«01_k».proof.Proof.Gen.Reference17Ideal.Read
public import proofs.«01_k».proof.Proof.Lemmas
public import Idealize.ShloMosaic.Lib.Pipeline.ValueKit
public import Idealize.ShloMosaic.Lib.Pointwise

@[expose] public section

set_option maxRecDepth 16384

noncomputable section

/-! ## The kernel's array -/

namespace Cert.Kernel17Ideal.Nth

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows and the two halves of the weights, read as extended reals. -/
def rows (i : Fin 4096) (k : Fin 2048) : EReal := m (c, Proc.devRef .tc main_arg0) (ix2 i k)
def weight (g : Fin 2) (q : Fin 10240) (d : Fin 1024) : EReal := m (c, Proc.devRef .tc main_arg1) (ix3 g (⟨q.val, by omega⟩ : Fin 10304) d)

/-- Place `d` of half `g` of the summed axis. -/
def at_ (g : Fin 2) (d : Fin 1024) : Fin 2048 := ⟨g.val * 1024 + d.val, by omega⟩

/-- What half `g` of the summed axis adds to the product. -/
def half (i : Fin 4096) (q : Fin 10240) (g : Fin 2) : EReal := ∑ d : Fin 1024, rows m c i (at_ g d) * weight m c g q d

def G2 (i : S4096x10240.Idx) : EReal := half m c (i 0) (i 1) 0 + half m c (i 0) (i 1) 1

theorem idx : ∀ t : Fin cfg0.N, win0_0.index t = ![t.val / 20, 0] ∧ win0_1.index t = ![0, t.val % 20, 0] ∧
    win0_2.index t = ![t.val / 20, t.val % 20] := by
  decide +kernel

theorem point_lt (t : Fin cfg0.N) : t.val < 80 := lt_of_lt_of_eq t.isLt (show cfg0.N = 80 from N_0)

/-- Row `a` and column `b` of the block that point `t` works on. -/
def row (t : Fin cfg0.N) (a : Fin 1024) : Fin 4096 := ⟨t.val / 20 * 1024 + a.val, by have := point_lt t; omega⟩
def col (t : Fin cfg0.N) (b : Fin 512) : Fin 10240 := ⟨t.val % 20 * 512 + b.val, by omega⟩

theorem blk0 (t : Fin cfg0.N) (a : Fin 1024) (k : Fin 2048) : iblk m c 0 t (ix2 a k) = rows m c (row t a) k := by
  unfold rows
  blk_ext [iblk, V, row, (idx t).1]

theorem blk1 (t : Fin cfg0.N) (g : Fin 2) (b : Fin 512) (d : Fin 1024) : X0_1 m c t (ix3 g b d) = weight m c g (col t b) d := by
  unfold X0_1 Pipeline.Window.fill
  rw [dif_pos (moved0_1 t _)]
  unfold weight
  blk_ext [iblk, V, col, (idx t).2.1]

theorem emb2 (t : Fin cfg0.N) (a : Fin 1024) (b : Fin 512) : ((cfg0.win 2).blk t).view.emb (ix2 a b) = ix2 (row t a) (col t b) := by
  blk_ext [row, col, (idx t).2.2]

section Payloads

variable (v0 v4 : FVec Ideal S1024x1024 .bf16) (v1 v5 : FVec Ideal S1x512x1024 .bf16) (a : Fin 1024) (b : Fin 512)

theorem pay1 : k0_pay1 (F := Ideal) v0 v1 v4 v5 (ix2 a b) =
    ∑ d : Fin 1024, (v0 (ix2 a d) * v1 (ix3 0 b d) : EReal) + ∑ d : Fin 1024, (v4 (ix2 a d) * v5 (ix3 0 b d) : EReal) := by
  unfold k0_pay1
  pointwise

variable (X : FVec Ideal S1024x2048 .bf16) (W : FVec Ideal S2x512x1024 .bf16) (d : Fin 1024)

theorem ld_rows0 : (View.ld (Val := Elt Ideal) (e' := .bf16) (S := S1024x2048) X (Rect.unit ![0, 0] ![1024, 1024] inb_S1024x2048_S1024x1024_0_0) (ix2 a d) : EReal) = X (ix2 a (at_ 0 d)) :=
  congrArg X (funext fun i => Fin.ext (match i with
    | ⟨0, _⟩ => by show 0 + 1 * a.val = a.val; omega
    | ⟨1, _⟩ => by show 0 + 1 * d.val = 0 * 1024 + d.val; omega))

theorem ld_rows1 : (View.ld (Val := Elt Ideal) (e' := .bf16) (S := S1024x2048) X (Rect.unit ![0, 1024] ![1024, 1024] inb_S1024x2048_S1024x1024_0_1024) (ix2 a d) : EReal) = X (ix2 a (at_ 1 d)) :=
  congrArg X (funext fun i => Fin.ext (match i with
    | ⟨0, _⟩ => by show 0 + 1 * a.val = a.val; omega
    | ⟨1, _⟩ => by show 1024 + 1 * d.val = 1 * 1024 + d.val; omega))

theorem ld_half0 : (View.ld (Val := Elt Ideal) (e' := .bf16) (S := S2x512x1024) W (Rect.unit ![0, 0, 0] ![1, 512, 1024] inb_S2x512x1024_S1x512x1024_0_0_0) (ix3 0 b d) : EReal) = W (ix3 0 b d) :=
  congrArg W (funext fun i => Fin.ext (match i with
    | ⟨0, _⟩ => by show 0 + 1 * 0 = 0; omega
    | ⟨1, _⟩ => by show 0 + 1 * b.val = b.val; omega
    | ⟨2, _⟩ => by show 0 + 1 * d.val = d.val; omega))

theorem ld_half1 : (View.ld (Val := Elt Ideal) (e' := .bf16) (S := S2x512x1024) W (Rect.unit ![1, 0, 0] ![1, 512, 1024] inb_S2x512x1024_S1x512x1024_1_0_0) (ix3 0 b d) : EReal) = W (ix3 1 b d) :=
  congrArg W (funext fun i => Fin.ext (match i with
    | ⟨0, _⟩ => by show 1 + 1 * 0 = 1; omega
    | ⟨1, _⟩ => by show 0 + 1 * b.val = b.val; omega
    | ⟨2, _⟩ => by show 0 + 1 * d.val = d.val; omega))

end Payloads

theorem out (t : Fin cfg0.N) (a : Fin 1024) (b : Fin 512) : (outsAt0 m c t (ix2 a b) : EReal) = G2 m c (ix2 (row t a) (col t b)) := by
  unfold outsAt0
  frame_out
  rw [pay1]
  unfold G2 half
  refine congrArg₂ (· + ·) (Finset.sum_congr rfl fun d _ => ?_) (Finset.sum_congr rfl fun d _ => ?_)
  · exact congrArg₂ (@HMul.hMul EReal EReal EReal _) ((ld_rows0 a (iblk m c 0 t) d).trans (blk0 m c t a (at_ 0 d))) ((ld_half0 b (X0_1 m c t) d).trans (blk1 m c t 0 b d))
  · exact congrArg₂ (@HMul.hMul EReal EReal EReal _) ((ld_rows1 a (iblk m c 0 t) d).trans (blk0 m c t a (at_ 1 d))) ((ld_half1 b (X0_1 m c t) d).trans (blk1 m c t 1 b d))

theorem arr2 : (dats m 0 c).arrAt 2 cfg0.N = G2 m c := by
  refine (dats m 0 c).arrAt_eq_of_covers 2 _ (by decide +kernel) fun t hf y => ?_
  have he : ∀ a b, ((cfg0.win 2).blk t).view.emb (ix2 a b) = ix2 (row t a) (col t b) := emb2 t
  blk_simp
  rw [after0_2]
  idx_vars y
  refine Eq.trans ?_ (congrArg (G2 m c) (emb2 t y0 y1).symm)
  exact out m c t y0 y1

end Cert.Kernel17Ideal.Nth

/-! ## The reference's array -/

namespace Cert.Reference17Ideal.Nth

open Cert.Reference17Ideal Cert.Reference17Ideal.Gen Idealize.ShloMosaic Idealize.ShloMosaic.TcCoe Idealize.SL.Sem Cert.Reference17Ideal.Read

open Cert.Kernel17Ideal.Nth (at_)

variable (x : FVec Ideal S4096x2048 .bf16) (w : FVec Ideal S2x10304x1024 .bf16)

theorem v4 (q : Fin 10240) (g : Fin 2) (d : Fin 1024) : (val_main_v4 (F := Ideal) w (ix2 q (at_ g d)) : EReal) =
    w (ix3 g (⟨q.val, by omega⟩ : Fin 10304) d) := by
  delta val_main_v4 val_main_v3 val_main_v2 val_main_v1 val_main_v0 at_
  pointwise
  split
  · next hq =>
    have hq : g.val * 1024 + d.val < 1024 := hq
    have e0 : g = 0 := Fin.ext (by show g.val = 0; omega)
    subst e0
    have e1 : ∀ h, (⟨(0 : Fin 2).val * 1024 + d.val, h⟩ : Fin 1024) = d := fun h => Fin.ext (by show 0 * 1024 + d.val = d.val; omega)
    simp only [e1]
  · next hq =>
    have hq : ¬g.val * 1024 + d.val < 1024 := hq
    have e0 : g = 1 := Fin.ext (by show g.val = 1; omega)
    subst e0
    have e1 : ∀ h, (⟨(1 : Fin 2).val * 1024 + d.val - 1024, h⟩ : Fin 1024) = d := fun h => Fin.ext (by show 1 * 1024 + d.val - 1024 = d.val; omega)
    simp only [e1]

theorem v8 (i : Fin 4096) (q : Fin 10240) : (val_main_v8 (F := Ideal) x w (ix2 i q) : EReal) =
    ∑ d : Fin 1024, (x (ix2 i (at_ 0 d)) * w (ix3 0 (⟨q.val, by omega⟩ : Fin 10304) d) : EReal) +
      ∑ d : Fin 1024, (x (ix2 i (at_ 1 d)) * w (ix3 1 (⟨q.val, by omega⟩ : Fin 10304) d) : EReal) := by
  have h : (val_main_v8 (F := Ideal) x w (ix2 i q) : EReal) = ∑ k : Fin 2048, (x (ix2 i k) * val_main_v4 (F := Ideal) w (ix2 q k) : EReal) := by
    delta val_main_v8 val_main_v7 val_main_v6 val_main_v5
    pointwise
  rw [h]
  refine (Cert.Shared.sum_blocks 2 1024 fun k : Fin 2048 => (x (ix2 i k) * val_main_v4 (F := Ideal) w (ix2 q k) : EReal)).trans ?_
  rw [Fin.sum_univ_two]
  exact congrArg₂ (· + ·)
    (Finset.sum_congr rfl fun d _ => congrArg (@HMul.hMul EReal EReal EReal _ (x (ix2 i (at_ 0 d)))) (v4 w q 0 d))
    (Finset.sum_congr rfl fun d _ => congrArg (@HMul.hMul EReal EReal EReal _ (x (ix2 i (at_ 1 d)))) (v4 w q 1 d))

end Cert.Reference17Ideal.Nth
-- ==== Proof.NthClaim.lean ====
/-
  The claims about the product with weights held transposed, in two halves side by side.
-/
module

public import proofs.«01_k».proof.Defs
public import proofs.«01_k».proof.Proof.Gen.Kernel17.Frame
public import proofs.«01_k».proof.Proof.Lemmas
public import proofs.«01_k».proof.Proof.Nth

@[expose] public section

set_option maxRecDepth 16384

noncomputable section

namespace Cert.Nth

open Idealize.ShloMosaic Idealize.SL.Sem

theorem frame_kernel : Cert.quiescent_Kernel17 (hKernel17 := Cert.Kernel17.Gen.facts) := fun m ρ _ => Cert.Kernel17.Gen.frame m ρ
theorem frame_ideal : Cert.quiescent_Kernel17Ideal (hKernel17Ideal := Cert.Kernel17Ideal.Gen.facts) := fun m ρ _ => Cert.Kernel17Ideal.Gen.frame m ρ
theorem frame_reference : Cert.quiescent_Reference17Ideal (hReference17Ideal := Cert.Reference17Ideal.Gen.facts) := fun m ρ _ =>
  (θ_run _ _ _).mono (fun r h => ⟨fun c => (h c).2, sem_eq_zero_of_no_sems (by decide) r.2⟩) (Cert.Reference17Ideal.Value.run m ρ)

section Values

variable (m : (ℓ : Loc Cert.Kernel17Ideal.nD Cert.Kernel17Ideal.τ Cert.Kernel17Ideal.sig) → Buf (Elt Ideal) ℓ)

open Cert.Kernel17Ideal Cert.Kernel17Ideal.Nth

theorem product (c : Dev nD) (i : Fin 4096) (q : Fin 10240) : Cert.Reference17Ideal.Read.val_main_v8 (F := Ideal) (m (c, Proc.devRef .tc main_arg0)) (m (c, Proc.devRef .tc main_arg1)) (ix2 i q) = G2 m c (ix2 i q) := by
  exact Cert.Reference17Ideal.Nth.v8 _ _ i q

end Values

theorem value : Cert.algebraic_Kernel17Ideal_Reference17Ideal (hKernel17Ideal := Cert.Kernel17Ideal.Gen.facts)
    (hReference17Ideal := Cert.Reference17Ideal.Gen.facts) := fun m ρ m' ρ' _ hag =>
  ⟨fun c => Cert.Kernel17Ideal.Nth.G2 m c,
    (θ_run _ _ _).mono (fun _ h c => ⟨(h c).1.trans (Cert.Kernel17Ideal.Nth.arr2 m c), (h c).2⟩) (Cert.Kernel17Ideal.Value.run_blocks m ρ),
    (θ_run _ _ _).mono (fun _ h c => ⟨by
        rw [(h c).1, Cert.Reference17Ideal.Read.val_main_v8_eq, (hag c).1, (hag c).2]
        funext j
        idx_vars j
        exact product m c j0 j1, (h c).2⟩) (Cert.Reference17Ideal.Value.run m' ρ')⟩

end Cert.Nth
-- ==== Proof.Nnb.lean ====
/-
  The product with weights held in column blocks: what the kernel leaves in its result, entry by entry, and the same for
  the reference.
-/
module

public import proofs.«01_k».proof.Proof.Gen.Kernel18Ideal.Value
public import proofs.«01_k».proof.Proof.Gen.Reference18Ideal.Read
public import Idealize.ShloMosaic.Lib.Pipeline.ValueKit
public import Idealize.ShloMosaic.Lib.Pointwise

@[expose] public section

set_option maxRecDepth 16384

noncomputable section

/-! ## The kernel's array -/

namespace Cert.Kernel18Ideal.Nnb

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows and the blocks of weights, read as extended reals. -/
def rows (i : Fin 4096) (k : Fin 2048) : EReal := m (c, Proc.devRef .tc main_arg0) (ix2 i k)
def weight (g : Fin 8) (k : Fin 2048) (d : Fin 1024) : EReal := m (c, Proc.devRef .tc main_arg1) (ix3 g k d)

/-- Column `d` of block `g`. -/
def at_ (g : Fin 8) (d : Fin 1024) : Fin 8192 := ⟨g.val * 1024 + d.val, by omega⟩

/-- The block of a column, and its place in the block. -/
def block (q : Fin 8192) : Fin 8 := ⟨q.val / 1024, by omega⟩
def place (q : Fin 8192) : Fin 1024 := ⟨q.val % 1024, by omega⟩

/-- The product of a row and a column of the column's block. -/
def dot (i : Fin 4096) (q : Fin 8192) : EReal := ∑ k : Fin 2048, rows m c i k * weight m c (block q) k (place q)

def G2 (i : S4096x8192.Idx) : EReal := dot m c (i 0) (i 1)

theorem idx : ∀ t : Fin cfg0.N, win0_0.index t = ![t.val / 16, 0] ∧ win0_1.index t = ![t.val % 16 / 2, 0, t.val % 2] ∧
    win0_2.index t = ![t.val / 16, t.val % 16] := by
  decide +kernel

theorem point_lt (t : Fin cfg0.N) : t.val < 64 := lt_of_lt_of_eq t.isLt (show cfg0.N = 64 from N_0)

/-- Row `a` and column `b` of the block that point `t` works on. -/
def row (t : Fin cfg0.N) (a : Fin 1024) : Fin 4096 := ⟨t.val / 16 * 1024 + a.val, by have := point_lt t; omega⟩
def col (t : Fin cfg0.N) (b : Fin 512) : Fin 8192 := ⟨t.val % 16 * 512 + b.val, by omega⟩

theorem blk0 (t : Fin cfg0.N) (a : Fin 1024) (k : Fin 2048) : iblk m c 0 t (ix2 a k) = rows m c (row t a) k := by
  unfold rows
  blk_ext [iblk, V, row, (idx t).1]

theorem blk1 (t : Fin cfg0.N) (k : Fin 2048) (b : Fin 512) : iblk m c 1 t (ix3 0 k b) = weight m c (block (col t b)) k (place (col t b)) := by
  unfold weight
  blk_ext [iblk, V, col, block, place, (idx t).2.1]

theorem emb2 (t : Fin cfg0.N) (a : Fin 1024) (b : Fin 512) : ((cfg0.win 2).blk t).view.emb (ix2 a b) = ix2 (row t a) (col t b) := by
  blk_ext [row, col, (idx t).2.2]

section Payloads

variable (x0 : FVec Ideal S1024x2048 .bf16) (x1 : FVec Ideal S1x2048x512 .bf16) (a : Fin 1024) (b : Fin 512)

theorem pay1 : k0_pay1 (F := Ideal) x0 x1 (ix2 a b) = ∑ k : Fin 2048, (x0 (ix2 a k) * x1 (ix3 0 k b) : EReal) := by
  unfold k0_pay1
  pointwise

theorem out2 : out0_2 (F := Ideal) x0 x1 = k0_pay1 (F := Ideal) x0 x1 := by frame_out

end Payloads

theorem dot_at (t : Fin cfg0.N) (a : Fin 1024) (b : Fin 512) : k0_pay1 (F := Ideal) (iblk m c 0 t) (iblk m c 1 t) (ix2 a b) = dot m c (row t a) (col t b) := by
  rw [pay1]
  simp only [blk0, blk1]
  rfl

theorem arr2 : (dats m 0 c).arrAt 2 cfg0.N = G2 m c := by
  refine (dats m 0 c).arrAt_eq_of_covers 2 _ (by decide +kernel) fun t hf y => ?_
  have he : ∀ a b, ((cfg0.win 2).blk t).view.emb (ix2 a b) = ix2 (row t a) (col t b) := emb2 t
  blk_simp
  rw [after0_2, out2]
  idx_vars y
  refine Eq.trans ?_ (congrArg (G2 m c) (emb2 t y0 y1).symm)
  exact dot_at m c t y0 y1

end Cert.Kernel18Ideal.Nnb

/-! ## The reference's array -/

namespace Cert.Reference18Ideal.Nnb

open Cert.Reference18Ideal Cert.Reference18Ideal.Gen Idealize.ShloMosaic Idealize.ShloMosaic.TcCoe Idealize.SL.Sem Cert.Reference18Ideal.Read

open Cert.Kernel18Ideal.Nnb (at_)

variable (x : FVec Ideal S4096x2048 .bf16) (w : FVec Ideal S8x2048x1024 .bf16)

theorem v1 (k : Fin 2048) (g : Fin 8) (d : Fin 1024) : (val_main_v1 (F := Ideal) w (ix2 k (at_ g d)) : EReal) = w (ix3 g k d) := by
  delta val_main_v1 val_main_v0 at_
  pointwise

theorem v4 (i : Fin 4096) (g : Fin 8) (d : Fin 1024) : (val_main_v4 (F := Ideal) x w (ix2 i (at_ g d)) : EReal) =
    ∑ k : Fin 2048, (x (ix2 i k) * w (ix3 g k d) : EReal) := by
  delta val_main_v4 val_main_v3 val_main_v2
  pointwise
  simp only [v1]

end Cert.Reference18Ideal.Nnb
-- ==== Proof.NnbClaim.lean ====
/-
  The claims about the product with weights held in column blocks.
-/
module

public import proofs.«01_k».proof.Defs
public import proofs.«01_k».proof.Proof.Gen.Kernel18.Frame
public import proofs.«01_k».proof.Proof.Lemmas
public import proofs.«01_k».proof.Proof.Nnb

@[expose] public section

set_option maxRecDepth 16384

noncomputable section

namespace Cert.Nnb

open Idealize.ShloMosaic Idealize.SL.Sem

theorem frame_kernel : Cert.quiescent_Kernel18 (hKernel18 := Cert.Kernel18.Gen.facts) := fun m ρ _ => Cert.Kernel18.Gen.frame m ρ
theorem frame_ideal : Cert.quiescent_Kernel18Ideal (hKernel18Ideal := Cert.Kernel18Ideal.Gen.facts) := fun m ρ _ => Cert.Kernel18Ideal.Gen.frame m ρ
theorem frame_reference : Cert.quiescent_Reference18Ideal (hReference18Ideal := Cert.Reference18Ideal.Gen.facts) := fun m ρ _ =>
  (θ_run _ _ _).mono (fun r h => ⟨fun c => (h c).2, sem_eq_zero_of_no_sems (by decide) r.2⟩) (Cert.Reference18Ideal.Value.run m ρ)

section Values

variable (m : (ℓ : Loc Cert.Kernel18Ideal.nD Cert.Kernel18Ideal.τ Cert.Kernel18Ideal.sig) → Buf (Elt Ideal) ℓ)

open Cert.Kernel18Ideal Cert.Kernel18Ideal.Nnb

theorem product (c : Dev nD) (i : Fin 4096) (q : Fin 8192) : Cert.Reference18Ideal.Read.val_main_v4 (F := Ideal) (m (c, Proc.devRef .tc main_arg0)) (m (c, Proc.devRef .tc main_arg1)) (ix2 i q) = dot m c i q := by
  have e : q = at_ (block q) (place q) := Fin.ext (show q.val = q.val / 1024 * 1024 + q.val % 1024 by omega)
  refine (congrArg (fun k => Cert.Reference18Ideal.Read.val_main_v4 (F := Ideal) (m (c, Proc.devRef .tc main_arg0)) (m (c, Proc.devRef .tc main_arg1)) (ix2 i k)) e).trans ?_
  exact Cert.Reference18Ideal.Nnb.v4 _ _ i _ _

end Values

theorem value : Cert.algebraic_Kernel18Ideal_Reference18Ideal (hKernel18Ideal := Cert.Kernel18Ideal.Gen.facts)
    (hReference18Ideal := Cert.Reference18Ideal.Gen.facts) := fun m ρ m' ρ' _ hag =>
  ⟨fun c => Cert.Kernel18Ideal.Nnb.G2 m c,
    (θ_run _ _ _).mono (fun _ h c => ⟨(h c).1.trans (Cert.Kernel18Ideal.Nnb.arr2 m c), (h c).2⟩) (Cert.Kernel18Ideal.Value.run_blocks m ρ),
    (θ_run _ _ _).mono (fun _ h c => ⟨by
        rw [(h c).1, Cert.Reference18Ideal.Read.val_main_v4_eq, (hag c).1, (hag c).2]
        funext j
        idx_vars j
        exact product m c j0 j1, (h c).2⟩) (Cert.Reference18Ideal.Value.run m' ρ')⟩

end Cert.Nnb
-- ==== Proof.Mmnn.lean ====
/-
  The product with the out projection, added to the residual path: what the kernel leaves, entry by entry, and the same for
  the reference. The kernel adds the product up in four parts.
-/
module

public import proofs.«01_k».proof.Proof.Gen.Kernel19Ideal.Value
public import proofs.«01_k».proof.Proof.Gen.Reference19Ideal.Read
public import proofs.«01_k».proof.Proof.Lemmas
public import Idealize.ShloMosaic.Lib.Pipeline.ValueKit
public import Idealize.ShloMosaic.Lib.Pointwise

@[expose] public section

set_option maxRecDepth 16384

noncomputable section

/-! ## The kernel's array -/

namespace Cert.Kernel19Ideal.Mmnn

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The rows, the weights and the residual path, read as extended reals. -/
def lhs (i : Fin 4096) (k : Fin 4096) : EReal := m (c, Proc.devRef .tc main_arg0) (ix2 i k)
def rhs (k : Fin 4096) (q : Fin 2048) : EReal := m (c, Proc.devRef .tc main_arg1) (ix2 k q)
def added (i : Fin 4096) (q : Fin 2048) : EReal := m (c, Proc.devRef .tc main_arg2) (ix2 i q)

/-- Place `j` of part `s` of the summed axis. -/
def at_ (s : ℕ) (j : Fin 1024) : Fin 4096 := ⟨(s * 1024 + j.val) % 4096, Nat.mod_lt _ (by decide)⟩

/-- What part `s` adds to the product. -/
def part (i : Fin 4096) (q : Fin 2048) (s : ℕ) : EReal := ∑ j : Fin 1024, lhs m c i (at_ s j) * rhs m c (at_ s j) q

/-- The product, over the whole axis. -/
def dot (i : Fin 4096) (q : Fin 2048) : EReal := ∑ k : Fin 4096, lhs m c i k * rhs m c k q

theorem dot_parts (i : Fin 4096) (q : Fin 2048) : ∑ s ∈ Finset.range 4, part m c i q s = dot m c i q := by
  rw [Finset.sum_range]
  refine Eq.trans ?_ (Cert.Shared.sum_blocks 4 1024 fun k : Fin 4096 => lhs m c i k * rhs m c k q).symm
  refine Finset.sum_congr rfl fun s _ => Finset.sum_congr rfl fun j _ => ?_
  have e : at_ s.val j = (⟨s.val * 1024 + j.val, by omega⟩ : Fin 4096) := Fin.ext (Nat.mod_eq_of_lt (by omega))
  rw [e]

/-- The array the kernel leaves. -/
def G3 (i : S4096x2048.Idx) : EReal := dot m c (i 0) (i 1) + added m c (i 0) (i 1)

theorem idx : ∀ t : Fin cfg0.N, win0_0.index t = ![t.val / 8, t.val % 4] ∧ win0_1.index t = ![t.val % 4, t.val % 8 / 4] ∧
    win0_2.index t = ![t.val / 8, t.val % 8 / 4] ∧ win0_3.index t = ![t.val / 8, t.val % 8 / 4] := by
  decide +kernel

theorem flushes : ∀ t : Fin cfg0.N, (cfg0.win 3).flush t = true → t.val % 4 = 3 := by
  decide +kernel

theorem point_lt (t : Fin cfg0.N) : t.val < 32 := lt_of_lt_of_eq t.isLt (show cfg0.N = 32 from N_0)

/-- Row `a` and column `b` of the block that point `t` works on. -/
def row (t : ℕ) (a : Fin 1024) : Fin 4096 := ⟨(t / 8 * 1024 + a.val) % 4096, Nat.mod_lt _ (by decide)⟩
def col (t : ℕ) (b : Fin 1024) : Fin 2048 := ⟨t % 8 / 4 * 1024 + b.val, by omega⟩

theorem row_succ (n : ℕ) (h : ¬(n + 1) % 4 = 0) (a : Fin 1024) : row (n + 1) a = row n a := by
  have e : (n + 1) / 8 = n / 8 := by omega
  unfold row
  simp only [e]

theorem col_succ (n : ℕ) (h : ¬(n + 1) % 4 = 0) (b : Fin 1024) : col (n + 1) b = col n b := by
  have e : (n + 1) % 8 / 4 = n % 8 / 4 := by omega
  unfold col
  simp only [e]

theorem blk0 (t : Fin cfg0.N) (a j : Fin 1024) : iblk m c 0 t (ix2 a j) = lhs m c (row t.val a) (at_ (t.val % 4) j) := by
  have h := point_lt t
  unfold lhs
  blk_ext [iblk, V, row, at_, (idx t).1]

theorem blk1 (t : Fin cfg0.N) (j b : Fin 1024) : iblk m c 1 t (ix2 j b) = rhs m c (at_ (t.val % 4) j) (col t.val b) := by
  have h := point_lt t
  unfold rhs
  blk_ext [iblk, V, col, at_, (idx t).2.1]

theorem blk2 (t : Fin cfg0.N) (a b : Fin 1024) : iblk m c 2 t (ix2 a b) = added m c (row t.val a) (col t.val b) := by
  have h := point_lt t
  unfold added
  blk_ext [iblk, V, row, col, (idx t).2.2.1]

theorem emb3 (t : Fin cfg0.N) (a b : Fin 1024) : ((cfg0.win 3).blk t).view.emb (ix2 a b) = ix2 (row t.val a) (col t.val b) := by
  have h := point_lt t
  blk_ext [row, col, (idx t).2.2.2]

section Payloads

variable (x0 : FVec Ideal S1024x1024 .bf16) (x1 : FVec Ideal S1024x1024 .bf16) (x2 x3 : FVec Ideal S1024x1024 .f32) (a b : Fin 1024)

theorem pay1 : k0_pay1 (F := Ideal) x0 x1 (ix2 a b) = ∑ j : Fin 1024, (x0 (ix2 a j) * x1 (ix2 j b) : EReal) := by
  unfold k0_pay1
  pointwise

theorem pay2 : k0_pay2 (F := Ideal) x2 x0 x1 (ix2 a b) = x2 (ix2 a b) + ∑ j : Fin 1024, (x0 (ix2 a j) * x1 (ix2 j b) : EReal) := by
  unfold k0_pay2
  pointwise

theorem pay3 : k0_pay3 (F := Ideal) x2 x0 x1 x3 (ix2 a b) = x2 (ix2 a b) + ∑ j : Fin 1024, (x0 (ix2 a j) * x1 (ix2 j b) : EReal) + x3 (ix2 a b) := by
  unfold k0_pay3
  pointwise

end Payloads

theorem part_at (t : Fin cfg0.N) (a b : Fin 1024) : (∑ j : Fin 1024, @HMul.hMul EReal EReal EReal _ (iblk m c 0 t (ix2 a j)) (iblk m c 1 t (ix2 j b))) = part m c (row t.val a) (col t.val b) (t.val % 4) := by
  simp only [blk0, blk1]
  rfl

/-- What the accumulator holds before the last part: the parts so far. -/
theorem acc (a b : Fin 1024) : ∀ (n : ℕ) (h : n < cfg0.N), ¬n % 4 = 3 →
    ((outsAt0 m c n h).2 (ix2 a b) : EReal) = ∑ s ∈ Finset.range (n % 4 + 1), part m c (row n a) (col n b) s := by
  intro n
  induction n with
  | zero =>
    intro h _
    rw [outsAt0_A m c ⟨0, h⟩ (Nat.zero_mod _) (show ¬(1 ≤ 0 % 4 ∧ 0 % 4 ≤ 2) by decide) (show ¬0 % 4 = 3 by decide)]
    frame_out
    rw [pay1, part_at, Finset.sum_range_one]
    rfl
  | succ n ih =>
    intro h hn
    by_cases h0 : (n + 1) % 4 = 0
    · rw [outsAt0_A m c ⟨n + 1, h⟩ h0 (show ¬(1 ≤ (n + 1) % 4 ∧ (n + 1) % 4 ≤ 2) by omega) hn]
      frame_out
      rw [pay1, part_at]
      simp only [h0, zero_add, Finset.sum_range_one]
    · rw [outsAt0_B m c ⟨n + 1, h⟩ h0 (show 1 ≤ (n + 1) % 4 ∧ (n + 1) % 4 ≤ 2 by omega) hn]
      frame_out
      rw [pay2, part_at]
      have e : (n + 1) % 4 = n % 4 + 1 := by omega
      have hi := ih (Nat.lt_of_succ_lt h) (by omega)
      simp only [row_succ n h0, col_succ n h0, e]
      rw [Finset.sum_range_succ _ (n % 4 + 1)]
      exact congrArg (· + part m c (row n a) (col n b) (n % 4 + 1)) ((congrFun (Memref.IsWhole.read_unread _ _) _).trans hi)

theorem out (t : Fin cfg0.N) (h : t.val % 4 = 3) (a b : Fin 1024) :
    ((outsAt0 m c t.val t.isLt).1 (ix2 a b) : EReal) = G3 m c (ix2 (row t.val a) (col t.val b)) := by
  obtain ⟨n, hn⟩ := t
  cases n with
  | zero => exact absurd (show 0 % 4 = 3 from h) (by decide)
  | succ n =>
    have h0 : ¬(n + 1) % 4 = 0 := by have : (n + 1) % 4 = 3 := h; omega
    rw [outsAt0_C m c ⟨n + 1, hn⟩ h0 (show ¬(1 ≤ (n + 1) % 4 ∧ (n + 1) % 4 ≤ 2) by have : (n + 1) % 4 = 3 := h; omega) h]
    frame_out
    rw [pay3, part_at, blk2]
    have e : (n + 1) % 4 = 3 := h
    have e' : n % 4 = 2 := by omega
    have hi := acc m c a b n (Nat.lt_of_succ_lt hn) (by omega)
    rw [e'] at hi
    unfold G3
    simp only [row_succ n h0, col_succ n h0, e]
    refine Eq.trans ?_ (congrArg (fun d => d + added m c (row n a) (col n b)) (dot_parts m c (row n a) (col n b)))
    rw [Finset.sum_range_succ _ 3]
    exact congrArg (fun x => x + part m c (row n a) (col n b) 3 + added m c (row n a) (col n b)) ((congrFun (Memref.IsWhole.read_unread _ _) _).trans hi)

theorem arr3 : (dats m 0 c).arrAt 3 cfg0.N = G3 m c := by
  refine (dats m 0 c).arrAt_eq_of_covers 3 _ (by decide +kernel) fun t hf y => ?_
  have he : ∀ a b, ((cfg0.win 3).blk t).view.emb (ix2 a b) = ix2 (row t.val a) (col t.val b) := emb3 t
  blk_simp
  rw [after0_3]
  idx_vars y
  refine Eq.trans ?_ (congrArg (G3 m c) (emb3 t y0 y1).symm)
  exact out m c t (flushes t hf) y0 y1

end Cert.Kernel19Ideal.Mmnn

/-! ## The reference's array -/

namespace Cert.Reference19Ideal.Mmnn

open Cert.Reference19Ideal Cert.Reference19Ideal.Gen Idealize.ShloMosaic Idealize.ShloMosaic.TcCoe Idealize.SL.Sem Cert.Reference19Ideal.Read

theorem v3 (y : FVec Ideal S4096x4096 .bf16) (w : FVec Ideal S4096x2048 .bf16) (x : FVec Ideal S4096x2048 .f32) (i : Fin 4096) (q : Fin 2048) : (val_main_v3 (F := Ideal) y w x (ix2 i q) : EReal) =
    x (ix2 i q) + ∑ k : Fin 4096, (y (ix2 i k) * w (ix2 k q) : EReal) := by
  delta val_main_v3 val_main_v2 val_main_v1 val_main_v0
  pointwise

end Cert.Reference19Ideal.Mmnn
-- ==== Proof.MmnnClaim.lean ====
/-
  The claims about the product with the out projection, added to the residual path.
-/
module

public import proofs.«01_k».proof.Defs
public import proofs.«01_k».proof.Proof.Gen.Kernel19.Frame
public import proofs.«01_k».proof.Proof.Lemmas
public import proofs.«01_k».proof.Proof.Mmnn

@[expose] public section

set_option maxRecDepth 16384

noncomputable section

namespace Cert.Mmnn

open Idealize.ShloMosaic Idealize.SL.Sem

theorem frame_kernel : Cert.quiescent_Kernel19 (hKernel19 := Cert.Kernel19.Gen.facts) := fun m ρ _ => Cert.Kernel19.Gen.frame m ρ
theorem frame_ideal : Cert.quiescent_Kernel19Ideal (hKernel19Ideal := Cert.Kernel19Ideal.Gen.facts) := fun m ρ _ => Cert.Kernel19Ideal.Gen.frame m ρ
theorem frame_reference : Cert.quiescent_Reference19Ideal (hReference19Ideal := Cert.Reference19Ideal.Gen.facts) := fun m ρ _ =>
  (θ_run _ _ _).mono (fun r h => ⟨fun c => (h c).2, sem_eq_zero_of_no_sems (by decide) r.2⟩) (Cert.Reference19Ideal.Value.run m ρ)

section Values

variable (m : (ℓ : Loc Cert.Kernel19Ideal.nD Cert.Kernel19Ideal.τ Cert.Kernel19Ideal.sig) → Buf (Elt Ideal) ℓ)

open Cert.Kernel19Ideal Cert.Kernel19Ideal.Mmnn

theorem product (c : Dev nD) (i : Fin 4096) (q : Fin 2048) : (Cert.Reference19Ideal.Read.val_main_v3 (F := Ideal) (m (c, Proc.devRef .tc main_arg0)) (m (c, Proc.devRef .tc main_arg1)) (m (c, Proc.devRef .tc main_arg2)) (ix2 i q) : EReal) = G3 m c (ix2 i q) := by
  refine (Cert.Reference19Ideal.Mmnn.v3 _ _ _ i q).trans ?_
  exact add_comm _ _

end Values

theorem value : Cert.algebraic_Kernel19Ideal_Reference19Ideal (hKernel19Ideal := Cert.Kernel19Ideal.Gen.facts)
    (hReference19Ideal := Cert.Reference19Ideal.Gen.facts) := fun m ρ m' ρ' _ hag =>
  ⟨fun c => Cert.Kernel19Ideal.Mmnn.G3 m c,
    (θ_run _ _ _).mono (fun _ h c => ⟨(h c).1.trans (Cert.Kernel19Ideal.Mmnn.arr3 m c), (h c).2⟩) (Cert.Kernel19Ideal.Value.run_blocks m ρ),
    (θ_run _ _ _).mono (fun _ h c => ⟨by
        rw [(h c).1, Cert.Reference19Ideal.Read.val_main_v3_eq, (hag c).1, (hag c).2.1, (hag c).2.2]
        funext j
        idx_vars j
        exact product m c j0 j1, (h c).2⟩) (Cert.Reference19Ideal.Value.run m' ρ')⟩

end Cert.Mmnn
-- ==== Proof.Ntb.lean ====
/-
  The gradient of the product with weights held in column blocks: what the kernel leaves, entry by entry, and the same for
  the reference. The kernel adds the product up block by block.
-/
module

public import proofs.«01_k».proof.Proof.Gen.Kernel20Ideal.Value
public import proofs.«01_k».proof.Proof.Gen.Reference20Ideal.Read
public import proofs.«01_k».proof.Proof.Lemmas
public import Idealize.ShloMosaic.Lib.Pipeline.ValueKit
public import Idealize.ShloMosaic.Lib.Pointwise

@[expose] public section

set_option maxRecDepth 16384

noncomputable section

/-! ## The kernel's array -/

namespace Cert.Kernel20Ideal.Ntb

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gradient's rows and the weights, read as extended reals. -/
def lhs (i : Fin 4096) (k : Fin 8192) : EReal := m (c, Proc.devRef .tc main_arg0) (ix2 i k)
def rhs (k : Fin 8192) (q : Fin 2048) : EReal := m (c, Proc.devRef .tc main_arg1) (ix3 (⟨k.val / 1024, by omega⟩ : Fin 8) q (⟨k.val % 1024, by omega⟩ : Fin 1024))

/-- Place `j` of part `s` of the summed axis. -/
def at_ (s : ℕ) (j : Fin 1024) : Fin 8192 := ⟨(s * 1024 + j.val) % 8192, Nat.mod_lt _ (by decide)⟩

/-- What part `s` adds to the product. -/
def part (i : Fin 4096) (q : Fin 2048) (s : ℕ) : EReal := ∑ j : Fin 1024, lhs m c i (at_ s j) * rhs m c (at_ s j) q

/-- The product, over the whole axis. -/
def dot (i : Fin 4096) (q : Fin 2048) : EReal := ∑ k : Fin 8192, lhs m c i k * rhs m c k q

theorem dot_parts (i : Fin 4096) (q : Fin 2048) : ∑ s ∈ Finset.range 8, part m c i q s = dot m c i q := by
  rw [Finset.sum_range]
  refine Eq.trans ?_ (Cert.Shared.sum_blocks 8 1024 fun k : Fin 8192 => lhs m c i k * rhs m c k q).symm
  refine Finset.sum_congr rfl fun s _ => Finset.sum_congr rfl fun j _ => ?_
  have e : at_ s.val j = (⟨s.val * 1024 + j.val, by omega⟩ : Fin 8192) := Fin.ext (Nat.mod_eq_of_lt (by omega))
  rw [e]

/-- The array the kernel leaves. -/
def G2 (i : S4096x2048.Idx) : EReal := dot m c (i 0) (i 1)

theorem idx : ∀ t : Fin cfg0.N, win0_0.index t = ![t.val / 16, t.val % 8] ∧ win0_1.index t = ![t.val % 8, t.val % 16 / 8, 0] ∧
    win0_2.index t = ![t.val / 16, t.val % 16 / 8] := by
  decide +kernel

theorem flushes : ∀ t : Fin cfg0.N, (cfg0.win 2).flush t = true → t.val % 8 = 7 := by
  decide +kernel

theorem point_lt (t : Fin cfg0.N) : t.val < 64 := lt_of_lt_of_eq t.isLt (show cfg0.N = 64 from N_0)

/-- Row `a` and column `b` of the block that point `t` works on. -/
def row (t : ℕ) (a : Fin 1024) : Fin 4096 := ⟨(t / 16 * 1024 + a.val) % 4096, Nat.mod_lt _ (by decide)⟩
def col (t : ℕ) (b : Fin 1024) : Fin 2048 := ⟨t % 16 / 8 * 1024 + b.val, by omega⟩

theorem row_succ (n : ℕ) (h : ¬(n + 1) % 8 = 0) (a : Fin 1024) : row (n + 1) a = row n a := by
  have e : (n + 1) / 16 = n / 16 := by omega
  unfold row
  simp only [e]

theorem col_succ (n : ℕ) (h : ¬(n + 1) % 8 = 0) (b : Fin 1024) : col (n + 1) b = col n b := by
  have e : (n + 1) % 16 / 8 = n % 16 / 8 := by omega
  unfold col
  simp only [e]

theorem blk0 (t : Fin cfg0.N) (a j : Fin 1024) : iblk m c 0 t (ix2 a j) = lhs m c (row t.val a) (at_ (t.val % 8) j) := by
  have h := point_lt t
  unfold lhs
  blk_ext [iblk, V, row, at_, (idx t).1]

theorem blk1 (t : Fin cfg0.N) (j b : Fin 1024) : iblk m c 1 t (ix3 0 b j) = rhs m c (at_ (t.val % 8) j) (col t.val b) := by
  have h := point_lt t
  unfold rhs
  blk_ext [iblk, V, col, at_, (idx t).2.1]

theorem emb2 (t : Fin cfg0.N) (a b : Fin 1024) : ((cfg0.win 2).blk t).view.emb (ix2 a b) = ix2 (row t.val a) (col t.val b) := by
  have h := point_lt t
  blk_ext [row, col, (idx t).2.2]

section Payloads

variable (x0 : FVec Ideal S1024x1024 .bf16) (x1 : FVec Ideal S1x1024x1024 .bf16) (x2 x3 : FVec Ideal S1024x1024 .f32) (a b : Fin 1024)

theorem pay1 : k0_pay1 (F := Ideal) x0 x1 (ix2 a b) = ∑ j : Fin 1024, (x0 (ix2 a j) * x1 (ix3 0 b j) : EReal) := by
  unfold k0_pay1
  pointwise

theorem pay2 : k0_pay2 (F := Ideal) x2 x0 x1 (ix2 a b) = x2 (ix2 a b) + ∑ j : Fin 1024, (x0 (ix2 a j) * x1 (ix3 0 b j) : EReal) := by
  unfold k0_pay2
  pointwise

theorem pay3 : k0_pay3 (F := Ideal) x2 x0 x1 (ix2 a b) = x2 (ix2 a b) + ∑ j : Fin 1024, (x0 (ix2 a j) * x1 (ix3 0 b j) : EReal) := by
  unfold k0_pay3
  pointwise

end Payloads

theorem part_at (t : Fin cfg0.N) (a b : Fin 1024) : (∑ j : Fin 1024, @HMul.hMul EReal EReal EReal _ (iblk m c 0 t (ix2 a j)) (iblk m c 1 t (ix3 0 b j))) = part m c (row t.val a) (col t.val b) (t.val % 8) := by
  simp only [blk0, blk1]
  rfl

/-- What the accumulator holds before the last part: the parts so far. -/
theorem acc (a b : Fin 1024) : ∀ (n : ℕ) (h : n < cfg0.N), ¬n % 8 = 7 →
    ((outsAt0 m c n h).2 (ix2 a b) : EReal) = ∑ s ∈ Finset.range (n % 8 + 1), part m c (row n a) (col n b) s := by
  intro n
  induction n with
  | zero =>
    intro h _
    rw [outsAt0_A m c ⟨0, h⟩ (Nat.zero_mod _) (show ¬(1 ≤ 0 % 8 ∧ 0 % 8 ≤ 6) by decide) (show ¬0 % 8 = 7 by decide)]
    frame_out
    rw [pay1, part_at, Finset.sum_range_one]
    rfl
  | succ n ih =>
    intro h hn
    by_cases h0 : (n + 1) % 8 = 0
    · rw [outsAt0_A m c ⟨n + 1, h⟩ h0 (show ¬(1 ≤ (n + 1) % 8 ∧ (n + 1) % 8 ≤ 6) by omega) hn]
      frame_out
      rw [pay1, part_at]
      simp only [h0, zero_add, Finset.sum_range_one]
    · rw [outsAt0_B m c ⟨n + 1, h⟩ h0 (show 1 ≤ (n + 1) % 8 ∧ (n + 1) % 8 ≤ 6 by omega) hn]
      frame_out
      rw [pay2, part_at]
      have e : (n + 1) % 8 = n % 8 + 1 := by omega
      have hi := ih (Nat.lt_of_succ_lt h) (by omega)
      simp only [row_succ n h0, col_succ n h0, e]
      rw [Finset.sum_range_succ _ (n % 8 + 1)]
      exact congrArg (· + part m c (row n a) (col n b) (n % 8 + 1)) ((congrFun (Memref.IsWhole.read_unread _ _) _).trans hi)

theorem out (t : Fin cfg0.N) (h : t.val % 8 = 7) (a b : Fin 1024) :
    ((outsAt0 m c t.val t.isLt).1 (ix2 a b) : EReal) = G2 m c (ix2 (row t.val a) (col t.val b)) := by
  obtain ⟨n, hn⟩ := t
  cases n with
  | zero => exact absurd (show 0 % 8 = 7 from h) (by decide)
  | succ n =>
    have h0 : ¬(n + 1) % 8 = 0 := by have : (n + 1) % 8 = 7 := h; omega
    rw [outsAt0_C m c ⟨n + 1, hn⟩ h0 (show ¬(1 ≤ (n + 1) % 8 ∧ (n + 1) % 8 ≤ 6) by have : (n + 1) % 8 = 7 := h; omega) h]
    frame_out
    rw [pay3, part_at]
    have e : (n + 1) % 8 = 7 := h
    have e' : n % 8 = 6 := by omega
    have hi := acc m c a b n (Nat.lt_of_succ_lt hn) (by omega)
    rw [e'] at hi
    unfold G2
    simp only [row_succ n h0, col_succ n h0, e]
    refine Eq.trans ?_ (congrArg (fun d => d) (dot_parts m c (row n a) (col n b)))
    rw [Finset.sum_range_succ _ 7]
    exact congrArg (fun x => x + part m c (row n a) (col n b) 7) ((congrFun (Memref.IsWhole.read_unread _ _) _).trans hi)

theorem arr2 : (dats m 0 c).arrAt 2 cfg0.N = G2 m c := by
  refine (dats m 0 c).arrAt_eq_of_covers 2 _ (by decide +kernel) fun t hf y => ?_
  have he : ∀ a b, ((cfg0.win 2).blk t).view.emb (ix2 a b) = ix2 (row t.val a) (col t.val b) := emb2 t
  blk_simp
  rw [after0_2]
  idx_vars y
  refine Eq.trans ?_ (congrArg (G2 m c) (emb2 t y0 y1).symm)
  exact out m c t (flushes t hf) y0 y1

end Cert.Kernel20Ideal.Ntb

/-! ## The reference's array -/

namespace Cert.Reference20Ideal.Ntb

open Cert.Reference20Ideal Cert.Reference20Ideal.Gen Idealize.ShloMosaic Idealize.ShloMosaic.TcCoe Idealize.SL.Sem Cert.Reference20Ideal.Read

variable (x : FVec Ideal S4096x8192 .bf16) (w : FVec Ideal S8x2048x1024 .bf16)

theorem v1 (q : Fin 2048) (k : Fin 8192) : (val_main_v1 (F := Ideal) w (ix2 q k) : EReal) =
    w (ix3 (⟨k.val / 1024, by omega⟩ : Fin 8) q (⟨k.val % 1024, by omega⟩ : Fin 1024)) := by
  delta val_main_v1 val_main_v0
  pointwise

theorem v6 (i : Fin 4096) (q : Fin 2048) : (val_main_v6 (F := Ideal) x w (ix2 i q) : EReal) =
    ∑ k : Fin 8192, (x (ix2 i k) * w (ix3 (⟨k.val / 1024, by omega⟩ : Fin 8) q (⟨k.val % 1024, by omega⟩ : Fin 1024)) : EReal) := by
  delta val_main_v6 val_main_v5 val_main_v3
  pointwise
  simp only [v1]

end Cert.Reference20Ideal.Ntb
-- ==== Proof.NtbClaim.lean ====
/-
  The claims about the gradient of the product with weights held in column blocks.
-/
module

public import proofs.«01_k».proof.Defs
public import proofs.«01_k».proof.Proof.Gen.Kernel20.Frame
public import proofs.«01_k».proof.Proof.Lemmas
public import proofs.«01_k».proof.Proof.Ntb

@[expose] public section

set_option maxRecDepth 16384

noncomputable section

namespace Cert.Ntb

open Idealize.ShloMosaic Idealize.SL.Sem

theorem frame_kernel : Cert.quiescent_Kernel20 (hKernel20 := Cert.Kernel20.Gen.facts) := fun m ρ _ => Cert.Kernel20.Gen.frame m ρ
theorem frame_ideal : Cert.quiescent_Kernel20Ideal (hKernel20Ideal := Cert.Kernel20Ideal.Gen.facts) := fun m ρ _ => Cert.Kernel20Ideal.Gen.frame m ρ
theorem frame_reference : Cert.quiescent_Reference20Ideal (hReference20Ideal := Cert.Reference20Ideal.Gen.facts) := fun m ρ _ =>
  (θ_run _ _ _).mono (fun r h => ⟨fun c => (h c).2, sem_eq_zero_of_no_sems (by decide) r.2⟩) (Cert.Reference20Ideal.Value.run m ρ)

section Values

variable (m : (ℓ : Loc Cert.Kernel20Ideal.nD Cert.Kernel20Ideal.τ Cert.Kernel20Ideal.sig) → Buf (Elt Ideal) ℓ)

open Cert.Kernel20Ideal Cert.Kernel20Ideal.Ntb

theorem product (c : Dev nD) (i : Fin 4096) (q : Fin 2048) : (Cert.Reference20Ideal.Read.val_main_v6 (F := Ideal) (m (c, Proc.devRef .tc main_arg0)) (m (c, Proc.devRef .tc main_arg1)) (ix2 i q) : EReal) = G2 m c (ix2 i q) := by
  refine (Cert.Reference20Ideal.Ntb.v6 _ _ i q).trans ?_
  rfl

end Values

theorem value : Cert.algebraic_Kernel20Ideal_Reference20Ideal (hKernel20Ideal := Cert.Kernel20Ideal.Gen.facts)
    (hReference20Ideal := Cert.Reference20Ideal.Gen.facts) := fun m ρ m' ρ' _ hag =>
  ⟨fun c => Cert.Kernel20Ideal.Ntb.G2 m c,
    (θ_run _ _ _).mono (fun _ h c => ⟨(h c).1.trans (Cert.Kernel20Ideal.Ntb.arr2 m c), (h c).2⟩) (Cert.Kernel20Ideal.Value.run_blocks m ρ),
    (θ_run _ _ _).mono (fun _ h c => ⟨by
        rw [(h c).1, Cert.Reference20Ideal.Read.val_main_v6_eq, (hag c).1, (hag c).2]
        funext j
        idx_vars j
        exact product m c j0 j1, (h c).2⟩) (Cert.Reference20Ideal.Value.run m' ρ')⟩

end Cert.Ntb
-- ==== Proof.Nnh.lean ====
/-
  The gradient of the product with weights held in two halves, added to what is there: what the kernel leaves, entry by
  entry, and the same for the reference. The kernel adds the product up in ten parts.
-/
module

public import proofs.«01_k».proof.Proof.Gen.Kernel21Ideal.Value
public import proofs.«01_k».proof.Proof.Gen.Reference21Ideal.Read
public import proofs.«01_k».proof.Proof.Lemmas
public import Idealize.ShloMosaic.Lib.Pipeline.ValueKit
public import Idealize.ShloMosaic.Lib.Pointwise

@[expose] public section

set_option maxRecDepth 16384

noncomputable section

/-! ## The kernel's array -/

namespace Cert.Kernel21Ideal.Nnh

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The gradient's rows, the weights and what is there, read as extended reals. -/
def lhs (i : Fin 4096) (k : Fin 10240) : EReal := m (c, Proc.devRef .tc main_arg0) (ix2 i k)
def rhs (k : Fin 10240) (q : Fin 2048) : EReal := m (c, Proc.devRef .tc main_arg1) (ix3 (⟨q.val / 1024, by omega⟩ : Fin 2) (⟨k.val, by omega⟩ : Fin 10304) (⟨q.val % 1024, by omega⟩ : Fin 1024))
def added (i : Fin 4096) (q : Fin 2048) : EReal := m (c, Proc.devRef .tc main_arg2) (ix2 i q)

/-- Place `j` of part `s` of the summed axis. -/
def at_ (s : ℕ) (j : Fin 1024) : Fin 10240 := ⟨(s * 1024 + j.val) % 10240, Nat.mod_lt _ (by decide)⟩

/-- What part `s` adds to the product. -/
def part (i : Fin 4096) (q : Fin 2048) (s : ℕ) : EReal := ∑ j : Fin 1024, lhs m c i (at_ s j) * rhs m c (at_ s j) q

/-- The product, over the whole axis. -/
def dot (i : Fin 4096) (q : Fin 2048) : EReal := ∑ k : Fin 10240, lhs m c i k * rhs m c k q

theorem dot_parts (i : Fin 4096) (q : Fin 2048) : ∑ s ∈ Finset.range 10, part m c i q s = dot m c i q := by
  rw [Finset.sum_range]
  refine Eq.trans ?_ (Cert.Shared.sum_blocks 10 1024 fun k : Fin 10240 => lhs m c i k * rhs m c k q).symm
  refine Finset.sum_congr rfl fun s _ => Finset.sum_congr rfl fun j _ => ?_
  have e : at_ s.val j = (⟨s.val * 1024 + j.val, by omega⟩ : Fin 10240) := Fin.ext (Nat.mod_eq_of_lt (by omega))
  rw [e]

/-- The array the kernel leaves. -/
def G3 (i : S4096x2048.Idx) : EReal := dot m c (i 0) (i 1) + added m c (i 0) (i 1)

theorem idx : ∀ t : Fin cfg0.N, win0_0.index t = ![t.val / 20, t.val % 10] ∧ win0_1.index t = ![t.val % 20 / 10, t.val % 10, 0] ∧
    win0_2.index t = ![t.val / 20, t.val % 20 / 10] ∧ win0_3.index t = ![t.val / 20, t.val % 20 / 10] := by
  decide +kernel

theorem flushes : ∀ t : Fin cfg0.N, (cfg0.win 3).flush t = true → t.val % 10 = 9 := by
  decide +kernel

theorem point_lt (t : Fin cfg0.N) : t.val < 80 := lt_of_lt_of_eq t.isLt (show cfg0.N = 80 from N_0)

/-- Row `a` and column `b` of the block that point `t` works on. -/
def row (t : ℕ) (a : Fin 1024) : Fin 4096 := ⟨(t / 20 * 1024 + a.val) % 4096, Nat.mod_lt _ (by decide)⟩
def col (t : ℕ) (b : Fin 1024) : Fin 2048 := ⟨t % 20 / 10 * 1024 + b.val, by omega⟩

theorem row_succ (n : ℕ) (h : ¬(n + 1) % 10 = 0) (a : Fin 1024) : row (n + 1) a = row n a := by
  have e : (n + 1) / 20 = n / 20 := by omega
  unfold row
  simp only [e]

theorem col_succ (n : ℕ) (h : ¬(n + 1) % 10 = 0) (b : Fin 1024) : col (n + 1) b = col n b := by
  have e : (n + 1) % 20 / 10 = n % 20 / 10 := by omega
  unfold col
  simp only [e]

theorem blk0 (t : Fin cfg0.N) (a j : Fin 1024) : iblk m c 0 t (ix2 a j) = lhs m c (row t.val a) (at_ (t.val % 10) j) := by
  have h := point_lt t
  unfold lhs
  blk_ext [iblk, V, row, at_, (idx t).1]

theorem blk1 (t : Fin cfg0.N) (j b : Fin 1024) : X0_1 m c t (ix3 0 j b) = rhs m c (at_ (t.val % 10) j) (col t.val b) := by
  have h := point_lt t
  unfold X0_1 Pipeline.Window.fill
  rw [dif_pos (moved0_1 t _)]
  unfold rhs
  blk_ext [iblk, V, col, at_, (idx t).2.1]

theorem blk2 (t : Fin cfg0.N) (a b : Fin 1024) : iblk m c 2 t (ix2 a b) = added m c (row t.val a) (col t.val b) := by
  have h := point_lt t
  unfold added
  blk_ext [iblk, V, row, col, (idx t).2.2.1]

theorem emb3 (t : Fin cfg0.N) (a b : Fin 1024) : ((cfg0.win 3).blk t).view.emb (ix2 a b) = ix2 (row t.val a) (col t.val b) := by
  have h := point_lt t
  blk_ext [row, col, (idx t).2.2.2]

section Payloads

variable (x0 : FVec Ideal S1024x1024 .bf16) (x1 : FVec Ideal S1x1024x1024 .bf16) (x2 x3 : FVec Ideal S1024x1024 .f32) (a b : Fin 1024)

theorem pay1 : k0_pay1 (F := Ideal) x0 x1 (ix2 a b) = ∑ j : Fin 1024, (x0 (ix2 a j) * x1 (ix3 0 j b) : EReal) := by
  unfold k0_pay1
  pointwise

theorem pay2 : k0_pay2 (F := Ideal) x2 x0 x1 (ix2 a b) = x2 (ix2 a b) + ∑ j : Fin 1024, (x0 (ix2 a j) * x1 (ix3 0 j b) : EReal) := by
  unfold k0_pay2
  pointwise

theorem pay3 : k0_pay3 (F := Ideal) x2 x0 x1 x3 (ix2 a b) = x2 (ix2 a b) + ∑ j : Fin 1024, (x0 (ix2 a j) * x1 (ix3 0 j b) : EReal) + x3 (ix2 a b) := by
  unfold k0_pay3
  pointwise

end Payloads

theorem part_at (t : Fin cfg0.N) (a b : Fin 1024) : (∑ j : Fin 1024, @HMul.hMul EReal EReal EReal _ (iblk m c 0 t (ix2 a j)) (X0_1 m c t (ix3 0 j b))) = part m c (row t.val a) (col t.val b) (t.val % 10) := by
  simp only [blk0, blk1]
  rfl

/-- What the accumulator holds before the last part: the parts so far. -/
theorem acc (a b : Fin 1024) : ∀ (n : ℕ) (h : n < cfg0.N), ¬n % 10 = 9 →
    ((outsAt0 m c n h).2 (ix2 a b) : EReal) = ∑ s ∈ Finset.range (n % 10 + 1), part m c (row n a) (col n b) s := by
  intro n
  induction n with
  | zero =>
    intro h _
    rw [outsAt0_A m c ⟨0, h⟩ (Nat.zero_mod _) (show ¬(1 ≤ 0 % 10 ∧ 0 % 10 ≤ 8) by decide) (show ¬0 % 10 = 9 by decide)]
    frame_out
    rw [pay1, part_at, Finset.sum_range_one]
    rfl
  | succ n ih =>
    intro h hn
    by_cases h0 : (n + 1) % 10 = 0
    · rw [outsAt0_A m c ⟨n + 1, h⟩ h0 (show ¬(1 ≤ (n + 1) % 10 ∧ (n + 1) % 10 ≤ 8) by omega) hn]
      frame_out
      rw [pay1, part_at]
      simp only [h0, zero_add, Finset.sum_range_one]
    · rw [outsAt0_B m c ⟨n + 1, h⟩ h0 (show 1 ≤ (n + 1) % 10 ∧ (n + 1) % 10 ≤ 8 by omega) hn]
      frame_out
      rw [pay2, part_at]
      have e : (n + 1) % 10 = n % 10 + 1 := by omega
      have hi := ih (Nat.lt_of_succ_lt h) (by omega)
      simp only [row_succ n h0, col_succ n h0, e]
      rw [Finset.sum_range_succ _ (n % 10 + 1)]
      exact congrArg (· + part m c (row n a) (col n b) (n % 10 + 1)) ((congrFun (Memref.IsWhole.read_unread _ _) _).trans hi)

theorem out (t : Fin cfg0.N) (h : t.val % 10 = 9) (a b : Fin 1024) :
    ((outsAt0 m c t.val t.isLt).1 (ix2 a b) : EReal) = G3 m c (ix2 (row t.val a) (col t.val b)) := by
  obtain ⟨n, hn⟩ := t
  cases n with
  | zero => exact absurd (show 0 % 10 = 9 from h) (by decide)
  | succ n =>
    have h0 : ¬(n + 1) % 10 = 0 := by have : (n + 1) % 10 = 9 := h; omega
    rw [outsAt0_C m c ⟨n + 1, hn⟩ h0 (show ¬(1 ≤ (n + 1) % 10 ∧ (n + 1) % 10 ≤ 8) by have : (n + 1) % 10 = 9 := h; omega) h]
    frame_out
    rw [pay3, part_at, blk2]
    have e : (n + 1) % 10 = 9 := h
    have e' : n % 10 = 8 := by omega
    have hi := acc m c a b n (Nat.lt_of_succ_lt hn) (by omega)
    rw [e'] at hi
    unfold G3
    simp only [row_succ n h0, col_succ n h0, e]
    refine Eq.trans ?_ (congrArg (fun d => d + added m c (row n a) (col n b)) (dot_parts m c (row n a) (col n b)))
    rw [Finset.sum_range_succ _ 9]
    exact congrArg (fun x => x + part m c (row n a) (col n b) 9 + added m c (row n a) (col n b)) ((congrFun (Memref.IsWhole.read_unread _ _) _).trans hi)

theorem arr3 : (dats m 0 c).arrAt 3 cfg0.N = G3 m c := by
  refine (dats m 0 c).arrAt_eq_of_covers 3 _ (by decide +kernel) fun t hf y => ?_
  have he : ∀ a b, ((cfg0.win 3).blk t).view.emb (ix2 a b) = ix2 (row t.val a) (col t.val b) := emb3 t
  blk_simp
  rw [after0_3]
  idx_vars y
  refine Eq.trans ?_ (congrArg (G3 m c) (emb3 t y0 y1).symm)
  exact out m c t (flushes t hf) y0 y1

end Cert.Kernel21Ideal.Nnh

/-! ## The reference's array -/

namespace Cert.Reference21Ideal.Nnh

open Cert.Reference21Ideal Cert.Reference21Ideal.Gen Idealize.ShloMosaic Idealize.ShloMosaic.TcCoe Idealize.SL.Sem Cert.Reference21Ideal.Read

variable (x : FVec Ideal S4096x10240 .bf16) (w : FVec Ideal S2x10304x1024 .bf16) (z : FVec Ideal S4096x2048 .f32)

theorem v4 (k : Fin 10240) (q : Fin 2048) : (val_main_v4 (F := Ideal) w (ix2 k q) : EReal) =
    w (ix3 (⟨q.val / 1024, by omega⟩ : Fin 2) (⟨k.val, by omega⟩ : Fin 10304) (⟨q.val % 1024, by omega⟩ : Fin 1024)) := by
  delta val_main_v4 val_main_v3 val_main_v2 val_main_v1 val_main_v0
  pointwise
  split
  · next hq =>
    have e0 : (⟨q.val / 1024, by omega⟩ : Fin 2) = 0 := Fin.ext (by show q.val / 1024 = 0; omega)
    have e1 : (⟨q.val % 1024, by omega⟩ : Fin 1024) = ⟨q.val, hq⟩ := Fin.ext (by show q.val % 1024 = q.val; omega)
    rw [e0, e1]
  · next hq =>
    have e0 : (⟨q.val / 1024, by omega⟩ : Fin 2) = 1 := Fin.ext (by show q.val / 1024 = 1; omega)
    have e1 : (⟨q.val % 1024, by omega⟩ : Fin 1024) = ⟨q.val - 1024, by omega⟩ := Fin.ext (by show q.val % 1024 = q.val - 1024; omega)
    rw [e0, e1]

theorem v11 (i : Fin 4096) (q : Fin 2048) : (val_main_v11 (F := Ideal) x w z (ix2 i q) : EReal) = z (ix2 i q) +
    ∑ k : Fin 10240, (x (ix2 i k) * w (ix3 (⟨q.val / 1024, by omega⟩ : Fin 2) (⟨k.val, by omega⟩ : Fin 10304) (⟨q.val % 1024, by omega⟩ : Fin 1024)) : EReal) := by
  delta val_main_v11 val_main_v10 val_main_v9 val_main_v7 val_main_v6
  pointwise
  simp only [v4]

end Cert.Reference21Ideal.Nnh
-- ==== Proof.NnhClaim.lean ====
/-
  The claims about the gradient of the product with weights held in two halves.
-/
module

public import proofs.«01_k».proof.Defs
public import proofs.«01_k».proof.Proof.Gen.Kernel21.Frame
public import proofs.«01_k».proof.Proof.Lemmas
public import proofs.«01_k».proof.Proof.Nnh

@[expose] public section

set_option maxRecDepth 16384

noncomputable section

namespace Cert.Nnh

open Idealize.ShloMosaic Idealize.SL.Sem

theorem frame_kernel : Cert.quiescent_Kernel21 (hKernel21 := Cert.Kernel21.Gen.facts) := fun m ρ _ => Cert.Kernel21.Gen.frame m ρ
theorem frame_ideal : Cert.quiescent_Kernel21Ideal (hKernel21Ideal := Cert.Kernel21Ideal.Gen.facts) := fun m ρ _ => Cert.Kernel21Ideal.Gen.frame m ρ
theorem frame_reference : Cert.quiescent_Reference21Ideal (hReference21Ideal := Cert.Reference21Ideal.Gen.facts) := fun m ρ _ =>
  (θ_run _ _ _).mono (fun r h => ⟨fun c => (h c).2, sem_eq_zero_of_no_sems (by decide) r.2⟩) (Cert.Reference21Ideal.Value.run m ρ)

section Values

variable (m : (ℓ : Loc Cert.Kernel21Ideal.nD Cert.Kernel21Ideal.τ Cert.Kernel21Ideal.sig) → Buf (Elt Ideal) ℓ)

open Cert.Kernel21Ideal Cert.Kernel21Ideal.Nnh

theorem product (c : Dev nD) (i : Fin 4096) (q : Fin 2048) : (Cert.Reference21Ideal.Read.val_main_v11 (F := Ideal) (m (c, Proc.devRef .tc main_arg0)) (m (c, Proc.devRef .tc main_arg1)) (m (c, Proc.devRef .tc main_arg2)) (ix2 i q) : EReal) = G3 m c (ix2 i q) := by
  refine (Cert.Reference21Ideal.Nnh.v11 _ _ _ i q).trans ?_
  exact add_comm _ _

end Values

theorem value : Cert.algebraic_Kernel21Ideal_Reference21Ideal (hKernel21Ideal := Cert.Kernel21Ideal.Gen.facts)
    (hReference21Ideal := Cert.Reference21Ideal.Gen.facts) := fun m ρ m' ρ' _ hag =>
  ⟨fun c => Cert.Kernel21Ideal.Nnh.G3 m c,
    (θ_run _ _ _).mono (fun _ h c => ⟨(h c).1.trans (Cert.Kernel21Ideal.Nnh.arr3 m c), (h c).2⟩) (Cert.Kernel21Ideal.Value.run_blocks m ρ),
    (θ_run _ _ _).mono (fun _ h c => ⟨by
        rw [(h c).1, Cert.Reference21Ideal.Read.val_main_v11_eq, (hag c).1, (hag c).2.1, (hag c).2.2]
        funext j
        idx_vars j
        exact product m c j0 j1, (h c).2⟩) (Cert.Reference21Ideal.Value.run m' ρ')⟩

end Cert.Nnh
-- ==== Proof.Rms1.lean ====
/-
  The backward pass of the second root-mean-square norm, with a copy of its result in bf16: what the kernel's three result arrays hold after the run, index by
  index, and the same for the reference, and that the two agree where the norm's input, its gain and the incoming
  gradient are real numbers.
-/
module

public import proofs.«01_k».proof.Proof.Gen.Kernel22Ideal.Value
public import proofs.«01_k».proof.Proof.Gen.Reference22Ideal.Read
public import proofs.«01_k».proof.Proof.Norm
public import Idealize.ShloMosaic.Lib.Pipeline.ValueKit
public import Idealize.ShloMosaic.Lib.Pointwise

@[expose] public section

set_option maxRecDepth 16384

noncomputable section

/-! ## The kernel's arrays -/

namespace Cert.Kernel22Ideal.Rms1

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![t.val, 0] ∧ win0_6.index t = ![t.val, 0] ∧ win0_7.index t = ![0, 0] := by
  decide +kernel

theorem out5 (c : Dev nD) (t : Fin cfg0.N) : (outsAt0 m c t.val t.isLt).1 =
    k0_pay3 (iblk m c 2 t) (iblk m c 1 t) (iblk m c 0 t) (iblk m c 3 t) (iblk m c 4 t) := by
  by_cases h : t.val % 16 = 0
  · rw [outsAt0_A m c t h]; frame_out
  · rw [outsAt0_B m c t h]; frame_out

/-- The reciprocal root that the host hands the kernel. -/
theorem rval (c : Dev nD) (i : Fin 4096) : V m c main_v7 (ix2 i 0) = Cert.Norm.inv (fun k => m (c, Proc.devRef .tc main_arg0) (ix2 i k)) := by
  unfold_abbrev_sides
  after_results
  pointwise
  unfold Cert.Norm.inv Cert.Norm.meanSq
  rfl

theorem pay3 (x0 : FVec Ideal S256x1 .f32) (x1 x2 : FVec Ideal S256x2048 .f32) (x3 : FVec Ideal S1x2048 .f32) (x4 : FVec Ideal S256x2048 .f32) (a : Fin 256) (b : Fin 2048) :
    k0_pay3 (F := Ideal) x0 x1 x2 x3 x4 (ix2 a b) = x4 (ix2 a b) + x0 (ix2 a 0) * (x2 (ix2 a b) * x3 (ix2 0 b) - x1 (ix2 a b) * x0 (ix2 a 0) *
      Ideal.div (∑ x, x2 (ix2 a x) * x3 (ix2 0 x) * (x1 (ix2 a x) * x0 (ix2 a 0))) (Ideal.ofBits .f32 0x45000000#32)) := by
  unfold k0_pay3 k0_pay2 k0_pay1
  pointwise

/-- Row `a` of the block of rows that point `t` works on. -/
def row (t : Fin cfg0.N) (a : Fin 256) : Fin 4096 :=
  ⟨t.val * 256 + a.val, by have := t.isLt; have h : cfg0.N = 16 := rfl; have := a.isLt; omega⟩

theorem blk0 (c : Dev nD) (t : Fin cfg0.N) (a : Fin 256) (b : Fin 2048) : iblk m c 0 t (ix2 a b) = m (c, Proc.devRef .tc main_arg2) (ix2 (row t a) b) := by
  blk_ext [iblk, V, row, (idx t).1]

theorem blk1 (c : Dev nD) (t : Fin cfg0.N) (a : Fin 256) (b : Fin 2048) : iblk m c 1 t (ix2 a b) = m (c, Proc.devRef .tc main_arg0) (ix2 (row t a) b) := by
  blk_ext [iblk, V, row, (idx t).2.1]

theorem blk2 (c : Dev nD) (t : Fin cfg0.N) (a : Fin 256) : iblk m c 2 t (ix2 a 0) = Cert.Norm.inv (fun k => m (c, Proc.devRef .tc main_arg0) (ix2 (row t a) k)) := by
  rw [← rval]
  blk_ext [iblk, row, (idx t).2.2.1]

theorem blk3 (c : Dev nD) (t : Fin cfg0.N) (b : Fin 2048) : iblk m c 3 t (ix2 0 b) = m (c, Proc.devRef .tc main_arg1) (ix2 0 b) := by
  blk_ext [iblk, V, (idx t).2.2.2.1]

theorem blk4 (c : Dev nD) (t : Fin cfg0.N) (a : Fin 256) (b : Fin 2048) : iblk m c 4 t (ix2 a b) = m (c, Proc.devRef .tc main_arg3) (ix2 (row t a) b) := by
  blk_ext [iblk, V, row, (idx t).2.2.2.2.1]

theorem emb5 (t : Fin cfg0.N) (a : Fin 256) (b : Fin 2048) : ((cfg0.win 5).blk t).view.emb (ix2 a b) = ix2 (row t a) b := by
  blk_ext [row, (idx t).2.2.2.2.2.1]

/-- The gradient that goes past the norm. -/
def past (c : Dev nD) (i : S4096x2048.Idx) : EReal := m (c, Proc.devRef .tc main_arg3) i

/-- The gradient of the norm's input, row by row. -/
def G5 (c : Dev nD) (i : S4096x2048.Idx) : EReal :=
  past m c i + Cert.Norm.dx (fun k => m (c, Proc.devRef .tc main_arg0) (ix2 (i 0) k))
    (fun k => m (c, Proc.devRef .tc main_arg1) (ix2 0 k)) (fun k => m (c, Proc.devRef .tc main_arg2) (ix2 (i 0) k)) (i 1)

theorem point5 (c : Dev nD) (t : Fin cfg0.N) (a : Fin 256) (b : Fin 2048) :
    k0_pay3 (iblk m c 2 t) (iblk m c 1 t) (iblk m c 0 t) (iblk m c 3 t) (iblk m c 4 t) (ix2 a b) = G5 m c (ix2 (row t a) b) := by
  rw [pay3]
  simp only [blk0, blk1, blk2, blk3, blk4]
  rfl

theorem arr5 (c : Dev nD) : (dats m 0 c).arrAt 5 cfg0.N = G5 m c := by
  refine (dats m 0 c).arrAt_eq_of_covers 5 _ (by decide +kernel) fun t hf y => ?_
  have he : ∀ a b, ((cfg0.win 5).blk t).view.emb (ix2 a b) = ix2 (row t a) b := emb5 t
  blk_simp
  rw [after0_5, out5]
  idx_vars y
  exact (point5 m c t y0 y1).trans (congrArg (G5 m c) (emb5 t y0 y1).symm)

theorem out6 (c : Dev nD) (t : Fin cfg0.N) : (outsAt0 m c t.val t.isLt).2.1 =
    k0_pay4 (iblk m c 2 t) (iblk m c 1 t) (iblk m c 0 t) (iblk m c 3 t) (iblk m c 4 t) := by
  by_cases h : t.val % 16 = 0
  · rw [outsAt0_A m c t h]; frame_out
  · rw [outsAt0_B m c t h]; frame_out

theorem pay4 (x0 : FVec Ideal S256x1 .f32) (x1 x2 : FVec Ideal S256x2048 .f32) (x3 : FVec Ideal S1x2048 .f32) (x4 : FVec Ideal S256x2048 .f32) (a : Fin 256) (b : Fin 2048) :
    (k0_pay4 (F := Ideal) x0 x1 x2 x3 x4 (ix2 a b) : EReal) = k0_pay3 (F := Ideal) x0 x1 x2 x3 x4 (ix2 a b) := by
  unfold k0_pay4
  rfl

theorem emb6 (t : Fin cfg0.N) (a : Fin 256) (b : Fin 2048) : ((cfg0.win 6).blk t).view.emb (ix2 a b) = ix2 (row t a) b := by
  blk_ext [row, (idx t).2.2.2.2.2.2.1]

/-- The copy in bf16 holds the same gradient. -/
theorem arr6 (c : Dev nD) : (dats m 0 c).arrAt 6 cfg0.N = G5 m c := by
  refine (dats m 0 c).arrAt_eq_of_covers 6 _ (by decide +kernel) fun t hf y => ?_
  have he : ∀ a b, ((cfg0.win 6).blk t).view.emb (ix2 a b) = ix2 (row t a) b := emb6 t
  blk_simp
  rw [after0_6, out6]
  idx_vars y
  exact (pay4 _ _ _ _ _ y0 y1).trans ((point5 m c t y0 y1).trans (congrArg (G5 m c) (emb6 t y0 y1).symm))

/-- The incoming gradient and the norm's input, read as extended reals. -/
def dh (c : Dev nD) (i : Fin 4096) (k : Fin 2048) : EReal := m (c, Proc.devRef .tc main_arg2) (ix2 i k)
def xin (c : Dev nD) (i : Fin 4096) (k : Fin 2048) : EReal := m (c, Proc.devRef .tc main_arg0) (ix2 i k)

/-- What row `i` adds to the gradient of the gain. -/
def term (c : Dev nD) (i : Fin 4096) (k : Fin 2048) : EReal := dh m c i k * (xin m c i k * Cert.Norm.inv (xin m c i))

theorem pay6 (c : Dev nD) (t : Fin cfg0.N) (x : FVec Ideal S1x2048 .f32) (k : Fin 2048) :
    k0_pay6 (iblk m c 2 t) (iblk m c 1 t) (iblk m c 0 t) x (ix2 0 k) = x (ix2 0 k) + ∑ a : Fin 256, term m c (row t a) k := by
  unfold k0_pay6 k0_pay2 k0_pay1
  pointwise
  simp only [blk0, blk1, blk2]
  rfl

theorem pay5 (k : Fin 2048) : k0_pay5 (F := Ideal) (ix2 0 k) = 0 := by
  unfold k0_pay5
  pointwise

/-- The gradient of the gain, column by column. -/
def G7 (c : Dev nD) (i : S1x2048.Idx) : EReal := ∑ a : Fin 4096, term m c a (i 1)

theorem out7 (c : Dev nD) (k : Fin 2048) : (outsAt0 m c t0_15.val t0_15.isLt).2.2 (ix2 0 k) = G7 m c (ix2 0 k) := by
  rw [Pipeline.eq_sum_fin_of_reset_step_apply_last (fun n h => (outsAt0 m c n h).2.2) 16 (fun _ => (0 : EReal)) (fun t j => ∑ a : Fin 256, term m c (row t a) (j 1))
    (fun t h j => by
      idx_vars j
      obtain rfl : j0 = 0 := Subsingleton.elim _ _
      rw [outsAt0_A m c t h]; frame_out; rw [pay6, pay5])
    (fun t h j => by
      idx_vars j
      obtain rfl : j0 = 0 := Subsingleton.elim _ _
      rw [outsAt0_B m c t h]; frame_out; rw [pay6]) (le_of_eq N_0) t0_15 rfl (ix2 0 k), zero_add]
  refine Eq.trans ?_ (Cert.Shared.sum_blocks 16 256 fun a => term m c a k).symm
  rfl

theorem arr7 (c : Dev nD) : (dats m 0 c).arrAt 7 cfg0.N = G7 m c := by
  refine (dats m 0 c).arrAt_eq_of_after_last 7 t0_15 (by decide +kernel) _ fun j => ?_
  blk_simp
  rw [after0_7]
  idx_vars j
  obtain rfl : j0 = 0 := Subsingleton.elim _ _
  exact out7 m c j1

end Cert.Kernel22Ideal.Rms1

/-! ## The reference's arrays -/

namespace Cert.Reference22Ideal.Rms1

open Cert.Reference22Ideal Cert.Reference22Ideal.Gen Idealize.ShloMosaic Idealize.ShloMosaic.TcCoe Idealize.SL.Sem Cert.Reference22Ideal.Read

variable (x : FVec Ideal S4096x2048 .f32) (g : FVec Ideal S1x2048 .f32) (d p : FVec Ideal S4096x2048 .f32)

theorem v7 (i : Fin 4096) : val_main_v7 (F := Ideal) x (ix2 i 0) = Cert.Norm.meanSq (fun k => x (ix2 i k)) := by
  delta val_main_v7 val_main_v6 val_main_v5 val_main_v4 val_main_v3 val_main_v2 val_main_v1 val_main_cst val_main_cst_0 val_main_cst_1
  pointwise
  rfl

theorem v8 (i : Fin 4096) : val_main_v8 (F := Ideal) x (ix2 i 0) = Cert.Norm.inv (fun k => x (ix2 i k)) := by
  delta val_main_v8
  pointwise
  rw [v7]; rfl

theorem v14 (k : Fin 2048) : val_main_v14 (F := Ideal) g (ix2 0 k) = g (ix2 0 k) := by
  delta val_main_v14 val_main_v0
  pointwise

theorem v33 (i : Fin 4096) (k : Fin 2048) : val_main_v33 (F := Ideal) x g d (ix2 i k) = Cert.Norm.through (fun k => x (ix2 i k)) (fun k => g (ix2 0 k)) (fun k => d (ix2 i k)) := by
  delta val_main_v33 val_main_v32 val_main_v31 val_main_v30 val_main_v29 val_main_v25 val_main_v24 val_main_v23 val_main_v21 val_main_v20 val_main_v11 val_main_v10 val_main_v9 val_main_cst_2 val_main_cst_5 val_main_cst_6 val_main_cst_7
  pointwise
  simp only [v14]
  refine Finset.sum_congr rfl fun y _ => ?_
  obtain rfl : y = 0 := Subsingleton.elim _ _
  rw [v8, v7]

theorem v37 (i : Fin 4096) (k : Fin 2048) : val_main_v37 (F := Ideal) x g d p (ix2 i k) =
    p (ix2 i k) + Cert.Norm.dxR (fun k => x (ix2 i k)) (fun k => g (ix2 0 k)) (fun k => d (ix2 i k)) k := by
  delta val_main_v37 val_main_v36 val_main_v35 val_main_v34 val_main_v28 val_main_v27 val_main_v26 val_main_v21 val_main_v20
  pointwise
  simp only [v33, v8, v14, add_assoc]
  rfl

theorem v39 (j : S4096x2048.Idx) : (val_main_v39 (F := Ideal) x g d p j : EReal) = val_main_v37 (F := Ideal) x g d p j := by
  delta val_main_v39
  rfl

theorem v38 (k : Fin 2048) : val_main_v38 (F := Ideal) x d (ix2 0 k) = ∑ i : Fin 4096, x (ix2 i k) * Cert.Norm.inv (fun k => x (ix2 i k)) * d (ix2 i k) := by
  delta val_main_v38 val_main_v22 val_main_v19 val_main_v18 val_main_v17 val_main_v13 val_main_v12 val_main_cst_3 val_main_cst_4
  pointwise
  simp only [v8, Finset.univ_unique, Finset.sum_singleton]

end Cert.Reference22Ideal.Rms1
-- ==== Proof.Rms1Claim.lean ====
/-
  The claims about the backward pass of the second root-mean-square norm, with a copy of its result in bf16.
-/
module

public import proofs.«01_k».proof.Defs
public import proofs.«01_k».proof.Proof.Gen.Kernel22.Frame
public import proofs.«01_k».proof.Proof.Rms1

@[expose] public section

set_option maxRecDepth 16384

noncomputable section

namespace Cert.Rms1

open Idealize.ShloMosaic Idealize.SL.Sem

/-- The precondition's shape facts. -/
theorem preFacts : Cert.Pre_finite22.Facts := ⟨by decide, by decide⟩

theorem frame_kernel : Cert.quiescent_Kernel22 (hKernel22 := Cert.Kernel22.Gen.facts) := fun m ρ _ => Cert.Kernel22.Gen.frame m ρ
theorem frame_ideal : Cert.quiescent_Kernel22Ideal (hKernel22Ideal := Cert.Kernel22Ideal.Gen.facts) := fun m ρ _ => Cert.Kernel22Ideal.Gen.frame m ρ
theorem frame_ideal_pre : Cert.quiescent_Kernel22Ideal_pre_finite22 (hKernel22Ideal := Cert.Kernel22Ideal.Gen.facts) (hPre_finite22 := preFacts) :=
  fun m ρ _ => Cert.Kernel22Ideal.Gen.frame m ρ
theorem frame_reference : Cert.quiescent_Reference22Ideal (hReference22Ideal := Cert.Reference22Ideal.Gen.facts) := fun m ρ _ =>
  (θ_run _ _ _).mono (fun r h => ⟨fun c => (h c).2.2.2, sem_eq_zero_of_no_sems (by decide) r.2⟩) (Cert.Reference22Ideal.Value.run m ρ)
theorem frame_reference_pre : Cert.quiescent_Reference22Ideal_pre_finite22 (hReference22Ideal := Cert.Reference22Ideal.Gen.facts) (hPre_finite22 := preFacts) :=
  fun m ρ _ => frame_reference m ρ trivial

attribute [local instance] preFacts

section Values

variable (m : (ℓ : Loc Cert.Kernel22Ideal.nD Cert.Kernel22Ideal.τ Cert.Kernel22Ideal.sig) → Buf (Elt Ideal) ℓ)

open Cert.Kernel22Ideal Cert.Kernel22Ideal.Rms1

/-- The precondition, read: the norm's input, its gain and the incoming gradient are real numbers. -/
theorem real_args (h : Cert.Pre_Kernel22Ideal_finite22 m) (c : Dev nD) :
    (∀ i, ∃ r : ℝ, m (c, Proc.devRef .tc main_arg0) i = (r : EReal)) ∧ (∀ i, ∃ r : ℝ, m (c, Proc.devRef .tc main_arg1) i = (r : EReal)) ∧
      (∀ i, ∃ r : ℝ, m (c, Proc.devRef .tc main_arg2) i = (r : EReal)) := by
  obtain ⟨h0, h1, h2⟩ := h c
  exact ⟨fun i => Cert.Shared.real_of_abs_lt (congrFun h0 i), fun i => Cert.Shared.real_of_abs_lt (congrFun h1 i), fun i => Cert.Shared.real_of_abs_lt (congrFun h2 i)⟩

theorem dx (h : Cert.Pre_Kernel22Ideal_finite22 m) (c : Dev nD) :
    Cert.Reference22Ideal.Read.val_main_v37 (F := Ideal) (m (c, Proc.devRef .tc main_arg0)) (m (c, Proc.devRef .tc main_arg1)) (m (c, Proc.devRef .tc main_arg2)) (m (c, Proc.devRef .tc main_arg3)) = G5 m c := by
  obtain ⟨h0, h1, h2⟩ := real_args m h c
  funext j
  idx_vars j
  rw [Cert.Reference22Ideal.Rms1.v37]
  exact congrArg (past m c (ix2 j0 j1) + ·) (Cert.Norm.dx_eq _ _ _ _ (fun i => h0 _) (fun i => h1 _) (fun i => h2 _)).symm

theorem copy (h : Cert.Pre_Kernel22Ideal_finite22 m) (c : Dev nD) :
    Cert.Reference22Ideal.Read.val_main_v39 (F := Ideal) (m (c, Proc.devRef .tc main_arg0)) (m (c, Proc.devRef .tc main_arg1)) (m (c, Proc.devRef .tc main_arg2)) (m (c, Proc.devRef .tc main_arg3)) = G5 m c :=
  funext fun j => (Cert.Reference22Ideal.Rms1.v39 _ _ _ _ j).trans (congrFun (dx m h c) j)

theorem dg (c : Dev nD) :
    Cert.Reference22Ideal.Read.val_main_v38 (F := Ideal) (m (c, Proc.devRef .tc main_arg0)) (m (c, Proc.devRef .tc main_arg2)) = G7 m c := by
  funext j
  idx_vars j
  obtain rfl : j0 = 0 := Subsingleton.elim _ _
  rw [Cert.Reference22Ideal.Rms1.v38]
  exact Finset.sum_congr rfl fun i _ => mul_comm (_ : EReal) _

end Values

theorem value : Cert.algebraic_Kernel22Ideal_Reference22Ideal_pre_finite22 (hKernel22Ideal := Cert.Kernel22Ideal.Gen.facts)
    (hReference22Ideal := Cert.Reference22Ideal.Gen.facts) (hPre_finite22 := preFacts) := fun m ρ m' ρ' hpre hag =>
  ⟨fun c => Cert.Kernel22Ideal.Rms1.G5 m c, fun c => Cert.Kernel22Ideal.Rms1.G5 m c, fun c => Cert.Kernel22Ideal.Rms1.G7 m c,
    (θ_run _ _ _).mono (fun _ h c => ⟨(h c).1.trans (Cert.Kernel22Ideal.Rms1.arr5 m c), (h c).2.1.trans (Cert.Kernel22Ideal.Rms1.arr6 m c),
      (h c).2.2.1.trans (Cert.Kernel22Ideal.Rms1.arr7 m c), (h c).2.2.2⟩) (Cert.Kernel22Ideal.Value.run_blocks m ρ),
    (θ_run _ _ _).mono (fun _ h c => ⟨by
        rw [(h c).1, Cert.Reference22Ideal.Read.val_main_v37_eq, (hag c).1, (hag c).2.1, (hag c).2.2.1, (hag c).2.2.2]
        exact dx m hpre c, by
        rw [(h c).2.1, Cert.Reference22Ideal.Read.val_main_v39_eq, (hag c).1, (hag c).2.1, (hag c).2.2.1, (hag c).2.2.2]
        exact copy m hpre c, by
        rw [(h c).2.2.1, Cert.Reference22Ideal.Read.val_main_v38_eq, (hag c).1, (hag c).2.2.1]
        exact dg m c, (h c).2.2.2⟩) (Cert.Reference22Ideal.Value.run m' ρ')⟩

end Cert.Rms1
-- ==== Proof.lean ====
/-
  The proof of `Cert.Claim`: each call's claims are proved in a module of their own, and gathered here.
-/
module

public import proofs.«01_k».proof.Defs
public import proofs.«01_k».proof.Proof.RmsClaim
public import proofs.«01_k».proof.Proof.LossClaim
public import proofs.«01_k».proof.Proof.PoolClaim
public import proofs.«01_k».proof.Proof.PoutClaim
public import proofs.«01_k».proof.Proof.SsdFClaim
public import proofs.«01_k».proof.Proof.RmsFClaim
public import proofs.«01_k».proof.Proof.PoolFClaim
public import proofs.«01_k».proof.Proof.GmmClaim
public import proofs.«01_k».proof.Proof.ConvFClaim
public import proofs.«01_k».proof.Proof.GmmbClaim
public import proofs.«01_k».proof.Proof.AdamClaim
public import proofs.«01_k».proof.Proof.MmntClaim
public import proofs.«01_k».proof.Proof.SumsClaim
public import proofs.«01_k».proof.Proof.CastClaim
public import proofs.«01_k».proof.Proof.NthClaim
public import proofs.«01_k».proof.Proof.NnbClaim
public import proofs.«01_k».proof.Proof.MmnnClaim
public import proofs.«01_k».proof.Proof.NtbClaim
public import proofs.«01_k».proof.Proof.NnhClaim
public import proofs.«01_k».proof.Proof.Rms1Claim

@[expose] public section

noncomputable section

namespace Cert.Proof

theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel6.Gen.facts,
  Cert.Kernel6Ideal.Gen.facts,
  Cert.Reference6Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Rms.preFacts,
  Cert.Loss.preFacts,
  Cert.Pool.preFacts,
  Cert.Pout.preFacts,
  Cert.SsdF.preFacts,
  Cert.PoolF.preFacts,
  Cert.Rms1.preFacts,
  Cert.Pout.onFacts,
  Cert.Rms.frame_kernel,
  Cert.Rms.frame_ideal,
  Cert.Rms.frame_ideal_pre,
  Cert.Rms.frame_reference,
  Cert.Rms.frame_reference_pre,
  Cert.Loss.frame_kernel,
  Cert.Loss.frame_ideal,
  Cert.Loss.frame_ideal_pre,
  Cert.Loss.frame_reference,
  Cert.Loss.frame_reference_pre,
  Cert.Pool.frame_kernel,
  Cert.Pool.frame_ideal,
  Cert.Pool.frame_ideal_pre,
  Cert.Pool.frame_reference,
  Cert.Pool.frame_reference_pre,
  Cert.Pout.frame_kernel,
  Cert.Pout.frame_ideal,
  Cert.Pout.frame_ideal_pre,
  Cert.Pout.frame_reference,
  Cert.Pout.frame_reference_pre,
  Cert.SsdF.frame_kernel,
  Cert.SsdF.frame_ideal,
  Cert.SsdF.frame_ideal_pre,
  Cert.SsdF.frame_reference,
  Cert.SsdF.frame_reference_pre,
  Cert.RmsF.frame_kernel,
  Cert.RmsF.frame_ideal,
  Cert.RmsF.frame_reference,
  Cert.PoolF.frame_kernel,
  Cert.PoolF.frame_ideal,
  Cert.PoolF.frame_ideal_pre,
  Cert.PoolF.frame_reference,
  Cert.PoolF.frame_reference_pre,
  Cert.Gmm.frame_kernel,
  Cert.Gmm.frame_ideal,
  Cert.Gmm.frame_reference,
  Cert.ConvF.frame_kernel,
  Cert.ConvF.frame_ideal,
  Cert.ConvF.frame_reference,
  Cert.Gmmb.frame_kernel,
  Cert.Gmmb.frame_ideal,
  Cert.Gmmb.frame_reference,
  Cert.Adam.frame_kernel,
  Cert.Adam.frame_ideal,
  Cert.Adam.frame_reference,
  Cert.Mmnt.frame_kernel,
  Cert.Mmnt.frame_ideal,
  Cert.Mmnt.frame_reference,
  Cert.Sums.frame_kernel,
  Cert.Sums.frame_ideal,
  Cert.Sums.frame_reference,
  Cert.Cast.frame_kernel,
  Cert.Cast.frame_ideal,
  Cert.Cast.frame_reference,
  Cert.Nth.frame_kernel,
  Cert.Nth.frame_ideal,
  Cert.Nth.frame_reference,
  Cert.Nnb.frame_kernel,
  Cert.Nnb.frame_ideal,
  Cert.Nnb.frame_reference,
  Cert.Mmnn.frame_kernel,
  Cert.Mmnn.frame_ideal,
  Cert.Mmnn.frame_reference,
  Cert.Ntb.frame_kernel,
  Cert.Ntb.frame_ideal,
  Cert.Ntb.frame_reference,
  Cert.Nnh.frame_kernel,
  Cert.Nnh.frame_ideal,
  Cert.Nnh.frame_reference,
  Cert.Rms1.frame_kernel,
  Cert.Rms1.frame_ideal,
  Cert.Rms1.frame_ideal_pre,
  Cert.Rms1.frame_reference,
  Cert.Rms1.frame_reference_pre,
  trivial,
  Cert.Rms.value,
  trivial,
  Cert.Loss.value,
  trivial,
  Cert.Pool.value,
  trivial,
  Cert.Pout.value,
  Cert.SsdF.preserves,
  Cert.SsdF.value,
  trivial,
  Cert.RmsF.value,
  trivial,
  Cert.PoolF.value,
  trivial,
  Cert.Gmm.value,
  trivial,
  Cert.ConvF.value,
  trivial,
  Cert.Gmmb.value,
  trivial,
  Cert.Adam.value,
  trivial,
  Cert.Mmnt.value,
  trivial,
  Cert.Sums.value,
  trivial,
  Cert.Cast.value,
  trivial,
  Cert.Nth.value,
  trivial,
  Cert.Nnb.value,
  trivial,
  Cert.Mmnn.value,
  trivial,
  Cert.Ntb.value,
  trivial,
  Cert.Nnh.value,
  trivial,
  Cert.Rms1.value⟩

end Cert.Proof

end
